-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_selection [hPre_selection : Cert.Pre_selection.Facts] (m : (ℓ : Loc Cert.AttnIdeal.nD Cert.AttnIdeal.τ Cert.AttnIdeal.sig) → Buf (Elt Ideal) ℓ) : Prop :=
  ∀ c : Dev Cert.AttnIdeal.nD,
    (Cert.Pre_selection.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_selection [hPre_selection : Cert.Pre_selection.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_selection.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_selection [hAttnIdeal : Cert.AttnIdeal.Facts] [hPre_selection : Cert.Pre_selection.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_selection m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_AttnRefIdeal_pre_selection [hAttnRefIdeal : Cert.AttnRefIdeal.Facts] [hPre_selection : Cert.Pre_selection.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_selection m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_selection [hAttnIdeal : Cert.AttnIdeal.Facts] [hAttnRefIdeal : Cert.AttnRefIdeal.Facts] [hPre_selection : Cert.Pre_selection.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_selection m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v29)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v29) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v111) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v7_0)) (v1 : (c : Dev Cert.MlpIdeal.nD) → Buf (Elt Ideal) ((c.tc : Thread Cert.MlpIdeal.nD Cert.MlpIdeal.τ).loc Cert.MlpIdeal.main_v7_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7_0) = v0 c
          ∧ r.2.mem ((c.tc : Thread Cert.MlpIdeal.nD Cert.MlpIdeal.τ).loc Cert.MlpIdeal.main_v7_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_v69) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v12)) (v2 : (c : Dev Cert.ConvIdeal.nD) → Buf (Elt Ideal) ((c.tc : Thread Cert.ConvIdeal.nD Cert.ConvIdeal.τ).loc Cert.ConvIdeal.main_v9_2)) (v3 : (c : Dev Cert.ConvIdeal.nD) → Buf (Elt Ideal) ((c.tc : Thread Cert.ConvIdeal.nD Cert.ConvIdeal.τ).loc Cert.ConvIdeal.main_v9_3)) (v4 : (c : Dev Cert.ConvIdeal.nD) → Buf (Elt Ideal) ((c.tc : Thread Cert.ConvIdeal.nD Cert.ConvIdeal.τ).loc Cert.ConvIdeal.main_v9_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v12) = v1 c
          ∧ r.2.mem ((c.tc : Thread Cert.ConvIdeal.nD Cert.ConvIdeal.τ).loc Cert.ConvIdeal.main_v9_2) = v2 c
          ∧ r.2.mem ((c.tc : Thread Cert.ConvIdeal.nD Cert.ConvIdeal.τ).loc Cert.ConvIdeal.main_v9_3) = v3 c
          ∧ r.2.mem ((c.tc : Thread Cert.ConvIdeal.nD Cert.ConvIdeal.τ).loc Cert.ConvIdeal.main_v9_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v47) = v0 c
          ∧ r.2.mem ((c.tc : Thread Cert.ConvRefIdeal.nD Cert.ConvRefIdeal.τ).loc Cert.ConvRefIdeal.main_v48) = v1 c
          ∧ r.2.mem ((c.tc : Thread Cert.ConvRefIdeal.nD Cert.ConvRefIdeal.τ).loc Cert.ConvRefIdeal.main_v50) = v2 c
          ∧ r.2.mem ((c.tc : Thread Cert.ConvRefIdeal.nD Cert.ConvRefIdeal.τ).loc Cert.ConvRefIdeal.main_v52) = v3 c
          ∧ r.2.mem ((c.tc : Thread Cert.ConvRefIdeal.nD Cert.ConvRefIdeal.τ).loc Cert.ConvRefIdeal.main_v54) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)) →
    ∃ (v0 : (c : Dev Cert.StepIdeal.nD) → Buf (Elt Ideal) ((c.tc : Thread Cert.StepIdeal.nD Cert.StepIdeal.τ).loc Cert.StepIdeal.main_v14_0)) (v1 : (c : Dev Cert.StepIdeal.nD) → Buf (Elt Ideal) ((c.tc : Thread Cert.StepIdeal.nD Cert.StepIdeal.τ).loc Cert.StepIdeal.main_v16)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v14_0) = v0 c
          ∧ r.2.mem ((c.tc : Thread Cert.StepIdeal.nD Cert.StepIdeal.τ).loc Cert.StepIdeal.main_v16) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v47) = v0 c
          ∧ r.2.mem ((c.tc : Thread Cert.StepRefIdeal.nD Cert.StepRefIdeal.τ).loc Cert.StepRefIdeal.main_v48) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v7)) (v2 : (c : Dev Cert.ProjIdeal.nD) → Buf (Elt Ideal) ((c.tc : Thread Cert.ProjIdeal.nD Cert.ProjIdeal.τ).loc Cert.ProjIdeal.main_v9)) (v3 : (c : Dev Cert.ProjIdeal.nD) → Buf (Elt Ideal) ((c.tc : Thread Cert.ProjIdeal.nD Cert.ProjIdeal.τ).loc Cert.ProjIdeal.main_v5_0)) (v4 : (c : Dev Cert.ProjIdeal.nD) → Buf (Elt Ideal) ((c.tc : Thread Cert.ProjIdeal.nD Cert.ProjIdeal.τ).loc Cert.ProjIdeal.main_v5_5)) (v5 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v7) = v1 c
          ∧ r.2.mem ((c.tc : Thread Cert.ProjIdeal.nD Cert.ProjIdeal.τ).loc Cert.ProjIdeal.main_v9) = v2 c
          ∧ r.2.mem ((c.tc : Thread Cert.ProjIdeal.nD Cert.ProjIdeal.τ).loc Cert.ProjIdeal.main_v5_0) = v3 c
          ∧ r.2.mem ((c.tc : Thread Cert.ProjIdeal.nD Cert.ProjIdeal.τ).loc Cert.ProjIdeal.main_v5_5) = v4 c
          ∧ r.2.mem ((c.tc : Thread Cert.ProjIdeal.nD Cert.ProjIdeal.τ).loc Cert.ProjIdeal.main_v10) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v25) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_v27) = v4 c
          ∧ r.2.mem ((c.tc : Thread Cert.ProjRefIdeal.nD Cert.ProjRefIdeal.τ).loc Cert.ProjRefIdeal.main_v28) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v15_0)) (v1 : (c : Dev Cert.MixIdeal.nD) → Buf (Elt Ideal) ((c.tc : Thread Cert.MixIdeal.nD Cert.MixIdeal.τ).loc Cert.MixIdeal.main_v15_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15_0) = v0 c
          ∧ r.2.mem ((c.tc : Thread Cert.MixIdeal.nD Cert.MixIdeal.τ).loc Cert.MixIdeal.main_v15_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v39) = v0 c
          ∧ r.2.mem ((c.tc : Thread Cert.MixRefIdeal.nD Cert.MixRefIdeal.τ).loc Cert.MixRefIdeal.main_v79) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hConv : Cert.Conv.Facts) (hConvIdeal : Cert.ConvIdeal.Facts) (hConvRefIdeal : Cert.ConvRefIdeal.Facts) (hStep : Cert.Step.Facts) (hStepIdeal : Cert.StepIdeal.Facts) (hStepRefIdeal : Cert.StepRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_selection : Cert.Pre_selection.Facts),
    quiescent_Attn (hAttn := hAttn)
    ∧ quiescent_AttnIdeal (hAttnIdeal := hAttnIdeal)
    ∧ quiescent_AttnIdeal_pre_selection (hAttnIdeal := hAttnIdeal) (hPre_selection := hPre_selection)
    ∧ quiescent_AttnRefIdeal (hAttnRefIdeal := hAttnRefIdeal)
    ∧ quiescent_AttnRefIdeal_pre_selection (hAttnRefIdeal := hAttnRefIdeal) (hPre_selection := hPre_selection)
    ∧ quiescent_Mlp (hMlp := hMlp)
    ∧ quiescent_MlpIdeal (hMlpIdeal := hMlpIdeal)
    ∧ quiescent_MlpRefIdeal (hMlpRefIdeal := hMlpRefIdeal)
    ∧ quiescent_Conv (hConv := hConv)
    ∧ quiescent_ConvIdeal (hConvIdeal := hConvIdeal)
    ∧ quiescent_ConvRefIdeal (hConvRefIdeal := hConvRefIdeal)
    ∧ quiescent_Step (hStep := hStep)
    ∧ quiescent_StepIdeal (hStepIdeal := hStepIdeal)
    ∧ quiescent_StepRefIdeal (hStepRefIdeal := hStepRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_pre_selection (hAttnIdeal := hAttnIdeal) (hAttnRefIdeal := hAttnRefIdeal) (hPre_selection := hPre_selection)
    ∧ preserves_Mlp_MlpIdeal
    ∧ algebraic_MlpIdeal_MlpRefIdeal (hMlpIdeal := hMlpIdeal) (hMlpRefIdeal := hMlpRefIdeal)
    ∧ preserves_Conv_ConvIdeal
    ∧ algebraic_ConvIdeal_ConvRefIdeal (hConvIdeal := hConvIdeal) (hConvRefIdeal := hConvRefIdeal)
    ∧ preserves_Step_StepIdeal
    ∧ algebraic_StepIdeal_StepRefIdeal (hStepIdeal := hStepIdeal) (hStepRefIdeal := hStepRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
-- ==== Pre_selection.lean ====
abbrev S8x4x8x128 : Shape := ⟨4, ![8, 4, 8, 128]⟩
abbrev S8x4x256x8x128 : Shape := ⟨5, ![8, 4, 256, 8, 128]⟩
abbrev S8x4x256 : Shape := ⟨3, ![8, 4, 256]⟩
abbrev S8x4 : Shape := ⟨2, ![8, 4]⟩
abbrev S8x4x4 : Shape := ⟨3, ![8, 4, 4]⟩
abbrev S32x8 : Shape := ⟨2, ![32, 8]⟩
abbrev S_ : Shape := ⟨0, ![]⟩
abbrev S8x4x1 : Shape := ⟨3, ![8, 4, 1]⟩

class Facts : Prop where
  bcast_S_S8x4 : S_.BroadcastsInDim S8x4 (![] : Fin 0 → Fin S8x4.rank)
  bcast_S8x4_S8x4x1_0_1 : S8x4.BroadcastsInDim S8x4x1 (![0, 1] : Fin 2 → Fin S8x4x1.rank)
  bcast_S8x4x1_S8x4x4_0_1_2 : S8x4x1.BroadcastsInDim S8x4x4 (![0, 1, 2] : Fin 3 → Fin S8x4x4.rank)
  reducesTo_S8x4x4_S8x4_d2 : S8x4x4.ReducesTo [2] S8x4
  h_S_ : 0 < S_.numel
  bcast_S_S8x4x8x128 : S_.BroadcastsInDim S8x4x8x128 (![] : Fin 0 → Fin S8x4x8x128.rank)
  reducesTo_S8x4x8x128_S_d0_1_2_3 : S8x4x8x128.ReducesTo [0, 1, 2, 3] S_
  bcast_S_S8x4x256x8x128 : S_.BroadcastsInDim S8x4x256x8x128 (![] : Fin 0 → Fin S8x4x256x8x128.rank)
  reducesTo_S8x4x256x8x128_S_d0_1_2_3_4 : S8x4x256x8x128.ReducesTo [0, 1, 2, 3, 4] S_
  bcast_S_S32x8 : S_.BroadcastsInDim S32x8 (![] : Fin 0 → Fin S32x8.rank)
  reducesTo_S32x8_S_d0_1 : S32x8.ReducesTo [0, 1] S_

variable [Facts]

def fn_part2 {F : FTy → Type} [FloatOps F] (main_v25 : IVec S_ 1) (main_v34 : IVec S8x4 1) : IVec S8x4 1 :=
  let main_v35 : IVec S8x4 1 := broadcastInDim S8x4 ![] bcast_S_S8x4 main_v25
  let main_v36 : IVec S8x4 1 := andi main_v34 main_v35
  main_v36

def fn_part1 {F : FTy → Type} [FloatOps F] (main_arg6 : IVec S8x4 32) (main_arg8 : IVec S8x4 32) (main_arg9 : FVec F S32x8 .f32) (main_v6 : IVec S8x4 1) (main_v15 : IVec S_ 1) (main_v16 : FVec F S8x4x256x8x128 .f32) (main_cst_4 : FVec F S_ .f32) : IVec S8x4 1 :=
  let main_v17 : FVec F S8x4x256x8x128 .f32 := broadcastInDim S8x4x256x8x128 ![] bcast_S_S8x4x256x8x128 main_cst_4
  let main_v18 : IVec S8x4x256x8x128 1 := cmpf .olt main_v16 main_v17
  let main_c_5 : IVec S_ 1 := constantI S_ 1 1#1
  let main_v19 : IVec S_ 1 := (fun x v => Host.reduce IntOp.andi x v reducesTo_S8x4x256x8x128_S_d0_1_2_3_4 h_S_) main_v18 main_c_5
  let main_v20 : IVec S_ 1 := andi main_v15 main_v19
  let main_v21 : FVec F S32x8 .f32 := Host.absf main_arg9
  let main_cst_6 : FVec F S_ .f32 := constant S_ .f32 0x7F800000#32
  let main_v22 : FVec F S32x8 .f32 := broadcastInDim S32x8 ![] bcast_S_S32x8 main_cst_6
  let main_v23 : IVec S32x8 1 := cmpf .olt main_v21 main_v22
  let main_c_7 : IVec S_ 1 := constantI S_ 1 1#1
  let main_v24 : IVec S_ 1 := (fun x v => Host.reduce IntOp.andi x v reducesTo_S32x8_S_d0_1 h_S_) main_v23 main_c_7
  let main_v25 : IVec S_ 1 := andi main_v20 main_v24
  let main_c_8 : IVec S_ 32 := constantI S_ 32 2147483648#32
  let main_v26 : IVec S8x4 32 := broadcastInDim S8x4 ![] bcast_S_S8x4 main_c_8
  let main_v27 : IVec S8x4 1 := cmpi .sgt main_arg8 main_v26
  let main_c_9 : IVec S_ 32 := constantI S_ 32 0#32
  let main_v28 : IVec S8x4 32 := broadcastInDim S8x4 ![] bcast_S_S8x4 main_c_9
  let main_v29 : IVec S8x4 1 := cmpi .sge main_arg6 main_v28
  let main_v30 : IVec S8x4 1 := andi main_v27 main_v29
  let main_c_10 : IVec S_ 32 := constantI S_ 32 256#32
  let main_v31 : IVec S8x4 32 := broadcastInDim S8x4 ![] bcast_S_S8x4 main_c_10
  let main_v32 : IVec S8x4 1 := cmpi .sle main_arg6 main_v31
  let main_v33 : IVec S8x4 1 := andi main_v30 main_v32
  let main_v34 : IVec S8x4 1 := andi main_v33 main_v6
  fn_part2 (F := F) main_v25 main_v34

def fn {F : FTy → Type} [FloatOps F] (main_arg0 : FVec F S8x4x8x128 .f32) (main_arg1 : FVec F S8x4x8x128 .f32) (main_arg2 : FVec F S8x4x8x128 .f32) (main_arg3 : FVec F S8x4x256x8x128 .f32) (main_arg4 : FVec F S8x4x256x8x128 .f32) (main_arg5 : IVec S8x4x256 32) (main_arg6 : IVec S8x4 32) (main_arg7 : IVec S8x4x4 32) (main_arg8 : IVec S8x4 32) (main_arg9 : FVec F S32x8 .f32) : IVec S8x4 1 :=
  let main_c : IVec S_ 32 := constantI S_ 32 0#32
  let main_v0 : IVec S8x4 32 := broadcastInDim S8x4 ![] bcast_S_S8x4 main_c
  let main_v1 : IVec S8x4 1 := cmpi .sgt main_arg6 main_v0
  let main_v2 : IVec S8x4x1 32 := broadcastInDim S8x4x1 ![0, 1] bcast_S8x4_S8x4x1_0_1 main_arg8
  let main_v3 : IVec S8x4x4 32 := broadcastInDim S8x4x4 ![0, 1, 2] bcast_S8x4x1_S8x4x4_0_1_2 main_v2
  let main_v4 : IVec S8x4x4 1 := cmpi .sge main_arg7 main_v3
  let main_c_0 : IVec S_ 1 := constantI S_ 1 0#1
  let main_v5 : IVec S8x4 1 := (fun x v => Host.reduce IntOp.ori x v reducesTo_S8x4x4_S8x4_d2 h_S_) main_v4 main_c_0
  let main_v6 : IVec S8x4 1 := ori main_v1 main_v5
  let main_v7 : FVec F S8x4x8x128 .f32 := Host.absf main_arg0
  let main_cst : FVec F S_ .f32 := constant S_ .f32 0x7F800000#32
  let main_v8 : FVec F S8x4x8x128 .f32 := broadcastInDim S8x4x8x128 ![] bcast_S_S8x4x8x128 main_cst
  let main_v9 : IVec S8x4x8x128 1 := cmpf .olt main_v7 main_v8
  let main_c_1 : IVec S_ 1 := constantI S_ 1 1#1
  let main_v10 : IVec S_ 1 := (fun x v => Host.reduce IntOp.andi x v reducesTo_S8x4x8x128_S_d0_1_2_3 h_S_) main_v9 main_c_1
  let main_v11 : FVec F S8x4x8x128 .f32 := Host.absf main_arg1
  let main_cst_2 : FVec F S_ .f32 := constant S_ .f32 0x7F800000#32
  let main_v12 : FVec F S8x4x8x128 .f32 := broadcastInDim S8x4x8x128 ![] bcast_S_S8x4x8x128 main_cst_2
  let main_v13 : IVec S8x4x8x128 1 := cmpf .olt main_v11 main_v12
  let main_c_3 : IVec S_ 1 := constantI S_ 1 1#1
  let main_v14 : IVec S_ 1 := (fun x v => Host.reduce IntOp.andi x v reducesTo_S8x4x8x128_S_d0_1_2_3 h_S_) main_v13 main_c_3
  let main_v15 : IVec S_ 1 := andi main_v10 main_v14
  let main_v16 : FVec F S8x4x256x8x128 .f32 := Host.absf main_arg3
  let main_cst_4 : FVec F S_ .f32 := constant S_ .f32 0x7F800000#32
  fn_part1 (F := F) main_arg6 main_arg8 main_arg9 main_v6 main_v15 main_v16 main_cst_4
-- ==== Attn.lean ====
abbrev S8x4x8x128 : Shape := ⟨4, ![8, 4, 8, 128]⟩
abbrev S8x4x256x8x128 : Shape := ⟨5, ![8, 4, 256, 8, 128]⟩
abbrev S8x4x256 : Shape := ⟨3, ![8, 4, 256]⟩
abbrev S8x4 : Shape := ⟨2, ![8, 4]⟩
abbrev S8x4x4 : Shape := ⟨3, ![8, 4, 4]⟩
abbrev S32x8 : Shape := ⟨2, ![32, 8]⟩
abbrev S_ : Shape := ⟨0, ![]⟩
abbrev S32x1 : Shape := ⟨2, ![32, 1]⟩
abbrev S32x16 : Shape := ⟨2, ![32, 16]⟩
abbrev S32x1x1 : Shape := ⟨3, ![32, 1, 1]⟩
abbrev S32x8x128 : Shape := ⟨3, ![32, 8, 128]⟩
abbrev S8x4x16 : Shape := ⟨3, ![8, 4, 16]⟩
abbrev S32x256 : Shape := ⟨2, ![32, 256]⟩
abbrev S32x256x8 : Shape := ⟨3, ![32, 256, 8]⟩
abbrev S32x2048 : Shape := ⟨2, ![32, 2048]⟩
abbrev S32x1x2048 : Shape := ⟨3, ![32, 1, 2048]⟩
abbrev S8x4x16x8 : Shape := ⟨4, ![8, 4, 16, 8]⟩
abbrev S8x4x128 : Shape := ⟨3, ![8, 4, 128]⟩
abbrev S32x1x128 : Shape := ⟨3, ![32, 1, 128]⟩
abbrev S8x32 : Shape := ⟨2, ![8, 32]⟩
abbrev S65536x128 : Shape := ⟨2, ![65536, 128]⟩
abbrev S8x32x128 : Shape := ⟨3, ![8, 32, 128]⟩
abbrev S8x128x128 : Shape := ⟨3, ![8, 128, 128]⟩
abbrev S1x8x128 : Shape := ⟨3, ![1, 8, 128]⟩
abbrev S2048x128 : Shape := ⟨2, ![2048, 128]⟩
abbrev S1x1x2048 : Shape := ⟨3, ![1, 1, 2048]⟩
abbrev S1x1x128 : Shape := ⟨3, ![1, 1, 128]⟩
abbrev S1x128x128 : Shape := ⟨3, ![1, 128, 128]⟩
abbrev S8x128 : Shape := ⟨2, ![8, 128]⟩
abbrev S8x2048 : Shape := ⟨2, ![8, 2048]⟩
abbrev S1x1 : Shape := ⟨2, ![1, 1]⟩
abbrev S1x2048 : Shape := ⟨2, ![1, 2048]⟩
abbrev S8x1 : Shape := ⟨2, ![8, 1]⟩
abbrev S128x128 : Shape := ⟨2, ![128, 128]⟩
abbrev S1x128 : Shape := ⟨2, ![1, 128]⟩
abbrev S8 : Shape := ⟨1, ![8]⟩

abbrev nBuf : Space → Nat
  | .hbm => 47
  | .vmem => 19
  | .smem => 1
  | _ => 0

abbrev bufTy : (tb : Table) → Fin (tcTables nBuf tb) → BufTy
  | .hbm, ⟨0, _⟩ => ⟨S8x4x8x128, .f32⟩
  | .hbm, ⟨1, _⟩ => ⟨S8x4x8x128, .f32⟩
  | .hbm, ⟨2, _⟩ => ⟨S8x4x8x128, .f32⟩
  | .hbm, ⟨3, _⟩ => ⟨S8x4x256x8x128, .f32⟩
  | .hbm, ⟨4, _⟩ => ⟨S8x4x256x8x128, .f32⟩
  | .hbm, ⟨5, _⟩ => ⟨S8x4x256, .i32⟩
  | .hbm, ⟨6, _⟩ => ⟨S8x4, .i32⟩
  | .hbm, ⟨7, _⟩ => ⟨S8x4x4, .i32⟩
  | .hbm, ⟨8, _⟩ => ⟨S8x4, .i32⟩
  | .hbm, ⟨9, _⟩ => ⟨S32x8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x4x8x128, .f32⟩
  | .hbm, ⟨18, _⟩ => ⟨S8x4x8x128, .f32⟩
  | .hbm, ⟨19, _⟩ => ⟨S8x4x8x128, .bf16⟩
  | .hbm, ⟨20, _⟩ => ⟨S8x4x8x128, .bf16⟩
  | .hbm, ⟨21, _⟩ => ⟨S8x4x8x128, .bf16⟩
  | .hbm, ⟨22, _⟩ => ⟨S32x1, .i32⟩
  | .hbm, ⟨23, _⟩ => ⟨S32x1x1, .i32⟩
  | .hbm, ⟨24, _⟩ => ⟨S32x8x128, .i32⟩
  | .hbm, ⟨25, _⟩ => ⟨S_, .i32⟩
  | .hbm, ⟨26, _⟩ => ⟨S8x4x16, .i32⟩
  | .hbm, ⟨27, _⟩ => ⟨S32x256, .i32⟩
  | .hbm, ⟨28, _⟩ => ⟨S32x256x8, .i32⟩
  | .hbm, ⟨29, _⟩ => ⟨S32x2048, .i32⟩
  | .hbm, ⟨30, _⟩ => ⟨S32x1x2048, .i32⟩
  | .hbm, ⟨31, _⟩ => ⟨S8x4x16x8, .i32⟩
  | .hbm, ⟨32, _⟩ => ⟨S8x4x128, .i32⟩
  | .hbm, ⟨33, _⟩ => ⟨S32x1x128, .i32⟩
  | .hbm, ⟨34, _⟩ => ⟨S8x32, .f32⟩
  | .hbm, ⟨35, _⟩ => ⟨S32x8x128, .bf16⟩
  | .hbm, ⟨36, _⟩ => ⟨S65536x128, .f32⟩
  | .hbm, ⟨37, _⟩ => ⟨S65536x128, .f32⟩
  | .hbm, ⟨38, _⟩ => ⟨S8x32x128, .bf16⟩
  | .hbm, ⟨39, _⟩ => ⟨S_, .i32⟩
  | .hbm, ⟨40, _⟩ => ⟨S_, .bf16⟩
  | .hbm, ⟨41, _⟩ => ⟨S8x128x128, .bf16⟩
  | .hbm, ⟨42, _⟩ => ⟨S8x32x128, .bf16⟩
  | .hbm, ⟨43, _⟩ => ⟨S_, .i32⟩
  | .hbm, ⟨44, _⟩ => ⟨S_, .bf16⟩
  | .hbm, ⟨45, _⟩ => ⟨S8x128x128, .bf16⟩
  | .hbm, ⟨46, _⟩ => ⟨S32x8x128, .f32⟩
  | .local _ .vmem, ⟨0, _⟩ => ⟨S8x32, .f32⟩
  | .local _ .vmem, ⟨1, _⟩ => ⟨S1x8x128, .bf16⟩
  | .local _ .vmem, ⟨2, _⟩ => ⟨S1x8x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x1x2048, .i32⟩
  | .local _ .vmem, ⟨8, _⟩ => ⟨S1x1x2048, .i32⟩
  | .local _ .vmem, ⟨9, _⟩ => ⟨S1x1x128, .i32⟩
  | .local _ .vmem, ⟨10, _⟩ => ⟨S1x1x128, .i32⟩
  | .local _ .vmem, ⟨11, _⟩ => ⟨S1x8x128, .i32⟩
  | .local _ .vmem, ⟨12, _⟩ => ⟨S1x8x128, .i32⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x8x128, .f32⟩
  | .local _ .vmem, ⟨18, _⟩ => ⟨S1x8x128, .f32⟩
  | .local _ .smem, ⟨0, _⟩ => ⟨S32x16, .i32⟩
  | _, _ => ⟨S8x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_call1_v0 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call2_v0 : Ref sig .tc := ⟨.hbm, 44, rfl⟩
abbrev main_v28 : Ref sig .tc := ⟨.hbm, 45, rfl⟩
abbrev main_v29 : Ref sig .tc := ⟨.hbm, 46, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v21 : Index := Scalar.indexCast arg0
  let c0_7 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S8x4x8x128 : Shape := ⟨4, ![8, 4, 8, 128]⟩
abbrev S8x4x256x8x128 : Shape := ⟨5, ![8, 4, 256, 8, 128]⟩
abbrev S8x4x256 : Shape := ⟨3, ![8, 4, 256]⟩
abbrev S8x4 : Shape := ⟨2, ![8, 4]⟩
abbrev S8x4x4 : Shape := ⟨3, ![8, 4, 4]⟩
abbrev S32x8 : Shape := ⟨2, ![32, 8]⟩
abbrev S4 : Shape := ⟨1, ![4]⟩
abbrev S_ : Shape := ⟨0, ![]⟩
abbrev S8x4x8x256 : Shape := ⟨4, ![8, 4, 8, 256]⟩
abbrev S1x4x1 : Shape := ⟨3, ![1, 4, 1]⟩
abbrev S8x4x256x1 : Shape := ⟨4, ![8, 4, 256, 1]⟩
abbrev S8x4x256x8 : Shape := ⟨4, ![8, 4, 256, 8]⟩
abbrev S256 : Shape := ⟨1, ![256]⟩
abbrev S8x4x1 : Shape := ⟨3, ![8, 4, 1]⟩
abbrev S1x1x256 : Shape := ⟨3, ![1, 1, 256]⟩
abbrev S8x4x1x256 : Shape := ⟨4, ![8, 4, 1, 256]⟩
abbrev S8x8x4x4 : Shape := ⟨4, ![8, 8, 4, 4]⟩
abbrev S8x4x8x4 : Shape := ⟨4, ![8, 4, 8, 4]⟩
abbrev S4x1 : Shape := ⟨2, ![4, 1]⟩
abbrev S1x4 : Shape := ⟨2, ![1, 4]⟩
abbrev S4x4 : Shape := ⟨2, ![4, 4]⟩
abbrev S4x4x1 : Shape := ⟨3, ![4, 4, 1]⟩
abbrev S4x4x8 : Shape := ⟨3, ![4, 4, 8]⟩
abbrev S4x8x4 : Shape := ⟨3, ![4, 8, 4]⟩
abbrev S1x4x8x4 : Shape := ⟨4, ![1, 4, 8, 4]⟩
abbrev S8x4x1x4 : Shape := ⟨4, ![8, 4, 1, 4]⟩
abbrev S8x4x8x260 : Shape := ⟨4, ![8, 4, 8, 260]⟩
abbrev S8x4x8 : Shape := ⟨3, ![8, 4, 8]⟩
abbrev S8x4x8x1 : Shape := ⟨4, ![8, 4, 8, 1]⟩
abbrev S8x8x128x4 : Shape := ⟨4, ![8, 8, 128, 4]⟩
abbrev S32x8x128 : Shape := ⟨3, ![32, 8, 128]⟩

abbrev nBuf : Space → Nat
  | .hbm => 156
  | .vmem => 0
  | .smem => 0
  | _ => 0

abbrev hbmTy0_0 (i : Nat) : BufTy := match i % 128 with
  | 0 => ⟨S8x4x8x128, .f32⟩
  | 1 => ⟨S8x4x8x128, .f32⟩
  | 2 => ⟨S8x4x8x128, .f32⟩
  | 3 => ⟨S8x4x256x8x128, .f32⟩
  | 4 => ⟨S8x4x256x8x128, .f32⟩
  | 5 => ⟨S8x4x256, .i32⟩
  | 6 => ⟨S8x4, .i32⟩
  | 7 => ⟨S8x4x4, .i32⟩
  | 8 => ⟨S8x4, .i32⟩
  | 9 => ⟨S32x8, .f32⟩
  | 10 => ⟨S4, .i32⟩
  | 11 => ⟨S_, .f32⟩
  | 12 => ⟨S_, .f32⟩
  | 13 => ⟨S_, .f32⟩
  | 14 => ⟨S_, .f32⟩
  | 15 => ⟨S_, .i32⟩
  | 16 => ⟨S4, .i32⟩
  | 17 => ⟨S4, .i32⟩
  | 18 => ⟨S8x4x8x256, .f32⟩
  | 19 => ⟨S8x4x8x256, .f32⟩
  | 20 => ⟨S8x4x8x256, .f32⟩
  | 21 => ⟨S1x4x1, .i32⟩
  | 22 => ⟨S8x4x256, .i32⟩
  | 23 => ⟨S8x4x256, .i32⟩
  | 24 => ⟨S_, .i32⟩
  | 25 => ⟨S8x4x256, .i32⟩
  | 26 => ⟨S8x4x256, .i32⟩
  | 27 => ⟨S_, .i32⟩
  | 28 => ⟨S8x4x256, .i32⟩
  | 29 => ⟨S8x4x256, .i32⟩
  | 30 => ⟨S8x4x256, .f32⟩
  | 31 => ⟨S_, .f32⟩
  | 32 => ⟨S8x4x256, .f32⟩
  | 33 => ⟨S8x4x256, .f32⟩
  | 34 => ⟨S8x4x256, .f32⟩
  | 35 => ⟨S_, .f32⟩
  | 36 => ⟨S8x4x256, .f32⟩
  | 37 => ⟨S8x4x256, .f32⟩
  | 38 => ⟨S_, .f32⟩
  | 39 => ⟨S8x4x256, .f32⟩
  | 40 => ⟨S8x4x256, .f32⟩
  | 41 => ⟨S8x4x256, .i32⟩
  | 42 => ⟨S_, .i32⟩
  | 43 => ⟨S8x4x256, .i32⟩
  | 44 => ⟨S8x4x256, .i32⟩
  | 45 => ⟨S_, .i32⟩
  | 46 => ⟨S8x4x256, .i32⟩
  | 47 => ⟨S8x4x256, .i32⟩
  | 48 => ⟨S_, .i32⟩
  | 49 => ⟨S8x4x256, .i32⟩
  | 50 => ⟨S8x4x256, .i1⟩
  | 51 => ⟨S8x4x256, .i32⟩
  | 52 => ⟨S_, .i32⟩
  | 53 => ⟨S8x4x256, .i32⟩
  | 54 => ⟨S8x4x256, .i1⟩
  | 55 => ⟨S_, .i32⟩
  | 56 => ⟨S8x4x256, .i32⟩
  | 57 => ⟨S8x4x256, .i32⟩
  | 58 => ⟨S8x4x256, .i32⟩
  | 59 => ⟨S8x4x256x1, .i32⟩
  | 60 => ⟨S8x4x256x8, .f32⟩
  | 61 => ⟨S8x4x8x256, .f32⟩
  | 62 => ⟨S8x4x8x256, .f32⟩
  | 63 => ⟨S256, .i32⟩
  | 64 => ⟨S8x4x1, .i32⟩
  | 65 => ⟨S1x1x256, .i32⟩
  | 66 => ⟨S8x4x256, .i32⟩
  | 67 => ⟨S8x4x256, .i32⟩
  | 68 => ⟨S8x4x256, .i1⟩
  | 69 => ⟨S8x4x1x256, .i1⟩
  | 70 => ⟨S_, .f32⟩
  | 71 => ⟨S_, .f32⟩
  | 72 => ⟨S8x4x8x256, .i1⟩
  | 73 => ⟨S8x4x8x256, .f32⟩
  | 74 => ⟨S8x4x8x256, .f32⟩
  | 75 => ⟨S8x8x4x4, .f32⟩
  | 76 => ⟨S8x4x8x4, .f32⟩
  | 77 => ⟨S8x4x8x4, .f32⟩
  | 78 => ⟨S8x4x8x4, .f32⟩
  | 79 => ⟨S4x1, .i32⟩
  | 80 => ⟨S1x4, .i32⟩
  | 81 => ⟨S4x4, .i32⟩
  | 82 => ⟨S4x4, .i32⟩
  | 83 => ⟨S4x4, .i32⟩
  | 84 => ⟨S_, .i32⟩
  | 85 => ⟨S4x4, .i32⟩
  | 86 => ⟨S4x4, .i32⟩
  | 87 => ⟨S_, .i32⟩
  | 88 => ⟨S4x4, .i32⟩
  | 89 => ⟨S4x4, .i32⟩
  | 90 => ⟨S4x4, .f32⟩
  | 91 => ⟨S_, .f32⟩
  | 92 => ⟨S4x4, .f32⟩
  | 93 => ⟨S4x4, .f32⟩
  | 94 => ⟨S4x4, .f32⟩
  | 95 => ⟨S_, .f32⟩
  | 96 => ⟨S4x4, .f32⟩
  | 97 => ⟨S4x4, .f32⟩
  | 98 => ⟨S_, .f32⟩
  | 99 => ⟨S4x4, .f32⟩
  | 100 => ⟨S4x4, .f32⟩
  | 101 => ⟨S4x4, .i32⟩
  | 102 => ⟨S_, .i32⟩
  | 103 => ⟨S4x4, .i32⟩
  | 104 => ⟨S4x4, .i32⟩
  | 105 => ⟨S_, .i32⟩
  | 106 => ⟨S4x4, .i32⟩
  | 107 => ⟨S4x4, .i32⟩
  | 108 => ⟨S_, .i32⟩
  | 109 => ⟨S4x4, .i32⟩
  | 110 => ⟨S4x4, .i1⟩
  | 111 => ⟨S4x4, .i32⟩
  | 112 => ⟨S_, .i32⟩
  | 113 => ⟨S4x4, .i32⟩
  | 114 => ⟨S4x4, .i1⟩
  | 115 => ⟨S_, .i32⟩
  | 116 => ⟨S4x4, .i32⟩
  | 117 => ⟨S4x4, .i32⟩
  | 118 => ⟨S4x4, .i32⟩
  | 119 => ⟨S4x4x1, .i32⟩
  | 120 => ⟨S4x4x8, .f32⟩
  | 121 => ⟨S4x8x4, .f32⟩
  | 122 => ⟨S1x4x8x4, .f32⟩
  | 123 => ⟨S8x4x8x4, .f32⟩
  | 124 => ⟨S8x4x8x4, .f32⟩
  | 125 => ⟨S8x4x1, .i32⟩
  | 126 => ⟨S8x4x4, .i32⟩
  | 127 => ⟨S8x4x4, .i1⟩
  | _ => ⟨S8x4x8x128, .f32⟩

abbrev hbmTy0_1 (i : Nat) : BufTy := match i % 128 with
  | 0 => ⟨S8x4x1x4, .i1⟩
  | 1 => ⟨S_, .f32⟩
  | 2 => ⟨S_, .f32⟩
  | 3 => ⟨S8x4x8x4, .i1⟩
  | 4 => ⟨S8x4x8x4, .f32⟩
  | 5 => ⟨S8x4x8x4, .f32⟩
  | 6 => ⟨S8x4x8x260, .f32⟩
  | 7 => ⟨S_, .f32⟩
  | 8 => ⟨S8x4x8, .f32⟩
  | 9 => ⟨S_, .f32⟩
  | 10 => ⟨S8x4x8, .f32⟩
  | 11 => ⟨S8x4x8, .f32⟩
  | 12 => ⟨S8x4x8x1, .f32⟩
  | 13 => ⟨S8x4x8x260, .f32⟩
  | 14 => ⟨S8x4x8x260, .f32⟩
  | 15 => ⟨S8x4x8x260, .f32⟩
  | 16 => ⟨S_, .f32⟩
  | 17 => ⟨S8x4x8, .f32⟩
  | 18 => ⟨S8x4x8x1, .f32⟩
  | 19 => ⟨S8x4x8x260, .f32⟩
  | 20 => ⟨S8x4x8x260, .f32⟩
  | 21 => ⟨S8x4x8x256, .f32⟩
  | 22 => ⟨S8x4x8x128, .f32⟩
  | 23 => ⟨S8x4x8x4, .f32⟩
  | 24 => ⟨S8x8x128x4, .f32⟩
  | 25 => ⟨S8x4x8x128, .f32⟩
  | 26 => ⟨S8x4x8x128, .f32⟩
  | 27 => ⟨S32x8x128, .f32⟩
  | _ => ⟨S8x4x8x128, .f32⟩

abbrev hbmTy (i : Nat) : BufTy := match i / 128 with
  | 0 => hbmTy0_0 i
  | 1 => hbmTy0_1 i
  | _ => ⟨S8x4x8x128, .f32⟩

abbrev bufTy : (tb : Table) → Fin (tcTables nBuf tb) → BufTy
  | .hbm, ⟨i, _⟩ => hbmTy i
  | _, _ => ⟨S8x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_c_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_cst_24 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_25 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]
-- ==== Mlp.lean ====
abbrev S8192x2048 : Shape := ⟨2, ![8192, 2048]⟩
abbrev S32x2048 : Shape := ⟨2, ![32, 2048]⟩
abbrev S1x2048 : Shape := ⟨2, ![1, 2048]⟩
abbrev S2048 : Shape := ⟨1, ![2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S1024x2048 : Shape := ⟨2, ![1024, 2048]⟩
abbrev S2048x512 : Shape := ⟨2, ![2048, 512]⟩
abbrev S512x2048 : Shape := ⟨2, ![512, 2048]⟩
abbrev S1056x2048 : Shape := ⟨2, ![1056, 2048]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S1024x512 : Shape := ⟨2, ![1024, 512]⟩
abbrev S1056x512 : Shape := ⟨2, ![1056, 512]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S32x2048, .f32⟩
  | .hbm, ⟨2, _⟩ => ⟨S1x2048, .f32⟩
  | .hbm, ⟨3, _⟩ => ⟨S2048, .f32⟩
  | .hbm, ⟨4, _⟩ => ⟨S1x2048x8192, .f32⟩
  | .hbm, ⟨5, _⟩ => ⟨S1x8192x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2048x8192, .f32⟩
  | .hbm, ⟨10, _⟩ => ⟨S2048x8192, .bf16⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S32x2048, .f32⟩
  | .local _ .vmem, ⟨0, _⟩ => ⟨S1024x2048, .f32⟩
  | .local _ .vmem, ⟨1, _⟩ => ⟨S1024x2048, .f32⟩
  | .local _ .vmem, ⟨2, _⟩ => ⟨S32x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S32x2048, .f32⟩
  | .local _ .vmem, ⟨12, _⟩ => ⟨S1056x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond3 (i : grid0.Coords) : BitVec 1 :=
  let arg0 : BitVec 32 := BitVec.ofNat 32 (i 0).val
  let c7_i32 : BitVec 32 := 7#32
  let v0 : BitVec 1 := Scalar.cmpi .eq arg0 c7_i32
  let v_true : BitVec 1 := 1#1
  let v8 : BitVec 1 := Scalar.xori v0 v_true
  let v9 : BitVec 32 := Scalar.extui v8
  let c0_i32_3 : BitVec 32 := 0#32
  let v10 : BitVec 1 := Scalar.cmpi .ne v9 c0_i32_3
  v10

def k0_cond4 (i : grid0.Coords) : BitVec 1 :=
  let arg0 : BitVec 32 := BitVec.ofNat 32 (i 0).val
  let c7_i32 : BitVec 32 := 7#32
  let v0 : BitVec 1 := Scalar.cmpi .eq arg0 c7_i32
  let v11 : BitVec 32 := Scalar.extui v0
  let c0_i32_4 : BitVec 32 := 0#32
  let v12 : BitVec 1 := Scalar.cmpi .ne v11 c0_i32_4
  v12

def k0_cond5 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_5 : BitVec 32 := 0#32
  let v15 : BitVec 1 := Scalar.cmpi .ne v14 c0_i32_5
  v15

def k0_cond2 (i : grid0.Coords) : BitVec 1 :=
  let arg1 : BitVec 32 := BitVec.ofNat 32 (i 1).val
  let c0_i32_1 : BitVec 32 := 0#32
  let v4 : BitVec 1 := Scalar.cmpi .eq arg1 c0_i32_1
  let arg0 : BitVec 32 := BitVec.ofNat 32 (i 0).val
  let c7_i32 : BitVec 32 := 7#32
  let v0 : BitVec 1 := Scalar.cmpi .eq arg0 c7_i32
  let v5 : BitVec 1 := Scalar.andi v4 v0
  let v6 : BitVec 32 := Scalar.extui v5
  let c0_i32_2 : BitVec 32 := 0#32
  let v7 : BitVec 1 := Scalar.cmpi .ne v6 c0_i32_2
  v7

def k0_cond6 (i : grid0.Coords) : BitVec 1 :=
  let arg1 : BitVec 32 := BitVec.ofNat 32 (i 1).val
  let c15_i32_6 : BitVec 32 := 15#32
  let v16 : BitVec 1 := Scalar.cmpi .eq arg1 c15_i32_6
  let arg0 : BitVec 32 := BitVec.ofNat 32 (i 0).val
  let c7_i32 : BitVec 32 := 7#32
  let v0 : BitVec 1 := Scalar.cmpi .eq arg0 c7_i32
  let v17 : BitVec 1 := Scalar.andi v16 v0
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MlpRefIdeal.lean ====
abbrev S8192x2048 : Shape := ⟨2, ![8192, 2048]⟩
abbrev S32x2048 : Shape := ⟨2, ![32, 2048]⟩
abbrev S1x2048 : Shape := ⟨2, ![1, 2048]⟩
abbrev S2048 : Shape := ⟨1, ![2048]⟩
abbrev S1x2048x8192 : Shape := ⟨3, ![1, 2048, 8192]⟩
abbrev S1x8192x2048 : Shape := ⟨3, ![1, 8192, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩
abbrev S32 : Shape := ⟨1, ![32]⟩
abbrev S32x1 : Shape := ⟨2, ![32, 1]⟩
abbrev S32x8192 : Shape := ⟨2, ![32, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x2048, .f32⟩
  | .hbm, ⟨2, _⟩ => ⟨S1x2048, .f32⟩
  | .hbm, ⟨3, _⟩ => ⟨S2048, .f32⟩
  | .hbm, ⟨4, _⟩ => ⟨S1x2048x8192, .f32⟩
  | .hbm, ⟨5, _⟩ => ⟨S1x8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S2048, .f32⟩
  | .hbm, ⟨49, _⟩ => ⟨S32x2048, .f32⟩
  | .hbm, ⟨50, _⟩ => ⟨S_, .f32⟩
  | .hbm, ⟨51, _⟩ => ⟨S32, .f32⟩
  | .hbm, ⟨52, _⟩ => ⟨S32x1, .f32⟩
  | .hbm, ⟨53, _⟩ => ⟨S_, .f32⟩
  | .hbm, ⟨54, _⟩ => ⟨S32x1, .f32⟩
  | .hbm, ⟨55, _⟩ => ⟨S32x1, .f32⟩
  | .hbm, ⟨56, _⟩ => ⟨S_, .f32⟩
  | .hbm, ⟨57, _⟩ => ⟨S32x1, .f32⟩
  | .hbm, ⟨58, _⟩ => ⟨S32x1, .f32⟩
  | .hbm, ⟨59, _⟩ => ⟨S32x1, .f32⟩
  | .hbm, ⟨60, _⟩ => ⟨S32x2048, .f32⟩
  | .hbm, ⟨61, _⟩ => ⟨S32x2048, .f32⟩
  | .hbm, ⟨62, _⟩ => ⟨S1x2048, .f32⟩
  | .hbm, ⟨63, _⟩ => ⟨S32x2048, .f32⟩
  | .hbm, ⟨64, _⟩ => ⟨S32x2048, .f32⟩
  | .hbm, ⟨65, _⟩ => ⟨S2048x8192, .f32⟩
  | .hbm, ⟨66, _⟩ => ⟨S32x8192, .f32⟩
  | .hbm, ⟨67, _⟩ => ⟨S_, .f32⟩
  | .hbm, ⟨68, _⟩ => ⟨S32x8192, .f32⟩
  | .hbm, ⟨69, _⟩ => ⟨S32x8192, .f32⟩
  | .hbm, ⟨70, _⟩ => ⟨S32x8192, .f32⟩
  | .hbm, ⟨71, _⟩ => ⟨S8192x2048, .f32⟩
  | .hbm, ⟨72, _⟩ => ⟨S32x2048, .f32⟩
  | .hbm, ⟨73, _⟩ => ⟨S32x2048, .f32⟩
  | .hbm, ⟨74, _⟩ => ⟨S32x2048, .f32⟩
  | .hbm, ⟨75, _⟩ => ⟨S_, .f32⟩
  | .hbm, ⟨76, _⟩ => ⟨S32, .f32⟩
  | .hbm, ⟨77, _⟩ => ⟨S32x1, .f32⟩
  | .hbm, ⟨78, _⟩ => ⟨S_, .f32⟩
  | .hbm, ⟨79, _⟩ => ⟨S32x1, .f32⟩
  | .hbm, ⟨80, _⟩ => ⟨S32x1, .f32⟩
  | .hbm, ⟨81, _⟩ => ⟨S_, .f32⟩
  | .hbm, ⟨82, _⟩ => ⟨S32x1, .f32⟩
  | .hbm, ⟨83, _⟩ => ⟨S32x1, .f32⟩
  | .hbm, ⟨84, _⟩ => ⟨S32x1, .f32⟩
  | .hbm, ⟨85, _⟩ => ⟨S32x2048, .f32⟩
  | .hbm, ⟨86, _⟩ => ⟨S32x2048, .f32⟩
  | .hbm, ⟨87, _⟩ => ⟨S1x2048, .f32⟩
  | .hbm, ⟨88, _⟩ => ⟨S32x2048, .f32⟩
  | .hbm, ⟨89, _⟩ => ⟨S32x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Conv.lean ====
abbrev S8192x2048 : Shape := ⟨2, ![8192, 2048]⟩
abbrev S1x2048 : Shape := ⟨2, ![1, 2048]⟩
abbrev S1x2048x11344 : Shape := ⟨3, ![1, 2048, 11344]⟩
abbrev S1x3x1024 : Shape := ⟨3, ![1, 3, 1024]⟩
abbrev S1x1024x2048 : Shape := ⟨3, ![1, 1024, 2048]⟩
abbrev S1x2048x2048 : Shape := ⟨3, ![1, 2048, 2048]⟩
abbrev S2048x11344 : Shape := ⟨2, ![2048, 11344]⟩
abbrev S11344x2048 : Shape := ⟨2, ![11344, 2048]⟩
abbrev S2048 : Shape := ⟨1, ![2048]⟩
abbrev S3x1024 : Shape := ⟨2, ![3, 1024]⟩
abbrev S1024x2048 : Shape := ⟨2, ![1024, 2048]⟩
abbrev S2048x2048 : Shape := ⟨2, ![2048, 2048]⟩
abbrev S8192x1024 : Shape := ⟨2, ![8192, 1024]⟩
abbrev S128x1024 : Shape := ⟨2, ![128, 1024]⟩
abbrev S512x2048 : Shape := ⟨2, ![512, 2048]⟩
abbrev S64x2048 : Shape := ⟨2, ![64, 2048]⟩
abbrev S128x2048 : Shape := ⟨2, ![128, 2048]⟩
abbrev S512x1024 : Shape := ⟨2, ![512, 1024]⟩
abbrev S8x1024 : Shape := ⟨2, ![8, 1024]⟩
abbrev S3072x2048 : Shape := ⟨2, ![3072, 2048]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S4x4x8x1024 : Shape := ⟨4, ![4, 4, 8, 1024]⟩
abbrev S4x1x2x1024 : Shape := ⟨4, ![4, 1, 2, 1024]⟩
abbrev S4x2x1024 : Shape := ⟨3, ![4, 2, 1024]⟩

abbrev nBuf : Space → Nat
  | .hbm => 24
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11344, .f32⟩
  | .hbm, ⟨3, _⟩ => ⟨S1x3x1024, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2048x11344, .f32⟩
  | .hbm, ⟨8, _⟩ => ⟨S11344x2048, .f32⟩
  | .hbm, ⟨9, _⟩ => ⟨S11344x2048, .bf16⟩
  | .hbm, ⟨10, _⟩ => ⟨S2048, .f32⟩
  | .hbm, ⟨11, _⟩ => ⟨S1x2048, .f32⟩
  | .hbm, ⟨12, _⟩ => ⟨S3x1024, .f32⟩
  | .hbm, ⟨13, _⟩ => ⟨S1024x2048, .f32⟩
  | .hbm, ⟨14, _⟩ => ⟨S1024x2048, .f32⟩
  | .hbm, ⟨15, _⟩ => ⟨S2048x2048, .f32⟩
  | .hbm, ⟨16, _⟩ => ⟨S8192x1024, .bf16⟩
  | .hbm, ⟨17, _⟩ => ⟨S128x1024, .f32⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S4x4x8x1024, .f32⟩
  | .hbm, ⟨22, _⟩ => ⟨S4x1x2x1024, .f32⟩
  | .hbm, ⟨23, _⟩ => ⟨S4x2x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S128x2048, .f32⟩
  | .local _ .vmem, ⟨9, _⟩ => ⟨S128x2048, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S128x2048, .bf16⟩
  | .local _ .vmem, ⟨19, _⟩ => ⟨S128x2048, .bf16⟩
  | .local _ .vmem, ⟨20, _⟩ => ⟨S3072x2048, .bf16⟩
  | .local _ .vmem, ⟨21, _⟩ => ⟨S8x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S8192x2048 : Shape := ⟨2, ![8192, 2048]⟩
abbrev S1x2048 : Shape := ⟨2, ![1, 2048]⟩
abbrev S1x2048x11344 : Shape := ⟨3, ![1, 2048, 11344]⟩
abbrev S1x3x1024 : Shape := ⟨3, ![1, 3, 1024]⟩
abbrev S1x1024x2048 : Shape := ⟨3, ![1, 1024, 2048]⟩
abbrev S1x2048x2048 : Shape := ⟨3, ![1, 2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11344 : Shape := ⟨2, ![2048, 11344]⟩
abbrev S8192x11344 : Shape := ⟨2, ![8192, 11344]⟩
abbrev S4x2048x11344 : Shape := ⟨3, ![4, 2048, 11344]⟩
abbrev S4x2048x1024 : Shape := ⟨3, ![4, 2048, 1024]⟩
abbrev S4x2x1024 : Shape := ⟨3, ![4, 2, 1024]⟩
abbrev S4x2050x1024 : Shape := ⟨3, ![4, 2050, 1024]⟩
abbrev S1x1x1024 : Shape := ⟨3, ![1, 1, 1024]⟩
abbrev S1024 : Shape := ⟨1, ![1024]⟩
abbrev S8192x1024 : Shape := ⟨2, ![8192, 1024]⟩
abbrev S1024x2048 : Shape := ⟨2, ![1024, 2048]⟩
abbrev S2048x2048 : Shape := ⟨2, ![2048, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11344, .f32⟩
  | .hbm, ⟨3, _⟩ => ⟨S1x3x1024, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x11344, .f32⟩
  | .hbm, ⟨25, _⟩ => ⟨S8192x11344, .f32⟩
  | .hbm, ⟨26, _⟩ => ⟨S4x2048x11344, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2x1024, .f32⟩
  | .hbm, ⟨32, _⟩ => ⟨S4x2048x1024, .f32⟩
  | .hbm, ⟨33, _⟩ => ⟨S4x2050x1024, .f32⟩
  | .hbm, ⟨34, _⟩ => ⟨S1x1x1024, .f32⟩
  | .hbm, ⟨35, _⟩ => ⟨S1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S1x1x1024, .f32⟩
  | .hbm, ⟨44, _⟩ => ⟨S1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S8192x1024, .f32⟩
  | .hbm, ⟨59, _⟩ => ⟨S8192x1024, .bf16⟩
  | .hbm, ⟨60, _⟩ => ⟨S4x2x1024, .f32⟩
  | .hbm, ⟨61, _⟩ => ⟨S1024x2048, .f32⟩
  | .hbm, ⟨62, _⟩ => ⟨S1024x2048, .bf16⟩
  | .hbm, ⟨63, _⟩ => ⟨S1024x2048, .f32⟩
  | .hbm, ⟨64, _⟩ => ⟨S1024x2048, .bf16⟩
  | .hbm, ⟨65, _⟩ => ⟨S2048x2048, .f32⟩
  | .hbm, ⟨66, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Step.lean ====
abbrev S32x2048 : Shape := ⟨2, ![32, 2048]⟩
abbrev S1x2048 : Shape := ⟨2, ![1, 2048]⟩
abbrev S1x2048x11344 : Shape := ⟨3, ![1, 2048, 11344]⟩
abbrev S1x3x1024 : Shape := ⟨3, ![1, 3, 1024]⟩
abbrev S1x8x2x1024 : Shape := ⟨4, ![1, 8, 2, 1024]⟩
abbrev S2048x11344 : Shape := ⟨2, ![2048, 11344]⟩
abbrev S11344x2048 : Shape := ⟨2, ![11344, 2048]⟩
abbrev S8x2x1024 : Shape := ⟨3, ![8, 2, 1024]⟩
abbrev S_ : Shape := ⟨0, ![]⟩
abbrev S8x3x1024 : Shape := ⟨3, ![8, 3, 1024]⟩
abbrev S8x1x1024 : Shape := ⟨3, ![8, 1, 1024]⟩
abbrev S8x4x1024 : Shape := ⟨3, ![8, 4, 1024]⟩
abbrev S32x1024 : Shape := ⟨2, ![32, 1024]⟩
abbrev S2048 : Shape := ⟨1, ![2048]⟩
abbrev S3x1024 : Shape := ⟨2, ![3, 1024]⟩
abbrev S3072x2048 : Shape := ⟨2, ![3072, 2048]⟩
abbrev S32 : Shape := ⟨1, ![32]⟩
abbrev S32x1 : Shape := ⟨2, ![32, 1]⟩
abbrev S1024x2048 : Shape := ⟨2, ![1024, 2048]⟩
abbrev S1x1024 : Shape := ⟨2, ![1, 1024]⟩

abbrev nBuf : Space → Nat
  | .hbm => 24
  | .vmem => 8
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x11344, .f32⟩
  | .hbm, ⟨3, _⟩ => ⟨S1x3x1024, .f32⟩
  | .hbm, ⟨4, _⟩ => ⟨S1x8x2x1024, .f32⟩
  | .hbm, ⟨5, _⟩ => ⟨S2048x11344, .f32⟩
  | .hbm, ⟨6, _⟩ => ⟨S11344x2048, .f32⟩
  | .hbm, ⟨7, _⟩ => ⟨S11344x2048, .bf16⟩
  | .hbm, ⟨8, _⟩ => ⟨S8x2x1024, .f32⟩
  | .hbm, ⟨9, _⟩ => ⟨S_, .f32⟩
  | .hbm, ⟨10, _⟩ => ⟨S8x3x1024, .f32⟩
  | .hbm, ⟨11, _⟩ => ⟨S8x1x1024, .f32⟩
  | .hbm, ⟨12, _⟩ => ⟨S8x4x1024, .f32⟩
  | .hbm, ⟨13, _⟩ => ⟨S32x1024, .f32⟩
  | .hbm, ⟨14, _⟩ => ⟨S8x2x1024, .f32⟩
  | .hbm, ⟨15, _⟩ => ⟨S8x4x1024, .f32⟩
  | .hbm, ⟨16, _⟩ => ⟨S32x1024, .f32⟩
  | .hbm, ⟨17, _⟩ => ⟨S2048, .f32⟩
  | .hbm, ⟨18, _⟩ => ⟨S1x2048, .f32⟩
  | .hbm, ⟨19, _⟩ => ⟨S3x1024, .f32⟩
  | .hbm, ⟨20, _⟩ => ⟨S32x1024, .bf16⟩
  | .hbm, ⟨21, _⟩ => ⟨S32x1024, .f32⟩
  | .hbm, ⟨22, _⟩ => ⟨S8x4x1024, .f32⟩
  | .hbm, ⟨23, _⟩ => ⟨S8x2x1024, .f32⟩
  | .local _ .vmem, ⟨0, _⟩ => ⟨S32x2048, .f32⟩
  | .local _ .vmem, ⟨1, _⟩ => ⟨S1x2048, .f32⟩
  | .local _ .vmem, ⟨2, _⟩ => ⟨S3x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .bf16⟩
  | .local _ .vmem, ⟨6, _⟩ => ⟨S32x1024, .f32⟩
  | .local _ .vmem, ⟨7, _⟩ => ⟨S3072x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepRefIdeal.lean ====
abbrev S32x2048 : Shape := ⟨2, ![32, 2048]⟩
abbrev S1x2048 : Shape := ⟨2, ![1, 2048]⟩
abbrev S1x2048x11344 : Shape := ⟨3, ![1, 2048, 11344]⟩
abbrev S1x3x1024 : Shape := ⟨3, ![1, 3, 1024]⟩
abbrev S1x8x2x1024 : Shape := ⟨4, ![1, 8, 2, 1024]⟩
abbrev S2048 : Shape := ⟨1, ![2048]⟩
abbrev S_ : Shape := ⟨0, ![]⟩
abbrev S32 : Shape := ⟨1, ![32]⟩
abbrev S32x1 : Shape := ⟨2, ![32, 1]⟩
abbrev S2048x11344 : Shape := ⟨2, ![2048, 11344]⟩
abbrev S32x11344 : Shape := ⟨2, ![32, 11344]⟩
abbrev S8x4x11344 : Shape := ⟨3, ![8, 4, 11344]⟩
abbrev S8x4x1024 : Shape := ⟨3, ![8, 4, 1024]⟩
abbrev S8x2x1024 : Shape := ⟨3, ![8, 2, 1024]⟩
abbrev S8x6x1024 : Shape := ⟨3, ![8, 6, 1024]⟩
abbrev S1x1x1024 : Shape := ⟨3, ![1, 1, 1024]⟩
abbrev S1024 : Shape := ⟨1, ![1024]⟩
abbrev S32x1024 : Shape := ⟨2, ![32, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x11344, .f32⟩
  | .hbm, ⟨3, _⟩ => ⟨S1x3x1024, .f32⟩
  | .hbm, ⟨4, _⟩ => ⟨S1x8x2x1024, .f32⟩
  | .hbm, ⟨5, _⟩ => ⟨S2048, .f32⟩
  | .hbm, ⟨6, _⟩ => ⟨S32x2048, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x2048, .f32⟩
  | .hbm, ⟨18, _⟩ => ⟨S32x2048, .f32⟩
  | .hbm, ⟨19, _⟩ => ⟨S1x2048, .f32⟩
  | .hbm, ⟨20, _⟩ => ⟨S32x2048, .f32⟩
  | .hbm, ⟨21, _⟩ => ⟨S32x2048, .f32⟩
  | .hbm, ⟨22, _⟩ => ⟨S2048x11344, .f32⟩
  | .hbm, ⟨23, _⟩ => ⟨S32x11344, .f32⟩
  | .hbm, ⟨24, _⟩ => ⟨S8x4x11344, .f32⟩
  | .hbm, ⟨25, _⟩ => ⟨S8x4x1024, .f32⟩
  | .hbm, ⟨26, _⟩ => ⟨S8x4x1024, .f32⟩
  | .hbm, ⟨27, _⟩ => ⟨S8x4x1024, .f32⟩
  | .hbm, ⟨28, _⟩ => ⟨S8x2x1024, .f32⟩
  | .hbm, ⟨29, _⟩ => ⟨S8x4x1024, .f32⟩
  | .hbm, ⟨30, _⟩ => ⟨S8x6x1024, .f32⟩
  | .hbm, ⟨31, _⟩ => ⟨S1x1x1024, .f32⟩
  | .hbm, ⟨32, _⟩ => ⟨S1024, .f32⟩
  | .hbm, ⟨33, _⟩ => ⟨S8x4x1024, .f32⟩
  | .hbm, ⟨34, _⟩ => ⟨S1x1x1024, .f32⟩
  | .hbm, ⟨35, _⟩ => ⟨S8x4x1024, .f32⟩
  | .hbm, ⟨36, _⟩ => ⟨S8x4x1024, .f32⟩
  | .hbm, ⟨37, _⟩ => ⟨S_, .f32⟩
  | .hbm, ⟨38, _⟩ => ⟨S8x4x1024, .f32⟩
  | .hbm, ⟨39, _⟩ => ⟨S8x4x1024, .f32⟩
  | .hbm, ⟨40, _⟩ => ⟨S1x1x1024, .f32⟩
  | .hbm, ⟨41, _⟩ => ⟨S1024, .f32⟩
  | .hbm, ⟨42, _⟩ => ⟨S8x4x1024, .f32⟩
  | .hbm, ⟨43, _⟩ => ⟨S1x1x1024, .f32⟩
  | .hbm, ⟨44, _⟩ => ⟨S8x4x1024, .f32⟩
  | .hbm, ⟨45, _⟩ => ⟨S8x4x1024, .f32⟩
  | .hbm, ⟨46, _⟩ => ⟨S8x4x1024, .f32⟩
  | .hbm, ⟨47, _⟩ => ⟨S1x1x1024, .f32⟩
  | .hbm, ⟨48, _⟩ => ⟨S1024, .f32⟩
  | .hbm, ⟨49, _⟩ => ⟨S8x4x1024, .f32⟩
  | .hbm, ⟨50, _⟩ => ⟨S1x1x1024, .f32⟩
  | .hbm, ⟨51, _⟩ => ⟨S8x4x1024, .f32⟩
  | .hbm, ⟨52, _⟩ => ⟨S8x4x1024, .f32⟩
  | .hbm, ⟨53, _⟩ => ⟨S8x4x1024, .f32⟩
  | .hbm, ⟨54, _⟩ => ⟨S8x4x1024, .f32⟩
  | .hbm, ⟨55, _⟩ => ⟨S32x1024, .f32⟩
  | .hbm, ⟨56, _⟩ => ⟨S32x1024, .bf16⟩
  | .hbm, ⟨57, _⟩ => ⟨S8x2x1024, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Proj.lean ====
abbrev S8192x2048 : Shape := ⟨2, ![8192, 2048]⟩
abbrev S1x2048 : Shape := ⟨2, ![1, 2048]⟩
abbrev S1x2048x11344 : Shape := ⟨3, ![1, 2048, 11344]⟩
abbrev S2048x11344 : Shape := ⟨2, ![2048, 11344]⟩
abbrev S11344x2048 : Shape := ⟨2, ![11344, 2048]⟩
abbrev S2048 : Shape := ⟨1, ![2048]⟩
abbrev S8192x1024 : Shape := ⟨2, ![8192, 1024]⟩
abbrev S65536x128 : Shape := ⟨2, ![65536, 128]⟩
abbrev S8192x128 : Shape := ⟨2, ![8192, 128]⟩
abbrev S512x2048 : Shape := ⟨2, ![512, 2048]⟩
abbrev S512x1024 : Shape := ⟨2, ![512, 1024]⟩
abbrev S4096x128 : Shape := ⟨2, ![4096, 128]⟩
abbrev S512x128 : Shape := ⟨2, ![512, 128]⟩
abbrev S4096x2048 : Shape := ⟨2, ![4096, 2048]⟩
abbrev S128x2048 : Shape := ⟨2, ![128, 2048]⟩
abbrev S_ : Shape := ⟨0, ![]⟩
abbrev S80x2048 : Shape := ⟨2, ![80, 2048]⟩
abbrev S512 : Shape := ⟨1, ![512]⟩
abbrev S512x1 : Shape := ⟨2, ![512, 1]⟩
abbrev S1024x2048 : Shape := ⟨2, ![1024, 2048]⟩
abbrev S4x2048x8x128 : Shape := ⟨4, ![4, 2048, 8, 128]⟩
abbrev S8192x64 : Shape := ⟨2, ![8192, 64]⟩
abbrev S4x2048x64 : Shape := ⟨3, ![4, 2048, 64]⟩
abbrev S8192x16 : Shape := ⟨2, ![8192, 16]⟩

abbrev nBuf : Space → Nat
  | .hbm => 22
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11344, .f32⟩
  | .hbm, ⟨3, _⟩ => ⟨S2048x11344, .f32⟩
  | .hbm, ⟨4, _⟩ => ⟨S11344x2048, .f32⟩
  | .hbm, ⟨5, _⟩ => ⟨S11344x2048, .bf16⟩
  | .hbm, ⟨6, _⟩ => ⟨S2048, .f32⟩
  | .hbm, ⟨7, _⟩ => ⟨S1x2048, .f32⟩
  | .hbm, ⟨8, _⟩ => ⟨S8192x1024, .bf16⟩
  | .hbm, ⟨9, _⟩ => ⟨S65536x128, .f32⟩
  | .hbm, ⟨10, _⟩ => ⟨S65536x128, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x128, .f32⟩
  | .hbm, ⟨15, _⟩ => ⟨S8192x128, .bf16⟩
  | .hbm, ⟨16, _⟩ => ⟨S8192x128, .f32⟩
  | .hbm, ⟨17, _⟩ => ⟨S4x2048x8x128, .f32⟩
  | .hbm, ⟨18, _⟩ => ⟨S4x2048x8x128, .f32⟩
  | .hbm, ⟨19, _⟩ => ⟨S8192x64, .f32⟩
  | .hbm, ⟨20, _⟩ => ⟨S4x2048x64, .f32⟩
  | .hbm, ⟨21, _⟩ => ⟨S8192x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .bf16⟩
  | .local _ .vmem, ⟨4, _⟩ => ⟨S512x1024, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x128, .f32⟩
  | .local _ .vmem, ⟨16, _⟩ => ⟨S512x128, .f32⟩
  | .local _ .vmem, ⟨17, _⟩ => ⟨S512x128, .bf16⟩
  | .local _ .vmem, ⟨18, _⟩ => ⟨S512x128, .bf16⟩
  | .local _ .vmem, ⟨19, _⟩ => ⟨S512x128, .f32⟩
  | .local _ .vmem, ⟨20, _⟩ => ⟨S512x128, .f32⟩
  | .local _ .vmem, ⟨21, _⟩ => ⟨S4096x2048, .bf16⟩
  | .local _ .vmem, ⟨22, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v5_6 : Ref sig .tc := ⟨.hbm, 14, rfl⟩
abbrev main_v5_7 : Ref sig .tc := ⟨.hbm, 15, rfl⟩
abbrev main_v5_8 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S8192x2048 : Shape := ⟨2, ![8192, 2048]⟩
abbrev S1x2048 : Shape := ⟨2, ![1, 2048]⟩
abbrev S1x2048x11344 : Shape := ⟨3, ![1, 2048, 11344]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11344 : Shape := ⟨2, ![2048, 11344]⟩
abbrev S8192x11344 : Shape := ⟨2, ![8192, 11344]⟩
abbrev S8192x1024 : Shape := ⟨2, ![8192, 1024]⟩
abbrev S4x2048x8x128 : Shape := ⟨4, ![4, 2048, 8, 128]⟩
abbrev S8192x64 : Shape := ⟨2, ![8192, 64]⟩
abbrev S4x2048x64 : Shape := ⟨3, ![4, 2048, 64]⟩
abbrev S8192x16 : Shape := ⟨2, ![8192, 16]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11344, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x11344, .f32⟩
  | .hbm, ⟨21, _⟩ => ⟨S8192x11344, .f32⟩
  | .hbm, ⟨22, _⟩ => ⟨S8192x1024, .f32⟩
  | .hbm, ⟨23, _⟩ => ⟨S4x2048x8x128, .f32⟩
  | .hbm, ⟨24, _⟩ => ⟨S8192x1024, .f32⟩
  | .hbm, ⟨25, _⟩ => ⟨S4x2048x8x128, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x64, .f32⟩
  | .hbm, ⟨32, _⟩ => ⟨S4x2048x64, .f32⟩
  | .hbm, ⟨33, _⟩ => ⟨S8192x1024, .f32⟩
  | .hbm, ⟨34, _⟩ => ⟨S8192x1024, .bf16⟩
  | .hbm, ⟨35, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Mix.lean ====
abbrev S8192x2048 : Shape := ⟨2, ![8192, 2048]⟩
abbrev S32x2048 : Shape := ⟨2, ![32, 2048]⟩
abbrev S1x2048 : Shape := ⟨2, ![1, 2048]⟩
abbrev S8192x1024 : Shape := ⟨2, ![8192, 1024]⟩
abbrev S32x1024 : Shape := ⟨2, ![32, 1024]⟩
abbrev S1x2048x11344 : Shape := ⟨3, ![1, 2048, 11344]⟩
abbrev S1x1024x2048 : Shape := ⟨3, ![1, 1024, 2048]⟩
abbrev S1x2048x2048 : Shape := ⟨3, ![1, 2048, 2048]⟩
abbrev S2048x11344 : Shape := ⟨2, ![2048, 11344]⟩
abbrev S11344x2048 : Shape := ⟨2, ![11344, 2048]⟩
abbrev S2048 : Shape := ⟨1, ![2048]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩
abbrev S4096x2048 : Shape := ⟨2, ![4096, 2048]⟩
abbrev S_ : Shape := ⟨0, ![]⟩
abbrev S256 : Shape := ⟨1, ![256]⟩
abbrev S256x1 : Shape := ⟨2, ![256, 1]⟩
abbrev S32 : Shape := ⟨1, ![32]⟩
abbrev S32x1 : Shape := ⟨2, ![32, 1]⟩

abbrev nBuf : Space → Nat
  | .hbm => 28
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S32x2048, .f32⟩
  | .hbm, ⟨2, _⟩ => ⟨S1x2048, .f32⟩
  | .hbm, ⟨3, _⟩ => ⟨S8192x1024, .f32⟩
  | .hbm, ⟨4, _⟩ => ⟨S32x1024, .f32⟩
  | .hbm, ⟨5, _⟩ => ⟨S8192x1024, .f32⟩
  | .hbm, ⟨6, _⟩ => ⟨S32x1024, .f32⟩
  | .hbm, ⟨7, _⟩ => ⟨S1x2048x11344, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S2048x11344, .f32⟩
  | .hbm, ⟨12, _⟩ => ⟨S11344x2048, .f32⟩
  | .hbm, ⟨13, _⟩ => ⟨S11344x2048, .bf16⟩
  | .hbm, ⟨14, _⟩ => ⟨S2048, .f32⟩
  | .hbm, ⟨15, _⟩ => ⟨S1x2048, .f32⟩
  | .hbm, ⟨16, _⟩ => ⟨S8192x1024, .bf16⟩
  | .hbm, ⟨17, _⟩ => ⟨S32x1024, .bf16⟩
  | .hbm, ⟨18, _⟩ => ⟨S8192x1024, .bf16⟩
  | .hbm, ⟨19, _⟩ => ⟨S32x1024, .bf16⟩
  | .hbm, ⟨20, _⟩ => ⟨S1024x2048, .f32⟩
  | .hbm, ⟨21, _⟩ => ⟨S1024x2048, .bf16⟩
  | .hbm, ⟨22, _⟩ => ⟨S1024x2048, .f32⟩
  | .hbm, ⟨23, _⟩ => ⟨S1024x2048, .bf16⟩
  | .hbm, ⟨24, _⟩ => ⟨S2048x2048, .f32⟩
  | .hbm, ⟨25, _⟩ => ⟨S2048x2048, .bf16⟩
  | .hbm, ⟨26, _⟩ => ⟨S8192x2048, .f32⟩
  | .hbm, ⟨27, _⟩ => ⟨S32x2048, .f32⟩
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S1x2048, .f32⟩
  | .local _ .vmem, ⟨4, _⟩ => ⟨S256x1024, .bf16⟩
  | .local _ .vmem, ⟨5, _⟩ => ⟨S256x1024, .bf16⟩
  | .local _ .vmem, ⟨6, _⟩ => ⟨S32x1024, .bf16⟩
  | .local _ .vmem, ⟨7, _⟩ => ⟨S256x1024, .bf16⟩
  | .local _ .vmem, ⟨8, _⟩ => ⟨S256x1024, .bf16⟩
  | .local _ .vmem, ⟨9, _⟩ => ⟨S32x1024, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S32x2048, .f32⟩
  | .local _ .vmem, ⟨16, _⟩ => ⟨S4096x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixRefIdeal.lean ====
abbrev S8192x2048 : Shape := ⟨2, ![8192, 2048]⟩
abbrev S32x2048 : Shape := ⟨2, ![32, 2048]⟩
abbrev S1x2048 : Shape := ⟨2, ![1, 2048]⟩
abbrev S8192x1024 : Shape := ⟨2, ![8192, 1024]⟩
abbrev S32x1024 : Shape := ⟨2, ![32, 1024]⟩
abbrev S1x2048x11344 : Shape := ⟨3, ![1, 2048, 11344]⟩
abbrev S1x1024x2048 : Shape := ⟨3, ![1, 1024, 2048]⟩
abbrev S1x2048x2048 : Shape := ⟨3, ![1, 2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11344 : Shape := ⟨2, ![2048, 11344]⟩
abbrev S8192x11344 : Shape := ⟨2, ![8192, 11344]⟩
abbrev S1024x2048 : Shape := ⟨2, ![1024, 2048]⟩
abbrev S2048x2048 : Shape := ⟨2, ![2048, 2048]⟩
abbrev S32 : Shape := ⟨1, ![32]⟩
abbrev S32x1 : Shape := ⟨2, ![32, 1]⟩
abbrev S32x11344 : Shape := ⟨2, ![32, 11344]⟩

abbrev nBuf : Space → Nat
  | .hbm => 105
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x2048, .f32⟩
  | .hbm, ⟨2, _⟩ => ⟨S1x2048, .f32⟩
  | .hbm, ⟨3, _⟩ => ⟨S8192x1024, .f32⟩
  | .hbm, ⟨4, _⟩ => ⟨S32x1024, .f32⟩
  | .hbm, ⟨5, _⟩ => ⟨S8192x1024, .f32⟩
  | .hbm, ⟨6, _⟩ => ⟨S32x1024, .f32⟩
  | .hbm, ⟨7, _⟩ => ⟨S1x2048x11344, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S2048x11344, .f32⟩
  | .hbm, ⟨29, _⟩ => ⟨S8192x11344, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S1024x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S1024x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S2048x2048, .f32⟩
  | .hbm, ⟨56, _⟩ => ⟨S8192x2048, .f32⟩
  | .hbm, ⟨57, _⟩ => ⟨S8192x2048, .f32⟩
  | .hbm, ⟨58, _⟩ => ⟨S2048, .f32⟩
  | .hbm, ⟨59, _⟩ => ⟨S32x2048, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S_, .f32⟩
  | .hbm, ⟨64, _⟩ => ⟨S32x1, .f32⟩
  | .hbm, ⟨65, _⟩ => ⟨S32x1, .f32⟩
  | .hbm, ⟨66, _⟩ => ⟨S_, .f32⟩
  | .hbm, ⟨67, _⟩ => ⟨S32x1, .f32⟩
  | .hbm, ⟨68, _⟩ => ⟨S32x1, .f32⟩
  | .hbm, ⟨69, _⟩ => ⟨S32x1, .f32⟩
  | .hbm, ⟨70, _⟩ => ⟨S32x2048, .f32⟩
  | .hbm, ⟨71, _⟩ => ⟨S32x2048, .f32⟩
  | .hbm, ⟨72, _⟩ => ⟨S1x2048, .f32⟩
  | .hbm, ⟨73, _⟩ => ⟨S32x2048, .f32⟩
  | .hbm, ⟨74, _⟩ => ⟨S32x2048, .f32⟩
  | .hbm, ⟨75, _⟩ => ⟨S2048x11344, .f32⟩
  | .hbm, ⟨76, _⟩ => ⟨S32x11344, .f32⟩
  | .hbm, ⟨77, _⟩ => ⟨S32x2048, .f32⟩
  | .hbm, ⟨78, _⟩ => ⟨S32x2048, .f32⟩
  | .hbm, ⟨79, _⟩ => ⟨S32x2048, .f32⟩
  | .hbm, ⟨80, _⟩ => ⟨S32x2048, .f32⟩
  | .hbm, ⟨81, _⟩ => ⟨S_, .f32⟩
  | .hbm, ⟨82, _⟩ => ⟨S32x2048, .f32⟩
  | .hbm, ⟨83, _⟩ => ⟨S32x2048, .f32⟩
  | .hbm, ⟨84, _⟩ => ⟨S_, .f32⟩
  | .hbm, ⟨85, _⟩ => ⟨S32x2048, .f32⟩
  | .hbm, ⟨86, _⟩ => ⟨S32x2048, .f32⟩
  | .hbm, ⟨87, _⟩ => ⟨S1024x2048, .f32⟩
  | .hbm, ⟨88, _⟩ => ⟨S32x2048, .f32⟩
  | .hbm, ⟨89, _⟩ => ⟨S32x2048, .f32⟩
  | .hbm, ⟨90, _⟩ => ⟨S32x2048, .f32⟩
  | .hbm, ⟨91, _⟩ => ⟨S32x2048, .f32⟩
  | .hbm, ⟨92, _⟩ => ⟨S_, .f32⟩
  | .hbm, ⟨93, _⟩ => ⟨S32x2048, .f32⟩
  | .hbm, ⟨94, _⟩ => ⟨S32x2048, .f32⟩
  | .hbm, ⟨95, _⟩ => ⟨S_, .f32⟩
  | .hbm, ⟨96, _⟩ => ⟨S32x2048, .f32⟩
  | .hbm, ⟨97, _⟩ => ⟨S32x2048, .f32⟩
  | .hbm, ⟨98, _⟩ => ⟨S1024x2048, .f32⟩
  | .hbm, ⟨99, _⟩ => ⟨S32x2048, .f32⟩
  | .hbm, ⟨100, _⟩ => ⟨S32x2048, .f32⟩
  | .hbm, ⟨101, _⟩ => ⟨S32x2048, .f32⟩
  | .hbm, ⟨102, _⟩ => ⟨S2048x2048, .f32⟩
  | .hbm, ⟨103, _⟩ => ⟨S32x2048, .f32⟩
  | .hbm, ⟨104, _⟩ => ⟨S32x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Proof.Attn.Shared.lean ====
/- The mathematics of the sparse attention, apart from any program: the bucket of a distance lies in the
   table, a chain of selections over the buckets is a lookup, and a softmax in base two over keys and
   heads interleaved, other heads masked, is the softmax in base e over the keys of one head. -/
module

public import Idealize.ShloMosaic.Lib.Pipeline.ValueKit

@[expose] public section

set_option maxRecDepth 16384

noncomputable section

namespace Cert.Attention

open Idealize.ShloMosaic

/-- The bias table's entry at a bucket, zero outside the table. -/
def pick (b : BitVec 32) (f : Fin 32 → EReal) : EReal :=
  if h : b.toNat < 32 then f ⟨b.toNat, h⟩ else 0

/-- The bucket of a distance: itself below 16, from there on logarithmic, at most 31. -/
def bucketOf (n : BitVec 32) : BitVec 32 :=
  Scalar.select (IntOp.cmpi .slt (IntOp.maxsi n 0#32) 16#32) (IntOp.maxsi n 0#32)
    (IntOp.minsi (IntOp.addi 16#32 (FloatOps.fptosi (F := Ideal) (φ := .f32) 32
      (Ideal.div (Ideal.log (Ideal.div (FloatOps.sitofp (F := Ideal) .f32 (IntOp.maxsi (IntOp.maxsi n 0#32) 16#32))
        (Ideal.ofBits .f32 1098907648#32))) (Ideal.ofBits .f32 1074075026#32) * Ideal.ofBits .f32 1098907648#32))) 31#32)

theorem sixteen : Ideal.ofBits .f32 1098907648#32 = ((16 : ℝ) : EReal) := by
  simp [Ideal.ofBits, Ideal.ieee]; rw [← EReal.coe_mul]; norm_num

theorem logEight : ∃ r : ℝ, 2 ≤ r ∧ Ideal.ofBits .f32 1074075026#32 = (r : EReal) := by
  refine ⟨_, ?_, by simp [Ideal.ofBits, Ideal.ieee]; rfl⟩
  norm_num

theorem maxsi_toInt (a b : BitVec 32) : (IntOp.maxsi a b).toInt = max a.toInt b.toInt := by
  unfold IntOp.maxsi; rw [BitVec.slt]; split <;> rename_i h <;> simp at h <;> omega

theorem minsi_toInt (a b : BitVec 32) : (IntOp.minsi a b).toInt = min a.toInt b.toInt := by
  unfold IntOp.minsi; rw [BitVec.slt]; split <;> rename_i h <;> simp at h <;> omega

/-- The logarithmic part lies between 0 and 216. -/
theorem large_range (w : BitVec 32) (hw : 16 ≤ w.toInt) :
    0 ≤ (FloatOps.fptosi (F := Ideal) (φ := .f32) 32
      (Ideal.div (Ideal.log (Ideal.div (FloatOps.sitofp (F := Ideal) .f32 w)
        (Ideal.ofBits .f32 1098907648#32))) (Ideal.ofBits .f32 1074075026#32) * Ideal.ofBits .f32 1098907648#32)).toInt
    ∧ (FloatOps.fptosi (F := Ideal) (φ := .f32) 32
      (Ideal.div (Ideal.log (Ideal.div (FloatOps.sitofp (F := Ideal) .f32 w)
        (Ideal.ofBits .f32 1098907648#32))) (Ideal.ofBits .f32 1074075026#32) * Ideal.ofBits .f32 1098907648#32)).toInt ≤ 216 := by
  obtain ⟨c, hc, hce⟩ := logEight
  rw [sixteen, hce]
  have hcp : 0 < c := by linarith
  have hs : (FloatOps.sitofp (F := Ideal) .f32 w : EReal) = ((w.toInt : ℝ) : EReal) := rfl
  have hwr : (16 : ℝ) ≤ (w.toInt : ℝ) := by exact_mod_cast hw
  have hwu : (w.toInt : ℝ) ≤ 2 ^ 31 := by
    have : w.toInt < 2 ^ 31 := by have := BitVec.toInt_lt (x := w); simpa using this
    exact_mod_cast this.le
  rw [hs, Ideal.div_coe hcp.ne', Ideal.div_coe (by norm_num), ← EReal.coe_mul, Ideal.log_coe, if_neg (by
    have : (0 : ℝ) < w.toInt * (1 / 16) := by linarith
    linarith), ← EReal.coe_mul, ← EReal.coe_mul]
  set g : ℝ := Real.log (w.toInt * (1 / 16)) * (1 / c) * 16 with hg
  have hl0 : 0 ≤ Real.log (w.toInt * (1 / 16)) := Real.log_nonneg (by linarith)
  have hl1 : Real.log (w.toInt * (1 / 16)) ≤ 27 * 1 := by
    calc Real.log (w.toInt * (1 / 16)) ≤ Real.log (2 ^ 27) :=
          Real.log_le_log (by linarith) (by linarith)
      _ = 27 * Real.log 2 := by rw [Real.log_pow]; norm_num
      _ ≤ 27 * 1 := by have := Real.log_le_sub_one_of_pos (show (0 : ℝ) < 2 by norm_num); linarith
  have hc0 : 0 ≤ 1 / c := by positivity
  have hc1 : 1 / c ≤ 1 / 2 := one_div_le_one_div_of_le (by norm_num) hc
  have hg0 : 0 ≤ g := by positivity
  have hg1 : g ≤ 216 := by
    have : Real.log (w.toInt * (1 / 16)) * (1 / c) ≤ (27 * 1) * (1 / 2) := mul_le_mul hl1 hc1 hc0 (by norm_num)
    rw [hg]; linarith
  have hf0 : 0 ≤ ⌊g⌋ := Int.floor_nonneg.2 hg0
  have hf1 : ⌊g⌋ ≤ 216 := by
    have : (⌊g⌋ : ℝ) ≤ 216 := (Int.floor_le g).trans hg1
    exact_mod_cast this
  have : (FloatOps.fptosi (F := Ideal) (φ := .f32) 32 (g : EReal)) = BitVec.ofInt 32 ⌊g⌋ := by
    show Ideal.fptosi 32 (g : EReal) = _
    unfold Ideal.fptosi
    rw [Ideal.toIntClamped_coe, if_pos hg0]
    congr 1
    norm_num
    omega
  rw [this, BitVec.toInt_ofInt]
  have : (⌊g⌋).bmod (2 ^ 32) = ⌊g⌋ := Int.bmod_eq_of_le (by norm_num; omega) (by norm_num; omega)
  rw [this]; exact ⟨hf0, hf1⟩

/-- Every bucket is an entry of the table. -/
theorem bucketOf_lt (n : BitVec 32) : (bucketOf n).toNat < 32 := by
  have key : 0 ≤ (bucketOf n).toInt ∧ (bucketOf n).toInt < 32 := by
    unfold bucketOf
    set e := IntOp.maxsi n 0#32 with he
    have he0 : 0 ≤ e.toInt := by rw [he, maxsi_toInt]; simp
    unfold Scalar.select
    split
    · rename_i h
      have : e.toInt < 16 := by
        have h2 := h
        unfold IntOp.cmpi at h2
        by_contra hc
        simp [BitVec.slt, hc] at h2
      omega
    · rw [minsi_toInt]
      have hE : 16 ≤ (IntOp.maxsi e 16#32).toInt := by rw [maxsi_toInt]; simp
      obtain ⟨h0, h1⟩ := large_range _ hE
      generalize FloatOps.fptosi (F := Ideal) (φ := .f32) 32 _ = f at h0 h1 ⊢
      have : (IntOp.addi 16#32 f).toInt = 16 + f.toInt := by
        unfold IntOp.addi
        rw [BitVec.toInt_add]
        have : (16#32 : BitVec 32).toInt = 16 := by decide
        rw [this]
        exact Int.bmod_eq_of_le (by norm_num; omega) (by norm_num; omega)
      rw [this]
      have : (31#32 : BitVec 32).toInt = 31 := by decide
      rw [this]
      omega
  have := BitVec.toInt_eq_toNat_cond (bucketOf n)
  split at this <;> omega

/-- The chain of selections, the last bucket outermost, is the lookup. -/
theorem pick_chain (b : BitVec 32) (f : Fin 32 → EReal) :
    (Scalar.select (IntOp.cmpi .eq b 31#32) (f 31) (Scalar.select (IntOp.cmpi .eq b 30#32) (f 30)
      (Scalar.select (IntOp.cmpi .eq b 29#32) (f 29) (Scalar.select (IntOp.cmpi .eq b 28#32) (f 28) (Scalar.select (IntOp.cmpi .eq b 27#32) (f 27)
      (Scalar.select (IntOp.cmpi .eq b 26#32) (f 26) (Scalar.select (IntOp.cmpi .eq b 25#32) (f 25) (Scalar.select (IntOp.cmpi .eq b 24#32) (f 24)
      (Scalar.select (IntOp.cmpi .eq b 23#32) (f 23) (Scalar.select (IntOp.cmpi .eq b 22#32) (f 22) (Scalar.select (IntOp.cmpi .eq b 21#32) (f 21)
      (Scalar.select (IntOp.cmpi .eq b 20#32) (f 20) (Scalar.select (IntOp.cmpi .eq b 19#32) (f 19) (Scalar.select (IntOp.cmpi .eq b 18#32) (f 18)
      (Scalar.select (IntOp.cmpi .eq b 17#32) (f 17) (Scalar.select (IntOp.cmpi .eq b 16#32) (f 16) (Scalar.select (IntOp.cmpi .eq b 15#32) (f 15)
      (Scalar.select (IntOp.cmpi .eq b 14#32) (f 14) (Scalar.select (IntOp.cmpi .eq b 13#32) (f 13) (Scalar.select (IntOp.cmpi .eq b 12#32) (f 12)
      (Scalar.select (IntOp.cmpi .eq b 11#32) (f 11) (Scalar.select (IntOp.cmpi .eq b 10#32) (f 10) (Scalar.select (IntOp.cmpi .eq b 9#32) (f 9)
      (Scalar.select (IntOp.cmpi .eq b 8#32) (f 8) (Scalar.select (IntOp.cmpi .eq b 7#32) (f 7) (Scalar.select (IntOp.cmpi .eq b 6#32) (f 6)
      (Scalar.select (IntOp.cmpi .eq b 5#32) (f 5) (Scalar.select (IntOp.cmpi .eq b 4#32) (f 4) (Scalar.select (IntOp.cmpi .eq b 3#32) (f 3)
      (Scalar.select (IntOp.cmpi .eq b 2#32) (f 2) (Scalar.select (IntOp.cmpi .eq b 1#32) (f 1) (Scalar.select (IntOp.cmpi .eq b 0#32) (f 0) (0 : EReal)))))))))))))))))))))))))))))))))
      = pick b f := by
  have hsel : ∀ (k : BitVec 32) (x y : EReal), Scalar.select (IntOp.cmpi .eq b k) x y = if b = k then x else y := by
    intro k x y
    unfold Scalar.select IntOp.cmpi
    by_cases h : b = k
    · simp [h]
    · rw [if_neg h, if_neg]
      have : (b == k) = false := by simpa using h
      simp [this]
  simp only [hsel]
  unfold pick
  by_cases hb : b.toNat < 32
  · rw [dif_pos hb]
    obtain ⟨k, hk⟩ : ∃ k : Fin 32, b = BitVec.ofNat 32 k.val := ⟨⟨b.toNat, hb⟩, by simp⟩
    subst hk
    fin_cases k <;> rfl
  · rw [dif_neg hb]
    have hne : ∀ k : BitVec 32, k.toNat < 32 → ¬ b = k := fun k hk h => hb (h ▸ hk)
    repeat rw [if_neg (hne _ (by decide))]

/-- One over the logarithm of two. -/
abbrev L2 : ℝ := (Real.log 2)⁻¹

theorem L2_pos : 0 < L2 := inv_pos.2 (Real.log_pos (by norm_num))

/-- Where head `h` of key `k` lies among the interleaved rows. -/
def slot {n : Nat} (h : Fin 8) (k : Fin n) : Fin (n * 8) := ⟨k.val * 8 + h.val, by omega⟩

theorem exp2_scaled (x r : ℝ) : Ideal.exp2 (((x * L2 : ℝ) : EReal) - ((r * L2 : ℝ) : EReal)) = Ideal.exp ((x : EReal) - (r : EReal)) := by
  rw [← EReal.coe_sub, ← EReal.coe_sub, Ideal.exp2_coe, Ideal.exp_coe]
  congr 1
  show (2 : ℝ) ^ (x * L2 - r * L2) = _
  rw [Real.rpow_def_of_pos (by norm_num)]
  congr 1
  have : Real.log 2 ≠ 0 := (Real.log_pos (by norm_num)).ne'
  unfold L2; field_simp

theorem sum_slot {n N : Nat} (hN : N = n * 8) (h : Fin 8) (f : Fin N → EReal) (g : Fin n → EReal)
    (hin : ∀ k : Fin n, f ⟨k.val * 8 + h.val, by omega⟩ = g k)
    (hout : ∀ j : Fin N, j.val % 8 ≠ h.val → f j = 0) : ∑ j, f j = ∑ k, g k := by
  symm
  refine Fintype.sum_of_injective (fun k : Fin n => (⟨k.val * 8 + h.val, by omega⟩ : Fin N)) ?_ g f ?_ fun k => (hin k).symm
  · intro k k' e
    have := congrArg Fin.val e
    simp only at this
    exact Fin.ext (by omega)
  · intro j hj
    refine hout j fun e => hj ⟨⟨j.val / 8, by omega⟩, Fin.ext ?_⟩
    simp only
    omega

theorem fold_max_eq {n : Nat} (f : Fin n → EReal) : Finset.fold max ⊥ f Finset.univ = Finset.univ.sup f := rfl

theorem ninf : Ideal.ofBits .f32 4286578688#32 = ⊥ := by simp [Ideal.ofBits, Ideal.ieee]

theorem exp_nonneg_real (x : EReal) (r : ℝ) (hx : x = ⊥ ∨ ∃ s : ℝ, x = s) :
    ∃ e : ℝ, 0 ≤ e ∧ Ideal.exp (x - (r : EReal)) = (e : EReal) ∧ (x ≠ ⊥ → 0 < e) := by
  rcases hx with rfl | ⟨s, rfl⟩
  · exact ⟨0, le_rfl, by rw [EReal.bot_sub]; simp, fun h => absurd rfl h⟩
  · exact ⟨Real.exp (s - r), (Real.exp_pos _).le, by rw [← EReal.coe_sub, Ideal.exp_coe], fun _ => Real.exp_pos _⟩

theorem exp2_of (x : EReal) (r : ℝ) (hx : x = ⊥ ∨ ∃ s : ℝ, x = s) :
    Ideal.exp2 (x * ((L2 : ℝ) : EReal) - ((r * L2 : ℝ) : EReal)) = Ideal.exp (x - (r : EReal)) := by
  rcases hx with rfl | ⟨s, rfl⟩
  · rw [EReal.bot_mul_coe_of_pos L2_pos, EReal.bot_sub, EReal.bot_sub]; rfl
  · rw [← EReal.coe_mul, exp2_scaled]

theorem sum_mul_real {n : Nat} (f : Fin n → EReal) (c : ℝ) (hc : 0 ≤ c) :
    (∑ k, f k) * (c : EReal) = ∑ k, f k * (c : EReal) := by
  refine Finset.induction_on (Finset.univ : Finset (Fin n)) (by simp) fun a s ha ih => ?_
  rw [Finset.sum_insert ha, Finset.sum_insert ha, ← ih,
    EReal.right_distrib_of_nonneg_of_ne_top (by exact_mod_cast hc) (EReal.coe_ne_top c)]

theorem coe_sum' {n : Nat} (e : Fin n → ℝ) : ∑ i, ((e i : ℝ) : EReal) = ((∑ i, e i : ℝ) : EReal) := by
  refine Finset.induction_on (Finset.univ : Finset (Fin n)) (by simp) fun a s ha ih => ?_
  rw [Finset.sum_insert ha, Finset.sum_insert ha, ih, EReal.coe_add]

/-- The softmax in base two over the interleaved rows, with the division at the end, is the softmax in base e
    over one head's keys, divided term by term. -/
theorem core (h : Fin 8) (z : Fin 260 → EReal) (hz : ∀ i, z i = ⊥ ∨ ∃ r : ℝ, z i = r) (hs : ∃ i, z i ≠ ⊥)
    (a v : Fin 2048 → EReal) (b w : Fin 128 → EReal)
    (ha1 : ∀ k : Fin 256, a ⟨k.val * 8 + h.val, by omega⟩ = z ⟨k.val, by omega⟩ * ((L2 : ℝ) : EReal))
    (ha0 : ∀ j : Fin 2048, j.val % 8 ≠ h.val → a j = ⊥)
    (hb1 : ∀ k : Fin 4, b ⟨k.val * 8 + h.val, by omega⟩ = z ⟨256 + k.val, by omega⟩ * ((L2 : ℝ) : EReal))
    (hb2 : ∀ k : Fin 16, 4 ≤ k.val → b ⟨k.val * 8 + h.val, by omega⟩ = ⊥)
    (hb0 : ∀ j : Fin 128, j.val % 8 ≠ h.val → b j = ⊥) (M2 M : EReal)
    (hM2 : M2 = max (Finset.univ.sup a) (Finset.univ.sup b)) (hM : M = Finset.univ.sup z) :
    Ideal.div (∑ j, Ideal.exp2 (a j - M2) * v j + ∑ j, Ideal.exp2 (b j - M2) * w j)
        (∑ j, Ideal.exp2 (a j - M2) + ∑ j, Ideal.exp2 (b j - M2))
      = ∑ k : Fin 256, Ideal.div (Ideal.exp (z ⟨k.val, by omega⟩ - M)) (∑ i, Ideal.exp (z i - M)) * v ⟨k.val * 8 + h.val, by omega⟩
        + ∑ k : Fin 4, Ideal.div (Ideal.exp (z ⟨256 + k.val, by omega⟩ - M)) (∑ i, Ideal.exp (z i - M)) * w ⟨k.val * 8 + h.val, by omega⟩ := by
  -- the largest logit is a real number, taken at some key
  obtain ⟨i0, hi0⟩ : ∃ i0, z i0 = M := by
    obtain ⟨i0, -, h0⟩ := Finset.exists_mem_eq_sup (Finset.univ : Finset (Fin 260)) ⟨0, Finset.mem_univ _⟩ z
    exact ⟨i0, by rw [hM, h0]⟩
  have hle : ∀ i, z i ≤ M := fun i => hM ▸ Finset.le_sup (f := z) (Finset.mem_univ i)
  obtain ⟨r, hr⟩ : ∃ r : ℝ, M = r := by
    rcases hz i0 with e | ⟨r, e⟩
    · obtain ⟨i, hi⟩ := hs
      exact absurd (le_bot_iff.1 ((hle i).trans (by rw [← hi0, e]))) hi
    · exact ⟨r, by rw [← hi0, e]⟩
  have hL0 : (0 : EReal) ≤ ((L2 : ℝ) : EReal) := by exact_mod_cast L2_pos.le
  have hmulle : ∀ i, z i * ((L2 : ℝ) : EReal) ≤ ((r * L2 : ℝ) : EReal) := fun i => by
    rw [EReal.coe_mul, ← hr]; exact mul_le_mul_of_nonneg_right (hle i) hL0
  have haM : ∀ j, a j ≤ ((r * L2 : ℝ) : EReal) := fun j => by
    by_cases e : j.val % 8 = h.val
    · have := ha1 ⟨j.val / 8, by omega⟩
      have e' : (⟨j.val / 8 * 8 + h.val, by omega⟩ : Fin 2048) = j := Fin.ext (by simp only; omega)
      rw [e'] at this; rw [this]; exact hmulle _
    · rw [ha0 j e]; exact bot_le
  have hbM : ∀ j, b j ≤ ((r * L2 : ℝ) : EReal) := fun j => by
    by_cases e : j.val % 8 = h.val
    · have e' : (⟨j.val / 8 * 8 + h.val, by omega⟩ : Fin 128) = j := Fin.ext (by simp only; omega)
      by_cases e4 : j.val / 8 < 4
      · have := hb1 ⟨j.val / 8, e4⟩
        rw [e'] at this; rw [this]; exact hmulle _
      · have := hb2 ⟨j.val / 8, by omega⟩ (by simp only; omega)
        rw [e'] at this; rw [this]; exact bot_le
    · rw [hb0 j e]; exact bot_le
  have hM2' : M2 = ((r * L2 : ℝ) : EReal) := by
    rw [hM2]
    refine le_antisymm (max_le (Finset.sup_le fun j _ => haM j) (Finset.sup_le fun j _ => hbM j)) ?_
    rw [EReal.coe_mul, ← hr, ← hi0]
    by_cases e : i0.val < 256
    · refine le_max_of_le_left ?_
      have := ha1 ⟨i0.val, e⟩
      rw [← this]; exact Finset.le_sup (f := a) (Finset.mem_univ _)
    · refine le_max_of_le_right ?_
      have := hb1 ⟨i0.val - 256, by omega⟩
      have e' : (⟨256 + (i0.val - 256), by omega⟩ : Fin 260) = i0 := Fin.ext (by simp only; omega)
      simp only [e'] at this
      rw [← this]; exact Finset.le_sup (f := b) (Finset.mem_univ _)
  have hbot : ∀ y : EReal, Ideal.exp2 (⊥ - y) = 0 := fun y => by rw [EReal.bot_sub]; rfl
  have hA : ∀ (u : Fin 2048 → EReal), ∑ j, Ideal.exp2 (a j - M2) * u j
      = ∑ k : Fin 256, Ideal.exp (z ⟨k.val, by omega⟩ - M) * u ⟨k.val * 8 + h.val, by omega⟩ := fun u =>
    sum_slot (n := 256) (by norm_num) h _ _ (fun k => by rw [ha1 k, hM2', exp2_of _ _ (hz _), hr]) (fun j hj => by rw [ha0 j hj, hbot, zero_mul])
  have hB : ∀ (u : Fin 128 → EReal), ∑ j, Ideal.exp2 (b j - M2) * u j
      = ∑ k : Fin 4, Ideal.exp (z ⟨256 + k.val, by omega⟩ - M) * u ⟨k.val * 8 + h.val, by omega⟩ := fun u => by
    rw [sum_slot (n := 16) (by norm_num) h _ (fun k => if hk : k.val < 4 then
        Ideal.exp (z ⟨256 + k.val, by omega⟩ - M) * u ⟨k.val * 8 + h.val, by omega⟩ else 0) (fun k => ?_) (fun j hj => by rw [hb0 j hj, hbot, zero_mul])]
    · refine (Fin.sum_trunc (a := 4) (b := 12) (f := fun k : Fin (4 + 12) => if hk : k.val < 4 then
        Ideal.exp (z ⟨256 + k.val, by omega⟩ - M) * u ⟨k.val * 8 + h.val, by omega⟩ else 0) (fun j => dif_neg (by simp))).trans ?_
      refine Finset.sum_congr rfl fun k _ => ?_
      exact dif_pos (by simp)
    · by_cases hk : k.val < 4
      · rw [dif_pos hk, hb1 ⟨k.val, hk⟩, hM2', exp2_of _ _ (hz _), hr]
      · rw [dif_neg hk, hb2 k (by omega), hbot, zero_mul]
  have hA1 : ∑ j, Ideal.exp2 (a j - M2) = ∑ k : Fin 256, Ideal.exp (z ⟨k.val, by omega⟩ - M) := by
    have := hA (fun _ => 1); simpa only [mul_one] using this
  have hB1 : ∑ j, Ideal.exp2 (b j - M2) = ∑ k : Fin 4, Ideal.exp (z ⟨256 + k.val, by omega⟩ - M) := by
    have := hB (fun _ => 1); simpa only [mul_one] using this
  have hD : ∑ i, Ideal.exp (z i - M) = ∑ k : Fin 256, Ideal.exp (z ⟨k.val, by omega⟩ - M)
      + ∑ k : Fin 4, Ideal.exp (z ⟨256 + k.val, by omega⟩ - M) :=
    Fin.sum_univ_add (a := 256) (b := 4) (fun i : Fin (256 + 4) => Ideal.exp (z i - M))
  -- the denominator is a positive real number
  obtain ⟨D, hD0, hDe⟩ : ∃ D : ℝ, 0 < D ∧ ∑ i, Ideal.exp (z i - M) = (D : EReal) := by
    choose e he0 hee hep using fun i => exp_nonneg_real (z i) r (hz i)
    refine ⟨∑ i, e i, Finset.sum_pos' (fun i _ => he0 i) ⟨i0, Finset.mem_univ _, hep i0 ?_⟩, ?_⟩
    · rw [hi0, hr]; exact EReal.coe_ne_bot r
    · rw [hr, Finset.sum_congr rfl fun i _ => hee i, coe_sum']
  have hc : 0 ≤ 1 / D := by positivity
  rw [hA, hB, hA1, hB1, ← hD, hDe, Ideal.div_coe hD0.ne',
    EReal.right_distrib_of_nonneg_of_ne_top (by exact_mod_cast hc) (EReal.coe_ne_top _), sum_mul_real _ _ hc, sum_mul_real _ _ hc]
  congr 1
  · exact Finset.sum_congr rfl fun k _ => by rw [Ideal.div_coe hD0.ne']; exact mul_right_comm _ _ _
  · exact Finset.sum_congr rfl fun k _ => by rw [Ideal.div_coe hD0.ne']; exact mul_right_comm _ _ _

end Cert.Attention
-- ==== Proof.Attn.Block.lean ====
module

public import proofs.«01_k».proof.Proof.Gen.AttnIdeal.Frame
public import Idealize.ShloMosaic.Lib.Pipeline.ValueKit
public import proofs.«01_k».proof.Proof.Attn.Shared

@[expose] public section

set_option maxRecDepth 16384

noncomputable section

namespace Cert.AttnIdeal.Value

open Idealize.ShloMosaic Idealize.ShloMosaic.TcCoe Idealize.SL.Sem
open Idealize.ShloMosaic.Pipeline (Dat)
open Cert.AttnIdeal Cert.AttnIdeal.Gen Cert.Attention

/-- The logits over the new keys: the products with the biases added, masked. -/
def newLogits (v286 : FVec Ideal S8x128 .f32) (v298 : IVec S8x128 1) (v322 : IVec S8x128 32) (v533 : FVec Ideal S8x128 .f32)
    (v535 : IVec S8x128 1) (v538 v543 : FVec Ideal S8x1 .f32) : FVec Ideal S8x128 .f32 :=
  have v539 : FVec Ideal S8x128 .f32 := broadcastTo S8x128 v538 broadcasts_S8x1_S8x128
  have v540 : FVec Ideal S8x128 .f32 := select v535 v539 v533
  have v541 : IVec S8x128 32 := broadcast S8x128 31#32
  have v542 : IVec S8x128 1 := cmpi .eq v322 v541
  have v544 : FVec Ideal S8x1 .f32 := shapeCast S8x1 v543 shapeCasts_S8x1_S8x1
  have v545 : FVec Ideal S8x1 .f32 := shapeCast S8x1 v544 shapeCasts_S8x1_S8x1
  have v546 : FVec Ideal S8x128 .f32 := broadcastTo S8x128 v545 broadcasts_S8x1_S8x128
  have v547 : FVec Ideal S8x128 .f32 := select v542 v546 v540
  have cst_177 : Ideal .f32 := Named.named κ "log2e" 0x3FB8AA3B#32
  have v548 : FVec Ideal S8x128 .f32 := broadcast S8x128 cst_177
  have v549 : FVec Ideal S8x128 .f32 := mulf v547 v548
  have v550 : FVec Ideal S8x128 .f32 := addf v286 v549
  have cst_178 : Ideal .f32 := Named.named κ "mask" 0xF149F2CA#32
  have v551 : FVec Ideal S8x128 .f32 := broadcast S8x128 cst_178
  have v552 : FVec Ideal S8x128 .f32 := select v298 v550 v551
  v552

/-- The softmax over both groups of logits, and the weighted sum of the values. -/
def soft (v283 : FVec Ideal S8x2048 .f32) (v552 : FVec Ideal S8x128 .f32) (v570 : Vec Ideal S2048x128 .f32)
    (v575 : Vec Ideal S1x128x128 .bf16) : FVec Ideal S8x128 .f32 :=
  have v553 : FVec Ideal S8 .f32 := multiReduction .maximumf [1] S8 v283 0xFF800000#32 reduces_S8x2048_S8 (.inl rfl) rfl
  have v554 : FVec Ideal S8x1 .f32 := shapeCast S8x1 v553 shapeCasts_S8_S8x1
  have v555 : FVec Ideal S8 .f32 := multiReduction .maximumf [1] S8 v552 0xFF800000#32 reduces_S8x128_S8 (.inl rfl) rfl
  have v556 : FVec Ideal S8x1 .f32 := shapeCast S8x1 v555 shapeCasts_S8_S8x1
  have v557 : FVec Ideal S8x1 .f32 := maximumf v554 v556
  have v558 : FVec Ideal S8x2048 .f32 := broadcastTo S8x2048 v557 broadcasts_S8x1_S8x2048
  have v559 : FVec Ideal S8x2048 .f32 := subf v283 v558
  have v560 : FVec Ideal S8x2048 .f32 := exp2 v559
  have v561 : FVec Ideal S8x128 .f32 := broadcastTo S8x128 v557 broadcasts_S8x1_S8x128
  have v562 : FVec Ideal S8x128 .f32 := subf v552 v561
  have v563 : FVec Ideal S8x128 .f32 := exp2 v562
  have v564 : FVec Ideal S8 .f32 := multiReduction .add [1] S8 v560 0x00000000#32 reduces_S8x2048_S8 (.inl rfl) rfl
  have v565 : FVec Ideal S8x1 .f32 := shapeCast S8x1 v564 shapeCasts_S8_S8x1
  have v566 : FVec Ideal S8 .f32 := multiReduction .add [1] S8 v563 0x00000000#32 reduces_S8x128_S8 (.inl rfl) rfl
  have v567 : FVec Ideal S8x1 .f32 := shapeCast S8x1 v566 shapeCasts_S8_S8x1
  have v568 : FVec Ideal S8x1 .f32 := addf v565 v567
  have v569 : FVec Ideal S8x2048 .bf16 := truncf .bf16 v560 bitsLt_bf16_f32
  have v571 : FVec Ideal S2048x128 .f32 := shapeCast S2048x128 v570 shapeCasts_S2048x128_S2048x128
  have v572 : FVec Ideal S2048x128 .bf16 := truncf .bf16 v571 bitsLt_bf16_f32
  have cst_185 : FVec Ideal S8x128 .f32 := constant S8x128 .f32 0x00000000#32
  have v573 : FVec Ideal S8x128 .f32 := matmul dot_S8x2048_S2048x128_S8x128_1_0_0_1_n_n none v569 v572 cst_185
  have v574 : FVec Ideal S8x128 .bf16 := truncf .bf16 v563 bitsLt_bf16_f32
  have v576 : FVec Ideal S128x128 .bf16 := shapeCast S128x128 v575 shapeCasts_S1x128x128_S128x128
  have cst_189 : FVec Ideal S8x128 .f32 := constant S8x128 .f32 0x00000000#32
  have v577 : FVec Ideal S8x128 .f32 := matmul dot_S8x128_S128x128_S8x128_1_0_0_1_n_n none v574 v576 cst_189
  have v578 : FVec Ideal S8x128 .f32 := addf v573 v577
  have v579 : FVec Ideal S8x128 .f32 := broadcastTo S8x128 v568 broadcasts_S8x1_S8x128
  have v580 : FVec Ideal S8x128 .f32 := divf v578 v579
  v580

theorem pay40_eq (a b c d e f g h i j) :
    k0_pay40 (F := Ideal) a b c d e f g h i j = soft a (newLogits b c d e f g h) i j := rfl

theorem past_logit (v15 : FVec Ideal S8x2048 .f32) (v26 : IVec S8x2048 1) (v35 v37 : IVec S8x2048 32)
    (x0 : Vec Ideal S8x32 .f32) (h : Fin 8) (j : Fin 2048) :
    k0_pay18 v15 v26 (k0_pay7 (F := Ideal) v35 v37)
      (k0_pay16 (k0_pay7 (F := Ideal) v35 v37)
        (k0_pay14 (k0_pay7 (F := Ideal) v35 v37)
          (k0_pay12 (k0_pay7 (F := Ideal) v35 v37)
            (k0_pay10 (k0_pay7 (F := Ideal) v35 v37)
              (k0_pay8 v35 v37 (View.ld x0 (Rect.unit ![0, 0] ![8, 1] inb_S8x32_S8x1_0_0)) (View.ld x0 (Rect.unit ![0, 1] ![8, 1] inb_S8x32_S8x1_0_1)) (View.ld x0 (Rect.unit ![0, 2] ![8, 1] inb_S8x32_S8x1_0_2)))
              (k0_pay9 (F := Ideal) v35 v37) (View.ld x0 (Rect.unit ![0, 3] ![8, 1] inb_S8x32_S8x1_0_3)) (View.ld x0 (Rect.unit ![0, 4] ![8, 1] inb_S8x32_S8x1_0_4)) (View.ld x0 (Rect.unit ![0, 5] ![8, 1] inb_S8x32_S8x1_0_5)) (View.ld x0 (Rect.unit ![0, 6] ![8, 1] inb_S8x32_S8x1_0_6)) (View.ld x0 (Rect.unit ![0, 7] ![8, 1] inb_S8x32_S8x1_0_7)) (View.ld x0 (Rect.unit ![0, 8] ![8, 1] inb_S8x32_S8x1_0_8)))
            (k0_pay11 (k0_pay7 (F := Ideal) v35 v37)) (View.ld x0 (Rect.unit ![0, 9] ![8, 1] inb_S8x32_S8x1_0_9)) (View.ld x0 (Rect.unit ![0, 10] ![8, 1] inb_S8x32_S8x1_0_10)) (View.ld x0 (Rect.unit ![0, 11] ![8, 1] inb_S8x32_S8x1_0_11)) (View.ld x0 (Rect.unit ![0, 12] ![8, 1] inb_S8x32_S8x1_0_12)) (View.ld x0 (Rect.unit ![0, 13] ![8, 1] inb_S8x32_S8x1_0_13)) (View.ld x0 (Rect.unit ![0, 14] ![8, 1] inb_S8x32_S8x1_0_14)))
          (k0_pay13 (k0_pay7 (F := Ideal) v35 v37)) (View.ld x0 (Rect.unit ![0, 15] ![8, 1] inb_S8x32_S8x1_0_15)) (View.ld x0 (Rect.unit ![0, 16] ![8, 1] inb_S8x32_S8x1_0_16)) (View.ld x0 (Rect.unit ![0, 17] ![8, 1] inb_S8x32_S8x1_0_17)) (View.ld x0 (Rect.unit ![0, 18] ![8, 1] inb_S8x32_S8x1_0_18)) (View.ld x0 (Rect.unit ![0, 19] ![8, 1] inb_S8x32_S8x1_0_19)) (View.ld x0 (Rect.unit ![0, 20] ![8, 1] inb_S8x32_S8x1_0_20)))
        (k0_pay15 (k0_pay7 (F := Ideal) v35 v37)) (View.ld x0 (Rect.unit ![0, 21] ![8, 1] inb_S8x32_S8x1_0_21)) (View.ld x0 (Rect.unit ![0, 22] ![8, 1] inb_S8x32_S8x1_0_22)) (View.ld x0 (Rect.unit ![0, 23] ![8, 1] inb_S8x32_S8x1_0_23)) (View.ld x0 (Rect.unit ![0, 24] ![8, 1] inb_S8x32_S8x1_0_24)) (View.ld x0 (Rect.unit ![0, 25] ![8, 1] inb_S8x32_S8x1_0_25)) (View.ld x0 (Rect.unit ![0, 26] ![8, 1] inb_S8x32_S8x1_0_26)))
      (k0_pay17 (k0_pay7 (F := Ideal) v35 v37)) (View.ld x0 (Rect.unit ![0, 27] ![8, 1] inb_S8x32_S8x1_0_27)) (View.ld x0 (Rect.unit ![0, 28] ![8, 1] inb_S8x32_S8x1_0_28)) (View.ld x0 (Rect.unit ![0, 29] ![8, 1] inb_S8x32_S8x1_0_29)) (View.ld x0 (Rect.unit ![0, 30] ![8, 1] inb_S8x32_S8x1_0_30)) (View.ld x0 (Rect.unit ![0, 31] ![8, 1] inb_S8x32_S8x1_0_31)) (ix2 h j) = Scalar.select (v26 (ix2 h j)) (v15 (ix2 h j)
      + pick (k0_pay7 (F := Ideal) v35 v37 (ix2 h j)) (fun n => x0 (ix2 h n)) * Named.named κ "log2e" 1069066811#32)
      (Named.named κ "mask" 4048155338#32) := by
  unfold k0_pay8 k0_pay9
  generalize k0_pay7 (F := Ideal) v35 v37 = B
  pointwise [k0_pay18, k0_pay17, k0_pay16, k0_pay15, k0_pay14, k0_pay13, k0_pay12, k0_pay11, k0_pay10]
  rw [← pick_chain]

theorem soft_apply (a : FVec Ideal S8x2048 .f32) (b : FVec Ideal S8x128 .f32) (x3 : Vec Ideal S2048x128 .f32)
    (x8 : Vec Ideal S1x128x128 .bf16) (h : Fin 8) (d : Fin 128) (M : EReal)
    (hM : M = max (Finset.univ.sup fun j => a (ix2 h j)) (Finset.univ.sup fun j => b (ix2 h j))) :
    soft a b x3 x8 (ix2 h d)
      = Ideal.div (∑ j : Fin 2048, Ideal.exp2 (a (ix2 h j) - M) * x3 (ix2 j d) + ∑ j : Fin 128, Ideal.exp2 (b (ix2 h j) - M) * x8 (ix3 0 j d))
        (∑ j : Fin 2048, Ideal.exp2 (a (ix2 h j) - M) + ∑ j : Fin 128, Ideal.exp2 (b (ix2 h j) - M)) := by
  rw [hM]
  pointwise [soft]
  rw [ninf, fold_max_eq, fold_max_eq]
  rfl

theorem new_logit (v286 : FVec Ideal S8x128 .f32) (v298 : IVec S8x128 1) (v9 : BitVec 32) (v288 : IVec S8x128 32)
    (x0 : Vec Ideal S8x32 .f32) (h : Fin 8) (j : Fin 128) :
    newLogits v286 v298 (k0_pay21 (F := Ideal) v9 v288) (k0_pay37 (k0_pay21 (F := Ideal) v9 v288)
      (k0_pay34 (k0_pay21 (F := Ideal) v9 v288)
        (k0_pay31 (k0_pay21 (F := Ideal) v9 v288)
          (k0_pay28 (k0_pay21 (F := Ideal) v9 v288)
            (k0_pay25 (k0_pay21 (F := Ideal) v9 v288) k0_pay22 (k0_pay23 (F := Ideal) v9 v288) (k0_pay24 (View.ld x0 (Rect.unit ![0, 0] ![8, 1] inb_S8x32_S8x1_0_0))) (View.ld x0 (Rect.unit ![0, 1] ![8, 1] inb_S8x32_S8x1_0_1)) (View.ld x0 (Rect.unit ![0, 2] ![8, 1] inb_S8x32_S8x1_0_2)) (View.ld x0 (Rect.unit ![0, 3] ![8, 1] inb_S8x32_S8x1_0_3)) (View.ld x0 (Rect.unit ![0, 4] ![8, 1] inb_S8x32_S8x1_0_4)) (View.ld x0 (Rect.unit ![0, 5] ![8, 1] inb_S8x32_S8x1_0_5)))
            (k0_pay26 (k0_pay21 (F := Ideal) v9 v288)) (k0_pay27 (View.ld x0 (Rect.unit ![0, 6] ![8, 1] inb_S8x32_S8x1_0_6))) (View.ld x0 (Rect.unit ![0, 7] ![8, 1] inb_S8x32_S8x1_0_7)) (View.ld x0 (Rect.unit ![0, 8] ![8, 1] inb_S8x32_S8x1_0_8)) (View.ld x0 (Rect.unit ![0, 9] ![8, 1] inb_S8x32_S8x1_0_9)) (View.ld x0 (Rect.unit ![0, 10] ![8, 1] inb_S8x32_S8x1_0_10)) (View.ld x0 (Rect.unit ![0, 11] ![8, 1] inb_S8x32_S8x1_0_11)))
          (k0_pay29 (k0_pay21 (F := Ideal) v9 v288)) (k0_pay30 (View.ld x0 (Rect.unit ![0, 12] ![8, 1] inb_S8x32_S8x1_0_12))) (View.ld x0 (Rect.unit ![0, 13] ![8, 1] inb_S8x32_S8x1_0_13)) (View.ld x0 (Rect.unit ![0, 14] ![8, 1] inb_S8x32_S8x1_0_14)) (View.ld x0 (Rect.unit ![0, 15] ![8, 1] inb_S8x32_S8x1_0_15)) (View.ld x0 (Rect.unit ![0, 16] ![8, 1] inb_S8x32_S8x1_0_16)) (View.ld x0 (Rect.unit ![0, 17] ![8, 1] inb_S8x32_S8x1_0_17)))
        (k0_pay32 (k0_pay21 (F := Ideal) v9 v288)) (k0_pay33 (View.ld x0 (Rect.unit ![0, 18] ![8, 1] inb_S8x32_S8x1_0_18))) (View.ld x0 (Rect.unit ![0, 19] ![8, 1] inb_S8x32_S8x1_0_19)) (View.ld x0 (Rect.unit ![0, 20] ![8, 1] inb_S8x32_S8x1_0_20)) (View.ld x0 (Rect.unit ![0, 21] ![8, 1] inb_S8x32_S8x1_0_21)) (View.ld x0 (Rect.unit ![0, 22] ![8, 1] inb_S8x32_S8x1_0_22)) (View.ld x0 (Rect.unit ![0, 23] ![8, 1] inb_S8x32_S8x1_0_23)))
      (k0_pay35 (k0_pay21 (F := Ideal) v9 v288)) (k0_pay36 (View.ld x0 (Rect.unit ![0, 24] ![8, 1] inb_S8x32_S8x1_0_24))) (View.ld x0 (Rect.unit ![0, 25] ![8, 1] inb_S8x32_S8x1_0_25)) (View.ld x0 (Rect.unit ![0, 26] ![8, 1] inb_S8x32_S8x1_0_26)) (View.ld x0 (Rect.unit ![0, 27] ![8, 1] inb_S8x32_S8x1_0_27)) (View.ld x0 (Rect.unit ![0, 28] ![8, 1] inb_S8x32_S8x1_0_28)) (View.ld x0 (Rect.unit ![0, 29] ![8, 1] inb_S8x32_S8x1_0_29)))
      (k0_pay38 (k0_pay21 (F := Ideal) v9 v288)) (k0_pay39 (View.ld x0 (Rect.unit ![0, 30] ![8, 1] inb_S8x32_S8x1_0_30))) (View.ld x0 (Rect.unit ![0, 31] ![8, 1] inb_S8x32_S8x1_0_31)) (ix2 h j) = Scalar.select (v298 (ix2 h j)) (v286 (ix2 h j)
      + pick (k0_pay21 (F := Ideal) v9 v288 (ix2 h j)) (fun n => x0 (ix2 h n)) * Named.named κ "log2e" 1069066811#32)
      (Named.named κ "mask" 4048155338#32) := by
  unfold k0_pay23
  generalize k0_pay21 (F := Ideal) v9 v288 = B
  pointwise [newLogits, k0_pay39, k0_pay38, k0_pay37, k0_pay36, k0_pay35, k0_pay34, k0_pay33, k0_pay32, k0_pay31, k0_pay30, k0_pay29, k0_pay28, k0_pay27, k0_pay26, k0_pay25, k0_pay24, k0_pay22]
  rw [← pick_chain]

/-! ## A grid point's block -/

theorem log2e_named : Named.named (F := Ideal) (φ := .f32) κ "log2e" 1069066811#32 = ((L2 : ℝ) : EReal) := rfl
theorem mask_named : Named.named (F := Ideal) (φ := .f32) κ "mask" 4048155338#32 = (⊥ : EReal) := rfl

/-- The token's place in its sequence, the grid's first coordinate modulo four. -/
theorem place (w : Fin 32) :
    Scalar.select
      (Scalar.andi
        (Scalar.xori (Scalar.cmpi CmpIPredicate.slt (Scalar.remsi (BitVec.ofNat 32 w.val) 4#32) 0#32) 0#1)
        (Scalar.cmpi CmpIPredicate.ne (Scalar.remsi (BitVec.ofNat 32 w.val) 4#32) 0#32))
      (Scalar.addi (Scalar.remsi (BitVec.ofNat 32 w.val) 4#32) 4#32)
      (Scalar.remsi (BitVec.ofNat 32 w.val) 4#32) = BitVec.ofNat 32 (w.val % 4) := by
  revert w; decide

theorem four : (Scalar.select (Scalar.cmpi CmpIPredicate.eq 4#32 0#32) 1#32 4#32) = 4#32 := by decide
theorem fourneg : Scalar.cmpi CmpIPredicate.slt 4#32 0#32 = 0#1 := by decide

theorem past_bucket (i : grid0.Coords) (x4 : Vec Ideal S1x1x2048 .i32) (h : Fin 8) (j : Fin 2048) :
    k0_pay7 (F := Ideal) (k0_pay5 i x4) (k0_pay6 i x4) (ix2 h j)
      = bucketOf (IntOp.subi (IntOp.addi 16384#32 (BitVec.ofNat 32 ((i 0).val % 4))) (x4 (ix3 0 0 j))) := by
  pointwise [k0_pay7, k0_pay5, k0_pay6]
  simp only [four, fourneg, place (i 0)]
  rfl

theorem new_bucket (v9 : BitVec 32) (h : Fin 8) (j : Fin 128) :
    k0_pay21 (F := Ideal) v9 (iota Kind.tc S8x128 32 [1] iota_S8x128_d1_w32) (ix2 h j)
      = bucketOf (IntOp.subi v9 (IntOp.shrui .vector (BitVec.ofNat 32 j.val) 3#32)) := by
  pointwise [k0_pay21]
  rfl

theorem word_at (i : grid0.Coords) (p : k0_off1 i 0 < 32) (q : k0_off1 i 1 < 16) :
    (ix2 (⟨k0_off1 i 0, p⟩ : Fin 32) (⟨k0_off1 i 1, q⟩ : Fin 16)) = ix2 (i 0) 0 := by
  have h0 : k0_off1 i 0 = (i 0).val := by
    have := (i 0).isLt
    simp only [k0_off1, Scalar.indexCast, Matrix.cons_val_zero, BitVec.toNat_signExtend, BitVec.toNat_ofNat]
    exact Nat.mod_eq_of_lt (lt_trans (b := 32) this (by norm_num))
  refine congrArg₂ ix2 (Fin.ext h0) (Fin.ext rfl)

/-- The logit of a gathered key: product and bias in base two, masked to this head's rows below the count. -/
def pastLogit (cnt : BitVec 32) (place : Nat) (x0 : Vec Ideal S8x32 .f32) (x1 : Vec Ideal S1x8x128 .bf16) (x2 : Vec Ideal S2048x128 .f32)
    (x4 : Vec Ideal S1x1x2048 .i32) (h : Fin 8) (j : Fin 2048) : EReal :=
  Scalar.select (IntOp.andi (IntOp.cmpi .eq (IntOp.andi (BitVec.ofNat 32 j.val) 7#32) (BitVec.ofNat 32 h.val))
      (IntOp.cmpi .slt (BitVec.ofNat 32 j.val) (Scalar.muli cnt 8#32)))
    ((∑ x : Fin 128, x1 (ix3 0 h x) * x2 (ix2 j x))
      + pick (bucketOf (IntOp.subi (IntOp.addi 16384#32 (BitVec.ofNat 32 place)) (x4 (ix3 0 0 j)))) (fun n => x0 (ix2 h n)) * ((L2 : ℝ) : EReal))
    ⊥

/-- The logit of a new key. -/
def newLogit (place : Nat) (x0 : Vec Ideal S8x32 .f32) (x1 : Vec Ideal S1x8x128 .bf16) (x5 : Vec Ideal S1x1x128 .i32)
    (x6 : Vec Ideal S1x8x128 .i32) (x7 : Vec Ideal S1x128x128 .bf16) (h : Fin 8) (j : Fin 128) : EReal :=
  Scalar.select (IntOp.andi (IntOp.cmpi .eq (IntOp.andi (BitVec.ofNat 32 j.val) 7#32) (BitVec.ofNat 32 h.val))
      (IntOp.cmpi .sge (x5 (ix3 0 0 j)) (x6 (ix3 0 0 j))))
    ((∑ x : Fin 128, x1 (ix3 0 h x) * x7 (ix3 0 j x))
      + pick (bucketOf (IntOp.subi (BitVec.ofNat 32 place) (IntOp.shrui .vector (BitVec.ofNat 32 j.val) 3#32))) (fun n => x0 (ix2 h n)) * ((L2 : ℝ) : EReal))
    ⊥

theorem out_apply (c : Dev nD) (i : grid0.Coords) (arg2 : Memref sig .tc .vmem S8x32 .f32) (harg2 : arg2.IsWhole) (arg3 : Memref sig .tc .vmem S1x8x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x1x2048 .i32) (harg6 : arg6.IsWhole) (arg7 : Memref sig .tc .vmem S1x1x128 .i32) (harg7 : arg7.IsWhole) (arg8 : Memref sig .tc .vmem S1x8x128 .i32) (harg8 : arg8.IsWhole) (arg9 : Memref sig .tc .vmem S1x128x128 .bf16) (harg9 : arg9.IsWhole) (arg10 : Memref sig .tc .vmem S1x128x128 .bf16) (harg10 : arg10.IsWhole) (arg11 : Memref sig .tc .vmem S1x8x128 .f32) (harg11 : arg11.IsWhole)
    (x0 : Vec Ideal S8x32 .f32) (x1 : Vec Ideal S1x8x128 .bf16) (x2 : Vec Ideal S2048x128 .f32) (x3 : Vec Ideal S2048x128 .f32) (x4 : Vec Ideal S1x1x2048 .i32) (x5 : Vec Ideal S1x1x128 .i32) (x6 : Vec Ideal S1x8x128 .i32) (x7 : Vec Ideal S1x128x128 .bf16) (x8 : Vec Ideal S1x128x128 .bf16) (xt0 : TbBuf0 (F := Ideal) c tbM0_0) (h : Fin 8) (d : Fin 128) (M : EReal)
    (hM : M = max (Finset.univ.sup fun j => pastLogit (xt0 (ix2 (i 0) 0)) ((i 0).val % 4) x0 x1 x2 x4 h j)
      (Finset.univ.sup fun j => newLogit ((i 0).val % 4) x0 x1 x5 x6 x7 h j)) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 xt0 (ix3 0 h d)
      = Ideal.div (∑ j : Fin 2048, Ideal.exp2 (pastLogit (xt0 (ix2 (i 0) 0)) ((i 0).val % 4) x0 x1 x2 x4 h j - M) * x3 (ix2 j d)
          + ∑ j : Fin 128, Ideal.exp2 (newLogit ((i 0).val % 4) x0 x1 x5 x6 x7 h j - M) * x8 (ix3 0 j d))
        (∑ j : Fin 2048, Ideal.exp2 (pastLogit (xt0 (ix2 (i 0) 0)) ((i 0).val % 4) x0 x1 x2 x4 h j - M)
          + ∑ j : Fin 128, Ideal.exp2 (newLogit ((i 0).val % 4) x0 x1 x5 x6 x7 h j - M)) := by
  frame_out
  rw [pay40_eq]
  generalize hq : k0_pay18 (F := Ideal) _ _ _ _ _ _ _ _ _ _ = PL
  generalize hp : newLogits _ _ _ _ _ _ _ = NL
  have hPL : ∀ j, PL (ix2 h j) = pastLogit (xt0 (ix2 (i 0) 0)) ((i 0).val % 4) x0 x1 x2 x4 h j := by
    intro j
    rw [← hq, past_logit, log2e_named, mask_named, past_bucket]
    clear hq hM
    pointwise [k0_pay3, k0_pay4, k0_pay2]
    rw [word_at]
    rfl
  have hNL : ∀ j, NL (ix2 h j) = newLogit ((i 0).val % 4) x0 x1 x5 x6 x7 h j := by
    intro j
    rw [← hp, new_logit, log2e_named, mask_named, new_bucket, place (i 0)]
    clear hq hp hM
    pointwise [k0_pay19, k0_pay20, k0_pay2, newLogit]
  have := soft_apply PL NL x3 x8 h d M (by rw [hM]; simp only [hPL, hNL])
  simp only [hPL, hNL] at this
  rw [← this]
  pointwise [k0_pay1]

end Cert.AttnIdeal.Value
-- ==== Proof.Attn.Reads.lean ====
module

public import proofs.«01_k».proof.Proof.Gen.AttnIdeal.Frame
public import Idealize.ShloMosaic.Lib.Pipeline.ValueKit
public import Idealize.ShloMosaic.Lib.Tactic.CleanTypes
public import proofs.«01_k».proof.Proof.Attn.Block

@[expose] public section

set_option maxRecDepth 16384

noncomputable section

namespace Cert.AttnIdeal.Value

open Idealize.ShloMosaic Idealize.ShloMosaic.TcCoe Idealize.SL.Sem
open Idealize.ShloMosaic.Pipeline (Dat)
open Cert.AttnIdeal Cert.AttnIdeal.Gen

open Cert.Attention
variable (m : (ℓ : Loc nD τ sig) → Buf (Elt Ideal) ℓ) (hO : Ok m)

theorem maps : ∀ i : grid0.Coords, cc0_transform_0 i = ![0, 0] ∧ cc0_transform_1 i = ![(i 0).val, 0, 0]
    ∧ cc0_transform_2 i = ![(i 0).val, 0] ∧ cc0_transform_3 i = ![(i 0).val, 0] ∧ cc0_transform_4 i = ![(i 0).val, 0, 0]
    ∧ cc0_transform_5 i = ![(i 0).val, 0, 0] ∧ cc0_transform_6 i = ![(i 0).val, 0, 0]
    ∧ cc0_transform_7 i = ![(i 0).val / 4, 0, 0] ∧ cc0_transform_8 i = ![(i 0).val / 4, 0, 0] ∧ cc0_transform_9 i = ![(i 0).val, 0, 0] := by
  decide +kernel

theorem idx (t : Fin (cfgM m hO).N) :
    ((cfgM m hO).win 0).index t = ![0, 0] ∧ ((cfgM m hO).win 1).index t = ![(grid0.coords t 0).val, 0, 0]
    ∧ ((cfgM m hO).win 2).index t = ![(grid0.coords t 0).val, 0] ∧ ((cfgM m hO).win 3).index t = ![(grid0.coords t 0).val, 0]
    ∧ ((cfgM m hO).win 4).index t = ![(grid0.coords t 0).val, 0, 0] ∧ ((cfgM m hO).win 5).index t = ![(grid0.coords t 0).val, 0, 0]
    ∧ ((cfgM m hO).win 6).index t = ![(grid0.coords t 0).val, 0, 0] ∧ ((cfgM m hO).win 7).index t = ![(grid0.coords t 0).val / 4, 0, 0]
    ∧ ((cfgM m hO).win 8).index t = ![(grid0.coords t 0).val / 4, 0, 0] ∧ ((cfgM m hO).win 9).index t = ![(grid0.coords t 0).val, 0, 0] :=
  maps (grid0.coords t)

/-- The sequence and the place in it of a grid point's token. -/
def seqOf (w : Fin 32) : Fin 8 := ⟨w.val / 4, by omega⟩
def placeOf (w : Fin 32) : Fin 4 := ⟨w.val % 4, by omega⟩

/-- What the queries are multiplied by: one over the root of the head size and over the logarithm of two. -/
def qscale : EReal := Ideal.div 1 (Ideal.sqrt (Ideal.ofBits FTy.f32 1124073472#32) * Ideal.log (Ideal.ofBits FTy.f32 1073741824#32))

theorem sitofp_zero : (FloatOps.sitofp (F := Ideal) .bf16 0#32 : EReal) = 0 := by
  show ((((0#32 : BitVec 32).toInt : ℝ)) : EReal) = 0
  simp

/-! ## The arrays the region is entered with, at an element -/

abbrev A0 (c : Dev nD) : S8x4x8x128.Idx → EReal := m ((c : Thread nD τ).loc main_arg0)
abbrev A1 (c : Dev nD) : S8x4x8x128.Idx → EReal := m ((c : Thread nD τ).loc main_arg1)
abbrev A2 (c : Dev nD) : S8x4x8x128.Idx → EReal := m ((c : Thread nD τ).loc main_arg2)
abbrev A3 (c : Dev nD) : S8x4x256x8x128.Idx → EReal := m ((c : Thread nD τ).loc main_arg3)
abbrev A4 (c : Dev nD) : S8x4x256x8x128.Idx → EReal := m ((c : Thread nD τ).loc main_arg4)
abbrev A5 (c : Dev nD) : S8x4x256.Idx → BitVec 32 := m ((c : Thread nD τ).loc main_arg5)
abbrev A6 (c : Dev nD) : S8x4.Idx → BitVec 32 := m ((c : Thread nD τ).loc main_arg6)
abbrev A7 (c : Dev nD) : S8x4x4.Idx → BitVec 32 := m ((c : Thread nD τ).loc main_arg7)
abbrev A8 (c : Dev nD) : S8x4.Idx → BitVec 32 := m ((c : Thread nD τ).loc main_arg8)
abbrev A9 (c : Dev nD) : S32x8.Idx → EReal := m ((c : Thread nD τ).loc main_arg9)

theorem v21_at (c : Dev nD) (h : Fin 8) (n : Fin 32) :
    (show EReal from (V m c main_v21 : Vec Ideal S8x32 .f32) (ix2 h n)) = A9 m c (ix2 n h) := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v22_at (c : Dev nD) (w : Fin 32) (h : Fin 8) (x : Fin 128) :
    (show EReal from (V m c main_v22 : Vec Ideal S32x8x128 .bf16) (ix3 w h x)) = A0 m c (ix4 (seqOf w) (placeOf w) h x) * qscale := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  rfl

theorem v23_at (c : Dev nD) (j : Fin 65536) (x : Fin 128) :
    (show EReal from (V m c main_v23 : Vec Ideal S65536x128 .f32) (ix2 j x)) = A3 m c (ix5 ⟨j.val / 8192, by omega⟩ ⟨j.val / 2048 % 4, by omega⟩ ⟨j.val / 8 % 256, by omega⟩ ⟨j.val % 8, by omega⟩ x) := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v24_at (c : Dev nD) (j : Fin 65536) (x : Fin 128) :
    (show EReal from (V m c main_v24 : Vec Ideal S65536x128 .f32) (ix2 j x)) = A4 m c (ix5 ⟨j.val / 8192, by omega⟩ ⟨j.val / 2048 % 4, by omega⟩ ⟨j.val / 8 % 256, by omega⟩ ⟨j.val % 8, by omega⟩ x) := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v17_at (c : Dev nD) (w : Fin 32) (j : Fin 2048) :
    (show BitVec 32 from (V m c main_v17 : Vec Ideal S32x1x2048 .i32) (ix3 w 0 j)) = A5 m c (ix3 (seqOf w) (placeOf w) ⟨j.val / 8, by omega⟩) := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  rfl

theorem v20_at (c : Dev nD) (w : Fin 32) (j : Fin 128) :
    (show BitVec 32 from (V m c main_v20 : Vec Ideal S32x1x128 .i32) (ix3 w 0 j)) = if h : j.val / 8 < 4 then A7 m c (ix3 (seqOf w) (placeOf w) ⟨j.val / 8, h⟩) else 2147483648#32 := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  rfl

theorem v12_at (c : Dev nD) (w : Fin 32) (h : Fin 8) (j : Fin 128) :
    (show BitVec 32 from (V m c main_v12 : Vec Ideal S32x8x128 .i32) (ix3 w h j)) = A8 m c (ix2 (seqOf w) (placeOf w)) := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  rfl

theorem v10_at (c : Dev nD) (w : Fin 32) (h : Fin 16) :
    (show BitVec 32 from (V m c main_v10 : Vec Ideal S32x16 .i32) (ix2 w h)) = A6 m c (ix2 (seqOf w) (placeOf w)) := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  rfl

theorem v26_at (c : Dev nD) (b : Fin 8) (j x : Fin 128) :
    (show EReal from (V m c main_v26 : Vec Ideal S8x128x128 .bf16) (ix3 b j x)) = if h : j.val < 32 then A1 m c (ix4 b ⟨j.val / 8, by omega⟩ ⟨j.val % 8, by omega⟩ x) else 0 := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  split
  · rfl
  · exact sitofp_zero

theorem v28_at (c : Dev nD) (b : Fin 8) (j x : Fin 128) :
    (show EReal from (V m c main_v28 : Vec Ideal S8x128x128 .bf16) (ix3 b j x)) = if h : j.val < 32 then A2 m c (ix4 b ⟨j.val / 8, by omega⟩ ⟨j.val % 8, by omega⟩ x) else 0 := by
  simp only [V, hostOps0, hostOps0_1, hostOps0_2, hostOps0_3, hostOps0_4, hostOps0_5, List.flatten_cons, List.flatten_nil, List.append_nil, List.cons_append, List.nil_append]
  after_results_simp
  try simp -implicitDefEqProofs only [StableHlo.TRef.toBuf, StableHlo.TRef.ofBuf, cast_cast, cast_eq]
  clean_types
  pointwise
  split
  · rfl
  · exact sitofp_zero

/-! ## The staged blocks, at an element, of the point whose first coordinate is the token -/

theorem word (c : Dev nD) (w : Fin 32) : (tbl m 0 : S32x16.Idx → BitVec 32) (ix2 w 0) = A6 m c (ix2 (seqOf w) (placeOf w)) := by
  obtain rfl : c = 0 := Subsingleton.elim _ _
  exact v10_at m 0 w 0

theorem x0_at (c : Dev nD) (t : Fin (cfgM m hO).N) (w : Fin 32) (hw : w = grid0.coords t 0) (h : Fin 8) (n : Fin 32) :
    (show EReal from (iblk m hO c 0 t : Vec Ideal S8x32 .f32) (ix2 h n)) = A9 m c (ix2 n h) := by
  refine Eq.trans (b := (V m c main_v21 : Vec Ideal S8x32 .f32) (ix2 h n)) ?_ ?_
  · subst hw
    blk_simp [iblk]
    show (V m c main_v21 : Vec Ideal S8x32 .f32) _ = _
    blk_ext [idx m hO t, seqOf]
  · exact v21_at m c h n

theorem x1_at (c : Dev nD) (t : Fin (cfgM m hO).N) (w : Fin 32) (hw : w = grid0.coords t 0) (h : Fin 8) (x : Fin 128) :
    (show EReal from (iblk m hO c 1 t : Vec Ideal S1x8x128 .bf16) (ix3 0 h x)) = A0 m c (ix4 (seqOf w) (placeOf w) h x) * qscale := by
  refine Eq.trans (b := (V m c main_v22 : Vec Ideal S32x8x128 .bf16) (ix3 w h x)) ?_ ?_
  · subst hw
    blk_simp [iblk]
    show (V m c main_v22 : Vec Ideal S32x8x128 .bf16) _ = _
    blk_ext [idx m hO t, seqOf]
  · exact v22_at m c w h x

theorem x2_at (c : Dev nD) (t : Fin (cfgM m hO).N) (w : Fin 32) (hw : w = grid0.coords t 0) (j : Fin 2048) (x : Fin 128) :
    (show EReal from (iblk m hO c 2 t : Vec Ideal S2048x128 .f32) (ix2 j x)) = A3 m c (ix5 (seqOf w) (placeOf w) ⟨j.val / 8, by omega⟩ ⟨j.val % 8, by omega⟩ x) := by
  refine Eq.trans (b := (V m c main_v23 : Vec Ideal S65536x128 .f32) (ix2 ⟨w.val * 2048 + j.val, by omega⟩ x)) ?_ ?_
  · subst hw
    blk_simp [iblk]
    show (V m c main_v23 : Vec Ideal S65536x128 .f32) _ = _
    blk_ext [idx m hO t, seqOf]
  · refine (v23_at m c ⟨w.val * 2048 + j.val, by omega⟩ x).trans ?_
    blk_ext [seqOf, placeOf]

theorem x3_at (c : Dev nD) (t : Fin (cfgM m hO).N) (w : Fin 32) (hw : w = grid0.coords t 0) (j : Fin 2048) (x : Fin 128) :
    (show EReal from (iblk m hO c 3 t : Vec Ideal S2048x128 .f32) (ix2 j x)) = A4 m c (ix5 (seqOf w) (placeOf w) ⟨j.val / 8, by omega⟩ ⟨j.val % 8, by omega⟩ x) := by
  refine Eq.trans (b := (V m c main_v24 : Vec Ideal S65536x128 .f32) (ix2 ⟨w.val * 2048 + j.val, by omega⟩ x)) ?_ ?_
  · subst hw
    blk_simp [iblk]
    show (V m c main_v24 : Vec Ideal S65536x128 .f32) _ = _
    blk_ext [idx m hO t, seqOf]
  · refine (v24_at m c ⟨w.val * 2048 + j.val, by omega⟩ x).trans ?_
    blk_ext [seqOf, placeOf]

theorem x4_at (c : Dev nD) (t : Fin (cfgM m hO).N) (w : Fin 32) (hw : w = grid0.coords t 0) (j : Fin 2048) :
    (show BitVec 32 from (iblk m hO c 4 t : Vec Ideal S1x1x2048 .i32) (ix3 0 0 j)) = A5 m c (ix3 (seqOf w) (placeOf w) ⟨j.val / 8, by omega⟩) := by
  refine Eq.trans (b := (V m c main_v17 : Vec Ideal S32x1x2048 .i32) (ix3 w 0 j)) ?_ ?_
  · subst hw
    blk_simp [iblk]
    show (V m c main_v17 : Vec Ideal S32x1x2048 .i32) _ = _
    blk_ext [idx m hO t, seqOf]
  · exact v17_at m c w j

theorem x5_at (c : Dev nD) (t : Fin (cfgM m hO).N) (w : Fin 32) (hw : w = grid0.coords t 0) (j : Fin 128) :
    (show BitVec 32 from (iblk m hO c 5 t : Vec Ideal S1x1x128 .i32) (ix3 0 0 j)) = if h : j.val / 8 < 4 then A7 m c (ix3 (seqOf w) (placeOf w) ⟨j.val / 8, h⟩) else 2147483648#32 := by
  refine Eq.trans (b := (V m c main_v20 : Vec Ideal S32x1x128 .i32) (ix3 w 0 j)) ?_ ?_
  · subst hw
    blk_simp [iblk]
    show (V m c main_v20 : Vec Ideal S32x1x128 .i32) _ = _
    blk_ext [idx m hO t, seqOf]
  · exact v20_at m c w j

theorem x6_at (c : Dev nD) (t : Fin (cfgM m hO).N) (w : Fin 32) (hw : w = grid0.coords t 0) (h : Fin 8) (j : Fin 128) :
    (show BitVec 32 from (iblk m hO c 6 t : Vec Ideal S1x8x128 .i32) (ix3 0 h j)) = A8 m c (ix2 (seqOf w) (placeOf w)) := by
  refine Eq.trans (b := (V m c main_v12 : Vec Ideal S32x8x128 .i32) (ix3 w h j)) ?_ ?_
  · subst hw
    blk_simp [iblk]
    show (V m c main_v12 : Vec Ideal S32x8x128 .i32) _ = _
    blk_ext [idx m hO t, seqOf]
  · exact v12_at m c w h j

theorem x7_at (c : Dev nD) (t : Fin (cfgM m hO).N) (w : Fin 32) (hw : w = grid0.coords t 0) (j x : Fin 128) :
    (show EReal from (iblk m hO c 7 t : Vec Ideal S1x128x128 .bf16) (ix3 0 j x)) = if h : j.val < 32 then A1 m c (ix4 (seqOf w) ⟨j.val / 8, by omega⟩ ⟨j.val % 8, by omega⟩ x) else 0 := by
  refine Eq.trans (b := (V m c main_v26 : Vec Ideal S8x128x128 .bf16) (ix3 (seqOf w) j x)) ?_ ?_
  · subst hw
    blk_simp [iblk]
    show (V m c main_v26 : Vec Ideal S8x128x128 .bf16) _ = _
    blk_ext [idx m hO t, seqOf]
  · exact v26_at m c (seqOf w) j x

theorem x8_at (c : Dev nD) (t : Fin (cfgM m hO).N) (w : Fin 32) (hw : w = grid0.coords t 0) (j x : Fin 128) :
    (show EReal from (iblk m hO c 8 t : Vec Ideal S1x128x128 .bf16) (ix3 0 j x)) = if h : j.val < 32 then A2 m c (ix4 (seqOf w) ⟨j.val / 8, by omega⟩ ⟨j.val % 8, by omega⟩ x) else 0 := by
  refine Eq.trans (b := (V m c main_v28 : Vec Ideal S8x128x128 .bf16) (ix3 (seqOf w) j x)) ?_ ?_
  · subst hw
    blk_simp [iblk]
    show (V m c main_v28 : Vec Ideal S8x128x128 .bf16) _ = _
    blk_ext [idx m hO t, seqOf]
  · exact v28_at m c (seqOf w) j x

end Cert.AttnIdeal.Value
-- ==== Proof.Attn.Spec.lean ====
/- The sparse attention of one new token, element by element: 256 gathered keys and the four new ones,
   a bias by the bucket of the distance, masked keys at minus infinity, a softmax over all 260. -/
module

public import proofs.«01_k».proof.Proof.Attn.Shared
public import Idealize.ShloMosaic.Lib.StableHlo.Predicate

@[expose] public section

noncomputable section

namespace Cert.Attention

open Idealize.ShloMosaic

/-- One over the root of the head size. -/
def rscale : EReal := Ideal.div 1 (Ideal.sqrt (Ideal.ofBits FTy.f32 1124073472#32))

variable (q kn vn : (⟨4, ![8, 4, 8, 128]⟩ : Shape).Idx → EReal) (ks vs : (⟨5, ![8, 4, 256, 8, 128]⟩ : Shape).Idx → EReal)
  (pos : (⟨3, ![8, 4, 256]⟩ : Shape).Idx → BitVec 32) (cnt : (⟨2, ![8, 4]⟩ : Shape).Idx → BitVec 32)
  (key : (⟨3, ![8, 4, 4]⟩ : Shape).Idx → BitVec 32) (thr : (⟨2, ![8, 4]⟩ : Shape).Idx → BitVec 32)
  (rb : (⟨2, ![32, 8]⟩ : Shape).Idx → EReal)

/-- The logit of gathered key `k`. -/
def oldLogit (b : Fin 8) (t : Fin 4) (h : Fin 8) (k : Fin 256) : EReal :=
  Scalar.select (IntOp.cmpi .slt (BitVec.ofNat 32 k.val) (cnt (ix2 b t)))
    ((∑ x : Fin 128, q (ix4 b t h x) * ks (ix5 b t k h x)) * rscale
      + pick (bucketOf (IntOp.subi (IntOp.addi 16384#32 (BitVec.ofNat 32 t.val)) (pos (ix3 b t k)))) fun n => rb (ix2 n h)) ⊥

/-- The logit of new key `n`. -/
def freshLogit (b : Fin 8) (t : Fin 4) (h : Fin 8) (n : Fin 4) : EReal :=
  Scalar.select (IntOp.cmpi .sge (key (ix3 b t n)) (thr (ix2 b t)))
    ((∑ x : Fin 128, kn (ix4 b n h x) * q (ix4 b t h x)) * rscale
      + pick (bucketOf (IntOp.subi (BitVec.ofNat 32 t.val) (BitVec.ofNat 32 n.val))) fun n => rb (ix2 n h)) ⊥

/-- All 260 logits of a token's head. -/
def logits (b : Fin 8) (t : Fin 4) (h : Fin 8) (i : Fin 260) : EReal :=
  if hi : i.val < 256 then oldLogit q ks pos cnt rb b t h ⟨i.val, hi⟩
  else freshLogit q kn key thr rb b t h ⟨i.val - 256, by omega⟩

/-- The weight of key `i`. -/
def weight (z : Fin 260 → EReal) (i : Fin 260) : EReal :=
  Ideal.div (Ideal.exp (z i - Finset.univ.sup z)) (∑ j, Ideal.exp (z j - Finset.univ.sup z))

/-- The attention's result. -/
def result (b : Fin 8) (t : Fin 4) (h : Fin 8) (d : Fin 128) : EReal :=
  ∑ k : Fin 256, weight (logits q kn ks pos cnt key thr rb b t h) ⟨k.val, by omega⟩ * vs (ix5 b t k h d)
    + ∑ n : Fin 4, vn (ix4 b n h d) * weight (logits q kn ks pos cnt key thr rb b t h) ⟨256 + n.val, by omega⟩

/-- What is asked of the arguments: finite numbers, at most 256 gathered keys, and a key that is seen. -/
structure Good : Prop where
  q_ok : ∀ i, ∃ r : ℝ, q i = r
  kn_ok : ∀ i, ∃ r : ℝ, kn i = r
  ks_ok : ∀ i, ∃ r : ℝ, ks i = r
  rb_ok : ∀ i, ∃ r : ℝ, rb i = r
  cnt_ok : ∀ b t, ∃ n : Nat, n ≤ 256 ∧ cnt (ix2 b t) = BitVec.ofNat 32 n
  thr_ok : ∀ b t, IntOp.cmpi .sge 2147483648#32 (thr (ix2 b t)) = 0#1
  seen_ok : ∀ b t, cnt (ix2 b t) ≠ 0#32 ∨ ∃ n, IntOp.cmpi .sge (key (ix3 b t n)) (thr (ix2 b t)) = 1#1

theorem rscale_eq : rscale = ((1 / Real.sqrt 128 : ℝ) : EReal) := by
  have h : Ideal.ofBits FTy.f32 1124073472#32 = ((128 : ℝ) : EReal) := by
    simp [Ideal.ofBits, Ideal.ieee]; rw [← EReal.coe_mul]; norm_num
  unfold rscale
  rw [h, show Ideal.sqrt ((128 : ℝ) : EReal) = ((Real.sqrt 128 : ℝ) : EReal) from (Ideal.sqrt_coe _).trans (if_neg (by norm_num)),
    Ideal.div_coe (by positivity), one_mul]

theorem pick_real (v : BitVec 32) (f : Fin 32 → EReal) (hf : ∀ n, ∃ r : ℝ, f n = r) : ∃ r : ℝ, pick v f = r := by
  unfold pick
  split
  · exact hf _
  · exact ⟨0, rfl⟩

theorem andi7 (j : Nat) (hj : j < 2 ^ 31) : IntOp.andi (BitVec.ofNat 32 j) 7#32 = BitVec.ofNat 32 (j % 8) := by
  apply BitVec.eq_of_toNat_eq
  simp only [IntOp.andi, BitVec.toNat_and, BitVec.toNat_ofNat]
  rw [show 7 % 2 ^ 32 = 2 ^ 3 - 1 by norm_num, Nat.and_two_pow_sub_one_eq_mod]
  omega

theorem eq_small (a b : Nat) (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    simp only [BitVec.toNat_ofNat] at this
    omega
  · rintro rfl; rfl

theorem slt_small (a b : Nat) (ha : a < 2 ^ 31) (hb : b < 2 ^ 31) :
    IntOp.cmpi .slt (BitVec.ofNat 32 a) (BitVec.ofNat 32 b) = BitVec.ofBool (decide (a < b)) := by
  show BitVec.ofBool (BitVec.slt _ _) = _
  congr 1
  rw [BitVec.slt, StableHlo.Predicate.toInt_ofNat_small _ (by omega), StableHlo.Predicate.toInt_ofNat_small _ (by omega)]
  simp

theorem mul8 (n : Nat) : Scalar.muli (BitVec.ofNat 32 n) 8#32 = BitVec.ofNat 32 (n * 8) := by
  apply BitVec.eq_of_toNat_eq
  show (BitVec.ofNat 32 n * 8#32).toNat = _
  simp [BitVec.toNat_mul]

theorem shr3 (j : Nat) (hj : j < 2 ^ 31) : IntOp.shrui .vector (BitVec.ofNat 32 j) 3#32 = BitVec.ofNat 32 (j / 8) := by
  apply BitVec.eq_of_toNat_eq
  simp [IntOp.shrui, Nat.shiftRight_eq_div_pow]
  omega

theorem scaled_real {n : Nat} (q k : Fin n → EReal) (hq : ∀ x, ∃ r : ℝ, q x = r) (hk : ∀ x, ∃ r : ℝ, k x = r) (p : EReal) (hp : ∃ r : ℝ, p = r)
    (s : ℝ) : (∃ r : ℝ, (∑ x, q x * k x) * ((s : ℝ) : EReal) + p = r)
      ∧ ((∑ x, (q x * ((s * L2 : ℝ) : EReal)) * k x) + p * ((L2 : ℝ) : EReal) = ((∑ x, q x * k x) * ((s : ℝ) : EReal) + p) * ((L2 : ℝ) : EReal)) := by
  choose qr hqr using hq
  choose kr hkr using hk
  obtain ⟨pr, rfl⟩ := hp
  have e1 : ∑ x, q x * k x = ((∑ x, qr x * kr x : ℝ) : EReal) := by
    rw [← coe_sum']; exact Finset.sum_congr rfl fun x _ => by rw [hqr, hkr, EReal.coe_mul]
  have e2 : (∑ x, (q x * ((s * L2 : ℝ) : EReal)) * k x) = ((∑ x, qr x * (s * L2) * kr x : ℝ) : EReal) := by
    rw [← coe_sum']; exact Finset.sum_congr rfl fun x _ => by simp only [hqr, hkr, EReal.coe_mul]
  rw [e1, e2]
  refine ⟨⟨(∑ x, qr x * kr x) * s + pr, by norm_cast⟩, ?_⟩
  norm_cast
  rw [add_mul, Finset.sum_mul, Finset.sum_mul]
  congr 1
  exact Finset.sum_congr rfl fun x _ => by ring

end Cert.Attention
-- ==== Proof.Attn.Bridge.lean ====
module

public import proofs.«01_k».proof.Proof.Gen.AttnIdeal.Frame
public import Idealize.ShloMosaic.Lib.Pipeline.ValueKit
public import Idealize.ShloMosaic.Lib.Tactic.CleanTypes
public import Idealize.ShloMosaic.Lib.Pipeline.Covers
public import proofs.«01_k».proof.Proof.Attn.Reads
public import proofs.«01_k».proof.Proof.Attn.Spec

@[expose] public section

set_option maxRecDepth 16384

noncomputable section

namespace Cert.AttnIdeal.Value

open Idealize.ShloMosaic Idealize.ShloMosaic.TcCoe Idealize.SL.Sem
open Idealize.ShloMosaic.Pipeline (Dat)
open Cert.AttnIdeal Cert.AttnIdeal.Gen

open Cert.Attention
variable (m : (ℓ : Loc nD τ sig) → Buf (Elt Ideal) ℓ) (hO : Ok m)

theorem qscale_eq : qscale = ((1 / Real.sqrt 128 * L2 : ℝ) : EReal) := by
  have h : Ideal.ofBits FTy.f32 1124073472#32 = ((128 : ℝ) : EReal) := by
    simp [Ideal.ofBits, Ideal.ieee]; rw [← EReal.coe_mul]; norm_num
  have h2 : Ideal.ofBits FTy.f32 1073741824#32 = ((2 : ℝ) : EReal) := by
    simp [Ideal.ofBits, Ideal.ieee]; rw [← EReal.coe_mul]; norm_num
  have hl : (0 : ℝ) < Real.log 2 := Real.log_pos (by norm_num)
  unfold qscale
  rw [h, h2, show Ideal.sqrt ((128 : ℝ) : EReal) = ((Real.sqrt 128 : ℝ) : EReal) from (Ideal.sqrt_coe _).trans (if_neg (by norm_num)),
    show Ideal.log ((2 : ℝ) : EReal) = ((Real.log 2 : ℝ) : EReal) from (Ideal.log_coe _).trans (if_neg (by norm_num)),
    ← EReal.coe_mul, Ideal.div_coe (by positivity), one_mul]
  congr 1
  unfold L2
  field_simp

theorem bot_scaled : (⊥ : EReal) = ⊥ * ((L2 : ℝ) : EReal) := (EReal.bot_mul_coe_of_pos L2_pos).symm

variable (c : Dev nD) (hG : Good (A0 m c) (A1 m c) (A3 m c) (A6 m c) (A7 m c) (A8 m c) (A9 m c)) (t : Fin (cfgM m hO).N) (w : Fin 32) (hw : w = grid0.coords t 0)

include hG hw in
theorem past_eq (h : Fin 8) (k : Fin 256) :
    pastLogit (A6 m c (ix2 (seqOf w) (placeOf w))) (w.val % 4) (iblk m hO c 0 t) (iblk m hO c 1 t) (iblk m hO c 2 t) (iblk m hO c 4 t) h ⟨k.val * 8 + h.val, by omega⟩
      = oldLogit (A0 m c) (A3 m c) (A5 m c) (A6 m c) (A9 m c) (seqOf w) (placeOf w) h k * ((L2 : ℝ) : EReal) := by
  obtain ⟨n, hn, hc⟩ := hG.cnt_ok (seqOf w) (placeOf w)
  have hd : (⟨(k.val * 8 + h.val) / 8, by omega⟩ : Fin 256) = k := Fin.ext (by show (k.val * 8 + h.val) / 8 = k.val; omega)
  have hm : (⟨(k.val * 8 + h.val) % 8, by omega⟩ : Fin 8) = h := Fin.ext (by show (k.val * 8 + h.val) % 8 = h.val; omega)
  unfold pastLogit oldLogit
  simp only [x0_at m hO c t w hw, x1_at m hO c t w hw, x2_at m hO c t w hw, x4_at m hO c t w hw, hd, hm]
  rw [andi7 _ (by omega), show (k.val * 8 + h.val) % 8 = h.val by omega, eq_small _ _ (by omega) (by omega), hc, mul8,
    slt_small _ _ (by omega) (by omega), slt_small _ _ (by omega) (by omega)]
  rw [qscale_eq, rscale_eq]
  obtain ⟨-, e⟩ := scaled_real (fun x => A0 m c (ix4 (seqOf w) (placeOf w) h x)) (fun x => A3 m c (ix5 (seqOf w) (placeOf w) k h x))
    (fun _ => hG.q_ok _) (fun _ => hG.ks_ok _)
    (pick (bucketOf (IntOp.subi (IntOp.addi 16384#32 (BitVec.ofNat 32 (placeOf w).val)) (A5 m c (ix3 (seqOf w) (placeOf w) k)))) fun n => A9 m c (ix2 n h))
    (pick_real _ _ fun _ => hG.rb_ok _) (1 / Real.sqrt 128)
  by_cases hk : k.val < n
  · have hk' : k.val * 8 + h.val < n * 8 := by omega
    simp only [hk, hk', decide_true]
    exact e
  · have hk' : ¬ k.val * 8 + h.val < n * 8 := by omega
    simp only [hk, hk', decide_true, decide_false]
    exact bot_scaled

theorem and_zero_left (b : BitVec 1) : IntOp.andi (BitVec.ofBool false) b = 0#1 := by
  revert b; decide
theorem and_zero_right (b : BitVec 1) : IntOp.andi b 0#1 = 0#1 := by
  revert b; decide
theorem and_one_left (b : BitVec 1) : IntOp.andi (BitVec.ofBool true) b = b := by
  revert b; decide

theorem past_other (cnt : BitVec 32) (place : Nat) (x0 : Vec Ideal S8x32 .f32) (x1 : Vec Ideal S1x8x128 .bf16) (x2 : Vec Ideal S2048x128 .f32)
    (x4 : Vec Ideal S1x1x2048 .i32) (h : Fin 8) (j : Fin 2048) (hj : j.val % 8 ≠ h.val) : pastLogit cnt place x0 x1 x2 x4 h j = ⊥ := by
  unfold pastLogit
  rw [andi7 _ (by omega), eq_small _ _ (by omega) (by omega), decide_eq_false hj, and_zero_left]
  rfl

theorem new_other (place : Nat) (x0 : Vec Ideal S8x32 .f32) (x1 : Vec Ideal S1x8x128 .bf16) (x5 : Vec Ideal S1x1x128 .i32)
    (x6 : Vec Ideal S1x8x128 .i32) (x7 : Vec Ideal S1x128x128 .bf16) (h : Fin 8) (j : Fin 128) (hj : j.val % 8 ≠ h.val) :
    newLogit place x0 x1 x5 x6 x7 h j = ⊥ := by
  unfold newLogit
  rw [andi7 _ (by omega), eq_small _ _ (by omega) (by omega), decide_eq_false hj, and_zero_left]
  rfl

include hG hw in
theorem new_eq (h : Fin 8) (n : Fin 4) :
    newLogit (w.val % 4) (iblk m hO c 0 t) (iblk m hO c 1 t) (iblk m hO c 5 t) (iblk m hO c 6 t) (iblk m hO c 7 t) h ⟨n.val * 8 + h.val, by omega⟩
      = freshLogit (A0 m c) (A1 m c) (A7 m c) (A8 m c) (A9 m c) (seqOf w) (placeOf w) h n * ((L2 : ℝ) : EReal) := by
  have hd : (n.val * 8 + h.val) / 8 = n.val := by omega
  have hm : (⟨(n.val * 8 + h.val) % 8, by omega⟩ : Fin 8) = h := Fin.ext (by show (n.val * 8 + h.val) % 8 = h.val; omega)
  unfold newLogit freshLogit
  simp only [x0_at m hO c t w hw, x1_at m hO c t w hw, x5_at m hO c t w hw, x6_at m hO c t w hw, x7_at m hO c t w hw, hd, hm,
    n.isLt, dif_pos, show n.val * 8 + h.val < 32 by omega]
  rw [andi7 _ (by omega), show (n.val * 8 + h.val) % 8 = h.val by omega, eq_small _ _ (by omega) (by omega), shr3 _ (by omega)]
  simp only [hd]
  rw [qscale_eq, rscale_eq]
  simp only [decide_true, and_one_left]
  obtain ⟨-, e⟩ := scaled_real (fun x => A0 m c (ix4 (seqOf w) (placeOf w) h x)) (fun x => A1 m c (ix4 (seqOf w) n h x))
    (fun _ => hG.q_ok _) (fun _ => hG.kn_ok _)
    (pick (bucketOf (IntOp.subi (BitVec.ofNat 32 (placeOf w).val) (BitVec.ofNat 32 n.val))) fun n => A9 m c (ix2 n h))
    (pick_real _ _ fun _ => hG.rb_ok _) (1 / Real.sqrt 128)
  unfold Scalar.select
  split
  · refine Eq.trans e ?_
    simp only [mul_comm (A0 m c _)]
  · exact bot_scaled

include hG hw in
theorem new_padded (h : Fin 8) (k : Fin 16) (hk : 4 ≤ k.val) :
    newLogit (w.val % 4) (iblk m hO c 0 t) (iblk m hO c 1 t) (iblk m hO c 5 t) (iblk m hO c 6 t) (iblk m hO c 7 t) h ⟨k.val * 8 + h.val, by omega⟩ = ⊥ := by
  have hd : ¬ (k.val * 8 + h.val) / 8 < 4 := by omega
  unfold newLogit
  simp only [x5_at m hO c t w hw, x6_at m hO c t w hw, dif_neg hd, hG.thr_ok, and_zero_right]
  rfl

include hG in
theorem logits_real (b : Fin 8) (p : Fin 4) (h : Fin 8) (i : Fin 260) :
    logits (A0 m c) (A1 m c) (A3 m c) (A5 m c) (A6 m c) (A7 m c) (A8 m c) (A9 m c) b p h i = ⊥ ∨ ∃ r : ℝ, logits (A0 m c) (A1 m c) (A3 m c) (A5 m c) (A6 m c) (A7 m c) (A8 m c) (A9 m c) b p h i = r := by
  unfold logits
  split
  · unfold oldLogit Scalar.select
    rw [rscale_eq]
    split
    · exact Or.inr (scaled_real _ _ (fun _ => hG.q_ok _) (fun _ => hG.ks_ok _) _ (pick_real _ _ fun _ => hG.rb_ok _) _).1
    · exact Or.inl rfl
  · unfold freshLogit Scalar.select
    rw [rscale_eq]
    split
    · exact Or.inr (scaled_real _ _ (fun _ => hG.kn_ok _) (fun _ => hG.q_ok _) _ (pick_real _ _ fun _ => hG.rb_ok _) _).1
    · exact Or.inl rfl

include hG in
theorem fresh_seen (b : Fin 8) (p : Fin 4) (h : Fin 8) (n : Fin 4)
    (hs : IntOp.cmpi .sge (A7 m c (ix3 b p n)) (A8 m c (ix2 b p)) = 1#1) :
    freshLogit (A0 m c) (A1 m c) (A7 m c) (A8 m c) (A9 m c) b p h n ≠ ⊥ := by
  unfold freshLogit Scalar.select
  rw [if_pos (show _ = (1 : BitVec 1) from hs), rscale_eq]
  obtain ⟨r, e⟩ := (scaled_real (fun x => A1 m c (ix4 b n h x)) (fun x => A0 m c (ix4 b p h x)) (fun _ => hG.kn_ok _) (fun _ => hG.q_ok _)
    (pick (bucketOf (IntOp.subi (BitVec.ofNat 32 p.val) (BitVec.ofNat 32 n.val))) fun n => A9 m c (ix2 n h))
    (pick_real _ _ fun _ => hG.rb_ok _) (1 / Real.sqrt 128)).1
  exact fun hb => EReal.coe_ne_bot r (e.symm.trans hb)

include hG in
theorem logits_seen (b : Fin 8) (p : Fin 4) (h : Fin 8) : ∃ i, logits (A0 m c) (A1 m c) (A3 m c) (A5 m c) (A6 m c) (A7 m c) (A8 m c) (A9 m c) b p h i ≠ ⊥ := by
  rcases hG.seen_ok b p with hs | ⟨n, hs⟩
  · obtain ⟨n, hn, hc⟩ := hG.cnt_ok b p
    have hn0 : 0 < n := by
      rcases Nat.eq_zero_or_pos n with h0 | h0
      · rw [hc, h0] at hs; exact absurd rfl hs
      · exact h0
    refine ⟨⟨0, by omega⟩, ?_⟩
    unfold logits
    rw [dif_pos (by show 0 < 256; omega)]
    unfold oldLogit
    rw [hc, slt_small _ _ (by show 0 < 2 ^ 31; omega) (by omega), decide_eq_true (by exact hn0), rscale_eq]
    obtain ⟨⟨r, e⟩, -⟩ := scaled_real (fun x => A0 m c (ix4 b p h x)) (fun x => A3 m c (ix5 b p ⟨0, by omega⟩ h x)) (fun _ => hG.q_ok _) (fun _ => hG.ks_ok _)
      (pick (bucketOf (IntOp.subi (IntOp.addi 16384#32 (BitVec.ofNat 32 p.val)) (A5 m c (ix3 b p ⟨0, by omega⟩)))) fun n => A9 m c (ix2 n h))
      (pick_real _ _ fun _ => hG.rb_ok _) (1 / Real.sqrt 128)
    intro hb
    exact EReal.coe_ne_bot r (e.symm.trans hb)
  · refine ⟨⟨256 + n.val, by omega⟩, ?_⟩
    have e : logits (A0 m c) (A1 m c) (A3 m c) (A5 m c) (A6 m c) (A7 m c) (A8 m c) (A9 m c) b p h ⟨256 + n.val, by omega⟩ = freshLogit (A0 m c) (A1 m c) (A7 m c) (A8 m c) (A9 m c) b p h n := by
      unfold logits
      rw [dif_neg (by show ¬ 256 + n.val < 256; omega)]
      congr 1
      exact Fin.ext (by show 256 + n.val - 256 = n.val; omega)
    rw [e]
    exact fresh_seen m c hG b p h n hs

include hG hw in
/-- What a grid point leaves in the output's block. -/
theorem point (h : Fin 8) (d : Fin 128) :
    (show EReal from (outsAt0 m hO c t : Vec Ideal S1x8x128 .f32) (ix3 0 h d)) = result (A0 m c) (A1 m c) (A2 m c) (A3 m c) (A4 m c) (A5 m c) (A6 m c) (A7 m c) (A8 m c) (A9 m c) (seqOf w) (placeOf w) h d := by
  have e := out_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h d _ rfl
  refine Eq.trans e ?_
  rw [← hw, word m c w]
  refine (core h (logits (A0 m c) (A1 m c) (A3 m c) (A5 m c) (A6 m c) (A7 m c) (A8 m c) (A9 m c) (seqOf w) (placeOf w) h) (logits_real m c hG _ _ _) (logits_seen m c hG _ _ _) _ _ _ _
    (fun k => ?_) (fun j hj => past_other _ _ _ _ _ _ h j hj) (fun k => ?_) (fun k hk => new_padded m hO c hG t w hw h k hk) (fun j hj => new_other _ _ _ _ _ _ h j hj) _ _ rfl rfl).trans ?_
  · refine (past_eq m hO c hG t w hw h k).trans (congrArg (· * ((L2 : ℝ) : EReal)) ?_)
    unfold logits
    rw [dif_pos k.isLt]
  · refine (new_eq m hO c hG t w hw h k).trans (congrArg (· * ((L2 : ℝ) : EReal)) ?_)
    unfold logits
    rw [dif_neg (by show ¬ 256 + k.val < 256; omega)]
    congr 1
    exact Fin.ext (by show k.val = 256 + k.val - 256; omega)
  · unfold result
    refine congrArg₂ (· + ·) (Finset.sum_congr rfl fun k _ => ?_) (Finset.sum_congr rfl fun k _ => ?_)
    · have hd : (⟨(k.val * 8 + h.val) / 8, by omega⟩ : Fin 256) = k := Fin.ext (by show (k.val * 8 + h.val) / 8 = k.val; omega)
      have hm : (⟨(k.val * 8 + h.val) % 8, by omega⟩ : Fin 8) = h := Fin.ext (by show (k.val * 8 + h.val) % 8 = h.val; omega)
      refine congrArg₂ (· * ·) rfl ((x3_at m hO c t w hw _ d).trans ?_)
      simp only [hd, hm]
    · have hd : (⟨(k.val * 8 + h.val) / 8, by omega⟩ : Fin 4) = k := Fin.ext (by show (k.val * 8 + h.val) / 8 = k.val; omega)
      have hm : (⟨(k.val * 8 + h.val) % 8, by omega⟩ : Fin 8) = h := Fin.ext (by show (k.val * 8 + h.val) % 8 = h.val; omega)
      refine (congrArg₂ (· * ·) rfl ((x8_at m hO c t w hw _ d).trans ?_)).trans (mul_comm _ _)
      rw [dif_pos (by show k.val * 8 + h.val < 32; omega)]
      simp only [hd, hm]

theorem exists_point (n : Fin 32) : ∃ i : grid0.Coords, (i 0).val = n.val :=
  ⟨fun a => ⟨n.val, by have ha : a = (0 : Fin 1) := Subsingleton.elim (α := Fin 1) _ _; subst ha; exact n.isLt⟩, rfl⟩

theorem covers : ((cfgM m hO).win 9).Covers := by
  refine Pipeline.Window.covers_of_indexMap_surj _ rfl (fun a => (show ∀ a : Fin 3, 0 < (![1, 8, 128] : Fin 3 → Nat) a by decide) a) fun β => ?_
  have h0 : (β (show Fin ((cfgM m hO).win 9).shape.rank from (0 : Fin 3))).val < (32 + 1 - 1) / 1 := (β (show Fin ((cfgM m hO).win 9).shape.rank from (0 : Fin 3))).isLt
  obtain ⟨i, hi⟩ := exists_point ⟨_, h0⟩
  refine ⟨i, fun a => (congrFun (maps i).2.2.2.2.2.2.2.2.2 a).trans ?_⟩
  have h := (β a).isLt
  match a with
  | ⟨0, _⟩ => exact hi
  | ⟨1, _⟩ =>
    have h' : _ < (8 + 8 - 1) / 8 := h
    exact (Nat.lt_one_iff.1 h').symm
  | ⟨2, _⟩ =>
    have h' : _ < (128 + 128 - 1) / 128 := h
    exact (Nat.lt_one_iff.1 h').symm

/-- The output array. -/
def out : S32x8x128.Idx → EReal := fun y => result (A0 m c) (A1 m c) (A2 m c) (A3 m c) (A4 m c) (A5 m c) (A6 m c) (A7 m c) (A8 m c) (A9 m c) (seqOf (y 0)) (placeOf (y 0)) (y 1) (y 2)

include hG in
theorem point_out (w : Fin 32) (hw : w = grid0.coords t 0) (y : S1x8x128.Idx) :
    (show EReal from (outsAt0 m hO c t : Vec Ideal S1x8x128 .f32) y) = out m c (ix3 w (y 1) (y 2)) := by
  have e : y = ix3 0 (y 1) (y 2) := (eq_ix3 y).trans (congrArg (fun a : Fin 1 => ix3 a (y 1) (y 2)) (Subsingleton.elim (α := Fin 1) _ _))
  exact (congrArg (outsAt0 m hO c t : Vec Ideal S1x8x128 .f32) e).trans (point m hO c hG t w hw (y 1) (y 2))

include hG in
theorem arr : (show S32x8x128.Idx → EReal from (dats m hO 0 c).arrAt 9 (cfgM m hO).N) = out m c := by
  refine (dats m hO 0 c).arrAt_eq_of_covers 9 _ (covers m hO) fun t hf y => ?_
  blk_simp
  rw [after0_9]
  refine (point_out m hO c hG t _ rfl y).trans ?_
  show out m c _ = out m c _
  blk_ext [idx m hO t]

end Cert.AttnIdeal.Value
-- ==== Proof.Attn.RefValue.lean ====
module

public import proofs.«01_k».proof.Proof.Gen.AttnRefIdeal.Run
public import Idealize.ShloMosaic.Lib.Pipeline.ValueKit
public import proofs.«01_k».proof.Proof.Attn.Spec
public import Idealize.ShloMosaic.Lib.Tactic.CleanTypes
public import Idealize.ShloMosaic.Lib.Routing.OpsOrder

@[expose] public section

set_option maxRecDepth 16384

noncomputable section

namespace Cert.AttnRefIdeal.Value

open Idealize.ShloMosaic Idealize.ShloMosaic.TcCoe Idealize.SL.Sem
open Idealize.ShloMosaic.Pipeline (Dat)
open Cert.AttnRefIdeal Cert.AttnRefIdeal.Gen

open Cert.Attention

theorem unwrap (v : BitVec 32) (hv : v.toNat < 32) :
    Scalar.select (IntOp.cmpi .slt v 0#32) (IntOp.addi v 32#32) v = v := by
  have : v.slt 0#32 = false := by
    have := BitVec.toInt_eq_toNat_cond v
    rw [BitVec.slt]; simp; split at this <;> omega
  simp [Scalar.select, IntOp.cmpi, this]

theorem pick_of_lt (v : BitVec 32) (hv : v.toNat < 32) (f : Fin 32 → EReal) : pick v f = f ⟨v.toNat, hv⟩ := dif_pos hv

theorem toInt_toNat (v : BitVec 32) (hv : v.toNat < 32) : min v.toInt.toNat 31 = v.toNat := by
  have := BitVec.toInt_eq_toNat_cond v
  split at this <;> omega

theorem lookup_old (x : S32x8.Idx → EReal) (i : IVec S8x4x256x1 32) (b : Fin 8) (t : Fin 4) (k : Fin 256) (h : Fin 8)
    (hv : (i (ix4 b t k 0)).toNat < 32) :
    Host.gather gather_S32x8_S8x4x256x1_S8x4x256x8_3_0_n_n_0_3_18 x i (ix4 b t k h) = pick (i (ix4 b t k 0)) fun n => x (ix2 n h) := by
  rw [pick_of_lt _ hv]
  unfold Host.gather
  refine congrArg x (funext fun a => Fin.ext ?_)
  show gather_S32x8_S8x4x256x1_S8x4x256x8_3_0_n_n_0_3_18.start (ix4 b t k h) i a + gather_S32x8_S8x4x256x1_S8x4x256x8_3_0_n_n_0_3_18.batchCoord (ix4 b t k h) a + gather_S32x8_S8x4x256x1_S8x4x256x8_3_0_n_n_0_3_18.offCoord (ix4 b t k h) a = _
  rw [GatherDims.batchCoord_eq_zero _ _ _ (fun h => List.not_mem_nil h), Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x8_S8x4x256x1_S8x4x256x8_3_0_n_n_0_3_18.startIndexMap from List.mem_singleton.mpr rfl)]
    have hsi : gather_S32x8_S8x4x256x1_S8x4x256x8_3_0_n_n_0_3_18.siIdx (ix4 b t k h) ⟨List.idxOf (0 : Fin 2) gather_S32x8_S8x4x256x1_S8x4x256x8_3_0_n_n_0_3_18.startIndexMap,
        List.idxOf_lt_length_iff.2 (List.mem_singleton.mpr rfl)⟩ = ix4 b t k 0 := by
      funext e; refine Fin.ext ?_
      match e with
      | ⟨0, _⟩ => rfl
      | ⟨1, _⟩ => rfl
      | ⟨2, _⟩ => rfl
      | ⟨3, _⟩ => rfl
    rw [hsi]
    exact toInt_toNat _ hv
  · unfold GatherDims.start GatherDims.offCoord
    rw [dif_neg (show ¬ (1 : Fin 2) ∈ gather_S32x8_S8x4x256x1_S8x4x256x8_3_0_n_n_0_3_18.startIndexMap from fun h => absurd (List.mem_singleton.mp h) (by decide)),
      dif_pos (show (1 : Fin 2) ∈ gather_S32x8_S8x4x256x1_S8x4x256x8_3_0_n_n_0_3_18.sKept from (GatherDims.mem_sKept _ _).mpr ⟨fun h => absurd (List.mem_singleton.mp h) (by decide), List.not_mem_nil⟩), Nat.zero_add]
    rfl

theorem lookup_new (x : S32x8.Idx → EReal) (i : IVec S4x4x1 32) (t n : Fin 4) (h : Fin 8)
    (hv : (i (ix3 t n 0)).toNat < 32) :
    Host.gather gather_S32x8_S4x4x1_S4x4x8_2_0_n_n_0_2_18 x i (ix3 t n h) = pick (i (ix3 t n 0)) fun n => x (ix2 n h) := by
  rw [pick_of_lt _ hv]
  unfold Host.gather
  refine congrArg x (funext fun a => Fin.ext ?_)
  show gather_S32x8_S4x4x1_S4x4x8_2_0_n_n_0_2_18.start (ix3 t n h) i a + gather_S32x8_S4x4x1_S4x4x8_2_0_n_n_0_2_18.batchCoord (ix3 t n h) a + gather_S32x8_S4x4x1_S4x4x8_2_0_n_n_0_2_18.offCoord (ix3 t n h) a = _
  rw [GatherDims.batchCoord_eq_zero _ _ _ (fun h => List.not_mem_nil h), Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x8_S4x4x1_S4x4x8_2_0_n_n_0_2_18.startIndexMap from List.mem_singleton.mpr rfl)]
    have hsi : gather_S32x8_S4x4x1_S4x4x8_2_0_n_n_0_2_18.siIdx (ix3 t n h) ⟨List.idxOf (0 : Fin 2) gather_S32x8_S4x4x1_S4x4x8_2_0_n_n_0_2_18.startIndexMap,
        List.idxOf_lt_length_iff.2 (List.mem_singleton.mpr rfl)⟩ = ix3 t n 0 := by
      funext e; refine Fin.ext ?_
      match e with
      | ⟨0, _⟩ => rfl
      | ⟨1, _⟩ => rfl
      | ⟨2, _⟩ => rfl
    rw [hsi]
    exact toInt_toNat _ hv
  · unfold GatherDims.start GatherDims.offCoord
    rw [dif_neg (show ¬ (1 : Fin 2) ∈ gather_S32x8_S4x4x1_S4x4x8_2_0_n_n_0_2_18.startIndexMap from fun h => absurd (List.mem_singleton.mp h) (by decide)),
      dif_pos (show (1 : Fin 2) ∈ gather_S32x8_S4x4x1_S4x4x8_2_0_n_n_0_2_18.sKept from (GatherDims.mem_sKept _ _).mpr ⟨fun h => absurd (List.mem_singleton.mp h) (by decide), List.not_mem_nil⟩), Nat.zero_add]
    rfl

theorem word_old (B : IVec S8x4x256 32) (b : Fin 8) (t : Fin 4) (k : Fin 256) (hB : (B (ix3 b t k)).toNat < 32) :
    (broadcastInDim S8x4x256x1 ![0, 1, 2] bcast_S8x4x256_S8x4x256x1_0_1_2
      (select (cmpi CmpIPredicate.slt B (broadcastInDim S8x4x256 ![] bcast_S_S8x4x256 (constantI S_ 32 0#32)))
        (addi B (broadcastInDim S8x4x256 ![] bcast_S_S8x4x256 (constantI S_ 32 32#32))) B) : IVec S8x4x256x1 32) (ix4 b t k 0) = B (ix3 b t k) := by
  pointwise
  exact unwrap _ hB

theorem word_new (B : IVec S4x4 32) (t n : Fin 4) (hB : (B (ix2 t n)).toNat < 32) :
    (broadcastInDim S4x4x1 ![0, 1] bcast_S4x4_S4x4x1_0_1
      (select (cmpi CmpIPredicate.slt B (broadcastInDim S4x4 ![] bcast_S_S4x4 (constantI S_ 32 0#32)))
        (addi B (broadcastInDim S4x4 ![] bcast_S_S4x4 (constantI S_ 32 32#32))) B) : IVec S4x4x1 32) (ix3 t n 0) = B (ix2 t n) := by
  pointwise
  exact unwrap _ hB

variable (V0 : Valuation τ sig (Elt Ideal))

theorem v30_apply (b : Fin 8) (t : Fin 4) (k : Fin 256) :
    (res_main_v30 V0 : IVec S8x4x256 32) (ix3 b t k)
      = bucketOf (IntOp.subi (IntOp.addi 16384#32 (BitVec.ofNat 32 t.val)) ((V0 (Proc.devRef .tc main_arg5) : IVec S8x4x256 32) (ix3 b t k))) := by
  unfold res_main_v30 res_main_v12 res_main_v0
  clean_types
  pointwise
  rfl

theorem v76_apply (t n : Fin 4) :
    (res_main_v76 V0 : IVec S4x4 32) (ix2 t n) = bucketOf (IntOp.subi (BitVec.ofNat 32 t.val) (BitVec.ofNat 32 n.val)) := by
  unfold res_main_v76 res_main_v58 res_main_v0
  clean_types
  pointwise
  rfl

/-- The token's logits, of the argument arrays. -/
abbrev Z (b : Fin 8) (t : Fin 4) (h : Fin 8) : Fin 260 → EReal :=
  logits (V0 (Proc.devRef .tc main_arg0)) (V0 (Proc.devRef .tc main_arg1)) (V0 (Proc.devRef .tc main_arg3)) (V0 (Proc.devRef .tc main_arg5))
    (V0 (Proc.devRef .tc main_arg6)) (V0 (Proc.devRef .tc main_arg7)) (V0 (Proc.devRef .tc main_arg8)) (V0 (Proc.devRef .tc main_arg9)) b t h

theorem v93_apply (b : Fin 8) (t : Fin 4) (h : Fin 8) (k : Fin 260) :
    (res_main_v93 V0 : FVec Ideal S8x4x8x260 .f32) (ix4 b t h k) = Z V0 b t h k := by
  unfold res_main_v93 res_main_v2
  have h30 := v30_apply V0
  have h76 := v76_apply V0
  generalize res_main_v30 V0 = B at h30 ⊢
  generalize res_main_v76 V0 = B' at h76 ⊢
  clean_types
  pointwise
  by_cases hk : k.val < 256
  · have hl : (B (ix3 b t ⟨k.val, hk⟩)).toNat < 32 := by rw [h30]; exact bucketOf_lt _
    rw [dif_pos hk, lookup_old _ _ _ _ _ _ (by rw [word_old _ _ _ _ hl]; exact hl), word_old _ _ _ _ hl, h30]
    unfold Z logits
    rw [dif_pos hk]
    unfold oldLogit
    rw [← ninf]
    rfl
  · have hl : (B' (ix2 t ⟨k.val - 256, by omega⟩)).toNat < 32 := by rw [h76]; exact bucketOf_lt _
    rw [dif_neg hk, lookup_new _ _ _ _ _ (by rw [word_new _ _ _ hl]; exact hl), word_new _ _ _ hl, h76]
    unfold Z logits
    rw [dif_neg hk]
    unfold freshLogit
    rw [← ninf]
    rfl

theorem v104_apply (b : Fin 8) (t : Fin 4) (h : Fin 8) (k : Fin 260) :
    (res_main_v104 V0 : FVec Ideal S8x4x8x260 .f32) (ix4 b t h k) = weight (Z V0 b t h) k := by
  unfold res_main_v104 res_main_v100
  have h93 := v93_apply V0
  generalize res_main_v93 V0 = B at h93 ⊢
  clean_types
  pointwise
  simp only [h93, ninf]
  rw [fold_max_eq, max_eq_right bot_le]
  rfl

/-- The result at a token's head. -/
theorem result_apply (w : Fin 32) (h : Fin 8) (d : Fin 128) :
    (show EReal from (shapeCast S32x8x128 (addf (Host.dotGeneral (φ₁ := .f32) (φ₂ := .f32) dot_S8x4x8x256_S8x4x256x8x128_S8x4x8x128_3_2_n_4_012_013 none (extractStridedSlice S8x4x8x256 ![0, 0, 0, 0] (res_main_v104 V0) slices_S8x4x8x260_S8x4x8x256_0_0_0_0) (V0 (Proc.devRef .tc main_arg4))) (transpose S8x4x8x128 [0, 3, 1, 2] (Host.dotGeneral (φ₁ := .f32) (φ₂ := .f32) dot_S8x4x8x128_S8x4x8x4_S8x8x128x4_1_3_3_1_02_02 none (V0 (Proc.devRef .tc main_arg2)) (extractStridedSlice S8x4x8x4 ![0, 0, 0, 256] (res_main_v104 V0) slices_S8x4x8x260_S8x4x8x4_0_0_0_256)) transposes_S8x8x128x4_S8x4x8x128_0_3_1_2)) shapeCasts_S8x4x8x128_S32x8x128 : FVec Ideal S32x8x128 .f32) (ix3 w h d))
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9)) ⟨w.val / 4, by omega⟩ ⟨w.val % 4, by omega⟩ h d := by
  have h104 := v104_apply V0
  generalize res_main_v104 V0 = B at h104 ⊢
  clean_types
  pointwise
  simp only [h104]
  rfl

/-- The reference's result, as its operations compose it. -/
def resultOf (V0 : Valuation τ sig (Elt Ideal)) : FVec Ideal S32x8x128 .f32 :=
  shapeCast S32x8x128 (addf (Host.dotGeneral (φ₁ := .f32) (φ₂ := .f32) dot_S8x4x8x256_S8x4x256x8x128_S8x4x8x128_3_2_n_4_012_013 none (extractStridedSlice S8x4x8x256 ![0, 0, 0, 0] (res_main_v104 V0) slices_S8x4x8x260_S8x4x8x256_0_0_0_0) (V0 (Proc.devRef .tc main_arg4))) (transpose S8x4x8x128 [0, 3, 1, 2] (Host.dotGeneral (φ₁ := .f32) (φ₂ := .f32) dot_S8x4x8x128_S8x4x8x4_S8x8x128x4_1_3_3_1_02_02 none (V0 (Proc.devRef .tc main_arg2)) (extractStridedSlice S8x4x8x4 ![0, 0, 0, 256] (res_main_v104 V0) slices_S8x4x8x260_S8x4x8x4_0_0_0_256)) transposes_S8x8x128x4_S8x4x8x128_0_3_1_2)) shapeCasts_S8x4x8x128_S32x8x128

theorem resultOf_apply (w : Fin 32) (h : Fin 8) (d : Fin 128) :
    (show EReal from resultOf V0 (ix3 w h d))
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9)) ⟨w.val / 4, by omega⟩ ⟨w.val % 4, by omega⟩ h d :=
  result_apply V0 w h d

end Cert.AttnRefIdeal.Value
-- ==== Proof.Attn.Pre.lean ====
/- What the precondition says of the arguments, element by element. -/
module

public import proofs.«01_k».proof.Proof.Gen.Pre_selection
public import proofs.«01_k».proof.Proof.Attn.Spec
public import Idealize.ShloMosaic.Lib.Pipeline.ValueKit
public import Idealize.ShloMosaic.Lib.ReduceAll
public import Idealize.ShloMosaic.Lib.Routing.OpsOrder

@[expose] public section

set_option maxRecDepth 16384

noncomputable section

namespace Cert.Pre_selection.Value

open Idealize.ShloMosaic Cert.Attention Cert.Pre_selection Cert.Pre_selection.Facts

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

theorem pinf : Ideal.ofBits .f32 2139095040#32 = ⊤ := by simp [Ideal.ofBits, Ideal.ieee]

theorem real_of_abs (x : EReal) (h : max x (-x) < ⊤) : ∃ r : ℝ, x = r := by
  induction x with
  | bot => simp at h
  | top => simp at h
  | coe r => exact ⟨r, rfl⟩

theorem good [Facts] (a0 a1 a2 : FVec Ideal S8x4x8x128 .f32) (a3 a4 : FVec Ideal S8x4x256x8x128 .f32) (a5 : IVec S8x4x256 32) (a6 : IVec S8x4 32)
    (a7 : IVec S8x4x4 32) (a8 : IVec S8x4 32) (a9 : FVec Ideal S32x8 .f32)
    (h : fn (F := Ideal) a0 a1 a2 a3 a4 a5 a6 a7 a8 a9 = fun _ => 1#1) : Good a0 a1 a3 a6 a7 a8 a9 := by
  have h0 : ∀ b t, fn (F := Ideal) a0 a1 a2 a3 a4 a5 a6 a7 a8 a9 (ix2 b t) = 1#1 := fun b t => congrFun h _
  dsimp only [fn, fn_part1, fn_part2] at h0
  simp only [andi, ori, cmpi, broadcastInDim, constantI, and_one, or_one] at h0
  have hr := (h0 0 0).2
  have fin (s : Shape) (x : FVec Ideal s .f32) (hb : S_.BroadcastsInDim s (![] : Fin 0 → Fin s.rank)) (i : s.Idx)
      (e : (cmpf CmpFPredicate.olt (Host.absf x) (broadcastInDim s ![] hb (constant S_ FTy.f32 2139095040#32))) i = 1#1) :
      ∃ r : ℝ, (x i : EReal) = r := by
    refine real_of_abs _ ?_
    have e' : BitVec.ofBool (decide (max (x i : EReal) (-(x i : EReal)) < Ideal.ofBits .f32 2139095040#32)) = 1#1 := e
    rw [pinf] at e'
    by_contra hn
    rw [decide_eq_false hn] at e'
    exact absurd e' (by decide)
  haveI : Subsingleton S_.Idx := ⟨fun a b => funext fun d => d.elim0⟩
  refine ⟨fun i => ?_, fun i => ?_, fun i => ?_, fun i => ?_, fun b t => ?_, fun b t => ?_, fun b t => ?_⟩
  · exact fin _ _ _ _ (Host.reduce_andi_all _ _ _ _ _ hr.1.1.1 i)
  · exact fin _ _ _ _ (Host.reduce_andi_all _ _ _ _ _ hr.1.1.2 i)
  · exact fin _ _ _ _ (Host.reduce_andi_all _ _ _ _ _ hr.1.2 i)
  · exact fin _ _ _ _ (Host.reduce_andi_all _ _ _ _ _ hr.2 i)
  · obtain ⟨⟨⟨-, h1⟩, h2⟩, -⟩ := (h0 b t).1
    have e1 := IntOp.cmpi_sge.1 h1
    have e2 := IntOp.cmpi_sle.1 h2
    rw [show (0#32 : BitVec 32).toInt = 0 by decide] at e1
    rw [show (256#32 : BitVec 32).toInt = 256 by decide] at e2
    have e3 := BitVec.toInt_eq_toNat_cond (a6 (ix2 b t))
    refine ⟨(a6 (ix2 b t)).toNat, ?_, by simp⟩
    split at e3 <;> omega
  · obtain ⟨⟨⟨h1, -⟩, -⟩, -⟩ := (h0 b t).1
    have e1 := IntOp.cmpi_sgt.1 h1
    rcases BitVec.eq_zero_or_eq_one (IntOp.cmpi .sge 2147483648#32 (a8 (ix2 b t))) with e | e
    · exact e
    · exact absurd (IntOp.cmpi_sge.1 e) (not_le.2 e1)
  · obtain ⟨⟨⟨-, h1⟩, h2⟩, h3⟩ := (h0 b t).1
    rcases h3 with h3 | h3
    · refine Or.inl fun e => ?_
      rw [e] at h3
      exact absurd h3 (by decide)
    · refine Or.inr ?_
      revert h3
      pointwise
      rw [Routing.fold_ori]
      rintro ⟨n, -, hn⟩
      exact ⟨n, hn⟩

end Cert.Pre_selection.Value
-- ==== Proof.Attn.Claims.lean ====
/- The claims about the sample's sparse attention, each under the name the certificate gives it. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Attn.Bridge
public import proofs.«01_k».proof.Proof.Attn.RefValue
public import proofs.«01_k».proof.Proof.Attn.Pre

@[expose] public section

set_option maxRecDepth 16384

noncomputable section

namespace Cert.Attention

open Idealize.ShloMosaic Idealize.SL.Sem

theorem frame : Cert.quiescent_Attn := fun m g _ => Cert.Attn.Gen.frame m g trivial

theorem frame_ideal : Cert.quiescent_AttnIdeal := fun m g _ => Cert.AttnIdeal.Gen.frame m g trivial

theorem frame_ideal_pre : Cert.quiescent_AttnIdeal_pre_selection :=
  fun m g _ => Cert.AttnIdeal.Gen.frame m g trivial

theorem frame_ref : Cert.quiescent_AttnRefIdeal := fun m g _ =>
  (θ_run Cert.AttnRefIdeal.defs _ _).mono
    (fun r h => ⟨fun c => (h c).2, sem_eq_zero_of_no_sems (by decide) r.2⟩)
    (Cert.AttnRefIdeal.Value.run (F := Ideal) m g)

theorem frame_ref_pre : Cert.quiescent_AttnRefIdeal_pre_selection := fun m g _ => frame_ref m g trivial

theorem preserves : Cert.preserves_Attn_AttnIdeal :=
  ⟨IdealRules.named_const.statement Cert.AttnIdeal.κ "log2e" .f32 0x3FB8AA3B#32
      (((Real.log 2)⁻¹ : ℝ) : EReal) rfl,
    IdealRules.named_const.statement Cert.AttnIdeal.κ "mask" .f32 0xF149F2CA#32 ⊥ rfl⟩

/-- What the kernel leaves in its result. -/
theorem kernel_out (m : (ℓ : Loc Cert.AttnIdeal.nD Cert.AttnIdeal.τ Cert.AttnIdeal.sig) → Buf (Elt Ideal) ℓ)
    (g : Dev Cert.AttnIdeal.nD → PrngReg) (hpre : Cert.Pre_AttnIdeal_selection m) :
    θ_run (Cert.AttnIdeal.defs (F := Ideal)) (onTc (τ := Cert.AttnIdeal.τ) (Cert.AttnIdeal.main (F := Ideal)))
      ⟨m, fun _ => 0, g⟩ (fun r => ∀ c : Dev Cert.AttnIdeal.nD,
        r.2.mem ((c.tc : Thread Cert.AttnIdeal.nD Cert.AttnIdeal.τ).loc Cert.AttnIdeal.main_v29)
          = Cert.AttnIdeal.Value.out m c) :=
  (θ_run Cert.AttnIdeal.defs _ _).mono
    (fun r h c => ((h c).1 9).trans
      (Cert.AttnIdeal.Value.arr m trivial c (Cert.Pre_selection.Value.good _ _ _ _ _ _ _ _ _ _ (hpre c))))
    (Cert.AttnIdeal.Gen.run_main m g trivial)

/-- What the reference leaves in its result, over the kernel's argument arrays. -/
theorem ref_out (m : (ℓ : Loc Cert.AttnIdeal.nD Cert.AttnIdeal.τ Cert.AttnIdeal.sig) → Buf (Elt Ideal) ℓ)
    (c : Dev Cert.AttnIdeal.nD) (V : Valuation Cert.AttnRefIdeal.τ Cert.AttnRefIdeal.sig (Elt Ideal))
    (h0 : V (Proc.devRef .tc Cert.AttnRefIdeal.main_arg0) = Cert.AttnIdeal.Value.A0 m c)
    (h1 : V (Proc.devRef .tc Cert.AttnRefIdeal.main_arg1) = Cert.AttnIdeal.Value.A1 m c)
    (h2 : V (Proc.devRef .tc Cert.AttnRefIdeal.main_arg2) = Cert.AttnIdeal.Value.A2 m c)
    (h3 : V (Proc.devRef .tc Cert.AttnRefIdeal.main_arg3) = Cert.AttnIdeal.Value.A3 m c)
    (h4 : V (Proc.devRef .tc Cert.AttnRefIdeal.main_arg4) = Cert.AttnIdeal.Value.A4 m c)
    (h5 : V (Proc.devRef .tc Cert.AttnRefIdeal.main_arg5) = Cert.AttnIdeal.Value.A5 m c)
    (h6 : V (Proc.devRef .tc Cert.AttnRefIdeal.main_arg6) = Cert.AttnIdeal.Value.A6 m c)
    (h7 : V (Proc.devRef .tc Cert.AttnRefIdeal.main_arg7) = Cert.AttnIdeal.Value.A7 m c)
    (h8 : V (Proc.devRef .tc Cert.AttnRefIdeal.main_arg8) = Cert.AttnIdeal.Value.A8 m c)
    (h9 : V (Proc.devRef .tc Cert.AttnRefIdeal.main_arg9) = Cert.AttnIdeal.Value.A9 m c) :
    Cert.AttnRefIdeal.Value.resultOf V = Cert.AttnIdeal.Value.out m c := by
  funext y
  refine (congrArg (Cert.AttnRefIdeal.Value.resultOf V) (eq_ix3 y)).trans ?_
  refine (Cert.AttnRefIdeal.Value.resultOf_apply V (y 0) (y 1) (y 2)).trans ?_
  rw [h0, h1, h2, h3, h4, h5, h6, h7, h8, h9]
  rfl

theorem algebraic : Cert.algebraic_AttnIdeal_AttnRefIdeal_pre_selection := by
  intro m g m' g' hpre hargs
  refine ⟨fun c => Cert.AttnIdeal.Value.out m c, ?_, ?_⟩
  · exact (θ_run Cert.AttnIdeal.defs _ _).mono (fun r h c => ⟨h.1 c, h.2 c⟩)
      (θ_run_and (kernel_out m g hpre) (Cert.AttnIdeal.Gen.unchanged m g trivial))
  · exact (θ_run Cert.AttnRefIdeal.defs _ _).mono
      (fun r h c => ⟨(h c).1.trans (ref_out m c (StableHlo.launchContents m' c) (hargs c).1 (hargs c).2.1
        (hargs c).2.2.1 (hargs c).2.2.2.1 (hargs c).2.2.2.2.1 (hargs c).2.2.2.2.2.1
        (hargs c).2.2.2.2.2.2.1 (hargs c).2.2.2.2.2.2.2.1 (hargs c).2.2.2.2.2.2.2.2.1
        (hargs c).2.2.2.2.2.2.2.2.2), (h c).2⟩)
      (Cert.AttnRefIdeal.Value.run m' g')

end Cert.Attention

end
-- ==== Proof.Mlp.Points.lean ====
module

public import proofs.«01_k».proof.Proof.Gen.MlpIdeal.Frame
public import proofs.«01_k».proof.Proof.Gen.MlpIdeal.Skeleton

/-! What the runs of the feed-forward kernel's body are stated over: when each of its six branches is taken, as
    arithmetic of the grid point, and the memrefs the pipeline passes. -/

@[expose] public section

set_option maxRecDepth 16384

noncomputable section

namespace Cert.MlpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpIdeal.Gen

variable {F : FTy → Type} [FloatOps F]

local notation "𝕄" => MT nD τ sig Unit (Elt F) ℕ (UR sig nD τ) ℕ

/-- The body's branch 1 is taken where a row block begins. -/
abbrev first (i : grid0.Coords) : Prop := k0_cond1 i = 1#1
theorem first_iff (t : Fin cfg0.N) : first (grid0.coords t) ↔ t.val % 16 = 0 := by
  revert t; exact (by decide +kernel : ∀ t : Fin grid0.N, first (grid0.coords t) ↔ t.val % 16 = 0)

/-- The body's branch 2 is taken where the sampled rows begin. -/
abbrev sampleFirst (i : grid0.Coords) : Prop := k0_cond2 i = 1#1
theorem sampleFirst_iff (t : Fin cfg0.N) : sampleFirst (grid0.coords t) ↔ t.val % 128 = 112 := by
  revert t; exact (by decide +kernel : ∀ t : Fin grid0.N, sampleFirst (grid0.coords t) ↔ t.val % 128 = 112)

/-- The body's branch 3 is taken where all row blocks but the last. -/
abbrev early (i : grid0.Coords) : Prop := k0_cond3 i = 1#1
theorem early_iff (t : Fin cfg0.N) : early (grid0.coords t) ↔ t.val < 112 := by
  revert t; exact (by decide +kernel : ∀ t : Fin grid0.N, early (grid0.coords t) ↔ t.val < 112)

/-- The body's branch 4 is taken where the last row block, which takes the sampled rows along. -/
abbrev joint (i : grid0.Coords) : Prop := k0_cond4 i = 1#1
theorem joint_iff (t : Fin cfg0.N) : joint (grid0.coords t) ↔ 112 ≤ t.val := by
  revert t; exact (by decide +kernel : ∀ t : Fin grid0.N, joint (grid0.coords t) ↔ 112 ≤ t.val)

/-- The body's branch 5 is taken where a row block ends. -/
abbrev last (i : grid0.Coords) : Prop := k0_cond5 i = 1#1
theorem last_iff (t : Fin cfg0.N) : last (grid0.coords t) ↔ t.val % 16 = 15 := by
  revert t; exact (by decide +kernel : ∀ t : Fin grid0.N, last (grid0.coords t) ↔ t.val % 16 = 15)

/-- The body's branch 6 is taken where the sampled rows end. -/
abbrev sampleLast (i : grid0.Coords) : Prop := k0_cond6 i = 1#1
theorem sampleLast_iff (t : Fin cfg0.N) : sampleLast (grid0.coords t) ↔ t.val % 128 = 127 := by
  revert t; exact (by decide +kernel : ∀ t : Fin grid0.N, sampleLast (grid0.coords t) ↔ t.val % 128 = 127)

/-- Window `w`'s staging memref at point `t`, and that it is a whole buffer. -/
abbrev mem0 (t : Fin cfg0.N) : Memref sig .tc .vmem S1024x2048 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S32x2048 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x2048 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x2048 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S2048x512 .bf16 := win0_4.stage (cfg0.slots t 4)
abbrev whole4 (t : Fin cfg0.N) : (mem4 t).IsWhole := hstage0_4 ((cfg0.slots t 4).cast nbuf0_4)
abbrev mem5 (t : Fin cfg0.N) : Memref sig .tc .vmem S512x2048 .bf16 := win0_5.stage (cfg0.slots t 5)
abbrev whole5 (t : Fin cfg0.N) : (mem5 t).IsWhole := hstage0_5 ((cfg0.slots t 5).cast nbuf0_5)
abbrev mem6 (t : Fin cfg0.N) : Memref sig .tc .vmem S1024x2048 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S32x2048 .f32 := win0_7.stage (cfg0.slots t 7)
abbrev whole7 (t : Fin cfg0.N) : (mem7 t).IsWhole := hstage0_7 ((cfg0.slots t 7).cast nbuf0_7)

/-- The buffer of normed rows. -/
abbrev rows : Memref sig .tc .vmem S1056x2048 .bf16 := Memref.whole cc0_scratch0

/-- What the loop hands the body beside the windows: the buffer of normed rows at some contents, and the generator's
    register. -/
theorem rest_eq (c : Dev nD) :
    (Pipeline.ΦA spec0 c : sProp 𝕄)
      = iprop(iprop((∃ d, owns (c : Thread nD τ) rows fullShare d)) ∗ (∃ r, prngReg c r)) := by
  unfold Pipeline.ΦA; rw [scopedRest0_eq]; simp only [rows, owns_whole]; try rfl

end Cert.MlpIdeal

end
-- ==== Proof.Mlp.Body.lean ====
module

public import proofs.«01_k».proof.Proof.Mlp.Points
public import Idealize.ShloMosaic.Lib.VecWindow

/-! The body of the feed-forward kernel at one grid point: what it leaves in its two result windows and in the buffer of
    normed rows, given what it finds there, as the body's own branches order it. -/

@[expose] public section

set_option maxRecDepth 16384

noncomputable section

namespace Cert.MlpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpIdeal.Gen

variable {F : FTy → Type} [FloatOps F]

local notation "𝕄" => MT nD τ sig Unit (Elt F) ℕ (UR sig nD τ) ℕ

/-- The first 1024 rows of the buffer, and the 32 after them. -/
abbrev upper (s : Vec F S1056x2048 .bf16) : Vec F S1024x2048 .bf16 :=
  VecWindow.window s ![0, 0] S1024x2048.size inb_S1056x2048_S1024x2048_0_0
/-- The buffer with its first 1024 rows set to `h`. -/
abbrev setUpper (s : Vec F S1056x2048 .bf16) (h : Vec F S1024x2048 .bf16) : Vec F S1056x2048 .bf16 :=
  VecWindow.put s ![0, 0] S1024x2048.size h
/-- The buffer with its last 32 rows set to `h`. -/
abbrev setLower (s : Vec F S1056x2048 .bf16) (h : Vec F S32x2048 .bf16) : Vec F S1056x2048 .bf16 :=
  VecWindow.put s ![1024, 0] S32x2048.size h

theorem upper_setUpper (s : Vec F S1056x2048 .bf16) (h : Vec F S1024x2048 .bf16) : upper (setUpper s h) = h :=
  VecWindow.window_put_same _ _ _ _ _

/-- The two parts together are the whole buffer: what it held before does not show. -/
theorem setLower_setUpper (s s' : Vec F S1056x2048 .bf16) (h : Vec F S1024x2048 .bf16) (k : Vec F S32x2048 .bf16) :
    setLower (setUpper s h) k = setLower (setUpper s' h) k := by
  funext j
  unfold setLower setUpper VecWindow.put
  split
  · rfl
  · split
    · rfl
    · rename_i h1 h2
      have e0 : (j 0).val < 1056 := (j 0).isLt
      have e1 : (j 1).val < 2048 := (j 1).isLt
      by_cases h : (j 0).val < 1024
      · exact absurd (Fin.forall_fin_two.mpr ⟨⟨Nat.zero_le _, by simpa using h⟩, ⟨Nat.zero_le _, by simpa using e1⟩⟩) h2
      · exact absurd (Fin.forall_fin_two.mpr ⟨⟨by simpa using h, by show (j 0).val < 1024 + 32; omega⟩, ⟨Nat.zero_le _, by simpa using e1⟩⟩) h1

section Body

variable (i : grid0.Coords) (x0 : Vec F S1024x2048 .f32) (x1 : Vec F S32x2048 .f32) (x2 : Vec F S1x2048 .f32) (x3 : Vec F S1x2048 .f32)
  (x4 : Vec F S2048x512 .bf16) (x5 : Vec F S512x2048 .bf16) (y : Vec F S1024x2048 .f32) (z : Vec F S32x2048 .f32) (s : Vec F S1056x2048 .bf16)

/-- The buffer of normed rows after the body: its first rows renewed where a row block begins, its last where the
    sampled rows begin. -/
def rowsAfter : Vec F S1056x2048 .bf16 :=
  let s1 := if first i then setUpper s (k0_pay1 x0 x2) else s
  if sampleFirst i then setLower s1 (k0_pay3 x1 x2) else s1

/-- The first result window after the body: cleared where a row block begins, one step of the sum added, and finished
    where the block ends. -/
def outAfter : Vec F S1024x2048 .f32 :=
  let s2 := rowsAfter i x0 x1 x2 s
  let y1 := if first i then k0_pay2 else y
  let y2 := if early i then k0_pay5 y1 (upper s2) x4 x5 else y1
  let y3 := if joint i then k0_pay7 s2 x4 x5 y2 else y2
  if last i then k0_pay9 x0 y3 x3 else y3

/-- The second result window after the body: touched at the last row block only. -/
def sampleAfter : Vec F S32x2048 .f32 :=
  let s2 := rowsAfter i x0 x1 x2 s
  let z1 := if sampleFirst i then k0_pay4 else z
  let z2 := if joint i then k0_pay8 s2 x4 x5 z1 else z1
  if sampleLast i then k0_pay10 x1 z2 x3 else z2

end Body

/-- The ways the six branches go together over the grid. -/
def Ways (i : grid0.Coords) : Prop :=
  (first i ∧ ¬sampleFirst i ∧ early i ∧ ¬joint i ∧ ¬last i ∧ ¬sampleLast i)
  ∨ (¬first i ∧ ¬sampleFirst i ∧ early i ∧ ¬joint i ∧ ¬last i ∧ ¬sampleLast i)
  ∨ (¬first i ∧ ¬sampleFirst i ∧ early i ∧ ¬joint i ∧ last i ∧ ¬sampleLast i)
  ∨ (first i ∧ sampleFirst i ∧ ¬early i ∧ joint i ∧ ¬last i ∧ ¬sampleLast i)
  ∨ (¬first i ∧ ¬sampleFirst i ∧ ¬early i ∧ joint i ∧ ¬last i ∧ ¬sampleLast i)
  ∨ (¬first i ∧ ¬sampleFirst i ∧ ¬early i ∧ joint i ∧ last i ∧ sampleLast i)

/-- At every point the branches go one of these ways. -/
theorem ways (t : Fin cfg0.N) : Ways (grid0.coords t) := by
  have ht : t.val < 128 := Nat.lt_of_lt_of_eq t.isLt N_0
  unfold Ways
  simp only [first_iff, sampleFirst_iff, early_iff, joint_iff, last_iff, sampleLast_iff]
  omega

set_option maxHeartbeats 1200000 in
/-- The body's triple on whole memrefs at any contents. -/
theorem body_run [∀ e, Nonempty (Elt F e)] (c : Dev nD) (i : grid0.Coords) (arg2 : Memref sig .tc .vmem S1024x2048 .f32) (harg2 : arg2.IsWhole) (arg3 : Memref sig .tc .vmem S32x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S32x2048 .f32) (harg9 : arg9.IsWhole) (arg10 : Memref sig .tc .vmem S1056x2048 .bf16) (harg10 : arg10.IsWhole) (hi : Ways i)
    (x0 : Vec F S1024x2048 .f32) (x1 : Vec F S32x2048 .f32) (x2 : Vec F S1x2048 .f32) (x3 : Vec F S1x2048 .f32) (x4 : Vec F S2048x512 .bf16) (x5 : Vec F S512x2048 .bf16) (y : Vec F S1024x2048 .f32) (z : Vec F S32x2048 .f32) (s : Vec F S1056x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare z ∗ owns (c : Thread nD τ) arg10 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outAfter i x0 x1 x2 x3 x4 x5 y s) ∗ owns (c : Thread nD τ) arg9 fullShare (sampleAfter i x0 x1 x2 x3 x4 x5 z s)
          ∗ owns (c : Thread nD τ) arg10 fullShare (rowsAfter i x0 x1 x2 s)) -∗ K ⟨⟩))
    ⊢ wp frame (wpE (defs₀ (F := F)) Variants.none c none) E (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
  have c1 : ∀ (a0 b0 : Vec F S1024x2048 .f32) (a1 b1 : Vec F S1x2048 .f32), a0 = b0 → a1 = b1 → k0_pay1 (F := F) a0 a1 = k0_pay1 b0 b1 := by
    intros; subst_vars; rfl
  have c3 : ∀ (a0 b0 : Vec F S32x2048 .f32) (a1 b1 : Vec F S1x2048 .f32), a0 = b0 → a1 = b1 → k0_pay3 (F := F) a0 a1 = k0_pay3 b0 b1 := by
    intros; subst_vars; rfl
  have c5 : ∀ (a0 b0 : Vec F S1024x2048 .f32) (a1 b1 : Vec F S1024x2048 .bf16) (a2 b2 : Vec F S2048x512 .bf16) (a3 b3 : Vec F S512x2048 .bf16), a0 = b0 → a1 = b1 → a2 = b2 → a3 = b3 → k0_pay5 (F := F) a0 a1 a2 a3 = k0_pay5 b0 b1 b2 b3 := by
    intros; subst_vars; rfl
  have c7 : ∀ (a0 b0 : Vec F S1056x2048 .bf16) (a1 b1 : Vec F S2048x512 .bf16) (a2 b2 : Vec F S512x2048 .bf16) (a3 b3 : Vec F S1024x2048 .f32), a0 = b0 → a1 = b1 → a2 = b2 → a3 = b3 → k0_pay7 (F := F) a0 a1 a2 a3 = k0_pay7 b0 b1 b2 b3 := by
    intros; subst_vars; rfl
  have c8 : ∀ (a0 b0 : Vec F S1056x2048 .bf16) (a1 b1 : Vec F S2048x512 .bf16) (a2 b2 : Vec F S512x2048 .bf16) (a3 b3 : Vec F S32x2048 .f32), a0 = b0 → a1 = b1 → a2 = b2 → a3 = b3 → k0_pay8 (F := F) a0 a1 a2 a3 = k0_pay8 b0 b1 b2 b3 := by
    intros; subst_vars; rfl
  have c9 : ∀ (a0 b0 : Vec F S1024x2048 .f32) (a1 b1 : Vec F S1024x2048 .f32) (a2 b2 : Vec F S1x2048 .f32), a0 = b0 → a1 = b1 → a2 = b2 → k0_pay9 (F := F) a0 a1 a2 = k0_pay9 b0 b1 b2 := by
    intros; subst_vars; rfl
  have c10 : ∀ (a0 b0 : Vec F S32x2048 .f32) (a1 b1 : Vec F S32x2048 .f32) (a2 b2 : Vec F S1x2048 .f32), a0 = b0 → a1 = b1 → a2 = b2 → k0_pay10 (F := F) a0 a1 a2 = k0_pay10 b0 b1 b2 := by
    intros; subst_vars; rfl
  have upper_cov : ∀ (w : Vec F S1024x2048 .bf16) (h : ∀ a, (![0, 0] : Fin 2 → ℕ) a + S1024x2048.size a ≤ S1056x2048.size a) (L : List (View.Piece (Elt F) S1056x2048 .bf16)),
      arg10.view.readCov (⟨Rect.unit ![0, 0] S1024x2048.size h, w⟩ :: L) (Rect.unit (s := S1056x2048) ![0, 0] S1024x2048.size inb_S1056x2048_S1024x2048_0_0).toLoadRect = w := by
    intro w h L
    refine (View.readAt_unit arg10.view _ _ rfl _).trans ?_
    rw [View.read_writes_cons_put arg10.view _ _ _ _ rfl]
    exact VecWindow.window_put_same _ _ _ _ _
  have all_cov : ∀ (w : Vec F S1024x2048 .bf16) (w' : Vec F S32x2048 .bf16) (L : List (View.Piece (Elt F) S1056x2048 .bf16)) (s : Vec F S1056x2048 .bf16),
      arg10.view.readCov (⟨Rect.unit ![1024, 0] S32x2048.size inb_S1056x2048_S32x2048_1024_0, w'⟩ :: ⟨Rect.unit ![0, 0] S1024x2048.size inb_S1056x2048_S1024x2048_0_0, w⟩ :: L)
        (Rect.unit (s := S1056x2048) ![0, 0] S1056x2048.size inb_S1056x2048_S1056x2048_0_0).toLoadRect = setLower (setUpper s w) w' := by
    intro w w' L s
    refine (View.readAt_full arg10.view _ _).trans ?_
    rw [View.read_writes_cons_put arg10.view _ _ _ _ rfl, View.read_writes_cons_put arg10.view _ _ _ _ rfl]
    exact setLower_setUpper _ _ _ _
  have rd2 : ∀ X : Vec F S1024x2048 .f32, View.readAt (Elt F) arg2.view (Rect.unit (s := S1024x2048) ![0, 0] S1024x2048.size inb_S1024x2048_S1024x2048_0_0).toLoadRect (harg2.unread X) = X :=
    fun X => (View.readAt_full _ _ _).trans (harg2.read_unread X)
  have rd3 : ∀ X : Vec F S32x2048 .f32, View.readAt (Elt F) arg3.view (Rect.unit (s := S32x2048) ![0, 0] S32x2048.size inb_S32x2048_S32x2048_0_0).toLoadRect (harg3.unread X) = X :=
    fun X => (View.readAt_full _ _ _).trans (harg3.read_unread X)
  have rd4 : ∀ X : Vec F S1x2048 .f32, View.readAt (Elt F) arg4.view (Rect.unit (s := S1x2048) ![0, 0] S1x2048.size inb_S1x2048_S1x2048_0_0).toLoadRect (harg4.unread X) = X :=
    fun X => (View.readAt_full _ _ _).trans (harg4.read_unread X)
  have rd5 : ∀ X : Vec F S1x2048 .f32, View.readAt (Elt F) arg5.view (Rect.unit (s := S1x2048) ![0, 0] S1x2048.size inb_S1x2048_S1x2048_0_0).toLoadRect (harg5.unread X) = X :=
    fun X => (View.readAt_full _ _ _).trans (harg5.read_unread X)
  have rd6 : ∀ X : Vec F S2048x512 .bf16, View.readAt (Elt F) arg6.view (Rect.unit (s := S2048x512) ![0, 0] S2048x512.size inb_S2048x512_S2048x512_0_0).toLoadRect (harg6.unread X) = X :=
    fun X => (View.readAt_full _ _ _).trans (harg6.read_unread X)
  have rd7 : ∀ X : Vec F S512x2048 .bf16, View.readAt (Elt F) arg7.view (Rect.unit (s := S512x2048) ![0, 0] S512x2048.size inb_S512x2048_S512x2048_0_0).toLoadRect (harg7.unread X) = X :=
    fun X => (View.readAt_full _ _ _).trans (harg7.read_unread X)
  have rd8 : ∀ X : Vec F S1024x2048 .f32, View.readAt (Elt F) arg8.view (Rect.unit (s := S1024x2048) ![0, 0] S1024x2048.size inb_S1024x2048_S1024x2048_0_0).toLoadRect (harg8.unread X) = X :=
    fun X => (View.readAt_full _ _ _).trans (harg8.read_unread X)
  have rd9 : ∀ X : Vec F S32x2048 .f32, View.readAt (Elt F) arg9.view (Rect.unit (s := S32x2048) ![0, 0] S32x2048.size inb_S32x2048_S32x2048_0_0).toLoadRect (harg9.unread X) = X :=
    fun X => (View.readAt_full _ _ _).trans (harg9.read_unread X)
  have rd10 : ∀ X : Vec F S1056x2048 .bf16, View.readAt (Elt F) arg10.view (Rect.unit (s := S1056x2048) ![0, 0] S1056x2048.size inb_S1056x2048_S1056x2048_0_0).toLoadRect (harg10.unread X) = X :=
    fun X => (View.readAt_full _ _ _).trans (harg10.read_unread X)
  have up10 : ∀ X : Vec F S1056x2048 .bf16, View.readAt (Elt F) arg10.view (Rect.unit (s := S1056x2048) ![0, 0] S1024x2048.size inb_S1056x2048_S1024x2048_0_0).toLoadRect (harg10.unread X) = upper X :=
    fun X => (View.readAt_unit arg10.view _ _ rfl _).trans (congrArg (VecWindow.window · _ _ _) (harg10.read_unread X))
  have cov8 : ∀ (w : Vec F S1024x2048 .f32) (L : List (View.Piece (Elt F) S1024x2048 .f32)),
      arg8.view.readCov (⟨Rect.unit ![0, 0] S1024x2048.size inb_S1024x2048_S1024x2048_0_0, w⟩ :: L) (Rect.unit (s := S1024x2048) ![0, 0] S1024x2048.size inb_S1024x2048_S1024x2048_0_0).toLoadRect = w :=
    fun w L => View.readCov_full _ _ _ _ _
  have cov9 : ∀ (w : Vec F S32x2048 .f32) (L : List (View.Piece (Elt F) S32x2048 .f32)),
      arg9.view.readCov (⟨Rect.unit ![0, 0] S32x2048.size inb_S32x2048_S32x2048_0_0, w⟩ :: L) (Rect.unit (s := S32x2048) ![0, 0] S32x2048.size inb_S32x2048_S32x2048_0_0).toLoadRect = w :=
    fun w L => View.readCov_full _ _ _ _ _
  have earg8 : ∀ (f : arg8.view.ty.Contents (Elt F)) (w : Vec F S1024x2048 .f32) (L : List (View.Piece (Elt F) S1024x2048 .f32)),
      arg8.view.read (Elt F) (arg8.view.writes (Elt F) f (⟨Rect.unit ![0, 0] S1024x2048.size inb_S1024x2048_S1024x2048_0_0, w⟩ :: L)) = w :=
    fun f w L => View.read_writes_full _ _ _ _ _
  have earg9 : ∀ (f : arg9.view.ty.Contents (Elt F)) (w : Vec F S32x2048 .f32) (L : List (View.Piece (Elt F) S32x2048 .f32)),
      arg9.view.read (Elt F) (arg9.view.writes (Elt F) f (⟨Rect.unit ![0, 0] S32x2048.size inb_S32x2048_S32x2048_0_0, w⟩ :: L)) = w :=
    fun f w L => View.read_writes_full _ _ _ _ _
  rcases hi with ⟨hfirst, hsampleFirst, hearly, hjoint, hlast, hsampleLast⟩ | ⟨hfirst, hsampleFirst, hearly, hjoint, hlast, hsampleLast⟩ | ⟨hfirst, hsampleFirst, hearly, hjoint, hlast, hsampleLast⟩ | ⟨hfirst, hsampleFirst, hearly, hjoint, hlast, hsampleLast⟩ | ⟨hfirst, hsampleFirst, hearly, hjoint, hlast, hsampleLast⟩ | ⟨hfirst, hsampleFirst, hearly, hjoint, hlast, hsampleLast⟩
  all_goals
    sl_exec (disch := first | sl_exact hfirst | sl_exact hsampleFirst | sl_exact hearly | sl_exact hjoint | sl_exact hlast | sl_exact hsampleLast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      simp only [hfirst, hsampleFirst, hearly, hjoint, hlast, hsampleLast, first, sampleFirst, early, joint, last, sampleLast, reduceIte, outAfter, sampleAfter, rowsAfter]
      refine (earg8 _ _ _).trans ?_
      first | with_reducible refine c9 _ _ _ _ _ _ ?_ ?_ ?_ | with_reducible refine c10 _ _ _ _ _ _ ?_ ?_ ?_ | with_reducible refine c5 _ _ _ _ _ _ _ _ ?_ ?_ ?_ ?_ | with_reducible refine c7 _ _ _ _ _ _ _ _ ?_ ?_ ?_ ?_ | with_reducible refine c8 _ _ _ _ _ _ _ _ ?_ ?_ ?_ ?_
      all_goals first
        | (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done))
        | (rw [upper_setUpper]
           with_reducible refine c1 _ _ _ _ ?_ ?_
           all_goals (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done)))
        | (first | unfold body_run.sl.v20 | unfold body_run.sl.v21 | unfold body_run.sl.v31 | unfold body_run.sl.v36 | unfold body_run.sl.v20_1 | unfold body_run.sl.v20_2 | unfold body_run.sl.v20_3 | unfold body_run.sl.v21_1 | unfold body_run.sl.v21_2 | unfold body_run.sl.v21_3 | unfold body_run.sl.v31_1 | unfold body_run.sl.v36_1
           first | exact cov8 _ _ | exact cov9 _ _)
        | (first | unfold body_run.sl.v20 | unfold body_run.sl.v21 | unfold body_run.sl.v31 | unfold body_run.sl.v36 | unfold body_run.sl.v20_1 | unfold body_run.sl.v20_2 | unfold body_run.sl.v20_3 | unfold body_run.sl.v21_1 | unfold body_run.sl.v21_2 | unfold body_run.sl.v21_3 | unfold body_run.sl.v31_1 | unfold body_run.sl.v36_1
           first | rw [cov8] | rw [cov9]
           first
             | done
             | (first | with_reducible refine c9 _ _ _ _ _ _ ?_ ?_ ?_ | with_reducible refine c10 _ _ _ _ _ _ ?_ ?_ ?_ | with_reducible refine c5 _ _ _ _ _ _ _ _ ?_ ?_ ?_ ?_ | with_reducible refine c7 _ _ _ _ _ _ _ _ ?_ ?_ ?_ ?_ | with_reducible refine c8 _ _ _ _ _ _ _ _ ?_ ?_ ?_ ?_
                all_goals (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done))))
        | (first | unfold body_run.sl.v20 | unfold body_run.sl.v21 | unfold body_run.sl.v31 | unfold body_run.sl.v36 | unfold body_run.sl.v20_1 | unfold body_run.sl.v20_2 | unfold body_run.sl.v20_3 | unfold body_run.sl.v21_1 | unfold body_run.sl.v21_2 | unfold body_run.sl.v21_3 | unfold body_run.sl.v31_1 | unfold body_run.sl.v36_1
           first | unfold body_run.sl.HS0_2 | skip
           first | unfold body_run.sl.HS0_1 | skip
           rw [all_cov _ _ _ s]
           first
             | done
             | (refine congr (congrArg (fun a b => setLower (setUpper s a) b) ?_) ?_
                on_goal 1 => with_reducible refine c1 _ _ _ _ ?_ ?_
                on_goal 3 => with_reducible refine c3 _ _ _ _ ?_ ?_
                all_goals (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done))))
    isplitl [H7]
    · iexists _; isplitr; swap; · iexact H7
      ipureintro
      simp only [hfirst, hsampleFirst, hearly, hjoint, hlast, hsampleLast, first, sampleFirst, early, joint, last, sampleLast, reduceIte, outAfter, sampleAfter, rowsAfter]
      first
        | rw [harg9.read_unread]
        | (refine (earg9 _ _ _).trans ?_
           first | with_reducible refine c9 _ _ _ _ _ _ ?_ ?_ ?_ | with_reducible refine c10 _ _ _ _ _ _ ?_ ?_ ?_ | with_reducible refine c5 _ _ _ _ _ _ _ _ ?_ ?_ ?_ ?_ | with_reducible refine c7 _ _ _ _ _ _ _ _ ?_ ?_ ?_ ?_ | with_reducible refine c8 _ _ _ _ _ _ _ _ ?_ ?_ ?_ ?_
           all_goals first
             | (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done))
             | (rw [upper_setUpper]
                with_reducible refine c1 _ _ _ _ ?_ ?_
                all_goals (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done)))
             | (first | unfold body_run.sl.v20 | unfold body_run.sl.v21 | unfold body_run.sl.v31 | unfold body_run.sl.v36 | unfold body_run.sl.v20_1 | unfold body_run.sl.v20_2 | unfold body_run.sl.v20_3 | unfold body_run.sl.v21_1 | unfold body_run.sl.v21_2 | unfold body_run.sl.v21_3 | unfold body_run.sl.v31_1 | unfold body_run.sl.v36_1
                first | exact cov8 _ _ | exact cov9 _ _)
             | (first | unfold body_run.sl.v20 | unfold body_run.sl.v21 | unfold body_run.sl.v31 | unfold body_run.sl.v36 | unfold body_run.sl.v20_1 | unfold body_run.sl.v20_2 | unfold body_run.sl.v20_3 | unfold body_run.sl.v21_1 | unfold body_run.sl.v21_2 | unfold body_run.sl.v21_3 | unfold body_run.sl.v31_1 | unfold body_run.sl.v36_1
                first | rw [cov8] | rw [cov9]
                first
                  | done
                  | (first | with_reducible refine c9 _ _ _ _ _ _ ?_ ?_ ?_ | with_reducible refine c10 _ _ _ _ _ _ ?_ ?_ ?_ | with_reducible refine c5 _ _ _ _ _ _ _ _ ?_ ?_ ?_ ?_ | with_reducible refine c7 _ _ _ _ _ _ _ _ ?_ ?_ ?_ ?_ | with_reducible refine c8 _ _ _ _ _ _ _ _ ?_ ?_ ?_ ?_
                     all_goals (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done))))
             | (first | unfold body_run.sl.v20 | unfold body_run.sl.v21 | unfold body_run.sl.v31 | unfold body_run.sl.v36 | unfold body_run.sl.v20_1 | unfold body_run.sl.v20_2 | unfold body_run.sl.v20_3 | unfold body_run.sl.v21_1 | unfold body_run.sl.v21_2 | unfold body_run.sl.v21_3 | unfold body_run.sl.v31_1 | unfold body_run.sl.v36_1
                first | unfold body_run.sl.HS0_2 | skip
                first | unfold body_run.sl.HS0_1 | skip
                rw [all_cov _ _ _ s]
                first
                  | done
                  | (refine congr (congrArg (fun a b => setLower (setUpper s a) b) ?_) ?_
                     on_goal 1 => with_reducible refine c1 _ _ _ _ ?_ ?_
                     on_goal 3 => with_reducible refine c3 _ _ _ _ ?_ ?_
                     all_goals (first | with_reducible rfl | (rw [rd2]; done) | (rw [rd3]; done) | (rw [rd4]; done) | (rw [rd5]; done) | (rw [rd6]; done) | (rw [rd7]; done) | (rw [rd8]; done) | (rw [rd9]; done) | (rw [rd10]; done) | (rw [up10]; done) | (rw [upper_setUpper]; done)))))
    iexists _; isplitr; swap; · iexact HS0
    ipureintro
    simp only [hfirst, hsampleFirst, hearly, hjoint, hlast, hsampleLast, first, sampleFirst, early, joint, last, sampleLast, reduceIte, outAfter, sampleAfter, rowsAfter]
    first
      | rw [harg10.read_unread]
      | (first | unfold body_run.sl.HS0_1 | unfold body_run.sl.HS0
         rw [View.read_writes_cons_put arg10.view _ _ _ _ rfl, View.writes_nil, harg10.read_unread]
         first
           | done
           | (refine congrArg (setUpper s) (c1 _ _ _ _ ?_ ?_)
              all_goals (first | with_reducible rfl | (rw [rd2]; done) | (rw [rd3]; done) | (rw [rd4]; done) | (rw [rd5]; done) | (rw [rd6]; done) | (rw [rd7]; done) | (rw [rd8]; done) | (rw [rd9]; done) | (rw [rd10]; done))))
      | (first | unfold body_run.sl.HS0_2 | unfold body_run.sl.HS0_1
         first | unfold body_run.sl.HS0_1 | skip
         rw [View.read_writes_cons_put arg10.view _ _ _ _ rfl, View.read_writes_cons_put arg10.view _ _ _ _ rfl, View.writes_nil, harg10.read_unread]
         first
           | done
           | (refine congr (congrArg (fun a b => setLower (setUpper s a) b) (c1 _ _ _ _ ?_ ?_)) (c3 _ _ _ _ ?_ ?_)
              all_goals (first | with_reducible rfl | (rw [rd2]; done) | (rw [rd3]; done) | (rw [rd4]; done) | (rw [rd5]; done) | (rw [rd6]; done) | (rw [rd7]; done) | (rw [rd8]; done) | (rw [rd9]; done) | (rw [rd10]; done))))

end Cert.MlpIdeal

end
-- ==== Proof.Mlp.Run.lean ====
module

public import proofs.«01_k».proof.Proof.Mlp.Body
public import Idealize.ShloMosaic.Lib.Pipeline.DatRel
public import Idealize.ShloMosaic.Lib.Pipeline.ArrRel

/-! The run of the feed-forward kernel over its grid. The buffer of normed rows starts at contents that nothing states, so
    what the loop carries is stated up to the rows written so far; of each result window it is stated what the body leaves
    there at each point. -/

@[expose] public section

set_option maxRecDepth 16384

noncomputable section

namespace Cert.MlpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligationRel)
open Cert.MlpIdeal.Gen

variable {F : FTy → Type} [FloatOps F] [∀ e, Nonempty (Elt F e)]

local notation "𝕄" => MT nD τ sig Unit (Elt F) ℕ (UR sig nD τ) ℕ

section Alike

variable (t : Fin cfg0.N) (x0 : Vec F S1024x2048 .f32) (x1 : Vec F S32x2048 .f32) (x2 : Vec F S1x2048 .f32) (x3 : Vec F S1x2048 .f32)
  (x4 : Vec F S2048x512 .bf16) (x5 : Vec F S512x2048 .bf16)

/-- Two contents of the buffer of normed rows agree where the points below `n` have written. -/
def Alike (n : ℕ) (s s' : Vec F S1056x2048 .bf16) : Prop := (0 < n → upper s = upper s') ∧ (112 < n → s = s')

variable {t} {s s' : Vec F S1056x2048 .bf16}

/-- Agreement passes from a point to the next. -/
theorem Alike.step (h : Alike t.val s s') : Alike (t.val + 1) (rowsAfter (grid0.coords t) x0 x1 x2 s) (rowsAfter (grid0.coords t) x0 x1 x2 s') := by
  have ht : t.val < 128 := Nat.lt_of_lt_of_eq t.isLt N_0
  unfold rowsAfter
  by_cases h1 : first (grid0.coords t)
  · by_cases h2 : sampleFirst (grid0.coords t)
    · simp only [if_pos h1, if_pos h2]
      have e := setLower_setUpper s s' (k0_pay1 x0 x2) (k0_pay3 x1 x2)
      exact ⟨fun _ => congrArg upper e, fun _ => e⟩
    · simp only [if_pos h1, if_neg h2]
      rw [first_iff] at h1; rw [sampleFirst_iff] at h2
      exact ⟨fun _ => (upper_setUpper _ _).trans (upper_setUpper _ _).symm, fun h112 => absurd h112 (by omega)⟩
  · have h2 : ¬sampleFirst (grid0.coords t) := by rw [sampleFirst_iff]; rw [first_iff] at h1; omega
    simp only [if_neg h1, if_neg h2]
    rw [first_iff] at h1
    exact ⟨fun _ => h.1 (by omega), fun _ => h.2 (by omega)⟩

/-- What the body leaves in the first result window does not depend on what the points below have not written. -/
theorem Alike.out (h : Alike t.val s s') {y y' : Vec F S1024x2048 .f32} (hy : t.val % 16 ≠ 0 → y = y') :
    outAfter (grid0.coords t) x0 x1 x2 x3 x4 x5 y s = outAfter (grid0.coords t) x0 x1 x2 x3 x4 x5 y' s' := by
  have ht : t.val < 128 := Nat.lt_of_lt_of_eq t.isLt N_0
  have hs := h.step x0 x1 x2
  unfold outAfter
  have e : (if first (grid0.coords t) then k0_pay2 else y) = (if first (grid0.coords t) then k0_pay2 else y') := by
    by_cases h1 : first (grid0.coords t)
    · simp only [if_pos h1]
    · simp only [if_neg h1]; exact hy fun e => h1 ((first_iff t).mpr e)
  dsimp only
  rw [e]
  by_cases h3 : early (grid0.coords t)
  · have h4 : ¬joint (grid0.coords t) := by rw [joint_iff]; rw [early_iff] at h3; omega
    simp only [if_pos h3, if_neg h4]
    rw [hs.1 (by omega)]
  · have h4 : joint (grid0.coords t) := by rw [joint_iff]; rw [early_iff] at h3; omega
    simp only [if_neg h3, if_pos h4]
    rw [hs.2 (by rw [joint_iff] at h4; omega)]

/-- The same of the second, at the last row block. -/
theorem Alike.sample (h : Alike t.val s s') (h112 : 112 ≤ t.val) {z z' : Vec F S32x2048 .f32} (hz : t.val ≠ 112 → z = z') :
    sampleAfter (grid0.coords t) x0 x1 x2 x3 x4 x5 z s = sampleAfter (grid0.coords t) x0 x1 x2 x3 x4 x5 z' s' := by
  have ht : t.val < 128 := Nat.lt_of_lt_of_eq t.isLt N_0
  have hs := (h.step x0 x1 x2).2 (by omega)
  unfold sampleAfter
  have e : (if sampleFirst (grid0.coords t) then k0_pay4 else z) = (if sampleFirst (grid0.coords t) then k0_pay4 else z') := by
    by_cases h1 : sampleFirst (grid0.coords t)
    · simp only [if_pos h1]
    · simp only [if_neg h1]; exact hz fun e => h1 ((sampleFirst_iff t).mpr (by omega))
  dsimp only
  rw [e, hs]

end Alike

variable (m : (ℓ : Loc nD τ sig) → Buf (Elt F) ℓ) (ρ : Dev nD → PrngReg)

/-- Point `n` of the grid. -/
def pt (n : ℕ) : Fin cfg0.N := ⟨n % 128, Nat.lt_of_lt_of_eq (Nat.mod_lt _ (by omega)) N_0.symm⟩
theorem pt_val (t : Fin cfg0.N) : pt t.val = t := Fin.ext (Nat.mod_eq_of_lt (Nat.lt_of_lt_of_eq t.isLt N_0))

/-- The buffer of normed rows before point `n`, from contents of no account. -/
def normed (c : Dev nD) : ℕ → Vec F S1056x2048 .bf16
  | 0 => Classical.arbitrary _
  | n + 1 => rowsAfter (grid0.coords (pt n)) (iblk m c 0 (pt n)) (iblk m c 1 (pt n)) (iblk m c 2 (pt n)) (normed c n)

/-- The first result window before point `n`. -/
def out (c : Dev nD) : ℕ → Vec F S1024x2048 .f32
  | 0 => k0_pay2
  | n + 1 => outAfter (grid0.coords (pt n)) (iblk m c 0 (pt n)) (iblk m c 1 (pt n)) (iblk m c 2 (pt n)) (iblk m c 3 (pt n)) (iblk m c 4 (pt n)) (iblk m c 5 (pt n)) (out c n) (normed m c n)

/-- The second result window before point `n`. -/
def sample (c : Dev nD) : ℕ → Vec F S32x2048 .f32
  | 0 => k0_pay4
  | n + 1 => sampleAfter (grid0.coords (pt n)) (iblk m c 0 (pt n)) (iblk m c 1 (pt n)) (iblk m c 2 (pt n)) (iblk m c 3 (pt n)) (iblk m c 4 (pt n)) (iblk m c 5 (pt n)) (sample c n) (normed m c n)

/-- The two result windows are held to a predicate. -/
def held : Fin cfg0.W → Bool := fun w => w.val == 6 || w.val == 7

/-- What the body leaves in a result window at a point. -/
def Left (c : Dev nD) : (w : Fin cfg0.W) → Fin cfg0.N → ((cfg0.win w).block.Idx → Elt F (cfg0.win w).elt) → Prop
  | ⟨6, _⟩ => fun t Y => Y = out m c (t.val + 1)
  | ⟨7, _⟩ => fun t Y => 112 ≤ t.val → Y = sample m c (t.val + 1)
  | _ => fun _ _ => True

/-- What the loop carries: the buffer of normed rows, stated where it has been written, and the generator's register. -/
def Carried (c : Dev nD) (n : ℕ) : sProp 𝕄 :=
  iprop((∃ ds, ⌜Alike n ds (normed m c n)⌝ ∗ owns (c : Thread nD τ) rows fullShare ds) ∗ (∃ r, prngReg c r))

/-- The proof data of the pipeline on a core. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := Carried m c t.val
  q _ := fullShare
  owed _ := 0

theorem data_array (c : Dev nD) (w : Fin cfg0.W) : (data m 0 c).A w = V m c (Pipeline.arrRef spec0 w) := by dsimp only [data]
theorem data_before (c : Dev nD) (t : Fin cfg0.N) :
    (∀ d, (data m 0 c).before 0 t d = iblk m c 0 t) ∧ (∀ d, (data m 0 c).before 1 t d = iblk m c 1 t) ∧ (∀ d, (data m 0 c).before 2 t d = iblk m c 2 t)
      ∧ (∀ d, (data m 0 c).before 3 t d = iblk m c 3 t) ∧ (∀ d, (data m 0 c).before 4 t d = iblk m c 4 t) ∧ (∀ d, (data m 0 c).before 5 t d = iblk m c 5 t) :=
  ⟨fun d => before0_0_of m (data m 0 c) (data_array m c 0) (fun t => by dsimp only [data]) t d, fun d => before0_1_of m (data m 0 c) (data_array m c 1) (fun t => by dsimp only [data]) t d,
    fun d => before0_2_of m (data m 0 c) (data_array m c 2) (fun t => by dsimp only [data]) t d, fun d => before0_3_of m (data m 0 c) (data_array m c 3) (fun t => by dsimp only [data]) t d,
    fun d => before0_4_of m (data m 0 c) (data_array m c 4) (fun t => by dsimp only [data]) t d, fun d => before0_5_of m (data m 0 c) (data_array m c 5) (fun t => by dsimp only [data]) t d⟩

/-- The data read relationally, the result windows held to `Left`. -/
abbrev rdata (c : Dev nD) : RDat τ (Elt F) Unit ℕ (UR sig nD τ) ℕ cfg0 c := (data m 0 c).toRRel held (Left m c)

/-- Inside a row block the first result window holds what the point before left. -/
theorem finds_out (c : Dev nD) (t : Fin cfg0.N) (Y : Vec F S1024x2048 .f32) (h : (rdata m c).Finds 6 t Y) (ht : t.val % 16 ≠ 0) : Y = out m c t.val := by
  rcases ((rdata m c).finds_of_pos (w := 6) rfl (by omega) Y).mp h with hf | hl
  · have := (flush0_6 _).mp hf
    dsimp only at this; omega
  · have e := (data m 0 c).toRRel_leaves (fgt := held) (Rl := Left m c) (w := 6) rfl hl
    have e' : Y = out m c (t.val - 1 + 1) := e
    rwa [Nat.sub_add_cancel (by omega)] at e'

/-- Past the point where the sampled rows begin the second holds what the point before left. -/
theorem finds_sample (c : Dev nD) (t : Fin cfg0.N) (Y : Vec F S32x2048 .f32) (h : (rdata m c).Finds 7 t Y) (ht : 112 < t.val) : Y = sample m c t.val := by
  have h128 : t.val < 128 := Nat.lt_of_lt_of_eq t.isLt N_0
  rcases ((rdata m c).finds_of_pos (w := 7) rfl (by omega) Y).mp h with hf | hl
  · have := (flush0_7 _).mp hf
    dsimp only at this; omega
  · have e := (data m 0 c).toRRel_leaves (fgt := held) (Rl := Left m c) (w := 7) rfl hl
    have e' : 112 ≤ t.val - 1 → Y = sample m c (t.val - 1 + 1) := e
    rw [Nat.sub_add_cancel (by omega)] at e'
    exact e' (by omega)

theorem normed_succ (c : Dev nD) (t : Fin cfg0.N) : normed m c (t.val + 1) = rowsAfter (grid0.coords t) (iblk m c 0 t) (iblk m c 1 t) (iblk m c 2 t) (normed m c t.val) := by
  rw [normed, pt_val]
theorem out_succ (c : Dev nD) (t : Fin cfg0.N) : out m c (t.val + 1) = outAfter (grid0.coords t) (iblk m c 0 t) (iblk m c 1 t) (iblk m c 2 t) (iblk m c 3 t) (iblk m c 4 t) (iblk m c 5 t) (out m c t.val) (normed m c t.val) := by
  rw [out, pt_val]
theorem sample_succ (c : Dev nD) (t : Fin cfg0.N) : sample m c (t.val + 1) = sampleAfter (grid0.coords t) (iblk m c 0 t) (iblk m c 1 t) (iblk m c 2 t) (iblk m c 3 t) (iblk m c 4 t) (iblk m c 5 t) (sample m c t.val) (normed m c t.val) := by
  rw [sample, pt_val]

/-- What the body is called with at a point, -/
def bodyPre (c : Dev nD) (t : Fin cfg0.N) : sProp 𝕄 :=
  iprop((data m 0 c).Φ t.castSucc ∗ (data m 0 c).owesAt () t.castSucc
    ∗ (∃ d, owns (c : Thread nD τ) (mem0 t) fullShare ((data m 0 c).before 0 t d))
    ∗ (∃ d, owns (c : Thread nD τ) (mem1 t) fullShare ((data m 0 c).before 1 t d))
    ∗ (∃ d, owns (c : Thread nD τ) (mem2 t) fullShare ((data m 0 c).before 2 t d))
    ∗ (∃ d, owns (c : Thread nD τ) (mem3 t) fullShare ((data m 0 c).before 3 t d))
    ∗ (∃ d, owns (c : Thread nD τ) (mem4 t) fullShare ((data m 0 c).before 4 t d))
    ∗ (∃ d, owns (c : Thread nD τ) (mem5 t) fullShare ((data m 0 c).before 5 t d))
    ∗ (∃ Y, ⌜(rdata m c).Finds 6 t Y⌝ ∗ owns (c : Thread nD τ) (mem6 t) fullShare Y)
    ∗ (∃ Y, ⌜(rdata m c).Finds 7 t Y⌝ ∗ owns (c : Thread nD τ) (mem7 t) fullShare Y))

/-- and what it returns. -/
def bodyPost (c : Dev nD) (t : Fin cfg0.N) : sProp 𝕄 :=
  iprop((data m 0 c).Φ t.succ ∗ (data m 0 c).owesAt () t.succ
    ∗ owns (c : Thread nD τ) (mem0 t) fullShare ((data m 0 c).after 0 t)
    ∗ owns (c : Thread nD τ) (mem1 t) fullShare ((data m 0 c).after 1 t)
    ∗ owns (c : Thread nD τ) (mem2 t) fullShare ((data m 0 c).after 2 t)
    ∗ owns (c : Thread nD τ) (mem3 t) fullShare ((data m 0 c).after 3 t)
    ∗ owns (c : Thread nD τ) (mem4 t) fullShare ((data m 0 c).after 4 t)
    ∗ owns (c : Thread nD τ) (mem5 t) fullShare ((data m 0 c).after 5 t)
    ∗ (∃ X, ⌜Left m c 6 t X⌝ ∗ owns (c : Thread nD τ) (mem6 t) fullShare X)
    ∗ (∃ X, ⌜Left m c 7 t X⌝ ∗ owns (c : Thread nD τ) (mem7 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := data_before m c t
  unfold bodyPre bodyPost bodyAt0
  simp only [b0, b1, b2, b3, b4, b5]
  rw [show (data m 0 c).Φ t.castSucc = Carried m c t.val from rfl, show (data m 0 c).Φ t.succ = Carried m c (t.val + 1) from rfl,
    show (data m 0 c).owesAt () t.succ = (data m 0 c).owesAt () t.castSucc from rfl]
  unfold Carried
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%y, %hy, H6⟩, ⟨%z, %hz, H7⟩⟩
  iapply (body_run c (grid0.coords t) _ _ _ _ _ _ _ _ _ _ _ _ _ _ _ _ _ _ (ways t) (iblk m c 0 t) (iblk m c 1 t) (iblk m c 2 t) (iblk m c 3 t) (iblk m c 4 t) (iblk m c 5 t) y z ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _; isplitr; swap; · iexact HS
      ipureintro
      rw [normed_succ]
      exact hds.step _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    show outAfter _ _ _ _ _ _ _ _ _ = out m c (t.val + 1)
    rw [out_succ]
    exact hds.out _ _ _ _ _ _ fun h => finds_out m c t y hy h
  · iexists _; isplitr; swap; · iexact H7
    ipureintro
    show 112 ≤ t.val → sampleAfter _ _ _ _ _ _ _ _ _ = sample m c (t.val + 1)
    intro h
    rw [sample_succ]
    exact hds.sample _ _ _ _ _ _ h fun h' => finds_sample m c t z hz (by omega)

/-- The body table's row at a point is the body there. -/
theorem row (t : Fin cfg0.N) : defs₀ (F := F) .tc cfg0.body (cfg0.bodyArgs t (cfg0.slots t)) = bodyAt0 t := by
  unfold defs₀; rw [Defs.onTc_tc]

theorem body_obligation (c : Dev nD) : BodyObligationRel (data (F := F) m 0 c) (defs₀ (F := F)) Variants.none () Set.univ held (Left m c) := fun t => by
  rw [bigSep_W0, bigSep_W0, row]
  exact sound_body m c t

theorem enter (c : Dev nD) : Pipeline.ΦA spec0 c ⊢ (rdata m c).Φ 0 := by
  rw [show (rdata m c).Φ 0 = Carried m c 0 from rfl, rest_eq]
  unfold Carried
  iintro ⟨⟨%d, H⟩, Hg⟩
  isplitl [H]
  · iexists d; isplitr
    · ipureintro; exact ⟨fun h => absurd h (by omega), fun h => absurd h (by omega)⟩
    · iexact H
  iexact Hg

theorem leave (c : Dev nD) : (rdata m c).Φ (Fin.last cfg0.N) ⊢ Pipeline.ΦA spec0 c := by
  rw [show (rdata m c).Φ (Fin.last cfg0.N) = Carried m c cfg0.N from rfl, rest_eq]
  unfold Carried
  iintro ⟨⟨%d, %hd, H⟩, Hg⟩
  isplitl [H]
  · iexists d; iexact H
  iexact Hg

set_option backward.isDefEq.respectTransparency.types false in
/-- The run: it ends, the arrays as the write-backs leave them and every counter at zero. -/
theorem run_main : θ_run defs (onTc (τ := τ) (main (F := F))) (s₀ m ρ) (fun r => RDat.FramePost (cfgs 0) (rdata m) (V m) r ∧ r.2.sem = fun _ => 0) :=
  RDat.θ_run_frame_track (Q' := _) cfgs (0 : Fin 1) launch0 defs₀ Variants.none (rdata m) m ρ main
    (hbody := fun c => (body_obligation m c).toRRel) (hshare := fun c => (data m 0 c).share_full fun _ => rfl)
    (howed := fun _ _ => rfl) (V := V m) (hmain := hmain m Variants.none) (hA := data_array m) (hin := enter m) (hout := leave m)

/-- The argument arrays end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(RDat.FramePost.arr_in h.1 c 0 rfl).trans ((data_array m c 0).trans (V_main_arg0 m c)),
      (RDat.FramePost.arr_in h.1 c 1 rfl).trans ((data_array m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.MlpIdeal

end
-- ==== Proof.Mlp.Spec.lean ====
module

public import Idealize.ShloMosaic.Lib.Pipeline.ValueKit
public import Idealize.ShloMosaic.Lib.Tactic.CleanTypes

/-! One row of the feed-forward layer over the extended reals: the row is normed and scaled, taken through the two weight
    matrices with a squared ramp between them, added back to itself, and normed and scaled again. -/

@[expose] public section

set_option maxRecDepth 16384

noncomputable section

namespace Cert.FeedForward

open Idealize.ShloMosaic

/-- A row over its root mean square, scaled. -/
def nrm (x g : Fin 2048 → EReal) (j : Fin 2048) : EReal :=
  x j * Ideal.rsqrt (Ideal.div (∑ k, x k * x k) (Ideal.ofBits .f32 0x45000000#32) + Ideal.ofBits .f32 0x358637BD#32) * g j

/-- The squared ramp of a row against one column of the first weight matrix. -/
def act (h w : Fin 2048 → EReal) : EReal := max (∑ k, h k * w k) 0 * max (∑ k, h k * w k) 0

/-- The layer's result for a row. -/
def ff (x g gf : Fin 2048 → EReal) (w1 : Fin 2048 → Fin 8192 → EReal) (w2 : Fin 8192 → Fin 2048 → EReal) (j : Fin 2048) : EReal :=
  nrm (fun k => x k + ∑ f, act (nrm x g) (fun k => w1 k f) * w2 f k) gf j

theorem zero_bits : Ideal.ofBits .f32 0x00000000#32 = 0 := by
  simp [Ideal.ofBits, Ideal.ieee]

end Cert.FeedForward
-- ==== Proof.Mlp.Reads.lean ====
module

public import proofs.«01_k».proof.Proof.Gen.MlpIdeal.Frame
public import Idealize.ShloMosaic.Lib.Pipeline.Covers
public import proofs.«01_k».proof.Proof.Mlp.Spec

/-! The blocks the feed-forward kernel's body is handed at a grid point, at an element of the call's argument arrays. -/

@[expose] public section

set_option maxRecDepth 16384

noncomputable section

namespace Cert.MlpIdeal.Value

open Idealize.ShloMosaic Idealize.ShloMosaic.TcCoe Idealize.SL.Sem
open Cert.MlpIdeal Cert.MlpIdeal.Gen Cert.FeedForward

variable (m : (ℓ : Loc nD τ sig) → Buf (Elt Ideal) ℓ)

theorem maps : ∀ i : grid0.Coords, cc0_transform_0 i = ![(i 0).val, 0] ∧ cc0_transform_1 i = ![0, 0]
    ∧ cc0_transform_2 i = ![0, 0] ∧ cc0_transform_3 i = ![0, 0] ∧ cc0_transform_4 i = ![0, (i 1).val]
    ∧ cc0_transform_5 i = ![(i 1).val, 0] ∧ cc0_transform_6 i = ![(i 0).val, 0] ∧ cc0_transform_7 i = ![0, 0] := by
  decide +kernel

/-- A grid point's row block and step. -/
theorem coords_val : ∀ t : Fin grid0.N, (grid0.coords t 0).val = t.val / 16 ∧ (grid0.coords t 1).val = t.val % 16 := by
  decide +kernel

theorem idx (t : Fin cfg0.N) :
    (cfg0.win 0).index t = ![t.val / 16, 0] ∧ (cfg0.win 1).index t = ![0, 0] ∧ (cfg0.win 2).index t = ![0, 0]
    ∧ (cfg0.win 3).index t = ![0, 0] ∧ (cfg0.win 4).index t = ![0, t.val % 16] ∧ (cfg0.win 5).index t = ![t.val % 16, 0]
    ∧ (cfg0.win 6).index t = ![t.val / 16, 0] ∧ (cfg0.win 7).index t = ![0, 0] := by
  have h := maps (grid0.coords t)
  rw [(coords_val t).1, (coords_val t).2] at h
  exact h

abbrev A0 (c : Dev nD) : S8192x2048.Idx → EReal := m ((c : Thread nD τ).loc main_arg0)
abbrev A1 (c : Dev nD) : S32x2048.Idx → EReal := m ((c : Thread nD τ).loc main_arg1)
abbrev A2 (c : Dev nD) : S1x2048.Idx → EReal := m ((c : Thread nD τ).loc main_arg2)
abbrev A3 (c : Dev nD) : S2048.Idx → EReal := m ((c : Thread nD τ).loc main_arg3)
abbrev A4 (c : Dev nD) : S1x2048x8192.Idx → EReal := m ((c : Thread nD τ).loc main_arg4)
abbrev A5 (c : Dev nD) : S1x8192x2048.Idx → EReal := m ((c : Thread nD τ).loc main_arg5)

theorem v1_at (c : Dev nD) (j : Fin 2048) :
    (show EReal from (V m c main_v1 : Vec Ideal S1x2048 .f32) (ix2 0 j)) = A2 m c (ix2 0 j) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v2_at (c : Dev nD) (j : Fin 2048) :
    (show EReal from (V m c main_v2 : Vec Ideal S1x2048 .f32) (ix2 0 j)) = A3 m c (ix1 j) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v4_at (c : Dev nD) (k : Fin 2048) (f : Fin 8192) :
    (show EReal from (V m c main_v4 : Vec Ideal S2048x8192 .bf16) (ix2 k f)) = A4 m c (ix3 0 k f) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v6_at (c : Dev nD) (f : Fin 8192) (j : Fin 2048) :
    (show EReal from (V m c main_v6 : Vec Ideal S8192x2048 .bf16) (ix2 f j)) = A5 m c (ix3 0 f j) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

/-- A row of a row block, and a column of a step, in the whole. -/
def rowOf (i : ℕ) (r : Fin 1024) : Fin 8192 := ⟨(i * 1024 + r.val) % 8192, by omega⟩
def colOf (f : ℕ) (q : Fin 512) : Fin 8192 := ⟨(f * 512 + q.val) % 8192, by omega⟩

theorem rowOf_val {i : ℕ} (h : i < 8) (r : Fin 1024) : (rowOf i r).val = i * 1024 + r.val := Nat.mod_eq_of_lt (by omega)
theorem colOf_val {f : ℕ} (h : f < 16) (q : Fin 512) : (colOf f q).val = f * 512 + q.val := Nat.mod_eq_of_lt (by omega)

theorem x0_at (c : Dev nD) (t : Fin cfg0.N) (r : Fin 1024) (j : Fin 2048) :
    (show EReal from (iblk m c 0 t : Vec Ideal S1024x2048 .f32) (ix2 r j)) = A0 m c (ix2 (rowOf (t.val / 16) r) j) := by
  have ht : t.val < 128 := Nat.lt_of_lt_of_eq t.isLt N_0
  have e := rowOf_val (i := t.val / 16) (by omega) r
  refine Eq.trans (b := (V m c main_arg0 : Vec Ideal S8192x2048 .f32) (ix2 (rowOf (t.val / 16) r) j)) ?_ ?_
  · blk_simp [iblk]
    show (V m c main_arg0 : Vec Ideal S8192x2048 .f32) _ = _
    blk_ext [idx t, e]
  · rw [V_main_arg0]

theorem x1_at (c : Dev nD) (t : Fin cfg0.N) (r : Fin 32) (j : Fin 2048) :
    (show EReal from (iblk m c 1 t : Vec Ideal S32x2048 .f32) (ix2 r j)) = A1 m c (ix2 r j) := by
  refine Eq.trans (b := (V m c main_arg1 : Vec Ideal S32x2048 .f32) (ix2 r j)) ?_ ?_
  · blk_simp [iblk]
    show (V m c main_arg1 : Vec Ideal S32x2048 .f32) _ = _
    blk_ext [idx t]
  · rw [V_main_arg1]

theorem x2_at (c : Dev nD) (t : Fin cfg0.N) (j : Fin 2048) :
    (show EReal from (iblk m c 2 t : Vec Ideal S1x2048 .f32) (ix2 0 j)) = A2 m c (ix2 0 j) := by
  refine Eq.trans (b := (V m c main_v1 : Vec Ideal S1x2048 .f32) (ix2 0 j)) ?_ ?_
  · blk_simp [iblk]
    show (V m c main_v1 : Vec Ideal S1x2048 .f32) _ = _
    blk_ext [idx t]
  · exact v1_at m c j

theorem x3_at (c : Dev nD) (t : Fin cfg0.N) (j : Fin 2048) :
    (show EReal from (iblk m c 3 t : Vec Ideal S1x2048 .f32) (ix2 0 j)) = A3 m c (ix1 j) := by
  refine Eq.trans (b := (V m c main_v2 : Vec Ideal S1x2048 .f32) (ix2 0 j)) ?_ ?_
  · blk_simp [iblk]
    show (V m c main_v2 : Vec Ideal S1x2048 .f32) _ = _
    blk_ext [idx t]
  · exact v2_at m c j

theorem x4_at (c : Dev nD) (t : Fin cfg0.N) (k : Fin 2048) (q : Fin 512) :
    (show EReal from (iblk m c 4 t : Vec Ideal S2048x512 .bf16) (ix2 k q)) = A4 m c (ix3 0 k (colOf (t.val % 16) q)) := by
  have e := colOf_val (f := t.val % 16) (by omega) q
  refine Eq.trans (b := (V m c main_v4 : Vec Ideal S2048x8192 .bf16) (ix2 k (colOf (t.val % 16) q))) ?_ ?_
  · blk_simp [iblk]
    show (V m c main_v4 : Vec Ideal S2048x8192 .bf16) _ = _
    blk_ext [idx t, e]
  · exact v4_at m c k _

theorem x5_at (c : Dev nD) (t : Fin cfg0.N) (q : Fin 512) (j : Fin 2048) :
    (show EReal from (iblk m c 5 t : Vec Ideal S512x2048 .bf16) (ix2 q j)) = A5 m c (ix3 0 (colOf (t.val % 16) q) j) := by
  have e := colOf_val (f := t.val % 16) (by omega) q
  refine Eq.trans (b := (V m c main_v6 : Vec Ideal S8192x2048 .bf16) (ix2 (colOf (t.val % 16) q) j)) ?_ ?_
  · blk_simp [iblk]
    show (V m c main_v6 : Vec Ideal S8192x2048 .bf16) _ = _
    blk_ext [idx t, e]
  · exact v6_at m c _ j

end Cert.MlpIdeal.Value
-- ==== Proof.Mlp.Pay.lean ====
module

public import proofs.«01_k».proof.Proof.Gen.MlpIdeal.Skeleton
public import proofs.«01_k».proof.Proof.Mlp.Spec

/-! The values the feed-forward kernel's body stores, read at a row and a column. -/

@[expose] public section

set_option maxRecDepth 16384

noncomputable section

namespace Cert.MlpIdeal.Value

open Idealize.ShloMosaic Idealize.ShloMosaic.TcCoe Idealize.SL.Sem
open Cert.MlpIdeal Cert.MlpIdeal.Gen Cert.FeedForward

theorem pay1_at (x : Vec Ideal S1024x2048 .f32) (g : Vec Ideal S1x2048 .f32) (r : Fin 1024) (j : Fin 2048) :
    k0_pay1 x g (ix2 r j) = nrm (fun k => x (ix2 r k)) (fun k => g (ix2 0 k)) j := by
  pointwise [k0_pay1]
  rfl

theorem pay3_at (x : Vec Ideal S32x2048 .f32) (g : Vec Ideal S1x2048 .f32) (r : Fin 32) (j : Fin 2048) :
    k0_pay3 x g (ix2 r j) = nrm (fun k => x (ix2 r k)) (fun k => g (ix2 0 k)) j := by
  pointwise [k0_pay3]
  rfl

theorem pay2_at (r : Fin 1024) (j : Fin 2048) : k0_pay2 (F := Ideal) (ix2 r j) = 0 := by
  pointwise [k0_pay2]

theorem pay4_at (r : Fin 32) (j : Fin 2048) : k0_pay4 (F := Ideal) (ix2 r j) = 0 := by
  pointwise [k0_pay4]

/-- A step of the sum: 512 columns of the first weight matrix with as many rows of the second. -/
def step (h : Fin 2048 → EReal) (w1 : Vec Ideal S2048x512 .bf16) (w2 : Vec Ideal S512x2048 .bf16) (j : Fin 2048) : EReal :=
  ∑ q : Fin 512, act h (fun k => w1 (ix2 k q)) * w2 (ix2 q j)

theorem pay5_at (y : Vec Ideal S1024x2048 .f32) (h : Vec Ideal S1024x2048 .bf16) (w1 : Vec Ideal S2048x512 .bf16)
    (w2 : Vec Ideal S512x2048 .bf16) (r : Fin 1024) (j : Fin 2048) :
    k0_pay5 y h w1 w2 (ix2 r j) = y (ix2 r j) + step (fun k => h (ix2 r k)) w1 w2 j := by
  pointwise [k0_pay5]
  rfl

theorem pay7_at (y : Vec Ideal S1024x2048 .f32) (s : Vec Ideal S1056x2048 .bf16) (w1 : Vec Ideal S2048x512 .bf16)
    (w2 : Vec Ideal S512x2048 .bf16) (r : Fin 1024) (j : Fin 2048) :
    k0_pay7 s w1 w2 y (ix2 r j) = y (ix2 r j) + step (fun k => s (ix2 ⟨r.val, by omega⟩ k)) w1 w2 j := by
  pointwise [k0_pay7, k0_pay6]
  rfl

theorem pay8_at (z : Vec Ideal S32x2048 .f32) (s : Vec Ideal S1056x2048 .bf16) (w1 : Vec Ideal S2048x512 .bf16)
    (w2 : Vec Ideal S512x2048 .bf16) (r : Fin 32) (j : Fin 2048) :
    k0_pay8 s w1 w2 z (ix2 r j) = z (ix2 r j) + step (fun k => s (ix2 ⟨1024 + r.val, by omega⟩ k)) w1 w2 j := by
  pointwise [k0_pay8, k0_pay6]
  rfl

theorem pay9_at (x y : Vec Ideal S1024x2048 .f32) (g : Vec Ideal S1x2048 .f32) (r : Fin 1024) (j : Fin 2048) :
    k0_pay9 x y g (ix2 r j) = nrm (fun k => x (ix2 r k) + y (ix2 r k)) (fun k => g (ix2 0 k)) j := by
  pointwise [k0_pay9]
  rfl

theorem pay10_at (x y : Vec Ideal S32x2048 .f32) (g : Vec Ideal S1x2048 .f32) (r : Fin 32) (j : Fin 2048) :
    k0_pay10 x y g (ix2 r j) = nrm (fun k => x (ix2 r k) + y (ix2 r k)) (fun k => g (ix2 0 k)) j := by
  pointwise [k0_pay10]
  rfl

end Cert.MlpIdeal.Value
-- ==== Proof.Mlp.Sums.lean ====
module

public import proofs.«01_k».proof.Proof.Mlp.Run
public import proofs.«01_k».proof.Proof.Mlp.Reads
public import proofs.«01_k».proof.Proof.Mlp.Pay

/-! What the feed-forward kernel holds at each grid point, in closed form: the normed rows, and the sum over the steps so
    far of a row against the two weight matrices. -/

@[expose] public section

set_option maxRecDepth 16384

noncomputable section

namespace Cert.MlpIdeal.Value

open Idealize.ShloMosaic Idealize.ShloMosaic.TcCoe Idealize.SL.Sem
open Cert.MlpIdeal Cert.MlpIdeal.Gen Cert.FeedForward

variable (m : (ℓ : Loc nD τ sig) → Buf (Elt Ideal) ℓ)

/-! ## The buffer of normed rows at a row -/

theorem upper_at (s : Vec Ideal S1056x2048 .bf16) (r : Fin 1024) (k : Fin 2048) :
    upper s (ix2 r k) = s (ix2 ⟨r.val, by omega⟩ k) := by
  unfold upper VecWindow.window
  congr 1
  funext a
  match a with
  | ⟨0, _⟩ => exact Fin.ext (show 0 + 1 * r.val = r.val by omega)
  | ⟨1, _⟩ => exact Fin.ext (show 0 + 1 * k.val = k.val by omega)

theorem setUpper_upper (s : Vec Ideal S1056x2048 .bf16) (h : Vec Ideal S1024x2048 .bf16) (r : Fin 1024) (k : Fin 2048) :
    setUpper s h (ix2 ⟨r.val, by omega⟩ k) = h (ix2 r k) :=
  (upper_at _ r k).symm.trans (congrFun (upper_setUpper s h) _)

theorem setLower_upper (s : Vec Ideal S1056x2048 .bf16) (h : Vec Ideal S32x2048 .bf16) (r : Fin 1024) (k : Fin 2048) :
    setLower s h (ix2 ⟨r.val, by omega⟩ k) = s (ix2 ⟨r.val, by omega⟩ k) := by
  unfold setLower VecWindow.put
  refine dif_neg fun hc => ?_
  have : 1024 ≤ r.val := (hc 0).1
  omega

theorem setLower_lower (s : Vec Ideal S1056x2048 .bf16) (h : Vec Ideal S32x2048 .bf16) (r : Fin 32) (k : Fin 2048) :
    setLower s h (ix2 ⟨1024 + r.val, by omega⟩ k) = h (ix2 r k) := by
  have e := congrFun (VecWindow.window_put_same s ![1024, 0] S32x2048.size inb_S1056x2048_S32x2048_1024_0 h) (ix2 r k)
  refine Eq.trans ?_ e
  unfold VecWindow.window
  congr 1
  funext a
  match a with
  | ⟨0, _⟩ => exact Fin.ext (show 1024 + r.val = 1024 + 1 * r.val by omega)
  | ⟨1, _⟩ => exact Fin.ext (show k.val = 0 + 1 * k.val by omega)

/-! ## The rows and the weights, as the layer's statement takes them -/

variable (c : Dev nD)

def scale (k : Fin 2048) : EReal := A2 m c (ix2 0 k)
def lastScale (k : Fin 2048) : EReal := A3 m c (ix1 k)
def w1 (k : Fin 2048) (f : Fin 8192) : EReal := A4 m c (ix3 0 k f)
def w2 (f : Fin 8192) (j : Fin 2048) : EReal := A5 m c (ix3 0 f j)
def promptRow (r : Fin 8192) (k : Fin 2048) : EReal := A0 m c (ix2 r k)
def sampleRow (r : Fin 32) (k : Fin 2048) : EReal := A1 m c (ix2 r k)

/-- One of the 8192 summands of a row's second product, and a step's 512 of them. -/
def term (x : Fin 2048 → EReal) (j : Fin 2048) (f : Fin 8192) : EReal := act (nrm x (scale m c)) (fun k => w1 m c k f) * w2 m c f j
def steps (x : Fin 2048 → EReal) (j : Fin 2048) (n : ℕ) : EReal := ∑ f ∈ Finset.range n, ∑ q : Fin 512, term m c x j (colOf f q)

theorem step_eq (t : Fin cfg0.N) (h x : Fin 2048 → EReal) (hh : h = nrm x (scale m c)) (j : Fin 2048) :
    step h (iblk m c 4 t : Vec Ideal S2048x512 .bf16) (iblk m c 5 t : Vec Ideal S512x2048 .bf16) j = ∑ q : Fin 512, term m c x j (colOf (t.val % 16) q) := by
  subst hh
  unfold step term
  refine Finset.sum_congr rfl fun q _ => ?_
  exact congrArg₂ (fun a b => a * b) (congrArg (act _) (funext fun k => x4_at m c t k q)) (x5_at m c t q j)

theorem steps_succ (x : Fin 2048 → EReal) (j : Fin 2048) (n : ℕ) :
    steps m c x j (n + 1) = steps m c x j n + ∑ q : Fin 512, term m c x j (colOf n q) := Finset.sum_range_succ _ _

theorem steps_zero (x : Fin 2048 → EReal) (j : Fin 2048) : steps m c x j 0 = 0 := Finset.sum_range_zero _

/-- All sixteen steps are the whole sum. -/
theorem steps_all (x : Fin 2048 → EReal) (j : Fin 2048) : steps m c x j 16 = ∑ f, term m c x j f := by
  unfold steps
  rw [Finset.sum_range, ← Fintype.sum_prod_type']
  refine Fintype.sum_equiv (finProdFinEquiv (m := 16) (n := 512)) _ _ fun p => ?_
  refine congrArg (term m c x j) (Fin.ext ?_)
  rw [colOf_val p.1.isLt]
  show p.1.val * 512 + p.2.val = p.2.val + 512 * p.1.val
  omega

/-- A row's result, from all the steps. -/
theorem ff_steps (x : Fin 2048 → EReal) (j : Fin 2048) :
    nrm (fun k => x k + steps m c x k 16) (lastScale m c) j = ff x (scale m c) (lastScale m c) (w1 m c) (w2 m c) j := by
  unfold ff
  refine congrArg (fun v => nrm v (lastScale m c) j) (funext fun k => ?_)
  rw [steps_all]
  rfl

/-! ## The normed rows -/

theorem pay1_row (t : Fin cfg0.N) (r : Fin 1024) (k : Fin 2048) :
    k0_pay1 (iblk m c 0 t : Vec Ideal S1024x2048 .f32) (iblk m c 2 t : Vec Ideal S1x2048 .f32) (ix2 r k)
      = nrm (promptRow m c (rowOf (t.val / 16) r)) (scale m c) k :=
  (pay1_at _ _ r k).trans (congrArg₂ (fun a b => nrm a b k) (funext fun j => x0_at m c t r j) (funext fun j => x2_at m c t j))

theorem pay3_row (t : Fin cfg0.N) (r : Fin 32) (k : Fin 2048) :
    k0_pay3 (iblk m c 1 t : Vec Ideal S32x2048 .f32) (iblk m c 2 t : Vec Ideal S1x2048 .f32) (ix2 r k)
      = nrm (sampleRow m c r) (scale m c) k :=
  (pay3_at _ _ r k).trans (congrArg₂ (fun a b => nrm a b k) (funext fun j => x1_at m c t r j) (funext fun j => x2_at m c t j))

/-- After a point, the first rows are its row block's. -/
theorem normed_upper (n : ℕ) (hn : n < 128) (r : Fin 1024) (k : Fin 2048) :
    (normed m c (n + 1) : Vec Ideal S1056x2048 .bf16) (ix2 ⟨r.val, by omega⟩ k) = nrm (promptRow m c (rowOf (n / 16) r)) (scale m c) k := by
  induction n with
  | zero =>
    have h := normed_succ m c ⟨0, Nat.lt_of_lt_of_eq hn N_0.symm⟩
    have h1 : first (grid0.coords (⟨0, Nat.lt_of_lt_of_eq hn N_0.symm⟩ : Fin cfg0.N)) := (first_iff _).mpr rfl
    have h2 : ¬sampleFirst (grid0.coords (⟨0, Nat.lt_of_lt_of_eq hn N_0.symm⟩ : Fin cfg0.N)) := fun e => absurd (show 0 % 128 = 112 from (sampleFirst_iff _).mp e) (by decide)
    refine (congrFun h _).trans ?_
    unfold rowsAfter
    simp only [if_pos h1, if_neg h2]
    rw [setUpper_upper]
    exact pay1_row m c _ r k
  | succ n ih =>
    have ih := ih (by omega)
    have hN : n + 1 < cfg0.N := Nat.lt_of_lt_of_eq hn N_0.symm
    refine (congrFun (normed_succ m c ⟨n + 1, hN⟩) _).trans ?_
    unfold rowsAfter
    by_cases h1 : first (grid0.coords (⟨n + 1, hN⟩ : Fin cfg0.N))
    · by_cases h2 : sampleFirst (grid0.coords (⟨n + 1, hN⟩ : Fin cfg0.N))
      · simp only [if_pos h1, if_pos h2]
        rw [setLower_upper, setUpper_upper]
        exact pay1_row m c _ r k
      · simp only [if_pos h1, if_neg h2]
        rw [setUpper_upper]
        exact pay1_row m c _ r k
    · have e1 : ¬(n + 1) % 16 = 0 := fun e => h1 ((first_iff _).mpr e)
      have h2 : ¬sampleFirst (grid0.coords (⟨n + 1, hN⟩ : Fin cfg0.N)) := fun e => by
        have e : (n + 1) % 128 = 112 := (sampleFirst_iff _).mp e
        omega
      simp only [if_neg h1, if_neg h2]
      refine ih.trans ?_
      rw [show (n + 1) / 16 = n / 16 by omega]

/-- From the last row block on, the rows after them are the sampled rows. -/
theorem normed_lower (n : ℕ) (hn : n < 128) (h112 : 112 ≤ n) (r : Fin 32) (k : Fin 2048) :
    (normed m c (n + 1) : Vec Ideal S1056x2048 .bf16) (ix2 ⟨1024 + r.val, by omega⟩ k) = nrm (sampleRow m c r) (scale m c) k := by
  induction n, h112 using Nat.le_induction with
  | base =>
    have hN : 112 < cfg0.N := Nat.lt_of_lt_of_eq hn N_0.symm
    have h2 : sampleFirst (grid0.coords (⟨112, hN⟩ : Fin cfg0.N)) := (sampleFirst_iff _).mpr rfl
    refine (congrFun (normed_succ m c ⟨112, hN⟩) _).trans ?_
    unfold rowsAfter
    simp only [if_pos h2]
    rw [setLower_lower]
    exact pay3_row m c _ r k
  | succ n h112 ih =>
    have hN : n + 1 < cfg0.N := Nat.lt_of_lt_of_eq hn N_0.symm
    refine (congrFun (normed_succ m c ⟨n + 1, hN⟩) _).trans ?_
    unfold rowsAfter
    have h1 : ¬first (grid0.coords (⟨n + 1, hN⟩ : Fin cfg0.N)) := fun e => by
      have e : (n + 1) % 16 = 0 := (first_iff _).mp e
      omega
    have h2 : ¬sampleFirst (grid0.coords (⟨n + 1, hN⟩ : Fin cfg0.N)) := fun e => by
      have e : (n + 1) % 128 = 112 := (sampleFirst_iff _).mp e
      omega
    simp only [if_neg h1, if_neg h2]
    exact ih (by omega)

/-! ## The sums -/

/-- The first result window with a point's step added to it. -/
abbrev stepped (t : Fin cfg0.N) (y : Vec Ideal S1024x2048 .f32) : Vec Ideal S1024x2048 .f32 :=
  let y2 := if early (grid0.coords t) then k0_pay5 y (upper (normed m c (t.val + 1))) (iblk m c 4 t) (iblk m c 5 t) else y
  if joint (grid0.coords t) then k0_pay7 (normed m c (t.val + 1)) (iblk m c 4 t) (iblk m c 5 t) y2 else y2

theorem stepped_at (t : Fin cfg0.N) (y : Vec Ideal S1024x2048 .f32) (r : Fin 1024) (j : Fin 2048) :
    stepped m c t y (ix2 r j)
      = y (ix2 r j) + ∑ q : Fin 512, term m c (promptRow m c (rowOf (t.val / 16) r)) j (colOf (t.val % 16) q) := by
  unfold stepped
  have ht : t.val < 128 := Nat.lt_of_lt_of_eq t.isLt N_0
  by_cases h3 : early (grid0.coords t)
  · have h4 : ¬joint (grid0.coords t) := by rw [joint_iff]; rw [early_iff] at h3; omega
    rw [if_neg h4, if_pos h3]
    refine (pay5_at _ _ _ _ r j).trans (congrArg (y (ix2 r j) + ·) ?_)
    exact step_eq m c t _ _ (funext fun k => (upper_at _ r k).trans (normed_upper m c t.val ht r k)) j
  · have h4 : joint (grid0.coords t) := by rw [joint_iff]; rw [early_iff] at h3; omega
    rw [if_pos h4, if_neg h3]
    refine (pay7_at _ _ _ _ r j).trans (congrArg (y (ix2 r j) + ·) ?_)
    exact step_eq m c t _ _ (funext fun k => normed_upper m c t.val ht r k) j

theorem out_step (t : Fin cfg0.N) (r : Fin 1024) (j : Fin 2048) (h : t.val % 16 ≠ 0 → ∀ j, (out m c t.val : Vec Ideal S1024x2048 .f32) (ix2 r j) = steps m c (promptRow m c (rowOf (t.val / 16) r)) j (t.val % 16)) :
    (out m c (t.val + 1) : Vec Ideal S1024x2048 .f32) (ix2 r j)
      = if t.val % 16 = 15 then ff (promptRow m c (rowOf (t.val / 16) r)) (scale m c) (lastScale m c) (w1 m c) (w2 m c) j
        else steps m c (promptRow m c (rowOf (t.val / 16) r)) j (t.val % 16 + 1) := by
  have hs : ∀ j, stepped m c t (if first (grid0.coords t) then k0_pay2 (F := Ideal) else out m c t.val) (ix2 r j)
      = steps m c (promptRow m c (rowOf (t.val / 16) r)) j (t.val % 16 + 1) := fun j => by
    rw [stepped_at, steps_succ]
    refine congrArg (· + _) ?_
    by_cases h1 : first (grid0.coords t)
    · rw [if_pos h1]
      rw [first_iff] at h1
      rw [h1, steps_zero]
      exact pay2_at r j
    · rw [if_neg h1]
      rw [first_iff] at h1
      exact h h1 j
  rw [out_succ]
  unfold outAfter
  rw [← normed_succ]
  by_cases h5 : last (grid0.coords t)
  · rw [if_pos h5]
    rw [last_iff] at h5
    rw [if_pos h5]
    refine (pay9_at _ _ _ r j).trans ?_
    rw [← ff_steps]
    refine congrArg₂ (fun a b => nrm a b j) (funext fun k => congrArg₂ (fun a b => a + b) (x0_at m c t r k) ((hs k).trans ?_)) (funext fun k => x3_at m c t k)
    rw [h5]
  · rw [if_neg h5]
    rw [last_iff] at h5
    rw [if_neg h5]
    exact hs j

/-- The first result window between the points of a row block. -/
theorem out_partial (n : ℕ) (hn : n < 128) (h15 : n % 16 ≠ 15) (r : Fin 1024) (j : Fin 2048) :
    (out m c (n + 1) : Vec Ideal S1024x2048 .f32) (ix2 r j) = steps m c (promptRow m c (rowOf (n / 16) r)) j (n % 16 + 1) := by
  induction n generalizing j with
  | zero => exact (out_step m c ⟨0, Nat.lt_of_lt_of_eq hn N_0.symm⟩ r j fun h => absurd rfl h).trans (if_neg h15)
  | succ n ih =>
    refine (out_step m c ⟨n + 1, Nat.lt_of_lt_of_eq hn N_0.symm⟩ r j fun h j => ?_).trans (if_neg h15)
    have h : (n + 1) % 16 ≠ 0 := h
    refine (ih (by omega) (by omega) j).trans ?_
    show steps m c (promptRow m c (rowOf (n / 16) r)) j (n % 16 + 1) = steps m c (promptRow m c (rowOf ((n + 1) / 16) r)) j ((n + 1) % 16)
    rw [show (n + 1) / 16 = n / 16 by omega, show (n + 1) % 16 = n % 16 + 1 by omega]

/-- The first result window where a row block ends: the layer's rows. -/
theorem out_last (t : Fin cfg0.N) (h15 : t.val % 16 = 15) (r : Fin 1024) (j : Fin 2048) :
    (out m c (t.val + 1) : Vec Ideal S1024x2048 .f32) (ix2 r j)
      = ff (promptRow m c (rowOf (t.val / 16) r)) (scale m c) (lastScale m c) (w1 m c) (w2 m c) j := by
  have ht : t.val < 128 := Nat.lt_of_lt_of_eq t.isLt N_0
  obtain ⟨n, hn⟩ : ∃ n, t.val = n + 1 := ⟨t.val - 1, by omega⟩
  refine (out_step m c t r j fun h j => ?_).trans (if_pos h15)
  rw [hn]
  refine (out_partial m c n (by omega) (by omega) r j).trans ?_
  rw [show (n + 1) / 16 = n / 16 by omega, show (n + 1) % 16 = n % 16 + 1 by omega]

theorem sample_step (t : Fin cfg0.N) (h112 : 112 ≤ t.val) (r : Fin 32) (j : Fin 2048) (h : t.val ≠ 112 → ∀ j, (sample m c t.val : Vec Ideal S32x2048 .f32) (ix2 r j) = steps m c (sampleRow m c r) j (t.val % 16)) :
    (sample m c (t.val + 1) : Vec Ideal S32x2048 .f32) (ix2 r j)
      = if t.val = 127 then ff (sampleRow m c r) (scale m c) (lastScale m c) (w1 m c) (w2 m c) j
        else steps m c (sampleRow m c r) j (t.val % 16 + 1) := by
  have ht : t.val < 128 := Nat.lt_of_lt_of_eq t.isLt N_0
  have h4 : joint (grid0.coords t) := (joint_iff t).mpr h112
  have hs : ∀ j, k0_pay8 (normed m c (t.val + 1)) (iblk m c 4 t) (iblk m c 5 t) (if sampleFirst (grid0.coords t) then k0_pay4 (F := Ideal) else sample m c t.val) (ix2 r j)
      = steps m c (sampleRow m c r) j (t.val % 16 + 1) := fun j => by
    refine (pay8_at _ _ _ _ r j).trans ?_
    rw [steps_succ]
    refine congrArg₂ (fun a b => a + b) ?_ (step_eq m c t _ _ (funext fun k => normed_lower m c t.val ht h112 r k) j)
    by_cases h1 : sampleFirst (grid0.coords t)
    · rw [if_pos h1]
      rw [sampleFirst_iff] at h1
      rw [show t.val % 16 = 0 by omega, steps_zero]
      exact pay4_at r j
    · rw [if_neg h1]
      rw [sampleFirst_iff] at h1
      exact h (by omega) j
  rw [sample_succ]
  unfold sampleAfter
  rw [← normed_succ, if_pos h4]
  by_cases h5 : sampleLast (grid0.coords t)
  · rw [if_pos h5]
    rw [sampleLast_iff] at h5
    rw [if_pos (show t.val = 127 by omega)]
    refine (pay10_at _ _ _ r j).trans ?_
    rw [← ff_steps]
    refine congrArg₂ (fun a b => nrm a b j) (funext fun k => congrArg₂ (fun a b => a + b) (x1_at m c t r k) ((hs k).trans ?_)) (funext fun k => x3_at m c t k)
    rw [show t.val % 16 + 1 = 16 by omega]
  · rw [if_neg h5]
    rw [sampleLast_iff] at h5
    rw [if_neg (show ¬t.val = 127 by omega)]
    exact hs j

/-- The second result window between the points of the last row block. -/
theorem sample_partial (n : ℕ) (hn : n < 127) (h112 : 112 ≤ n) (r : Fin 32) (j : Fin 2048) :
    (sample m c (n + 1) : Vec Ideal S32x2048 .f32) (ix2 r j) = steps m c (sampleRow m c r) j (n % 16 + 1) := by
  induction n, h112 using Nat.le_induction generalizing j with
  | base => exact (sample_step m c ⟨112, Nat.lt_of_lt_of_eq (by omega) N_0.symm⟩ (Nat.le_refl _) r j fun h => absurd rfl h).trans (if_neg (by decide))
  | succ n h112 ih =>
    refine (sample_step m c ⟨n + 1, Nat.lt_of_lt_of_eq (by omega) N_0.symm⟩ (Nat.le_succ_of_le h112) r j fun _ j => ?_).trans (if_neg (by show ¬n + 1 = 127; omega))
    refine (ih (by omega) j).trans ?_
    show steps m c (sampleRow m c r) j (n % 16 + 1) = steps m c (sampleRow m c r) j ((n + 1) % 16)
    rw [show (n + 1) % 16 = n % 16 + 1 by omega]

/-- The second result window at the end of the grid: the layer's rows. -/
theorem sample_last (t : Fin cfg0.N) (ht : t.val = 127) (r : Fin 32) (j : Fin 2048) :
    (sample m c (t.val + 1) : Vec Ideal S32x2048 .f32) (ix2 r j)
      = ff (sampleRow m c r) (scale m c) (lastScale m c) (w1 m c) (w2 m c) j := by
  refine (sample_step m c t (by omega) r j fun _ j => ?_).trans (if_pos ht)
  rw [ht]
  exact sample_partial m c 126 (by omega) (by omega) r j

end Cert.MlpIdeal.Value
-- ==== Proof.Mlp.Arrays.lean ====
module

public import proofs.«01_k».proof.Proof.Mlp.Sums

/-! The feed-forward kernel's two result arrays after the run: the layer's rows. -/

@[expose] public section

set_option maxRecDepth 16384

noncomputable section

namespace Cert.MlpIdeal.Value

open Idealize.ShloMosaic Idealize.ShloMosaic.TcCoe Idealize.SL.Sem
open Idealize.ShloMosaic.Pipeline (Dat RDat)
open Cert.MlpIdeal Cert.MlpIdeal.Gen Cert.FeedForward

variable (m : (ℓ : Loc nD τ sig) → Buf (Elt Ideal) ℓ) (ρ : Dev nD → PrngReg) (c : Dev nD)

/-- The two results. -/
def prompt : S8192x2048.Idx → EReal := fun y => ff (promptRow m c (y 0)) (scale m c) (lastScale m c) (w1 m c) (w2 m c) (y 1)
def sampled : S32x2048.Idx → EReal := fun y => ff (sampleRow m c (y 0)) (scale m c) (lastScale m c) (w1 m c) (w2 m c) (y 1)

/-- A point of every row block. -/
theorem exists_point (n : Fin 8) : ∃ i : grid0.Coords, (i 0).val = n.val :=
  ⟨grid0.coords ⟨16 * n.val, Nat.lt_of_lt_of_eq (by omega : 16 * n.val < 128) N_0.symm⟩,
    (coords_val _).1.trans (by show 16 * n.val / 16 = n.val; omega)⟩

theorem covers : (cfg0.win 6).Covers := by
  refine Pipeline.Window.covers_of_indexMap_surj _ rfl (fun a => (show ∀ a : Fin 2, 0 < (![1024, 2048] : Fin 2 → Nat) a by decide) a) fun β => ?_
  have h0 : (β (show Fin (cfg0.win 6).shape.rank from (0 : Fin 2))).val < (8192 + 1024 - 1) / 1024 := (β (show Fin (cfg0.win 6).shape.rank from (0 : Fin 2))).isLt
  obtain ⟨i, hi⟩ := exists_point ⟨_, h0⟩
  refine ⟨i, fun a => (congrFun (maps i).2.2.2.2.2.2.1 a).trans ?_⟩
  have h := (β a).isLt
  match a with
  | ⟨0, _⟩ => exact hi
  | ⟨1, _⟩ =>
    have h' : _ < (2048 + 2048 - 1) / 2048 := h
    exact (Nat.lt_one_iff.1 h').symm

/-- The first result is written back where a row block ends. -/
theorem flush_last : ∀ t : Fin cfg0.N, (cfg0.win 6).flush t = true → t.val % 16 = 15 :=
  (by decide +kernel : ∀ t : Fin grid0.N, (cfg0.win 6).flush t = true → t.val % 16 = 15)

/-- The second result is written back once, at the end. -/
theorem whole_last : (cfg0.win 7).WholeAt ⟨127, Nat.lt_of_lt_of_eq (by omega) N_0.symm⟩ := by decide +kernel

section

variable (after : (w : Fin cfg0.W) → Fin cfg0.N → (cfg0.win w).block.Idx → Elt Ideal (cfg0.win w).elt)
  (hL : ∀ (w : Fin cfg0.W) (u : Fin cfg0.N), (cfg0.win w).flush u = true → (rdata m c).Leaves w u (after w u))

include hL in
theorem prompt_arr : (show S8192x2048.Idx → EReal from ((rdata m c).withAfter after).arrAt 6 cfg0.N) = prompt m c := by
  refine ((rdata m c).withAfter after).arrAt_eq_of_covers 6 _ covers fun t hf y => ?_
  have e : after 6 t = out m c (t.val + 1) := (data m 0 c).toRRel_leaves (fgt := held) (Rl := Left m c) (w := 6) rfl (hL 6 t hf)
  have ht : t.val < 128 := Nat.lt_of_lt_of_eq t.isLt N_0
  blk_simp
  rw [RDat.withAfter_after, e]
  have hy : y = ix2 (show Fin 1024 from y 0) (show Fin 2048 from y 1) := eq_ix2 (show S1024x2048.Idx from y)
  refine (congrArg (out m c (t.val + 1) : Vec Ideal S1024x2048 .f32) hy).trans ?_
  refine (out_last m c t (flush_last t hf) (show Fin 1024 from y 0) (show Fin 2048 from y 1)).trans ?_
  have er := rowOf_val (i := t.val / 16) (by omega) (show Fin 1024 from y 0)
  show prompt m c (ix2 (rowOf (t.val / 16) (show Fin 1024 from y 0)) (show Fin 2048 from y 1)) = prompt m c _
  blk_ext [idx t, er]

include hL in
theorem sampled_arr : (show S32x2048.Idx → EReal from ((rdata m c).withAfter after).arrAt 7 cfg0.N) = sampled m c := by
  let t : Fin cfg0.N := ⟨127, Nat.lt_of_lt_of_eq (by omega) N_0.symm⟩
  have e0 : Left m c 7 t (after 7 t) := (data m 0 c).toRRel_leaves (fgt := held) (Rl := Left m c) (w := 7) rfl (hL 7 t whole_last.1)
  have e : after 7 t = sample m c (t.val + 1) := e0 (show 112 ≤ 127 by decide)
  funext j
  refine (((rdata m c).withAfter after).arrAt_emb_eq_after_last 7 t whole_last j).trans ?_
  blk_simp
  rw [RDat.withAfter_after, e]
  refine (congrArg (sample m c (t.val + 1) : Vec Ideal S32x2048 .f32) (eq_ix2 (show S32x2048.Idx from j))).trans ?_
  exact sample_last m c t rfl (j 0) (j 1)

end

/-- What the kernel leaves in its results. -/
theorem results : θ_run (defs (F := Ideal)) (onTc (τ := τ) (main (F := Ideal))) ⟨m, fun _ => 0, ρ⟩ (fun r => ∀ c : Dev nD,
      r.2.mem ((c.tc : Thread nD τ).loc main_v7_0) = prompt m c ∧ r.2.mem ((c.tc : Thread nD τ).loc main_v7_1) = sampled m c) :=
  (θ_run defs _ _).mono (fun r h c => by
    obtain ⟨after, hL, hA⟩ := h.1.exists_exact c
    exact ⟨(hA 6).trans (prompt_arr m c after hL), (hA 7).trans (sampled_arr m c after hL)⟩) (run_main m ρ)

end Cert.MlpIdeal.Value
-- ==== Proof.Mlp.RefValue.lean ====
module

public import proofs.«01_k».proof.Proof.Gen.MlpRefIdeal.Run
public import proofs.«01_k».proof.Proof.Mlp.Spec

/-! The feed-forward reference's two results, read at a row and a column. -/

@[expose] public section

set_option maxRecDepth 16384

noncomputable section

namespace Cert.MlpRefIdeal.Value

open Idealize.ShloMosaic Idealize.ShloMosaic.TcCoe Idealize.SL.Sem
open Cert.MlpRefIdeal Cert.MlpRefIdeal.Gen Cert.FeedForward

variable (m : (ℓ : Loc nD τ sig) → Buf (Elt Ideal) ℓ)

abbrev B0 (c : Dev nD) : S8192x2048.Idx → EReal := m ((c : Thread nD τ).loc main_arg0)
abbrev B1 (c : Dev nD) : S32x2048.Idx → EReal := m ((c : Thread nD τ).loc main_arg1)
abbrev B2 (c : Dev nD) : S1x2048.Idx → EReal := m ((c : Thread nD τ).loc main_arg2)
abbrev B3 (c : Dev nD) : S2048.Idx → EReal := m ((c : Thread nD τ).loc main_arg3)
abbrev B4 (c : Dev nD) : S1x2048x8192.Idx → EReal := m ((c : Thread nD τ).loc main_arg4)
abbrev B5 (c : Dev nD) : S1x8192x2048.Idx → EReal := m ((c : Thread nD τ).loc main_arg5)

theorem prompt_at (c : Dev nD) (r : Fin 8192) (j : Fin 2048) :
    (show EReal from (res_main_v34 m c : FVec Ideal S8192x2048 .f32) (ix2 r j))
      = ff (fun k => B0 m c (ix2 r k)) (fun k => B2 m c (ix2 0 k)) (fun k => B3 m c (ix1 k))
          (fun k f => B4 m c (ix3 0 k f)) (fun f j => B5 m c (ix3 0 f j)) j := by
  unfold res_main_v34
  clean_types
  pointwise
  rfl

theorem sample_at (c : Dev nD) (r : Fin 32) (j : Fin 2048) :
    (show EReal from (res_main_v69 m c : FVec Ideal S32x2048 .f32) (ix2 r j))
      = ff (fun k => B1 m c (ix2 r k)) (fun k => B2 m c (ix2 0 k)) (fun k => B3 m c (ix1 k))
          (fun k f => B4 m c (ix3 0 k f)) (fun f j => B5 m c (ix3 0 f j)) j := by
  unfold res_main_v69
  clean_types
  pointwise
  rfl

end Cert.MlpRefIdeal.Value
-- ==== Proof.Mlp.Claims.lean ====
module

public import proofs.«01_k».proof.Defs
public import proofs.«01_k».proof.Proof.Gen.Mlp
public import proofs.«01_k».proof.Proof.Mlp.Arrays
public import proofs.«01_k».proof.Proof.Mlp.RefValue

/-! The claims about the feed-forward kernel and its reference. -/

@[expose] public section

set_option maxRecDepth 16384

noncomputable section

namespace Cert.FeedForward

open Idealize.ShloMosaic Idealize.ShloMosaic.TcCoe Idealize.SL.Sem

section Same

set_option backward.isDefEq.respectTransparency false
set_option backward.isDefEq.respectTransparency.types false

/-! The two kernels have one text, so they are one program. -/

theorem body_same : @Cert.Mlp.cc0_mlp Bits _ _ = @Cert.MlpIdeal.cc0_mlp Bits _ _ := rfl

theorem bodies_same : @Cert.Mlp.defs₀ Bits _ _ = @Cert.MlpIdeal.defs₀ Bits _ _ := by
  unfold Cert.Mlp.defs₀ Cert.MlpIdeal.defs₀
  refine congrArg Defs.onTc ?_
  funext a p
  match a, p with
  | 0, (t, s) => exact congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _

theorem defs_same : @Cert.Mlp.defs Bits _ _ = @Cert.MlpIdeal.defs Bits _ _ :=
  congrArg (fun D : Defs Cert.Mlp.nD Cert.Mlp.τ Cert.Mlp.sig (Elt Bits) Cert.Mlp.Λ₀ => Pipeline.defs (@Cert.Mlp.pcfgs Bits _) D) bodies_same

/-- The run over any float values is the run of each. -/
theorem frame : Cert.quiescent_Mlp := fun m g _ => by
  rw [defs_same]
  exact (θ_run Cert.MlpIdeal.defs _ _).mono (fun _ h => h) (Cert.MlpIdeal.frame_run (F := Bits) m g)

end Same

theorem frame_ideal : Cert.quiescent_MlpIdeal := fun m g _ => Cert.MlpIdeal.frame_run (F := Ideal) m g

theorem frame_ref : Cert.quiescent_MlpRefIdeal := fun m g _ =>
  (θ_run Cert.MlpRefIdeal.defs _ _).mono (fun r h => ⟨fun c => (h c).2.2, sem_eq_zero_of_no_sems (by decide) r.2⟩)
    (Cert.MlpRefIdeal.Value.run (F := Ideal) m g)

theorem preserves : Cert.preserves_Mlp_MlpIdeal := trivial

section

variable (m : (ℓ : Loc Cert.MlpIdeal.nD Cert.MlpIdeal.τ Cert.MlpIdeal.sig) → Buf (Elt Ideal) ℓ)
  (m' : (ℓ : Loc Cert.MlpRefIdeal.nD Cert.MlpRefIdeal.τ Cert.MlpRefIdeal.sig) → Buf (Elt Ideal) ℓ) (c : Dev Cert.MlpIdeal.nD)
  (h0 : Cert.MlpRefIdeal.Value.B0 m' c = Cert.MlpIdeal.Value.A0 m c) (h1 : Cert.MlpRefIdeal.Value.B1 m' c = Cert.MlpIdeal.Value.A1 m c)
  (h2 : Cert.MlpRefIdeal.Value.B2 m' c = Cert.MlpIdeal.Value.A2 m c) (h3 : Cert.MlpRefIdeal.Value.B3 m' c = Cert.MlpIdeal.Value.A3 m c)
  (h4 : Cert.MlpRefIdeal.Value.B4 m' c = Cert.MlpIdeal.Value.A4 m c) (h5 : Cert.MlpRefIdeal.Value.B5 m' c = Cert.MlpIdeal.Value.A5 m c)

include h0 h2 h3 h4 h5 in
theorem ref_prompt : Cert.MlpRefIdeal.Value.res_main_v34 m' c = Cert.MlpIdeal.Value.prompt m c := by
  funext y
  refine (congrArg (Cert.MlpRefIdeal.Value.res_main_v34 m' c) (eq_ix2 y)).trans ?_
  refine (Cert.MlpRefIdeal.Value.prompt_at m' c (y 0) (y 1)).trans ?_
  rw [h0, h2, h3, h4, h5]
  rfl

include h1 h2 h3 h4 h5 in
theorem ref_sampled : Cert.MlpRefIdeal.Value.res_main_v69 m' c = Cert.MlpIdeal.Value.sampled m c := by
  funext y
  refine (congrArg (Cert.MlpRefIdeal.Value.res_main_v69 m' c) (eq_ix2 y)).trans ?_
  refine (Cert.MlpRefIdeal.Value.sample_at m' c (y 0) (y 1)).trans ?_
  rw [h1, h2, h3, h4, h5]
  rfl

end

theorem algebraic : Cert.algebraic_MlpIdeal_MlpRefIdeal := by
  intro m g m' g' _ hargs
  refine ⟨fun c => Cert.MlpIdeal.Value.prompt m c, fun c => Cert.MlpIdeal.Value.sampled m c, ?_, ?_⟩
  · exact (θ_run Cert.MlpIdeal.defs _ _).mono (fun r h c => ⟨(h.1 c).1, (h.1 c).2, h.2.1 c⟩)
      (θ_run_and (Cert.MlpIdeal.Value.results m g) (Cert.MlpIdeal.frame_run m g))
  · refine (θ_run Cert.MlpRefIdeal.defs _ _).mono (fun r h c => ?_) (Cert.MlpRefIdeal.Value.run m' g')
    obtain ⟨a0, a1, a2, a3, a4, a5⟩ := hargs c
    exact ⟨(h c).1.trans (ref_prompt m m' c a0 a2 a3 a4 a5), (h c).2.1.trans (ref_sampled m m' c a1 a2 a3 a4 a5), (h c).2.2⟩

end Cert.FeedForward

end
-- ==== Proof.Conv.Spec.lean ====
module

public import proofs.«01_k».proof.Proof.Mlp.Spec

/-! The convolution branch at a row, from the normalised row on. -/

@[expose] public section

noncomputable section

namespace Cert.ConvBranch

open Idealize.ShloMosaic Cert.FeedForward

/-- A normalised row against one column of the projection matrix. -/
def proj (x g : Fin 2048 → EReal) (w : Fin 2048 → Fin 11344 → EReal) (o : Fin 11344) : EReal := ∑ k, nrm x g k * w k o

/-- The three groups of columns. -/
def colX (j : Fin 1024) : Fin 11344 := ⟨4176 + j.val, by omega⟩
def colB (j : Fin 1024) : Fin 11344 := ⟨5200 + j.val, by omega⟩
def colC (j : Fin 1024) : Fin 11344 := ⟨6224 + j.val, by omega⟩

/-- The row that is convolved. -/
def inner (x g : Fin 2048 → EReal) (w : Fin 2048 → Fin 11344 → EReal) (j : Fin 1024) : EReal :=
  proj x g w (colC j) * proj x g w (colX j)

/-- The gate times three taps. -/
def gated (b c0 c1 c2 u0 u1 u2 : EReal) : EReal := b * (c0 * u0 + c1 * u1 + c2 * u2)

section

variable (X : Fin 8192 → Fin 2048 → EReal) (g : Fin 2048 → EReal) (w : Fin 2048 → Fin 11344 → EReal) (c : Fin 3 → Fin 1024 → EReal)

/-- The convolved row two before, and one before, a row of its sequence of 2048; nothing before the first. -/
def promptTwo (r : Fin 8192) (j : Fin 1024) : EReal :=
  if h : r.val % 2048 < 2 then 0 else inner (X ⟨r.val / 2048 * 2048 + (r.val % 2048 - 2), by omega⟩) g w j
def promptOne (r : Fin 8192) (j : Fin 1024) : EReal :=
  if h : 1 + r.val % 2048 < 2 then 0 else inner (X ⟨r.val / 2048 * 2048 + (1 + r.val % 2048 - 2), by omega⟩) g w j

/-- The branch's row, before its last projection. -/
def promptOut (r : Fin 8192) (j : Fin 1024) : EReal :=
  gated (proj (X r) g w (colB j)) (c 0 j) (c 1 j) (c 2 j) (promptTwo X g w r j) (promptOne X g w r j) (inner (X r) g w j)

/-- The last two convolved rows of a sequence. -/
def promptState (b : Fin 4) (s : Fin 2) (j : Fin 1024) : EReal := inner (X ⟨b.val * 2048 + (2048 + s.val - 2), by omega⟩) g w j

end

section

variable (X : Fin 32 → Fin 2048 → EReal) (g : Fin 2048 → EReal) (w : Fin 2048 → Fin 11344 → EReal) (c : Fin 3 → Fin 1024 → EReal)
  (st : Fin 8 → Fin 2 → Fin 1024 → EReal)

/-- The same of a group of four rows, which the two rows of its state precede. -/
def sampleTwo (r : Fin 32) (j : Fin 1024) : EReal :=
  if h : r.val % 4 < 2 then st ⟨r.val / 4, by omega⟩ ⟨r.val % 4, h⟩ j
  else inner (X ⟨r.val / 4 * 4 + (r.val % 4 - 2), by omega⟩) g w j
def sampleOne (r : Fin 32) (j : Fin 1024) : EReal :=
  if h : 1 + r.val % 4 < 2 then st ⟨r.val / 4, by omega⟩ ⟨1 + r.val % 4, h⟩ j
  else inner (X ⟨r.val / 4 * 4 + (1 + r.val % 4 - 2), by omega⟩) g w j

def sampleOut (r : Fin 32) (j : Fin 1024) : EReal :=
  gated (proj (X r) g w (colB j)) (c 0 j) (c 1 j) (c 2 j) (sampleTwo X g w st r j) (sampleOne X g w st r j) (inner (X r) g w j)

def sampleState (b : Fin 8) (s : Fin 2) (j : Fin 1024) : EReal := inner (X ⟨b.val * 4 + (4 + s.val - 2), by omega⟩) g w j

end

end Cert.ConvBranch
-- ==== Proof.Conv.Reads.lean ====
module

public import proofs.«01_k».proof.Proof.Gen.ConvIdeal.Frame
public import Idealize.ShloMosaic.Lib.Pipeline.Covers
public import Idealize.ShloMosaic.Lib.Pipeline.ValueKit
public import proofs.«01_k».proof.Proof.Conv.Spec

/-! What the prompt kernel's windows read, as entries of its arguments. -/

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvBranch

variable (m : (ℓ : Loc nD τ sig) → Buf (Elt Ideal) ℓ)

abbrev A0 (c : Dev nD) : S8192x2048.Idx → EReal := m ((c : Thread nD τ).loc main_arg0)
abbrev A1 (c : Dev nD) : S1x2048.Idx → EReal := m ((c : Thread nD τ).loc main_arg1)
abbrev A2 (c : Dev nD) : S1x2048x11344.Idx → EReal := m ((c : Thread nD τ).loc main_arg2)
abbrev A3 (c : Dev nD) : S1x3x1024.Idx → EReal := m ((c : Thread nD τ).loc main_arg3)
abbrev A4 (c : Dev nD) : S1x1024x2048.Idx → EReal := m ((c : Thread nD τ).loc main_arg4)
abbrev A5 (c : Dev nD) : S1x1024x2048.Idx → EReal := m ((c : Thread nD τ).loc main_arg5)
abbrev A6 (c : Dev nD) : S1x2048x2048.Idx → EReal := m ((c : Thread nD τ).loc main_arg6)

/-! The arrays the call is given, which the lines before it computed. -/

theorem v2_at (c : Dev nD) (o : Fin 11344) (k : Fin 2048) :
    (show EReal from (V m c main_v2 : Vec Ideal S11344x2048 .bf16) (ix2 o k)) = A2 m c (ix3 0 k o) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v4_at (c : Dev nD) (j : Fin 2048) :
    (show EReal from (V m c main_v4 : Vec Ideal S1x2048 .f32) (ix2 0 j)) = A1 m c (ix2 0 j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v5_at (c : Dev nD) (r : Fin 3) (j : Fin 1024) :
    (show EReal from (V m c main_v5 : Vec Ideal S3x1024 .f32) (ix2 r j)) = A3 m c (ix3 0 r j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v6_at (c : Dev nD) (r : Fin 1024) (j : Fin 2048) :
    (show EReal from (V m c main_v6 : Vec Ideal S1024x2048 .f32) (ix2 r j)) = A4 m c (ix3 0 r j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v7_at (c : Dev nD) (r : Fin 1024) (j : Fin 2048) :
    (show EReal from (V m c main_v7 : Vec Ideal S1024x2048 .f32) (ix2 r j)) = A5 m c (ix3 0 r j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v8_at (c : Dev nD) (r : Fin 2048) (j : Fin 2048) :
    (show EReal from (V m c main_v8 : Vec Ideal S2048x2048 .f32) (ix2 r j)) = A6 m c (ix3 0 r j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

/-- The blocks of the windows: a slab of rows each, but for the scale and the taps. -/
theorem idx : ∀ t : Fin cfg0.N, (cfg0.win 0).index t = ![t.val, 0] ∧ (cfg0.win 1).index t = ![0, 0] ∧ (cfg0.win 2).index t = ![0, 0]
    ∧ (cfg0.win 3).index t = ![t.val, 0] ∧ (cfg0.win 4).index t = ![t.val, 0] ∧ (cfg0.win 5).index t = ![t.val, 0] ∧ (cfg0.win 6).index t = ![t.val, 0]
    ∧ (cfg0.win 7).index t = ![t.val, 0] ∧ (cfg0.win 8).index t = ![t.val, 0] ∧ (cfg0.win 9).index t = ![t.val, 0] ∧ (cfg0.win 10).index t = ![t.val, 0] :=
  (by decide +kernel : ∀ t : Fin grid0.N, _)

theorem lt16 (t : Fin cfg0.N) : t.val < 16 := Nat.lt_of_lt_of_eq t.isLt N_0

theorem x0_at (c : Dev nD) (t : Fin cfg0.N) (r : Fin 512) (j : Fin 2048) :
    (show EReal from (iblk m c 0 t : Vec Ideal S512x2048 .f32) (ix2 r j))
      = A0 m c (ix2 ⟨t.val * 512 + r.val, by have := lt16 t; omega⟩ j) := by
  refine Eq.trans (b := (V m c main_arg0 : Vec Ideal S8192x2048 .f32) (ix2 ⟨t.val * 512 + r.val, by have := lt16 t; omega⟩ j)) ?_ ?_
  · blk_simp [iblk]
    show (V m c main_arg0 : Vec Ideal S8192x2048 .f32) _ = _
    blk_ext [idx t]
  · rw [V_main_arg0]

theorem x1_at (c : Dev nD) (t : Fin cfg0.N) (j : Fin 2048) :
    (show EReal from (iblk m c 1 t : Vec Ideal S1x2048 .f32) (ix2 0 j))
      = A1 m c (ix2 0 j) := by
  refine Eq.trans (b := (V m c main_v4 : Vec Ideal S1x2048 .f32) (ix2 0 j)) ?_ ?_
  · blk_simp [iblk]
    show (V m c main_v4 : Vec Ideal S1x2048 .f32) _ = _
    blk_ext [idx t]
  · exact v4_at m c j

theorem x2_at (c : Dev nD) (t : Fin cfg0.N) (r : Fin 3) (j : Fin 1024) :
    (show EReal from (iblk m c 2 t : Vec Ideal S3x1024 .f32) (ix2 r j))
      = A3 m c (ix3 0 r j) := by
  refine Eq.trans (b := (V m c main_v5 : Vec Ideal S3x1024 .f32) (ix2 r j)) ?_ ?_
  · blk_simp [iblk]
    show (V m c main_v5 : Vec Ideal S3x1024 .f32) _ = _
    blk_ext [idx t]
  · exact v5_at m c r j

theorem x3_at (c : Dev nD) (t : Fin cfg0.N) (r : Fin 64) (j : Fin 2048) :
    (show EReal from (iblk m c 3 t : Vec Ideal S64x2048 .f32) (ix2 r j))
      = A4 m c (ix3 0 ⟨t.val * 64 + r.val, by have := lt16 t; omega⟩ j) := by
  refine Eq.trans (b := (V m c main_v6 : Vec Ideal S1024x2048 .f32) (ix2 ⟨t.val * 64 + r.val, by have := lt16 t; omega⟩ j)) ?_ ?_
  · blk_simp [iblk]
    show (V m c main_v6 : Vec Ideal S1024x2048 .f32) _ = _
    blk_ext [idx t]
  · exact v6_at m c _ j

theorem x4_at (c : Dev nD) (t : Fin cfg0.N) (r : Fin 64) (j : Fin 2048) :
    (show EReal from (iblk m c 4 t : Vec Ideal S64x2048 .f32) (ix2 r j))
      = A5 m c (ix3 0 ⟨t.val * 64 + r.val, by have := lt16 t; omega⟩ j) := by
  refine Eq.trans (b := (V m c main_v7 : Vec Ideal S1024x2048 .f32) (ix2 ⟨t.val * 64 + r.val, by have := lt16 t; omega⟩ j)) ?_ ?_
  · blk_simp [iblk]
    show (V m c main_v7 : Vec Ideal S1024x2048 .f32) _ = _
    blk_ext [idx t]
  · exact v7_at m c _ j

theorem x5_at (c : Dev nD) (t : Fin cfg0.N) (r : Fin 128) (j : Fin 2048) :
    (show EReal from (iblk m c 5 t : Vec Ideal S128x2048 .f32) (ix2 r j))
      = A6 m c (ix3 0 ⟨t.val * 128 + r.val, by have := lt16 t; omega⟩ j) := by
  refine Eq.trans (b := (V m c main_v8 : Vec Ideal S2048x2048 .f32) (ix2 ⟨t.val * 128 + r.val, by have := lt16 t; omega⟩ j)) ?_ ?_
  · blk_simp [iblk]
    show (V m c main_v8 : Vec Ideal S2048x2048 .f32) _ = _
    blk_ext [idx t]
  · exact v8_at m c _ j

end Cert.ConvIdeal.Value
-- ==== Proof.Conv.Cases.lean ====
module

public import proofs.«01_k».proof.Proof.Conv.Reads
public import Idealize.ShloMosaic.Lib.Pipeline.ReadBack

/-! What the prompt kernel leaves at each point: one form for its three kinds of points. -/

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvBranch

variable (m : (ℓ : Loc nD τ sig) → Buf (Elt Ideal) ℓ)

theorem covered_ld {Val : EltTy → Type} [∀ e, Nonempty (Val e)] {sig : RefSig} {κ : Kind} {sp : Space} {s : Shape} {e : EltTy}
    (v : View sig κ sp s e) (w : s.Idx → Val e) (r : Rect s) : v.readCov [⟨Rect.whole s, w⟩] r.toLoadRect = View.ld w r := by
  rw [View.readCov_eq_canon_ld _ _ _ (fun y => ⟨_, List.mem_cons_self, by
    show y ∈ (Rect.whole s).set; rw [Rect.set_whole]; exact Finset.mem_univ y⟩)]
  congr 1
  exact View.canon_cons_unit_zero rfl _ w []

theorem covered_unit_ld {Val : EltTy → Type} [∀ e, Nonempty (Val e)] {sig : RefSig} {κ : Kind} {sp : Space} {s : Shape} {e : EltTy}
    (v : View sig κ sp s e) (w : s.Idx → Val e) (r : Rect s) (off : Fin s.rank → ℕ) (hz : off = fun _ => 0) (inb : ∀ a, off a + s.size a ≤ s.size a) :
    v.readCov [(⟨Rect.unit off s.size inb, w⟩ : View.Piece Val s e)] r.toLoadRect = View.ld w r := by
  subst hz
  exact covered_ld v w r

section
set_option backward.isDefEq.respectTransparency.types false
set_option backward.isDefEq.respectTransparency false

/-- The staged rows of the projection matrix. -/
abbrev staged (c : Dev nD) : Vec Ideal S3072x2048 .bf16 := View.read (Elt Ideal)
    ((View.whole main_v2).slice (Rect.unit (s := S11344x2048) ![4176, 0] ![3072, 2048] inb_S11344x2048_S3072x2048_4176_0)) (V m c main_v2)

theorem staged_at (c : Dev nD) (i : Fin 3072) (k : Fin 2048) :
   (show EReal from staged m c (ix2 i k)) = (show EReal from (V m c main_v2 : Vec Ideal S11344x2048 .bf16) (ix2 ⟨4176 + i.val, by omega⟩ k)) := by
  refine congrArg (V m c main_v2 : Vec Ideal S11344x2048 .bf16) ?_
  funext a
  refine Fin.ext ?_
  match a with
  | ⟨0, _⟩ => show 4176 + 1 * i.val = 4176 + i.val; omega
  | ⟨1, _⟩ => show 0 + 1 * k.val = k.val; omega

/-- A third of the staged rows. -/
def third (W : Vec Ideal S3072x2048 .bf16) (o : ℕ) (h : ∀ a : Fin 2, (![o, 0] : Fin 2 → ℕ) a + (![1024, 2048] : Fin 2 → ℕ) a ≤ S3072x2048.size a) :
    Vec Ideal S1024x2048 .bf16 := View.ld W (Rect.unit (s := S3072x2048) ![o, 0] ![1024, 2048] h)

theorem third_at (W : Vec Ideal S3072x2048 .bf16) (o : ℕ) (h) (j : Fin 1024) (k : Fin 2048) (ho : o + j.val < 3072) :
    third W o h (ix2 j k) = W (ix2 ⟨o + j.val, ho⟩ k) := by
  unfold third
  pointwise

/-- A row of the carried block. -/
def line (K : Vec Ideal S8x1024 .f32) (o : ℕ) (h : ∀ a : Fin 2, (![o, 0] : Fin 2 → ℕ) a + (![1, 1024] : Fin 2 → ℕ) a ≤ S8x1024.size a) :
    Vec Ideal S1x1024 .f32 := View.ld K (Rect.unit (s := S8x1024) ![o, 0] ![1, 1024] h)

/-- The convolved rows of a point, over what the scratch holds. -/
def conv (c : Dev nD) (W : Vec Ideal S3072x2048 .bf16) (t : Fin cfg0.N) : Vec Ideal S512x1024 .f32 :=
  k0_pay9 (k0_pay7 (iblk m c 0 t) (iblk m c 1 t)) (third W 0 inb_S3072x2048_S1024x2048_0_0) (third W 2048 inb_S3072x2048_S1024x2048_2048_0)

/-- The block of the branch at a point, over what the scratch and the carried block hold. -/
def block (c : Dev nD) (W : Vec Ideal S3072x2048 .bf16) (K : Vec Ideal S8x1024 .f32) (t : Fin cfg0.N) : Vec Ideal S512x1024 .bf16 :=
  k0_pay2 (k0_pay8 (k0_pay7 (iblk m c 0 t) (iblk m c 1 t)) (third W 1024 inb_S3072x2048_S1024x2048_1024_0)) (conv m c W t)
    (k0_pay10 (k0_pay7 (iblk m c 0 t) (iblk m c 1 t)) (third W 0 inb_S3072x2048_S1024x2048_0_0) (third W 2048 inb_S3072x2048_S1024x2048_2048_0))
    (k0_pay12 (line K 7 inb_S8x1024_S1x1024_7_0)) (k0_pay13 (line K 6 inb_S8x1024_S1x1024_6_0))
    (k0_pay14 (k0_pay7 (iblk m c 0 t) (iblk m c 1 t)) (third W 0 inb_S3072x2048_S1024x2048_0_0) (third W 2048 inb_S3072x2048_S1024x2048_2048_0)
      (line K 7 inb_S8x1024_S1x1024_7_0))
    k0_pay15 k0_pay16 (View.ld (iblk m c 2 t) (Rect.unit ![0, 0] ![1, 1024] inb_S3x1024_S1x1024_0_0))
    (View.ld (iblk m c 2 t) (Rect.unit ![1, 0] ![1, 1024] inb_S3x1024_S1x1024_1_0))
    (View.ld (iblk m c 2 t) (Rect.unit ![2, 0] ![1, 1024] inb_S3x1024_S1x1024_2_0))

/-- Everything a point leaves. -/
def leaves (c : Dev nD) (W : Vec Ideal S3072x2048 .bf16) (K : Vec Ideal S8x1024 .f32) (t : Fin cfg0.N) :
    Vec Ideal S512x1024 .bf16 × Vec Ideal S8x1024 .f32 × Vec Ideal S64x2048 .bf16 × Vec Ideal S64x2048 .bf16 × Vec Ideal S128x2048 .bf16 × Vec Ideal S3072x2048 .bf16 × Vec Ideal S8x1024 .f32 :=
  (block m c W K t, k0_pay3 (F := Ideal) (conv m c W t), k0_pay4 (iblk m c 3 t), k0_pay5 (iblk m c 4 t), k0_pay6 (iblk m c 5 t), W, k0_pay1 (F := Ideal) (conv m c W t))

theorem zero_ld (o : ℕ) (h) : (View.whole cc0_scratch1).readCov (Val := Elt Ideal) [⟨Rect.unit (s := S8x1024) ![0, 0] S8x1024.size inb_S8x1024_S8x1024_0_0, (k0_pay11 (F := Ideal))⟩]
      (Rect.unit (s := S8x1024) ![o, 0] ![1, 1024] h).toLoadRect = line (k0_pay11 (F := Ideal)) o h :=
  covered_unit_ld (Val := Elt Ideal) (s := S8x1024) (e := .f32) (View.whole cc0_scratch1) (k0_pay11 (F := Ideal)) (Rect.unit (s := S8x1024) ![o, 0] ![1, 1024] h) ![0, 0] (funext fun a => match a with | ⟨0, _⟩ => rfl | ⟨1, _⟩ => rfl) inb_S8x1024_S8x1024_0_0

theorem staged_ld (c : Dev nD) (o : ℕ) (h) : (View.whole cc0_scratch0).readCov [⟨Rect.whole S3072x2048, staged m c⟩]
      (Rect.unit (s := S3072x2048) ![o, 0] ![1024, 2048] h).toLoadRect = third (staged m c) o h :=
  covered_ld (View.whole cc0_scratch0) (staged m c) _

/-- What the point before left in the two scratches. -/
abbrev W' (c : Dev nD) (t : Fin cfg0.N) : Vec Ideal S3072x2048 .bf16 := (outsAt0 m c (t.val - 1) (Nat.lt_of_le_of_lt (Nat.sub_le _ _) t.isLt)).2.2.2.2.2.1
abbrev K' (c : Dev nD) (t : Fin cfg0.N) : Vec Ideal S8x1024 .f32 := (outsAt0 m c (t.val - 1) (Nat.lt_of_le_of_lt (Nat.sub_le _ _) t.isLt)).2.2.2.2.2.2

theorem case_A (c : Dev nD) (t : Fin cfg0.N) (h0 : t.val % 16 = 0) (h1 : t.val % 4 = 0) :
    outsAt0 m c t.val t.isLt = leaves m c (staged m c) (k0_pay11 (F := Ideal)) t := by
  rw [outsAt0_A m c t h0 h1]
  frame_out
  unfold leaves block conv
  rw [← zero_ld 7, ← zero_ld 6, ← staged_ld m c 0, ← staged_ld m c 1024, ← staged_ld m c 2048]
  have hc : View.canon [(⟨Rect.whole S3072x2048, staged m c⟩ : View.Piece (Elt Ideal) S3072x2048 .bf16)] = staged m c :=
    View.canon_cons_unit_zero rfl _ _ []
  exact congrArg₂ Prod.mk rfl (congrArg₂ Prod.mk rfl (congrArg₂ Prod.mk rfl (congrArg₂ Prod.mk rfl (congrArg₂ Prod.mk rfl (congrArg₂ Prod.mk hc rfl)))))

theorem case_B (c : Dev nD) (t : Fin cfg0.N) (h0 : ¬ t.val % 16 = 0) (h1 : ¬ t.val % 4 = 0) :
    outsAt0 m c t.val t.isLt = leaves m c (W' m c t) (K' m c t) t := by
  rw [outsAt0_B m c t h0 h1]
  frame_out
  simp only [read_unread_whole]
  rfl

theorem case_C (c : Dev nD) (t : Fin cfg0.N) (h0 : ¬ t.val % 16 = 0) (h1 : t.val % 4 = 0) :
    outsAt0 m c t.val t.isLt = leaves m c (W' m c t) (k0_pay11 (F := Ideal)) t := by
  rw [outsAt0_C m c t h0 h1]
  frame_out
  simp only [read_unread_whole]
  unfold leaves block conv
  rw [← zero_ld 7, ← zero_ld 6]
  rfl

end

end Cert.ConvIdeal.Value
-- ==== Proof.Conv.Value.lean ====
module

public import proofs.«01_k».proof.Proof.Conv.Cases

/-! The prompt kernel's output blocks, as the rows of the layer. -/

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvBranch

variable (m : (ℓ : Loc nD τ sig) → Buf (Elt Ideal) ℓ)

/-! What the points leave, one after the other. -/

/-- The carried block a point starts from: zero at the start of a sequence, else the last rows of the point before. -/
def carried (c : Dev nD) (t : Fin cfg0.N) : Vec Ideal S8x1024 .f32 :=
  if t.val % 4 = 0 then k0_pay11 (F := Ideal)
  else k0_pay1 (F := Ideal) (conv m c (staged m c) ⟨t.val - 1, Nat.lt_of_le_of_lt (Nat.sub_le _ _) t.isLt⟩)

theorem point (c : Dev nD) : ∀ (n : ℕ) (hn : n < cfg0.N), outsAt0 m c n hn = leaves m c (staged m c) (carried m c ⟨n, hn⟩) ⟨n, hn⟩ := by
  intro n
  induction n with
  | zero =>
    intro hn
    exact case_A m c ⟨0, hn⟩ rfl rfl
  | succ n ih =>
    intro hn
    have h16 : n + 1 < 16 := lt16 ⟨n + 1, hn⟩
    have h0 : ¬ (n + 1) % 16 = 0 := by omega
    have e := ih (Nat.lt_of_succ_lt hn)
    have eW : W' m c ⟨n + 1, hn⟩ = staged m c := congrArg (fun p => p.2.2.2.2.2.1) e
    have eK : K' m c ⟨n + 1, hn⟩ = k0_pay1 (F := Ideal) (conv m c (staged m c) ⟨n, Nat.lt_of_succ_lt hn⟩) := congrArg (fun p => p.2.2.2.2.2.2) e
    by_cases h1 : (n + 1) % 4 = 0
    · refine (case_C m c ⟨n + 1, hn⟩ h0 h1).trans ?_
      rw [eW, carried, if_pos h1]
    · refine (case_B m c ⟨n + 1, hn⟩ h0 h1).trans ?_
      rw [eW, eK, carried, if_neg h1]
      rfl

/-! The steps of the body at an index. -/

theorem pay7_at (x0 : Vec Ideal S512x2048 .f32) (x1 : Vec Ideal S1x2048 .f32) (r : Fin 512) (k : Fin 2048) :
    (show EReal from k0_pay7 x0 x1 (ix2 r k)) = Cert.FeedForward.nrm (fun k => x0 (ix2 r k)) (fun k => x1 (ix2 0 k)) k := by
  pointwise [k0_pay7]
  rfl

theorem pay8_at (g : FVec Ideal S512x2048 .bf16) (a : Vec Ideal S1024x2048 .bf16) (r : Fin 512) (j : Fin 1024) :
    (show EReal from k0_pay8 g a (ix2 r j)) = ∑ x, g (ix2 r x) * a (ix2 j x) := by
  pointwise [k0_pay8]

theorem pay9_at (g : FVec Ideal S512x2048 .bf16) (a b : Vec Ideal S1024x2048 .bf16) (r : Fin 512) (j : Fin 1024) :
    (show EReal from k0_pay9 g a b (ix2 r j)) = (∑ x, g (ix2 r x) * b (ix2 j x)) * ∑ x, g (ix2 r x) * a (ix2 j x) := by
  pointwise [k0_pay9]

theorem pay10_at (g : FVec Ideal S512x2048 .bf16) (a b : Vec Ideal S1024x2048 .bf16) (r : Fin 512) (j : Fin 1024) :
    (show EReal from k0_pay10 g a b (ix2 r j)) = k0_pay9 g a b (ix2 ⟨(r.val + 512 - 2) % 512, by omega⟩ j) := by
  pointwise [k0_pay10]

theorem pay1_at (v : FVec Ideal S512x1024 .f32) (s : Fin 8) (j : Fin 1024) :
    (show EReal from k0_pay1 v (ix2 s j)) = v (ix2 ⟨504 + s.val, by omega⟩ j) := by
  pointwise [k0_pay1]

theorem pay3_at (v : FVec Ideal S512x1024 .f32) (s : Fin 8) (j : Fin 1024) :
    (show EReal from k0_pay3 v (ix2 s j)) = v (ix2 ⟨504 + s.val, by omega⟩ j) := by
  pointwise [k0_pay3]

theorem pay4_at (v : Vec Ideal S64x2048 .f32) (r : Fin 64) (j : Fin 2048) : (show EReal from k0_pay4 v (ix2 r j)) = v (ix2 r j) := by
  pointwise [k0_pay4]

theorem pay5_at (v : Vec Ideal S64x2048 .f32) (r : Fin 64) (j : Fin 2048) : (show EReal from k0_pay5 v (ix2 r j)) = v (ix2 r j) := by
  pointwise [k0_pay5]

theorem pay6_at (v : Vec Ideal S128x2048 .f32) (r : Fin 128) (j : Fin 2048) : (show EReal from k0_pay6 v (ix2 r j)) = v (ix2 r j) := by
  pointwise [k0_pay6]

theorem pay11_at (s : Fin 8) (j : Fin 1024) : (show EReal from k0_pay11 (F := Ideal) (ix2 s j)) = 0 := by
  pointwise [k0_pay11]

theorem bits : ∀ r : Fin 512, (IntOp.cmpi CmpIPredicate.eq (BitVec.ofNat 32 r.val) 0#32 = if r.val = 0 then 1#1 else 0#1)
  ∧ (IntOp.cmpi CmpIPredicate.eq (BitVec.ofNat 32 r.val) 1#32 = if r.val = 1 then 1#1 else 0#1) := by decide +kernel

theorem select_bit (p : Prop) [Decidable p] (a b : EReal) : Scalar.select (if p then 1#1 else 0#1) a b = if p then a else b := by
  split <;> rfl

theorem pay14_at (g : FVec Ideal S512x2048 .bf16) (a b : Vec Ideal S1024x2048 .bf16) (l : Vec Ideal S1x1024 .f32) (r : Fin 512) (j : Fin 1024) :
    (show EReal from k0_pay14 g a b l (ix2 r j))
      = if r.val = 0 then l (ix2 0 j) else k0_pay9 g a b (ix2 ⟨(r.val + 512 - 1) % 512, by omega⟩ j) := by
  pointwise [k0_pay14, k0_pay12]
  rw [(bits r).1, select_bit]

theorem pay2_at (b u u2 : FVec Ideal S512x1024 .f32) (l7 l6 : Vec Ideal S1x1024 .f32) (u1 : FVec Ideal S512x1024 .f32)
    (c0 c1 c2 : Vec Ideal S1x1024 .f32) (r : Fin 512) (j : Fin 1024) :
    (show EReal from k0_pay2 b u u2 (k0_pay12 l7) (k0_pay13 l6) u1 k0_pay15 k0_pay16 c0 c1 c2 (ix2 r j))
      = gated (b (ix2 r j)) (c0 (ix2 0 j)) (c1 (ix2 0 j)) (c2 (ix2 0 j))
        (if r.val = 0 then l6 (ix2 0 j) else if r.val = 1 then l7 (ix2 0 j) else u2 (ix2 r j)) (u1 (ix2 r j)) (u (ix2 r j)) := by
  pointwise [k0_pay2, k0_pay12, k0_pay13, k0_pay15, k0_pay16]
  rw [(bits r).1, (bits r).2, select_bit, select_bit]
  rfl

/-! The staged rows are the transposed columns. -/

theorem thirdX_at (c : Dev nD) (j : Fin 1024) (k : Fin 2048) :
    (show EReal from third (staged m c) 0 inb_S3072x2048_S1024x2048_0_0 (ix2 j k)) = A2 m c (ix3 0 k (colX j)) := by
  refine (third_at (staged m c) 0 _ j k (by omega)).trans ((staged_at m c _ k).trans ((v2_at m c _ k).trans ?_))
  exact congrArg (fun o => A2 m c (ix3 0 k o)) (Fin.ext (by show 4176 + (0 + j.val) = 4176 + j.val; omega))

theorem thirdB_at (c : Dev nD) (j : Fin 1024) (k : Fin 2048) :
    (show EReal from third (staged m c) 1024 inb_S3072x2048_S1024x2048_1024_0 (ix2 j k)) = A2 m c (ix3 0 k (colB j)) := by
  refine (third_at (staged m c) 1024 _ j k (by omega)).trans ((staged_at m c _ k).trans ((v2_at m c _ k).trans ?_))
  exact congrArg (fun o => A2 m c (ix3 0 k o)) (Fin.ext (by show 4176 + (1024 + j.val) = 5200 + j.val; omega))

theorem thirdC_at (c : Dev nD) (j : Fin 1024) (k : Fin 2048) :
    (show EReal from third (staged m c) 2048 inb_S3072x2048_S1024x2048_2048_0 (ix2 j k)) = A2 m c (ix3 0 k (colC j)) := by
  refine (third_at (staged m c) 2048 _ j k (by omega)).trans ((staged_at m c _ k).trans ((v2_at m c _ k).trans ?_))
  exact congrArg (fun o => A2 m c (ix3 0 k o)) (Fin.ext (by show 4176 + (2048 + j.val) = 6224 + j.val; omega))

/-! The arguments as the layer's rows and columns. -/

abbrev row (c : Dev nD) (r : Fin 8192) (k : Fin 2048) : EReal := A0 m c (ix2 r k)
abbrev scale (c : Dev nD) (k : Fin 2048) : EReal := A1 m c (ix2 0 k)
abbrev weight (c : Dev nD) (k : Fin 2048) (o : Fin 11344) : EReal := A2 m c (ix3 0 k o)
abbrev tap (c : Dev nD) (s : Fin 3) (j : Fin 1024) : EReal := A3 m c (ix3 0 s j)

/-- The row of the prompt that is a row of a point's block. -/
abbrev place (t : Fin cfg0.N) (r : Fin 512) : Fin 8192 := ⟨t.val * 512 + r.val, by have := lt16 t; omega⟩

theorem proj_eq (c : Dev nD) (t : Fin cfg0.N) (r : Fin 512) (o : Fin 11344) (a : Fin 2048 → EReal) (ha : ∀ k, a k = A2 m c (ix3 0 k o)) :
    (∑ k, (show EReal from k0_pay7 (iblk m c 0 t) (iblk m c 1 t) (ix2 r k)) * a k) = proj (row m c (place t r)) (scale m c) (weight m c) o := by
  refine Finset.sum_congr rfl fun k _ => ?_
  rw [ha k]
  refine congrArg (· * _) ((pay7_at _ _ r k).trans ?_)
  exact congrArg₂ (fun x g => Cert.FeedForward.nrm x g k) (funext fun k => x0_at m c t r k) (funext fun k => x1_at m c t k)

theorem conv_at (c : Dev nD) (t : Fin cfg0.N) (r : Fin 512) (j : Fin 1024) :
    (show EReal from conv m c (staged m c) t (ix2 r j)) = inner (row m c (place t r)) (scale m c) (weight m c) j := by
  refine (pay9_at _ _ _ r j).trans ?_
  exact congrArg₂ (· * ·) (proj_eq m c t r (colC j) _ fun k => thirdC_at m c j k) (proj_eq m c t r (colX j) _ fun k => thirdX_at m c j k)

theorem line_at (K : Vec Ideal S8x1024 .f32) (o : Fin 8) (h) (j : Fin 1024) :
    (show EReal from line K o.val h (ix2 0 j)) = K (ix2 o j) := by
  refine congrArg K ?_
  funext a
  refine Fin.ext ?_
  match a with
  | ⟨0, _⟩ => show o.val + 1 * 0 = o.val; omega
  | ⟨1, _⟩ => show 0 + 1 * j.val = j.val; omega

theorem tap_at (c : Dev nD) (t : Fin cfg0.N) (s : Fin 3) (h) (j : Fin 1024) :
    (show EReal from (View.ld (iblk m c 2 t : Vec Ideal S3x1024 .f32) (Rect.unit (s := S3x1024) ![s.val, 0] ![1, 1024] h) : Vec Ideal S1x1024 .f32) (ix2 0 j)) = tap m c s j := by
  refine Eq.trans ?_ (x2_at m c t s j)
  refine congrArg (iblk m c 2 t : Vec Ideal S3x1024 .f32) ?_
  funext a
  refine Fin.ext ?_
  match a with
  | ⟨0, _⟩ => show s.val + 1 * 0 = s.val; omega
  | ⟨1, _⟩ => show 0 + 1 * j.val = j.val; omega

/-- A carried row: zero, or the convolved row that many before the point's first. -/
theorem carried_at (c : Dev nD) (t : Fin cfg0.N) (s : Fin 8) (j : Fin 1024) :
    (show EReal from carried m c t (ix2 s j)) = if h : t.val % 4 = 0 then 0
      else inner (row m c ⟨t.val * 512 + s.val - 8, by have := lt16 t; omega⟩) (scale m c) (weight m c) j := by
  unfold carried
  by_cases h : t.val % 4 = 0
  · rw [if_pos h, dif_pos h]
    exact pay11_at s j
  · rw [if_neg h, dif_neg h]
    refine (pay1_at _ s j).trans ((conv_at m c _ _ j).trans ?_)
    exact congrArg (fun r => inner (row m c r) (scale m c) (weight m c) j)
      (Fin.ext (by show (t.val - 1) * 512 + (504 + s.val) = t.val * 512 + s.val - 8; omega))

theorem two_at (c : Dev nD) (t : Fin cfg0.N) (r : Fin 512) (j : Fin 1024) (x6 x7 x : EReal) (h6 : x6 = carried m c t (ix2 6 j))
    (h7 : x7 = carried m c t (ix2 7 j)) (hx : x = conv m c (staged m c) t (ix2 ⟨(r.val + 512 - 2) % 512, by omega⟩ j)) :
    (if r.val = 0 then x6 else if r.val = 1 then x7 else x) = promptTwo (row m c) (scale m c) (weight m c) (place t r) j := by
  have ht := lt16 t
  have e6 := h6.trans (carried_at m c t 6 j)
  have e7 := h7.trans (carried_at m c t 7 j)
  have ex := hx.trans (conv_at m c t _ j)
  unfold promptTwo
  by_cases h : (t.val * 512 + r.val) % 2048 < 2
  · have h4 : t.val % 4 = 0 := by omega
    rw [dif_pos h, e6, e7, dif_pos h4, dif_pos h4]
    by_cases h0 : r.val = 0
    · rw [if_pos h0]
    · rw [if_neg h0, if_pos (by omega)]
  · rw [dif_neg h]
    by_cases h0 : r.val = 0
    · rw [if_pos h0, e6, dif_neg (by omega)]
      refine congrArg (fun r => inner (row m c r) (scale m c) (weight m c) j) (Fin.ext ?_)
      show t.val * 512 + 6 - 8 = (t.val * 512 + r.val) / 2048 * 2048 + ((t.val * 512 + r.val) % 2048 - 2)
      omega
    · rw [if_neg h0]
      by_cases h1 : r.val = 1
      · rw [if_pos h1, e7, dif_neg (by omega)]
        refine congrArg (fun r => inner (row m c r) (scale m c) (weight m c) j) (Fin.ext ?_)
        show t.val * 512 + 7 - 8 = (t.val * 512 + r.val) / 2048 * 2048 + ((t.val * 512 + r.val) % 2048 - 2)
        omega
      · rw [if_neg h1, ex]
        refine congrArg (fun r => inner (row m c r) (scale m c) (weight m c) j) (Fin.ext ?_)
        show t.val * 512 + (r.val + 512 - 2) % 512 = (t.val * 512 + r.val) / 2048 * 2048 + ((t.val * 512 + r.val) % 2048 - 2)
        omega

theorem one_at (c : Dev nD) (t : Fin cfg0.N) (r : Fin 512) (j : Fin 1024) (x7 x : EReal)
    (h7 : x7 = carried m c t (ix2 7 j)) (hx : x = conv m c (staged m c) t (ix2 ⟨(r.val + 512 - 1) % 512, by omega⟩ j)) :
    (if r.val = 0 then x7 else x) = promptOne (row m c) (scale m c) (weight m c) (place t r) j := by
  have ht := lt16 t
  have e7 := h7.trans (carried_at m c t 7 j)
  have ex := hx.trans (conv_at m c t _ j)
  unfold promptOne
  by_cases h : 1 + (t.val * 512 + r.val) % 2048 < 2
  · rw [dif_pos h, if_pos (by omega), e7, dif_pos (by omega)]
  · rw [dif_neg h]
    by_cases h0 : r.val = 0
    · rw [if_pos h0, e7, dif_neg (by omega)]
      refine congrArg (fun r => inner (row m c r) (scale m c) (weight m c) j) (Fin.ext ?_)
      show t.val * 512 + 7 - 8 = (t.val * 512 + r.val) / 2048 * 2048 + (1 + (t.val * 512 + r.val) % 2048 - 2)
      omega
    · rw [if_neg h0, ex]
      refine congrArg (fun r => inner (row m c r) (scale m c) (weight m c) j) (Fin.ext ?_)
      show t.val * 512 + (r.val + 512 - 1) % 512 = (t.val * 512 + r.val) / 2048 * 2048 + (1 + (t.val * 512 + r.val) % 2048 - 2)
      omega

theorem block_at (c : Dev nD) (t : Fin cfg0.N) (r : Fin 512) (j : Fin 1024) :
    (show EReal from block m c (staged m c) (carried m c t) t (ix2 r j))
      = promptOut (row m c) (scale m c) (weight m c) (tap m c) (place t r) j := by
  refine (pay2_at _ _ _ _ _ _ _ _ _ r j).trans ?_
  unfold promptOut
  have hb := (pay8_at (k0_pay7 (iblk m c 0 t) (iblk m c 1 t)) (third (staged m c) 1024 inb_S3072x2048_S1024x2048_1024_0) r j).trans
    (proj_eq m c t r (colB j) _ fun k => thirdB_at m c j k)
  have t0 := tap_at m c t 0 inb_S3x1024_S1x1024_0_0 j
  have t1 := tap_at m c t 1 inb_S3x1024_S1x1024_1_0 j
  have t2 := tap_at m c t 2 inb_S3x1024_S1x1024_2_0 j
  have l6 := line_at (carried m c t) 6 inb_S8x1024_S1x1024_6_0 j
  have l7 := line_at (carried m c t) 7 inb_S8x1024_S1x1024_7_0 j
  have h2 := two_at m c t r j _ _ _ l6 l7 (pay10_at (k0_pay7 (iblk m c 0 t) (iblk m c 1 t)) (third (staged m c) 0 inb_S3072x2048_S1024x2048_0_0)
    (third (staged m c) 2048 inb_S3072x2048_S1024x2048_2048_0) r j)
  have h1 := (pay14_at (k0_pay7 (iblk m c 0 t) (iblk m c 1 t)) (third (staged m c) 0 inb_S3072x2048_S1024x2048_0_0)
    (third (staged m c) 2048 inb_S3072x2048_S1024x2048_2048_0) (line (carried m c t) 7 inb_S8x1024_S1x1024_7_0) r j).trans
    (one_at m c t r j _ (conv m c (staged m c) t (ix2 ⟨(r.val + 512 - 1) % 512, by omega⟩ j)) l7 rfl)
  have hu := conv_at m c t r j
  exact congr (congr (congr (congr (congr (congr (congrArg gated hb) t0) t1) t2) h2) h1) hu

/-! The results after the run. -/

def out (c : Dev nD) : S8192x1024.Idx → EReal := fun y => promptOut (row m c) (scale m c) (weight m c) (tap m c) (y 0) (y 1)
def tails (c : Dev nD) : S128x1024.Idx → EReal := fun y =>
  inner (row m c ⟨(y 0).val / 8 * 512 + 504 + (y 0).val % 8, by have : (y 0).val < 128 := (y 0).isLt; omega⟩) (scale m c) (weight m c) (y 1)
def state (c : Dev nD) : S4x2x1024.Idx → EReal := fun y => promptState (row m c) (scale m c) (weight m c) (y 0) (y 1) (y 2)

/-- The three matrices the call casts. -/
def castA (c : Dev nD) : S1024x2048.Idx → EReal := fun y => A4 m c (ix3 0 (y 0) (y 1))
def castB (c : Dev nD) : S1024x2048.Idx → EReal := fun y => A5 m c (ix3 0 (y 0) (y 1))
def castC (c : Dev nD) : S2048x2048.Idx → EReal := fun y => A6 m c (ix3 0 (y 0) (y 1))

/-- A window whose sixteen slabs of rows are the points' covers its array. -/
theorem covers_slabs (w : Fin 11) (ho : (cfg0.win w).isOut = true) (hs : ∀ a, 0 < (cfg0.win w).size a)
    (hn : ∀ a, (cfg0.win w).nblk a = if a.val = 0 then 16 else 1)
    (hi : ∀ t : Fin cfg0.N, ∀ a, (cfg0.win w).index t a = if a.val = 0 then t.val else 0) (hr : 0 < (cfg0.win w).shape.rank) : (cfg0.win w).Covers := by
  refine Pipeline.Window.covers_of_index_surj _ ho hs fun β => ?_
  have h0 : (β ⟨0, hr⟩).val < 16 := lt_of_lt_of_eq (β ⟨0, hr⟩).isLt ((hn _).trans (if_pos rfl))
  refine ⟨⟨(β ⟨0, hr⟩).val, Nat.lt_of_lt_of_eq h0 N_0.symm⟩, fun a => ?_⟩
  rw [hi]
  by_cases ha : a.val = 0
  · rw [if_pos ha]
    obtain rfl : a = ⟨0, hr⟩ := Fin.ext ha
    rfl
  · rw [if_neg ha]
    exact (Nat.lt_one_iff.1 (lt_of_lt_of_eq (β a).isLt ((hn a).trans (if_neg ha)))).symm

theorem covers_6 : (cfg0.win 6).Covers := covers_slabs 6 rfl (by decide +kernel) (by decide +kernel) (by decide +kernel) (by decide +kernel)
theorem covers_7 : (cfg0.win 7).Covers := covers_slabs 7 rfl (by decide +kernel) (by decide +kernel) (by decide +kernel) (by decide +kernel)
theorem covers_8 : (cfg0.win 8).Covers := covers_slabs 8 rfl (by decide +kernel) (by decide +kernel) (by decide +kernel) (by decide +kernel)
theorem covers_9 : (cfg0.win 9).Covers := covers_slabs 9 rfl (by decide +kernel) (by decide +kernel) (by decide +kernel) (by decide +kernel)
theorem covers_10 : (cfg0.win 10).Covers := covers_slabs 10 rfl (by decide +kernel) (by decide +kernel) (by decide +kernel) (by decide +kernel)

theorem arr_6 (c : Dev nD) : (show S8192x1024.Idx → EReal from (dats m 0 c).arrAt 6 cfg0.N) = out m c := by
  refine (dats m 0 c).arrAt_eq_of_covers 6 _ covers_6 fun t _ y => ?_
  blk_simp
  rw [after0_6, point m c t.val t.isLt]
  have hy : y = ix2 (show Fin 512 from y 0) (show Fin 1024 from y 1) := eq_ix2 (show S512x1024.Idx from y)
  refine (congrArg (block m c (staged m c) (carried m c t) t : Vec Ideal S512x1024 .bf16) hy).trans ?_
  refine (block_at m c t (show Fin 512 from y 0) (show Fin 1024 from y 1)).trans ?_
  show out m c (ix2 (place t (show Fin 512 from y 0)) (show Fin 1024 from y 1)) = out m c _
  blk_ext [idx t]

theorem tails_at (c : Dev nD) (t : Fin cfg0.N) (s : Fin 8) (j : Fin 1024) :
    tails m c (ix2 ⟨t.val * 8 + s.val, by have := lt16 t; omega⟩ j)
      = inner (row m c (place t ⟨504 + s.val, by omega⟩)) (scale m c) (weight m c) j := by
  refine congrArg (fun r => inner (row m c r) (scale m c) (weight m c) j) (Fin.ext ?_)
  show (t.val * 8 + s.val) / 8 * 512 + 504 + (t.val * 8 + s.val) % 8 = t.val * 512 + (504 + s.val)
  omega

theorem arr_7 (c : Dev nD) : (show S128x1024.Idx → EReal from (dats m 0 c).arrAt 7 cfg0.N) = tails m c := by
  refine (dats m 0 c).arrAt_eq_of_covers 7 _ covers_7 fun t _ y => ?_
  blk_simp
  rw [after0_7, point m c t.val t.isLt]
  have hy : y = ix2 (show Fin 8 from y 0) (show Fin 1024 from y 1) := eq_ix2 (show S8x1024.Idx from y)
  refine (congrArg (k0_pay3 (F := Ideal) (conv m c (staged m c) t) : Vec Ideal S8x1024 .f32) hy).trans ?_
  refine (pay3_at _ (show Fin 8 from y 0) (show Fin 1024 from y 1)).trans ((conv_at m c t _ _).trans ?_)
  refine (tails_at m c t (show Fin 8 from y 0) (show Fin 1024 from y 1)).symm.trans ?_
  show tails m c _ = tails m c _
  blk_ext [idx t]

theorem arr_8 (c : Dev nD) : (show S1024x2048.Idx → EReal from (dats m 0 c).arrAt 8 cfg0.N) = castA m c := by
  refine (dats m 0 c).arrAt_eq_of_covers 8 _ covers_8 fun t _ y => ?_
  blk_simp
  rw [after0_8, point m c t.val t.isLt]
  have hy : y = ix2 (show Fin 64 from y 0) (show Fin 2048 from y 1) := eq_ix2 (show S64x2048.Idx from y)
  refine (congrArg (k0_pay4 (iblk m c 3 t) : Vec Ideal S64x2048 .bf16) hy).trans ?_
  refine (pay4_at _ (show Fin 64 from y 0) (show Fin 2048 from y 1)).trans ((x3_at m c t _ _).trans ?_)
  show castA m c (ix2 ⟨t.val * 64 + (show Fin 64 from y 0).val, by have := lt16 t; omega⟩ (show Fin 2048 from y 1)) = castA m c _
  blk_ext [idx t]

theorem arr_9 (c : Dev nD) : (show S1024x2048.Idx → EReal from (dats m 0 c).arrAt 9 cfg0.N) = castB m c := by
  refine (dats m 0 c).arrAt_eq_of_covers 9 _ covers_9 fun t _ y => ?_
  blk_simp
  rw [after0_9, point m c t.val t.isLt]
  have hy : y = ix2 (show Fin 64 from y 0) (show Fin 2048 from y 1) := eq_ix2 (show S64x2048.Idx from y)
  refine (congrArg (k0_pay5 (iblk m c 4 t) : Vec Ideal S64x2048 .bf16) hy).trans ?_
  refine (pay5_at _ (show Fin 64 from y 0) (show Fin 2048 from y 1)).trans ((x4_at m c t _ _).trans ?_)
  show castB m c (ix2 ⟨t.val * 64 + (show Fin 64 from y 0).val, by have := lt16 t; omega⟩ (show Fin 2048 from y 1)) = castB m c _
  blk_ext [idx t]

theorem arr_10 (c : Dev nD) : (show S2048x2048.Idx → EReal from (dats m 0 c).arrAt 10 cfg0.N) = castC m c := by
  refine (dats m 0 c).arrAt_eq_of_covers 10 _ covers_10 fun t _ y => ?_
  blk_simp
  rw [after0_10, point m c t.val t.isLt]
  have hy : y = ix2 (show Fin 128 from y 0) (show Fin 2048 from y 1) := eq_ix2 (show S128x2048.Idx from y)
  refine (congrArg (k0_pay6 (iblk m c 5 t) : Vec Ideal S128x2048 .bf16) hy).trans ?_
  refine (pay6_at _ (show Fin 128 from y 0) (show Fin 2048 from y 1)).trans ((x5_at m c t _ _).trans ?_)
  show castC m c (ix2 ⟨t.val * 128 + (show Fin 128 from y 0).val, by have := lt16 t; omega⟩ (show Fin 2048 from y 1)) = castC m c _
  blk_ext [idx t]

theorem arr_injective : Function.Injective (Pipeline.arrRef spec0) := by decide +kernel

/-- The state is cut from the last rows of the blocks by the lines after the call. -/
theorem tail_state (c : Dev nD) :
    (show S4x2x1024.Idx → EReal from Pipeline.afterTail₀ cfgs (dats m) 0 (V0 m) [hostOps1] c main_v12) = state m c := by
  funext y
  rw [eq_ix3 y]
  generalize y 0 = y0
  generalize y 1 = y1
  generalize y 2 = y2
  unfold Pipeline.afterTail₀
  simp only [hostOps1, List.flatten_cons, List.flatten_nil, List.append_nil, List.cons_append, List.nil_append]
  after_results_simp
  try simp -implicitDefEqProofs only [StableHlo.TRef.toBuf, StableHlo.TRef.ofBuf, cast_cast, cast_eq]
  clean_types
  pointwise
  refine (congrFun (Pipeline.withArrays_arr spec0 arr_injective c (V0 m c) (fun w => (dats m 0 c).arrAt w cfg0.N) 7) _).trans ?_
  refine (congrFun (arr_7 m c) _).trans ?_
  refine congrArg (fun r => inner (row m c r) (scale m c) (weight m c) y2) (Fin.ext ?_)
  show (y0.val * 32 + 24 + (6 + y1.val)) / 8 * 512 + 504 + (y0.val * 32 + 24 + (6 + y1.val)) % 8 = y0.val * 2048 + (2048 + y1.val - 2)
  have : y1.val < 2 := y1.isLt
  omega

theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v9_0) = out m c
      ∧ r.2.mem ((c.tc : Thread nD τ).loc main_v12) = state m c
      ∧ r.2.mem ((c.tc : Thread nD τ).loc main_v9_2) = castA m c
      ∧ r.2.mem ((c.tc : Thread nD τ).loc main_v9_3) = castB m c
      ∧ r.2.mem ((c.tc : Thread nD τ).loc main_v9_4) = castC m c :=
  (θ_run defs _ _).mono (fun r h c => by
    refine ⟨((h c).1 6).trans (arr_6 m c), ((h c).2 main_v12 ?_).trans (tail_state m c),
      ((h c).1 8).trans (arr_8 m c), ((h c).1 9).trans (arr_9 m c), ((h c).1 10).trans (arr_10 m c)⟩
    decide +kernel) (run_main m ρ)

end Cert.ConvIdeal.Value
-- ==== Proof.Conv.RefValue.lean ====
module

public import proofs.«01_k».proof.Proof.Gen.ConvRefIdeal.Run
public import proofs.«01_k».proof.Proof.Conv.Spec

/-! The prompt reference's results at an index. -/

@[expose] public section

set_option maxRecDepth 16384

noncomputable section

namespace Cert.ConvRefIdeal.Value

open Idealize.ShloMosaic Idealize.ShloMosaic.TcCoe Idealize.SL.Sem
open Cert.ConvRefIdeal Cert.ConvRefIdeal.Gen Cert.ConvBranch

variable (m : (ℓ : Loc nD τ sig) → Buf (Elt Ideal) ℓ)

abbrev B0 (c : Dev nD) : S8192x2048.Idx → EReal := m ((c : Thread nD τ).loc main_arg0)
abbrev B1 (c : Dev nD) : S1x2048.Idx → EReal := m ((c : Thread nD τ).loc main_arg1)
abbrev B2 (c : Dev nD) : S1x2048x11344.Idx → EReal := m ((c : Thread nD τ).loc main_arg2)
abbrev B3 (c : Dev nD) : S1x3x1024.Idx → EReal := m ((c : Thread nD τ).loc main_arg3)
abbrev B4 (c : Dev nD) : S1x1024x2048.Idx → EReal := m ((c : Thread nD τ).loc main_arg4)
abbrev B5 (c : Dev nD) : S1x1024x2048.Idx → EReal := m ((c : Thread nD τ).loc main_arg5)
abbrev B6 (c : Dev nD) : S1x2048x2048.Idx → EReal := m ((c : Thread nD τ).loc main_arg6)

def out (c : Dev nD) : S8192x1024.Idx → EReal := fun y =>
  promptOut (fun r k => B0 m c (ix2 r k)) (fun k => B1 m c (ix2 0 k)) (fun k o => B2 m c (ix3 0 k o)) (fun s j => B3 m c (ix3 0 s j)) (y 0) (y 1)
def state (c : Dev nD) : S4x2x1024.Idx → EReal := fun y =>
  promptState (fun r k => B0 m c (ix2 r k)) (fun k => B1 m c (ix2 0 k)) (fun k o => B2 m c (ix3 0 k o)) (y 0) (y 1) (y 2)

theorem out_at (c : Dev nD) (r : Fin 8192) (j : Fin 1024) :
    (show EReal from (res_main_v47 m c : FVec Ideal S8192x1024 .bf16) (ix2 r j)) = out m c (ix2 r j) := by
  unfold res_main_v47
  clean_types
  pointwise
  rfl

/-- What the reference leaves in its results. -/
theorem results (ρ : Dev nD → PrngReg) :
    θ_run defs (onTc (τ := τ) (main (F := Ideal))) ⟨m, fun _ => 0, ρ⟩ fun r => ∀ c : Dev nD,
      r.2.mem ((c.tc : Thread nD τ).loc main_v47) = out m c
      ∧ r.2.mem ((c.tc : Thread nD τ).loc main_v48) = state m c
      ∧ r.2.mem ((c.tc : Thread nD τ).loc main_v50) = (fun y : S1024x2048.Idx => B4 m c (ix3 0 (y 0) (y 1)))
      ∧ r.2.mem ((c.tc : Thread nD τ).loc main_v52) = (fun y : S1024x2048.Idx => B5 m c (ix3 0 (y 0) (y 1)))
      ∧ r.2.mem ((c.tc : Thread nD τ).loc main_v54) = (fun y : S2048x2048.Idx => B6 m c (ix3 0 (y 0) (y 1))) :=
  (θ_run defs _ _).mono (fun r h c => by
    refine ⟨(h c).1.trans ?_, (h c).2.1.trans ?_, (h c).2.2.1.trans ?_, (h c).2.2.2.1.trans ?_, (h c).2.2.2.2.1.trans ?_⟩
    · funext y
      refine (congrArg (res_main_v47 m c) (eq_ix2 y)).trans ?_
      exact out_at m c (y 0) (y 1)
    · clear h
      funext y
      rw [eq_ix3 y]
      generalize y 0 = y0
      generalize y 1 = y1
      generalize y 2 = y2
      clean_types
      pointwise
      rw [dif_neg (by omega)]
      rfl
    all_goals
      clear h
      funext y
      rw [eq_ix2 y]
      clean_types
      pointwise) (run m ρ)

end Cert.ConvRefIdeal.Value
-- ==== Proof.Conv.Claims.lean ====
module

public import proofs.«01_k».proof.Defs
public import proofs.«01_k».proof.Proof.Gen.Conv.Frame
public import proofs.«01_k».proof.Proof.Conv.Value
public import proofs.«01_k».proof.Proof.Conv.RefValue

/-! The claims about the prompt's convolution branch and its reference. -/

@[expose] public section

set_option maxRecDepth 16384

noncomputable section

namespace Cert.ConvBranch.Prompt

open Idealize.ShloMosaic Idealize.ShloMosaic.TcCoe Idealize.SL.Sem

theorem frame : Cert.quiescent_Conv := fun m g _ => Cert.Conv.Gen.frame m g

theorem frame_ideal : Cert.quiescent_ConvIdeal := fun m g _ => Cert.ConvIdeal.Gen.frame m g

theorem frame_ref : Cert.quiescent_ConvRefIdeal := fun m g _ =>
  (θ_run Cert.ConvRefIdeal.defs _ _).mono (fun r h => ⟨fun c => (h c).2.2.2.2.2, sem_eq_zero_of_no_sems (by decide) r.2⟩)
    (Cert.ConvRefIdeal.Value.run (F := Ideal) m g)

theorem preserves : Cert.preserves_Conv_ConvIdeal := trivial

section

variable (m : (ℓ : Loc Cert.ConvIdeal.nD Cert.ConvIdeal.τ Cert.ConvIdeal.sig) → Buf (Elt Ideal) ℓ)
  (m' : (ℓ : Loc Cert.ConvRefIdeal.nD Cert.ConvRefIdeal.τ Cert.ConvRefIdeal.sig) → Buf (Elt Ideal) ℓ) (c : Dev Cert.ConvIdeal.nD)
  (h0 : Cert.ConvRefIdeal.Value.B0 m' c = Cert.ConvIdeal.Value.A0 m c) (h1 : Cert.ConvRefIdeal.Value.B1 m' c = Cert.ConvIdeal.Value.A1 m c)
  (h2 : Cert.ConvRefIdeal.Value.B2 m' c = Cert.ConvIdeal.Value.A2 m c) (h3 : Cert.ConvRefIdeal.Value.B3 m' c = Cert.ConvIdeal.Value.A3 m c)

include h0 h1 h2 h3 in
theorem out_same : Cert.ConvRefIdeal.Value.out m' c = Cert.ConvIdeal.Value.out m c := by
  unfold Cert.ConvRefIdeal.Value.out
  rw [h0, h1, h2, h3]
  rfl

include h0 h1 h2 in
theorem state_same : Cert.ConvRefIdeal.Value.state m' c = Cert.ConvIdeal.Value.state m c := by
  unfold Cert.ConvRefIdeal.Value.state
  rw [h0, h1, h2]
  rfl

end

theorem algebraic : Cert.algebraic_ConvIdeal_ConvRefIdeal := by
  intro m g m' g' _ hargs
  refine ⟨fun c => Cert.ConvIdeal.Value.out m c, fun c => Cert.ConvIdeal.Value.state m c,
    fun c => Cert.ConvIdeal.Value.castA m c, fun c => Cert.ConvIdeal.Value.castB m c, fun c => Cert.ConvIdeal.Value.castC m c, ?_, ?_⟩
  · exact (θ_run Cert.ConvIdeal.defs _ _).mono
      (fun r h c => ⟨(h.1 c).1, (h.1 c).2.1, (h.1 c).2.2.1, (h.1 c).2.2.2.1, (h.1 c).2.2.2.2, h.2 c⟩)
      (θ_run_and (Cert.ConvIdeal.Value.results m g) (Cert.ConvIdeal.Gen.unchanged m g))
  · refine (θ_run Cert.ConvRefIdeal.defs _ _).mono (fun r h c => ?_)
      (θ_run_and (Cert.ConvRefIdeal.Value.results m' g') (Cert.ConvRefIdeal.Value.run (F := Ideal) m' g'))
    obtain ⟨a0, a1, a2, a3, a4, a5, a6⟩ := hargs c
    obtain ⟨r0, r1, r2, r3, r4⟩ := h.1 c
    exact ⟨r0.trans (out_same m m' c a0 a1 a2 a3), r1.trans (state_same m m' c a0 a1 a2),
      r2.trans (funext fun y => congrFun a4 (ix3 0 (y 0) (y 1))), r3.trans (funext fun y => congrFun a5 (ix3 0 (y 0) (y 1))),
      r4.trans (funext fun y => congrFun a6 (ix3 0 (y 0) (y 1))), (h.2 c).2.2.2.2.2⟩

end Cert.ConvBranch.Prompt

end
-- ==== Proof.Step.Reads.lean ====
module

public import proofs.«01_k».proof.Proof.Gen.StepIdeal.Frame
public import Idealize.ShloMosaic.Lib.Pipeline.Covers
public import Idealize.ShloMosaic.Lib.Pipeline.ValueKit
public import proofs.«01_k».proof.Proof.Conv.Spec

/-! What the sample kernel's windows read, as entries of its arguments. -/

@[expose] public section

set_option maxRecDepth 16384

noncomputable section

namespace Cert.StepIdeal.Value

open Idealize.ShloMosaic Idealize.ShloMosaic.TcCoe Idealize.SL.Sem
open Cert.StepIdeal Cert.StepIdeal.Gen Cert.ConvBranch

variable (m : (ℓ : Loc nD τ sig) → Buf (Elt Ideal) ℓ)

abbrev A0 (c : Dev nD) : S32x2048.Idx → EReal := m ((c : Thread nD τ).loc main_arg0)
abbrev A1 (c : Dev nD) : S1x2048.Idx → EReal := m ((c : Thread nD τ).loc main_arg1)
abbrev A2 (c : Dev nD) : S1x2048x11344.Idx → EReal := m ((c : Thread nD τ).loc main_arg2)
abbrev A3 (c : Dev nD) : S1x3x1024.Idx → EReal := m ((c : Thread nD τ).loc main_arg3)
abbrev A4 (c : Dev nD) : S1x8x2x1024.Idx → EReal := m ((c : Thread nD τ).loc main_arg4)

/-! The arrays the call is given, which the lines before it computed. -/

theorem v2_at (c : Dev nD) (o : Fin 11344) (k : Fin 2048) :
    (show EReal from (V m c main_v2 : Vec Ideal S11344x2048 .bf16) (ix2 o k)) = A2 m c (ix3 0 k o) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v7_at (c : Dev nD) (r : Fin 32) (j : Fin 1024) :
    (show EReal from (V m c main_v7 : Vec Ideal S32x1024 .f32) (ix2 r j))
      = if h : 1 + r.val % 4 < 2 then A4 m c (ix4 0 ⟨r.val / 4, by omega⟩ ⟨1 + r.val % 4, h⟩ j) else 0 := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise
  after_results_simp
  try simp -implicitDefEqProofs only [StableHlo.TRef.toBuf, StableHlo.TRef.ofBuf, cast_cast, cast_eq]
  clean_types
  pointwise
  by_cases h : r.val % 4 < 1
  · rw [dif_pos h, dif_pos (show 1 + r.val % 4 < 2 by omega)]
  · rw [dif_neg h, dif_neg (show ¬ 1 + r.val % 4 < 2 by omega)]

theorem v10_at (c : Dev nD) (r : Fin 32) (j : Fin 1024) :
    (show EReal from (V m c main_v10 : Vec Ideal S32x1024 .f32) (ix2 r j))
      = if h : r.val % 4 < 2 then A4 m c (ix4 0 ⟨r.val / 4, by omega⟩ ⟨r.val % 4, h⟩ j) else 0 := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise
  after_results_simp
  try simp -implicitDefEqProofs only [StableHlo.TRef.toBuf, StableHlo.TRef.ofBuf, cast_cast, cast_eq]
  clean_types
  pointwise

theorem v12_at (c : Dev nD) (j : Fin 2048) :
    (show EReal from (V m c main_v12 : Vec Ideal S1x2048 .f32) (ix2 0 j)) = A1 m c (ix2 0 j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v13_at (c : Dev nD) (r : Fin 3) (j : Fin 1024) :
    (show EReal from (V m c main_v13 : Vec Ideal S3x1024 .f32) (ix2 r j)) = A3 m c (ix3 0 r j) := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

/-- Every window is its whole array. -/
theorem idx : ∀ t : Fin cfg0.N, (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] ∧ (cfg0.win 6).index t = ![0, 0] :=
  (by decide +kernel : ∀ t : Fin grid0.N, _)

theorem x0_at (c : Dev nD) (t : Fin cfg0.N) (r : Fin 32) (j : Fin 2048) :
    (show EReal from (iblk m c 0 t : Vec Ideal S32x2048 .f32) (ix2 r j))
      = A0 m c (ix2 r j) := by
  refine Eq.trans (b := (V m c main_arg0 : Vec Ideal S32x2048 .f32) (ix2 r j)) ?_ ?_
  · blk_simp [iblk]
    show (V m c main_arg0 : Vec Ideal S32x2048 .f32) _ = _
    blk_ext [idx t]
  · rw [V_main_arg0]

theorem x1_at (c : Dev nD) (t : Fin cfg0.N) (j : Fin 2048) :
    (show EReal from (iblk m c 1 t : Vec Ideal S1x2048 .f32) (ix2 0 j))
      = A1 m c (ix2 0 j) := by
  refine Eq.trans (b := (V m c main_v12 : Vec Ideal S1x2048 .f32) (ix2 0 j)) ?_ ?_
  · blk_simp [iblk]
    show (V m c main_v12 : Vec Ideal S1x2048 .f32) _ = _
    blk_ext [idx t]
  · exact v12_at m c j

theorem x2_at (c : Dev nD) (t : Fin cfg0.N) (r : Fin 3) (j : Fin 1024) :
    (show EReal from (iblk m c 2 t : Vec Ideal S3x1024 .f32) (ix2 r j))
      = A3 m c (ix3 0 r j) := by
  refine Eq.trans (b := (V m c main_v13 : Vec Ideal S3x1024 .f32) (ix2 r j)) ?_ ?_
  · blk_simp [iblk]
    show (V m c main_v13 : Vec Ideal S3x1024 .f32) _ = _
    blk_ext [idx t]
  · exact v13_at m c r j

theorem x3_at (c : Dev nD) (t : Fin cfg0.N) (r : Fin 32) (j : Fin 1024) :
    (show EReal from (iblk m c 3 t : Vec Ideal S32x1024 .f32) (ix2 r j))
      = if h : 1 + r.val % 4 < 2 then A4 m c (ix4 0 ⟨r.val / 4, by omega⟩ ⟨1 + r.val % 4, h⟩ j) else 0 := by
  refine Eq.trans (b := (V m c main_v7 : Vec Ideal S32x1024 .f32) (ix2 r j)) ?_ ?_
  · blk_simp [iblk]
    show (V m c main_v7 : Vec Ideal S32x1024 .f32) _ = _
    blk_ext [idx t]
  · exact v7_at m c r j

theorem x4_at (c : Dev nD) (t : Fin cfg0.N) (r : Fin 32) (j : Fin 1024) :
    (show EReal from (iblk m c 4 t : Vec Ideal S32x1024 .f32) (ix2 r j))
      = if h : r.val % 4 < 2 then A4 m c (ix4 0 ⟨r.val / 4, by omega⟩ ⟨r.val % 4, h⟩ j) else 0 := by
  refine Eq.trans (b := (V m c main_v10 : Vec Ideal S32x1024 .f32) (ix2 r j)) ?_ ?_
  · blk_simp [iblk]
    show (V m c main_v10 : Vec Ideal S32x1024 .f32) _ = _
    blk_ext [idx t]
  · exact v10_at m c r j

end Cert.StepIdeal.Value
-- ==== Proof.Step.Value.lean ====
module

public import proofs.«01_k».proof.Proof.Step.Reads

/-! The sample kernel's two output blocks, as the rows of the layer. -/

@[expose] public section

set_option maxRecDepth 16384

noncomputable section

namespace Cert.StepIdeal.Value

open Idealize.ShloMosaic Idealize.ShloMosaic.TcCoe Idealize.SL.Sem
open Cert.StepIdeal Cert.StepIdeal.Gen Cert.ConvBranch

variable (m : (ℓ : Loc nD τ sig) → Buf (Elt Ideal) ℓ)

theorem covered_ld {Val : EltTy → Type} [∀ e, Nonempty (Val e)] {sig : RefSig} {κ : Kind} {sp : Space} {s : Shape} {e : EltTy}
    (v : View sig κ sp s e) (w : s.Idx → Val e) (r : Rect s) : v.readCov [⟨Rect.whole s, w⟩] r.toLoadRect = View.ld w r := by
  rw [View.readCov_eq_canon_ld _ _ _ (fun y => ⟨_, List.mem_cons_self, by
    show y ∈ (Rect.whole s).set; rw [Rect.set_whole]; exact Finset.mem_univ y⟩)]
  congr 1
  exact View.canon_cons_unit_zero rfl _ w []

/-! The steps of the body at an index. -/

theorem pay2_at (x0 : Vec Ideal S32x2048 .f32) (x1 : Vec Ideal S1x2048 .f32) (r : Fin 32) (k : Fin 2048) :
    k0_pay2 x0 x1 (ix2 r k) = Cert.FeedForward.nrm (fun k => x0 (ix2 r k)) (fun k => x1 (ix2 0 k)) k := by
  pointwise [k0_pay2]
  rfl

theorem pay3_at (x0 : Vec Ideal S32x2048 .f32) (x1 : Vec Ideal S1x2048 .f32) (a : Vec Ideal S1024x2048 .bf16) (r : Fin 32) (j : Fin 1024) :
    k0_pay3 x0 x1 a (ix2 r j) = ∑ x, k0_pay2 x0 x1 (ix2 r x) * a (ix2 j x) := by
  pointwise [k0_pay3]

theorem pay4_at (x0 : Vec Ideal S32x2048 .f32) (x1 : Vec Ideal S1x2048 .f32) (a b : Vec Ideal S1024x2048 .bf16) (r : Fin 32) (j : Fin 1024) :
    k0_pay4 x0 x1 a b (ix2 r j) = (∑ x, k0_pay2 x0 x1 (ix2 r x) * b (ix2 j x)) * ∑ x, k0_pay2 x0 x1 (ix2 r x) * a (ix2 j x) := by
  pointwise [k0_pay4]

theorem pay5_at (x0 : Vec Ideal S32x2048 .f32) (x1 : Vec Ideal S1x2048 .f32) (a b : Vec Ideal S1024x2048 .bf16) (r : Fin 32) (j : Fin 1024) :
    k0_pay5 x0 x1 a b (ix2 r j) = k0_pay4 x0 x1 a b (ix2 ⟨(r.val + 32 - 1) % 32, by omega⟩ j) := by
  pointwise [k0_pay5]

theorem pay6_at (x0 : Vec Ideal S32x2048 .f32) (x1 : Vec Ideal S1x2048 .f32) (a b : Vec Ideal S1024x2048 .bf16) (r : Fin 32) (j : Fin 1024) :
    k0_pay6 x0 x1 a b (ix2 r j) = k0_pay4 x0 x1 a b (ix2 ⟨(r.val + 32 - 2) % 32, by omega⟩ j) := by
  pointwise [k0_pay6]

theorem bits : ∀ r : Fin 32, (IntOp.cmpi CmpIPredicate.sge (IntOp.andi (BitVec.ofNat 32 r.val) 3#32) 1#32 = if 1 + r.val % 4 < 2 then 0#1 else 1#1)
  ∧ (IntOp.cmpi CmpIPredicate.sge (IntOp.andi (BitVec.ofNat 32 r.val) 3#32) 2#32 = if r.val % 4 < 2 then 0#1 else 1#1) := by decide +kernel

theorem select_swap (p : Prop) [Decidable p] (a b : EReal) : Scalar.select (if p then 0#1 else 1#1) a b = if p then b else a := by
  split <;> rfl

theorem pay1_at (b u u1 u2 p1 p2 : FVec Ideal S32x1024 .f32) (c0 c1 c2 : Vec Ideal S1x1024 .f32) (r : Fin 32) (j : Fin 1024) :
    (show EReal from k0_pay1 b u u1 u2 k0_pay7 k0_pay8 p1 p2 c0 c1 c2 (ix2 r j))
      = gated (b (ix2 r j)) (c0 (ix2 0 j)) (c1 (ix2 0 j)) (c2 (ix2 0 j))
        (if r.val % 4 < 2 then p2 (ix2 r j) else u2 (ix2 r j)) (if 1 + r.val % 4 < 2 then p1 (ix2 r j) else u1 (ix2 r j)) (u (ix2 r j)) := by
  pointwise [k0_pay1, k0_pay7, k0_pay8]
  rw [(bits r).1, (bits r).2, select_swap, select_swap]
  rfl

section
set_option backward.isDefEq.respectTransparency.types false
set_option backward.isDefEq.respectTransparency false

/-- The staged rows of the projection matrix. -/
abbrev staged (c : Dev nD) : Vec Ideal S3072x2048 .bf16 := View.read (Elt Ideal)
    ((View.whole main_v2).slice (Rect.unit (s := S11344x2048) ![4176, 0] ![3072, 2048] inb_S11344x2048_S3072x2048_4176_0)) (V m c main_v2)

theorem staged_at (c : Dev nD) (i : Fin 3072) (k : Fin 2048) :
   (show EReal from staged m c (ix2 i k)) = (show EReal from (V m c main_v2 : Vec Ideal S11344x2048 .bf16) (ix2 ⟨4176 + i.val, by omega⟩ k)) := by
  refine congrArg (V m c main_v2 : Vec Ideal S11344x2048 .bf16) ?_
  funext a
  refine Fin.ext ?_
  match a with
  | ⟨0, _⟩ => show 4176 + 1 * i.val = 4176 + i.val; omega
  | ⟨1, _⟩ => show 0 + 1 * k.val = k.val; omega

def rowsOf (o : ℕ) (h : ∀ a : Fin 2, (![o, 0] : Fin 2 → ℕ) a + (![1024, 2048] : Fin 2 → ℕ) a ≤ S3072x2048.size a) (c : Dev nD) : Vec Ideal S1024x2048 .bf16 :=
  View.ld (staged m c) (Rect.unit (s := S3072x2048) ![o, 0] ![1024, 2048] h)

theorem rowsOf_at (o : ℕ) (h) (c : Dev nD) (j : Fin 1024) (k : Fin 2048) (ho : o + j.val < 3072) :
    rowsOf m o h c (ix2 j k) = staged m c (ix2 ⟨o + j.val, ho⟩ k) := by
  unfold rowsOf
  pointwise

theorem out0_eq (c : Dev nD) (t : Fin cfg0.N) : (outsAt0 m c t).1
    = k0_pay1 (k0_pay3 (iblk m c 0 t) (iblk m c 1 t) (rowsOf m 1024 inb_S3072x2048_S1024x2048_1024_0 c))
      (k0_pay4 (iblk m c 0 t) (iblk m c 1 t) (rowsOf m 0 inb_S3072x2048_S1024x2048_0_0 c) (rowsOf m 2048 inb_S3072x2048_S1024x2048_2048_0 c))
      (k0_pay5 (iblk m c 0 t) (iblk m c 1 t) (rowsOf m 0 inb_S3072x2048_S1024x2048_0_0 c) (rowsOf m 2048 inb_S3072x2048_S1024x2048_2048_0 c))
      (k0_pay6 (iblk m c 0 t) (iblk m c 1 t) (rowsOf m 0 inb_S3072x2048_S1024x2048_0_0 c) (rowsOf m 2048 inb_S3072x2048_S1024x2048_2048_0 c))
      k0_pay7 k0_pay8 (iblk m c 3 t) (iblk m c 4 t)
      (View.ld (iblk m c 2 t) (Rect.unit ![0, 0] ![1, 1024] inb_S3x1024_S1x1024_0_0))
      (View.ld (iblk m c 2 t) (Rect.unit ![1, 0] ![1, 1024] inb_S3x1024_S1x1024_1_0))
      (View.ld (iblk m c 2 t) (Rect.unit ![2, 0] ![1, 1024] inb_S3x1024_S1x1024_2_0)) := by
  have e (o : ℕ) (h) : (View.whole cc0_scratch0).readCov [⟨Rect.whole S3072x2048, staged m c⟩]
      (Rect.unit (s := S3072x2048) ![o, 0] ![1024, 2048] h).toLoadRect = rowsOf m o h c :=
    covered_ld (View.whole cc0_scratch0) (staged m c) _
  unfold outsAt0
  frame_out
  rw [← e 0, ← e 1024, ← e 2048]
  rfl

theorem out_eq (c : Dev nD) (t : Fin cfg0.N) : (outsAt0 m c t).2 = k0_pay4 (iblk m c 0 t) (iblk m c 1 t) (rowsOf m 0 inb_S3072x2048_S1024x2048_0_0 c) (rowsOf m 2048 inb_S3072x2048_S1024x2048_2048_0 c) := by
  unfold outsAt0
  frame_out
  exact congr (congrArg _ (covered_ld (View.whole cc0_scratch0) (staged m c) _)) (covered_ld (View.whole cc0_scratch0) (staged m c) _)
end

/-! The staged rows are the transposed columns. -/

theorem rowsX_at (c : Dev nD) (j : Fin 1024) (k : Fin 2048) :
    (show EReal from rowsOf m 0 inb_S3072x2048_S1024x2048_0_0 c (ix2 j k)) = A2 m c (ix3 0 k (colX j)) := by
  refine (rowsOf_at m 0 _ c j k (by omega)).trans ((staged_at m c _ k).trans ((v2_at m c _ k).trans ?_))
  exact congrArg (fun o => A2 m c (ix3 0 k o)) (Fin.ext (by show 4176 + (0 + j.val) = 4176 + j.val; omega))

theorem rowsB_at (c : Dev nD) (j : Fin 1024) (k : Fin 2048) :
    (show EReal from rowsOf m 1024 inb_S3072x2048_S1024x2048_1024_0 c (ix2 j k)) = A2 m c (ix3 0 k (colB j)) := by
  refine (rowsOf_at m 1024 _ c j k (by omega)).trans ((staged_at m c _ k).trans ((v2_at m c _ k).trans ?_))
  exact congrArg (fun o => A2 m c (ix3 0 k o)) (Fin.ext (by show 4176 + (1024 + j.val) = 5200 + j.val; omega))

theorem rowsC_at (c : Dev nD) (j : Fin 1024) (k : Fin 2048) :
    (show EReal from rowsOf m 2048 inb_S3072x2048_S1024x2048_2048_0 c (ix2 j k)) = A2 m c (ix3 0 k (colC j)) := by
  refine (rowsOf_at m 2048 _ c j k (by omega)).trans ((staged_at m c _ k).trans ((v2_at m c _ k).trans ?_))
  exact congrArg (fun o => A2 m c (ix3 0 k o)) (Fin.ext (by show 4176 + (2048 + j.val) = 6224 + j.val; omega))

/-! The arguments as the layer's rows and columns. -/

abbrev row (c : Dev nD) (r : Fin 32) (k : Fin 2048) : EReal := A0 m c (ix2 r k)
abbrev scale (c : Dev nD) (k : Fin 2048) : EReal := A1 m c (ix2 0 k)
abbrev weight (c : Dev nD) (k : Fin 2048) (o : Fin 11344) : EReal := A2 m c (ix3 0 k o)
abbrev tap (c : Dev nD) (s : Fin 3) (j : Fin 1024) : EReal := A3 m c (ix3 0 s j)
abbrev kept (c : Dev nD) (b : Fin 8) (s : Fin 2) (j : Fin 1024) : EReal := A4 m c (ix4 0 b s j)

theorem proj_eq (c : Dev nD) (t : Fin cfg0.N) (r : Fin 32) (o : Fin 11344) (a : Fin 2048 → EReal) (ha : ∀ k, a k = A2 m c (ix3 0 k o)) :
    (∑ k, k0_pay2 (iblk m c 0 t) (iblk m c 1 t) (ix2 r k) * a k) = proj (row m c r) (scale m c) (weight m c) o := by
  refine Finset.sum_congr rfl fun k _ => ?_
  rw [ha k]
  refine congrArg (· * _) ((pay2_at _ _ r k).trans ?_)
  exact congrArg₂ (fun x g => Cert.FeedForward.nrm x g k) (funext fun k => x0_at m c t r k) (funext fun k => x1_at m c t k)

/-- The row that is convolved, as the body computes it. -/
abbrev conv (c : Dev nD) (t : Fin cfg0.N) : Vec Ideal S32x1024 .f32 :=
  k0_pay4 (iblk m c 0 t) (iblk m c 1 t) (rowsOf m 0 inb_S3072x2048_S1024x2048_0_0 c) (rowsOf m 2048 inb_S3072x2048_S1024x2048_2048_0 c)

theorem conv_at (c : Dev nD) (t : Fin cfg0.N) (r : Fin 32) (j : Fin 1024) :
    (show EReal from conv m c t (ix2 r j)) = inner (row m c r) (scale m c) (weight m c) j := by
  refine (pay4_at _ _ _ _ r j).trans ?_
  exact congrArg₂ (· * ·) (proj_eq m c t r (colC j) _ fun k => rowsC_at m c j k) (proj_eq m c t r (colX j) _ fun k => rowsX_at m c j k)

theorem tap_at (c : Dev nD) (t : Fin cfg0.N) (s : Fin 3) (h) (j : Fin 1024) :
    (show EReal from (View.ld (iblk m c 2 t : Vec Ideal S3x1024 .f32) (Rect.unit (s := S3x1024) ![s.val, 0] ![1, 1024] h) : Vec Ideal S1x1024 .f32) (ix2 0 j)) = tap m c s j := by
  refine Eq.trans ?_ (x2_at m c t s j)
  refine congrArg (iblk m c 2 t : Vec Ideal S3x1024 .f32) ?_
  funext a
  refine Fin.ext ?_
  match a with
  | ⟨0, _⟩ => show s.val + 1 * 0 = s.val; omega
  | ⟨1, _⟩ => show 0 + 1 * j.val = j.val; omega

theorem out0_at (c : Dev nD) (t : Fin cfg0.N) (r : Fin 32) (j : Fin 1024) :
    (show EReal from ((outsAt0 m c t).1 : Vec Ideal S32x1024 .bf16) (ix2 r j))
      = sampleOut (row m c) (scale m c) (weight m c) (tap m c) (kept m c) r j := by
  refine (congrFun (out0_eq m c t) (ix2 r j)).trans ((pay1_at _ _ _ _ _ _ _ _ _ r j).trans ?_)
  unfold sampleOut
  have hb : (show EReal from k0_pay3 (iblk m c 0 t) (iblk m c 1 t) (rowsOf m 1024 inb_S3072x2048_S1024x2048_1024_0 c) (ix2 r j))
      = proj (row m c r) (scale m c) (weight m c) (colB j) := (pay3_at _ _ _ r j).trans (proj_eq m c t r (colB j) _ fun k => rowsB_at m c j k)
  have h2 : (if r.val % 4 < 2 then (iblk m c 4 t : Vec Ideal S32x1024 .f32) (ix2 r j)
      else k0_pay6 (iblk m c 0 t) (iblk m c 1 t) (rowsOf m 0 inb_S3072x2048_S1024x2048_0_0 c) (rowsOf m 2048 inb_S3072x2048_S1024x2048_2048_0 c) (ix2 r j))
      = sampleTwo (row m c) (scale m c) (weight m c) (kept m c) r j := by
    unfold sampleTwo
    by_cases h : r.val % 4 < 2
    · rw [if_pos h, dif_pos h]
      exact (x4_at m c t r j).trans (dif_pos h)
    · rw [if_neg h, dif_neg h]
      refine (pay6_at _ _ _ _ r j).trans ((conv_at m c t _ j).trans ?_)
      exact congrArg (fun r => inner (row m c r) (scale m c) (weight m c) j)
        (Fin.ext (by show (r.val + 32 - 2) % 32 = r.val / 4 * 4 + (r.val % 4 - 2); omega))
  have h1 : (if 1 + r.val % 4 < 2 then (iblk m c 3 t : Vec Ideal S32x1024 .f32) (ix2 r j)
      else k0_pay5 (iblk m c 0 t) (iblk m c 1 t) (rowsOf m 0 inb_S3072x2048_S1024x2048_0_0 c) (rowsOf m 2048 inb_S3072x2048_S1024x2048_2048_0 c) (ix2 r j))
      = sampleOne (row m c) (scale m c) (weight m c) (kept m c) r j := by
    unfold sampleOne
    by_cases h : 1 + r.val % 4 < 2
    · rw [if_pos h, dif_pos h]
      exact (x3_at m c t r j).trans (dif_pos h)
    · rw [if_neg h, dif_neg h]
      refine (pay5_at _ _ _ _ r j).trans ((conv_at m c t _ j).trans ?_)
      exact congrArg (fun r => inner (row m c r) (scale m c) (weight m c) j)
        (Fin.ext (by show (r.val + 32 - 1) % 32 = r.val / 4 * 4 + (1 + r.val % 4 - 2); omega))
  have t0 := tap_at m c t 0 inb_S3x1024_S1x1024_0_0 j
  have t1 := tap_at m c t 1 inb_S3x1024_S1x1024_1_0 j
  have t2 := tap_at m c t 2 inb_S3x1024_S1x1024_2_0 j
  have hu := conv_at m c t r j
  exact congr (congr (congr (congr (congr (congr (congrArg gated hb) t0) t1) t2) h2) h1) hu

theorem out1_at (c : Dev nD) (t : Fin cfg0.N) (r : Fin 32) (j : Fin 1024) :
    (show EReal from ((outsAt0 m c t).2 : Vec Ideal S32x1024 .f32) (ix2 r j)) = inner (row m c r) (scale m c) (weight m c) j :=
  (congrFun (out_eq m c t) (ix2 r j)).trans (conv_at m c t r j)

/-! The results after the run. -/

def out (c : Dev nD) : S32x1024.Idx → EReal := fun y => sampleOut (row m c) (scale m c) (weight m c) (tap m c) (kept m c) (y 0) (y 1)
def rows (c : Dev nD) : S32x1024.Idx → EReal := fun y => inner (row m c (y 0)) (scale m c) (weight m c) (y 1)
def state (c : Dev nD) : S8x2x1024.Idx → EReal := fun y => sampleState (row m c) (scale m c) (weight m c) (y 0) (y 1) (y 2)

abbrev pt : Fin cfg0.N := ⟨0, by decide⟩

theorem whole_5 : (cfg0.win 5).WholeAt pt := by decide +kernel
theorem whole_6 : (cfg0.win 6).WholeAt pt := by decide +kernel

theorem arr_5 (c : Dev nD) : (show S32x1024.Idx → EReal from (dats m 0 c).arrAt 5 cfg0.N) = out m c := by
  refine (dats m 0 c).arrAt_eq_of_after_last 5 pt whole_5 _ fun j => ?_
  blk_simp
  rw [after0_5]
  refine (congrArg ((outsAt0 m c pt).1 : Vec Ideal S32x1024 .bf16) (eq_ix2 (show S32x1024.Idx from j))).trans ?_
  exact out0_at m c pt (j 0) (j 1)

theorem arr_6 (c : Dev nD) : (show S32x1024.Idx → EReal from (dats m 0 c).arrAt 6 cfg0.N) = rows m c := by
  refine (dats m 0 c).arrAt_eq_of_after_last 6 pt whole_6 _ fun j => ?_
  blk_simp
  rw [after0_6]
  refine (congrArg ((outsAt0 m c pt).2 : Vec Ideal S32x1024 .f32) (eq_ix2 (show S32x1024.Idx from j))).trans ?_
  exact out1_at m c pt (j 0) (j 1)

theorem arr_injective : Function.Injective (Pipeline.arrRef spec0) := by decide +kernel

/-- The state is cut from the convolved rows by the lines after the call. -/
theorem tail_state (c : Dev nD) :
    (show S8x2x1024.Idx → EReal from Pipeline.afterTail₀ cfgs (dats m) 0 (V0 m) [hostOps1] c main_v16) = state m c := by
  funext y
  rw [eq_ix3 y]
  generalize y 0 = y0
  generalize y 1 = y1
  generalize y 2 = y2
  unfold Pipeline.afterTail₀
  simp only [hostOps1, List.flatten_cons, List.flatten_nil, List.append_nil, List.cons_append, List.nil_append]
  after_results_simp
  try simp -implicitDefEqProofs only [StableHlo.TRef.toBuf, StableHlo.TRef.ofBuf, cast_cast, cast_eq]
  clean_types
  pointwise
  refine (congrFun (Pipeline.withArrays_arr spec0 arr_injective c (V0 m c) (fun w => (dats m 0 c).arrAt w cfg0.N) 6) _).trans ?_
  refine (congrFun (arr_6 m c) _).trans ?_
  exact congrArg (fun r => inner (row m c r) (scale m c) (weight m c) y2)
    (Fin.ext (by show y0.val * 4 + (2 + y1.val) = y0.val * 4 + (4 + y1.val - 2); omega))

theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v14_0) = out m c ∧ r.2.mem ((c.tc : Thread nD τ).loc main_v16) = state m c :=
  (θ_run defs _ _).mono (fun r h c => by
    refine ⟨((h c).1 5).trans (arr_5 m c), ((h c).2 main_v16 ?_).trans (tail_state m c)⟩
    decide +kernel) (run_main m ρ)

end Cert.StepIdeal.Value
-- ==== Proof.Step.RefValue.lean ====
module

public import proofs.«01_k».proof.Proof.Gen.StepRefIdeal.Run
public import proofs.«01_k».proof.Proof.Conv.Spec

/-! The sample reference's results at an index. -/

@[expose] public section

set_option maxRecDepth 16384

noncomputable section

namespace Cert.StepRefIdeal.Value

open Idealize.ShloMosaic Idealize.ShloMosaic.TcCoe Idealize.SL.Sem
open Cert.StepRefIdeal Cert.StepRefIdeal.Gen Cert.ConvBranch

variable (m : (ℓ : Loc nD τ sig) → Buf (Elt Ideal) ℓ)

abbrev B0 (c : Dev nD) : S32x2048.Idx → EReal := m ((c : Thread nD τ).loc main_arg0)
abbrev B1 (c : Dev nD) : S1x2048.Idx → EReal := m ((c : Thread nD τ).loc main_arg1)
abbrev B2 (c : Dev nD) : S1x2048x11344.Idx → EReal := m ((c : Thread nD τ).loc main_arg2)
abbrev B3 (c : Dev nD) : S1x3x1024.Idx → EReal := m ((c : Thread nD τ).loc main_arg3)
abbrev B4 (c : Dev nD) : S1x8x2x1024.Idx → EReal := m ((c : Thread nD τ).loc main_arg4)

def out (c : Dev nD) : S32x1024.Idx → EReal := fun y =>
  sampleOut (fun r k => B0 m c (ix2 r k)) (fun k => B1 m c (ix2 0 k)) (fun k o => B2 m c (ix3 0 k o)) (fun s j => B3 m c (ix3 0 s j))
    (fun b s j => B4 m c (ix4 0 b s j)) (y 0) (y 1)
def state (c : Dev nD) : S8x2x1024.Idx → EReal := fun y =>
  sampleState (fun r k => B0 m c (ix2 r k)) (fun k => B1 m c (ix2 0 k)) (fun k o => B2 m c (ix3 0 k o)) (y 0) (y 1) (y 2)

theorem out_at (c : Dev nD) (r : Fin 32) (j : Fin 1024) :
    (show EReal from (res_main_v47 m c : FVec Ideal S32x1024 .bf16) (ix2 r j)) = out m c (ix2 r j) := by
  unfold res_main_v47
  clean_types
  pointwise
  rfl

/-- What the reference leaves in its results. -/
theorem results (ρ : Dev nD → PrngReg) :
    θ_run defs (onTc (τ := τ) (main (F := Ideal))) ⟨m, fun _ => 0, ρ⟩ fun r => ∀ c : Dev nD,
      r.2.mem ((c.tc : Thread nD τ).loc main_v47) = out m c
      ∧ r.2.mem ((c.tc : Thread nD τ).loc main_v48) = state m c :=
  (θ_run defs _ _).mono (fun r h c => by
    refine ⟨(h c).1.trans ?_, (h c).2.1.trans ?_⟩
    · funext y
      refine (congrArg (res_main_v47 m c) (eq_ix2 y)).trans ?_
      exact out_at m c (y 0) (y 1)
    · clear h
      funext y
      rw [eq_ix3 y]
      generalize y 0 = y0
      generalize y 1 = y1
      generalize y 2 = y2
      clean_types
      pointwise
      rw [dif_neg (by omega)]
      rfl) (run m ρ)

end Cert.StepRefIdeal.Value
-- ==== Proof.Step.Claims.lean ====
module

public import proofs.«01_k».proof.Defs
public import proofs.«01_k».proof.Proof.Gen.Step.Frame
public import proofs.«01_k».proof.Proof.Step.Value
public import proofs.«01_k».proof.Proof.Step.RefValue

/-! The claims about the sample's convolution branch and its reference. -/

@[expose] public section

set_option maxRecDepth 16384

noncomputable section

namespace Cert.ConvBranch.Sample

open Idealize.ShloMosaic Idealize.ShloMosaic.TcCoe Idealize.SL.Sem

theorem frame : Cert.quiescent_Step := fun m g _ => Cert.Step.Gen.frame m g

theorem frame_ideal : Cert.quiescent_StepIdeal := fun m g _ => Cert.StepIdeal.Gen.frame m g

theorem frame_ref : Cert.quiescent_StepRefIdeal := fun m g _ =>
  (θ_run Cert.StepRefIdeal.defs _ _).mono (fun r h => ⟨fun c => (h c).2.2, sem_eq_zero_of_no_sems (by decide) r.2⟩)
    (Cert.StepRefIdeal.Value.run (F := Ideal) m g)

theorem preserves : Cert.preserves_Step_StepIdeal := trivial

section

variable (m : (ℓ : Loc Cert.StepIdeal.nD Cert.StepIdeal.τ Cert.StepIdeal.sig) → Buf (Elt Ideal) ℓ)
  (m' : (ℓ : Loc Cert.StepRefIdeal.nD Cert.StepRefIdeal.τ Cert.StepRefIdeal.sig) → Buf (Elt Ideal) ℓ) (c : Dev Cert.StepIdeal.nD)
  (h0 : Cert.StepRefIdeal.Value.B0 m' c = Cert.StepIdeal.Value.A0 m c) (h1 : Cert.StepRefIdeal.Value.B1 m' c = Cert.StepIdeal.Value.A1 m c)
  (h2 : Cert.StepRefIdeal.Value.B2 m' c = Cert.StepIdeal.Value.A2 m c) (h3 : Cert.StepRefIdeal.Value.B3 m' c = Cert.StepIdeal.Value.A3 m c)
  (h4 : Cert.StepRefIdeal.Value.B4 m' c = Cert.StepIdeal.Value.A4 m c)

include h0 h1 h2 h3 h4 in
theorem out_same : Cert.StepRefIdeal.Value.out m' c = Cert.StepIdeal.Value.out m c := by
  unfold Cert.StepRefIdeal.Value.out
  rw [h0, h1, h2, h3, h4]
  rfl

include h0 h1 h2 in
theorem state_same : Cert.StepRefIdeal.Value.state m' c = Cert.StepIdeal.Value.state m c := by
  unfold Cert.StepRefIdeal.Value.state
  rw [h0, h1, h2]
  rfl

end

theorem algebraic : Cert.algebraic_StepIdeal_StepRefIdeal := by
  intro m g m' g' _ hargs
  refine ⟨fun c => Cert.StepIdeal.Value.out m c, fun c => Cert.StepIdeal.Value.state m c, ?_, ?_⟩
  · exact (θ_run Cert.StepIdeal.defs _ _).mono (fun r h c => ⟨(h.1 c).1, (h.1 c).2, h.2 c⟩)
      (θ_run_and (Cert.StepIdeal.Value.results m g) (Cert.StepIdeal.Gen.unchanged m g))
  · refine (θ_run Cert.StepRefIdeal.defs _ _).mono (fun r h c => ?_)
      (θ_run_and (Cert.StepRefIdeal.Value.results m' g') (Cert.StepRefIdeal.Value.run (F := Ideal) m' g'))
    obtain ⟨a0, a1, a2, a3, a4⟩ := hargs c
    exact ⟨(h.1 c).1.trans (out_same m m' c a0 a1 a2 a3 a4), (h.1 c).2.trans (state_same m m' c a0 a1 a2), (h.2 c).2.2⟩

end Cert.ConvBranch.Sample

end
-- ==== Proof.Proj.Body.lean ====
module

public import proofs.«01_k».proof.Proof.Gen.ProjIdeal.Frame
public import proofs.«01_k».proof.Proof.Gen.ProjIdeal.Skeleton

/-! One run of the projection kernel's body, at the first grid point (where it stages the weights and fills the buffer of
    small columns) and at a later one (where both buffers hold what the first point left). -/

@[expose] public section

set_option maxRecDepth 16384

noncomputable section

namespace Cert.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ProjIdeal.Gen

variable {F : FTy → Type} [FloatOps F]

local notation "𝕄" => MT nD τ sig Unit (Elt F) ℕ (Pipeline.UD sig nD τ) ℕ

/-- The point is the first. -/
abbrev first (i : grid0.Coords) : Prop := Scalar.cmpi .ne (Scalar.extui (Scalar.cmpi .eq (BitVec.ofNat 32 (i 0).val) 0#32)) 0#32 = 1#1

theorem first_iff : ∀ t : Fin cfg0.N, first (grid0.coords t) ↔ t.val = 0 :=
  (by decide : ∀ t : Fin grid0.N, first (grid0.coords t) ↔ t.val = 0)

/-- The weights where they lie in the far memory. -/
abbrev far : Memref sig .tc .hbm S11344x2048 .bf16 := Memref.whole main_v2

/-- The contents of a memref's buffer on core `c`, and the buffer held whole at `f`. -/
abbrev Held (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : Held (F := F) c M) : sProp 𝕄 :=
  M.view.loc (c : Thread nD τ) ↦{fullShare} f

/-- A memref's buffer with pieces written over some contents. -/
abbrev written (c : Dev nD) {sp : Space} {S : Shape} {e : EltTy} (M : Memref sig .tc sp S e) (L : List (View.Piece (Elt F) S e)) : sProp 𝕄 :=
  iprop(∃ f, M.view.loc (c : Thread nD τ) ↦[M.view.set]{fullShare} M.view.writes (Elt F) f L)

/-- A memref's buffer at some contents. -/
abbrev some' (c : Dev nD) {sp : Space} {S : Shape} {e : EltTy} (M : Memref sig .tc sp S e) : sProp 𝕄 :=
  iprop(∃ d, owns (c : Thread nD τ) M fullShare d)

variable (c : Dev nD) (i : grid0.Coords) (a1 : Memref sig .tc .vmem S512x2048 .f32) (h1 : a1.IsWhole) (a2 : Memref sig .tc .vmem S1x2048 .f32) (h2 : a2.IsWhole)
  (a4 : Memref sig .tc .vmem S512x1024 .bf16) (h4 : a4.IsWhole) (a5 : Memref sig .tc .vmem S4096x128 .f32) (h5 : a5.IsWhole)
  (a6 : Memref sig .tc .vmem S4096x128 .f32) (h6 : a6.IsWhole) (a7 : Memref sig .tc .vmem S512x1024 .bf16) (h7 : a7.IsWhole)
  (a8 : Memref sig .tc .vmem S512x1024 .bf16) (h8 : a8.IsWhole) (a9 : Memref sig .tc .vmem S512x1024 .bf16) (h9 : a9.IsWhole)
  (a10 : Memref sig .tc .vmem S512x128 .f32) (h10 : a10.IsWhole) (a11 : Memref sig .tc .vmem S512x128 .bf16) (h11 : a11.IsWhole)
  (a12 : Memref sig .tc .vmem S512x128 .f32) (h12 : a12.IsWhole) (a13 : Memref sig .tc .vmem S4096x2048 .bf16) (h13 : a13.IsWhole)
  (a14 : Memref sig .tc .vmem S128x2048 .bf16) (h14 : a14.IsWhole)

/-- The body on these memrefs. -/
abbrev body : Prog (TpuEff nD τ sig (Elt F) Λ₀ .tc) PUnit :=
  cc0_proj_attn i a1 h1 a2 h2 far (Memref.isWhole_whole _) a4 h4 a5 h5 a6 h6 a7 h7 a8 h8 a9 h9 a10 h10 a11 h11 a12 h12 a13 h13 a14 h14 cc0_scoped0 cc0_scoped1

set_option maxHeartbeats 4000000 in
/-- The run at the first point. -/
def runFirst (hc : first i) (x : Vec F S512x2048 .f32) (g : Vec F S1x2048 .f32) (w : Held (F := F) c far) :
    Σ' (L4 : List (View.Piece (Elt F) S512x1024 .bf16)) (L5 : List (View.Piece (Elt F) S4096x128 .f32)) (L6 : List (View.Piece (Elt F) S4096x128 .f32))
      (L7 : List (View.Piece (Elt F) S512x1024 .bf16)) (L8 : List (View.Piece (Elt F) S512x1024 .bf16)) (L9 : List (View.Piece (Elt F) S512x1024 .bf16))
      (L10 : List (View.Piece (Elt F) S512x128 .f32)) (L11 : List (View.Piece (Elt F) S512x128 .bf16)) (L12 : List (View.Piece (Elt F) S512x128 .f32))
      (L13 : List (View.Piece (Elt F) S4096x2048 .bf16)), { L14 : List (View.Piece (Elt F) S128x2048 .bf16) //
      ∀ (W : Waits sig Unit) (K : PUnit → sProp 𝕄),
        iprop(owns (c : Thread nD τ) a1 fullShare x ∗ owns (c : Thread nD τ) a2 fullShare g ∗ some' c a4 ∗ some' c a5 ∗ some' c a6 ∗ some' c a7 ∗ some' c a8
            ∗ some' c a9 ∗ some' c a10 ∗ some' c a11 ∗ some' c a12 ∗ some' c a13 ∗ some' c a14
            ∗ semVal ((c : Thread nD τ), SemLoc.dma 21) 0 ∗ semVal ((c : Thread nD τ), SemLoc.dma 22) 0 ∗ heldAt c far w ∗ owes (c : Thread nD τ) 0 W
            ∗ (iprop(owns (c : Thread nD τ) a1 fullShare x ∗ owns (c : Thread nD τ) a2 fullShare g ∗ written c a4 L4 ∗ written c a5 L5 ∗ written c a6 L6
                ∗ written c a7 L7 ∗ written c a8 L8 ∗ written c a9 L9 ∗ written c a10 L10 ∗ written c a11 L11 ∗ written c a12 L12 ∗ written c a13 L13 ∗ written c a14 L14
                ∗ semVal ((c : Thread nD τ), SemLoc.dma 21) 0 ∗ semVal ((c : Thread nD τ), SemLoc.dma 22) 0 ∗ heldAt c far w ∗ (∃ W', owes (c : Thread nD τ) 0 W')) -∗ K ⟨⟩))
          ⊢ wp frame (wpE (defs₀ (F := F)) Variants.none c none) Set.univ (body i a1 h1 a2 h2 a4 h4 a5 h5 a6 h6 a7 h7 a8 h8 a9 h9 a10 h10 a11 h11 a12 h12 a13 h13 a14 h14) K } := by
  refine ⟨?_, ?_, ?_, ?_, ?_, ?_, ?_, ?_, ?_, ?_, ?_, fun W K => ?run⟩
  case run =>
    unfold body
    simp only [cc0_proj_attn_eq_skeleton]; unfold cc0_proj_attn_skel
    simp only [k0_part1_eq_skeleton, k0_part2_eq_skeleton, k0_part3_eq_skeleton, k0_part4_eq_skeleton]
    unfold some' owns
    iintro ⟨⟨%f1, %e1, H1⟩, ⟨%f2, %e2, H2⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hq, Hr, Hw, HW, Hk⟩
    obtain rfl := h1.eq_unread e1; obtain rfl := h2.eq_unread e2
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [Hq]; · iexact Hq
    isplitl [Hr]; · iexact Hr
    isplitl [Hw]; · iexact Hw
    iexists _; iexact HW

set_option maxHeartbeats 4000000 in
/-- The run at a later point, the two buffers at `s` and `z`. -/
def runLater (hc : ¬ first i) (x : Vec F S512x2048 .f32) (g : Vec F S1x2048 .f32) (s : Vec F S4096x2048 .bf16) (z : Vec F S128x2048 .bf16) :
    Σ' (L4 : List (View.Piece (Elt F) S512x1024 .bf16)) (L5 : List (View.Piece (Elt F) S4096x128 .f32)) (L6 : List (View.Piece (Elt F) S4096x128 .f32))
      (L7 : List (View.Piece (Elt F) S512x1024 .bf16)) (L8 : List (View.Piece (Elt F) S512x1024 .bf16)) (L9 : List (View.Piece (Elt F) S512x1024 .bf16))
      (L10 : List (View.Piece (Elt F) S512x128 .f32)) (L11 : List (View.Piece (Elt F) S512x128 .bf16)), { L12 : List (View.Piece (Elt F) S512x128 .f32) //
      ∀ (K : PUnit → sProp 𝕄),
        iprop(owns (c : Thread nD τ) a1 fullShare x ∗ owns (c : Thread nD τ) a2 fullShare g ∗ some' c a4 ∗ some' c a5 ∗ some' c a6 ∗ some' c a7 ∗ some' c a8
            ∗ some' c a9 ∗ some' c a10 ∗ some' c a11 ∗ some' c a12 ∗ owns (c : Thread nD τ) a13 fullShare s ∗ owns (c : Thread nD τ) a14 fullShare z
            ∗ (iprop(owns (c : Thread nD τ) a1 fullShare x ∗ owns (c : Thread nD τ) a2 fullShare g ∗ written c a4 L4 ∗ written c a5 L5 ∗ written c a6 L6
                ∗ written c a7 L7 ∗ written c a8 L8 ∗ written c a9 L9 ∗ written c a10 L10 ∗ written c a11 L11 ∗ written c a12 L12 ∗ owns (c : Thread nD τ) a13 fullShare s ∗ owns (c : Thread nD τ) a14 fullShare z) -∗ K ⟨⟩))
          ⊢ wp frame (wpE (defs₀ (F := F)) Variants.none c none) Set.univ (body i a1 h1 a2 h2 a4 h4 a5 h5 a6 h6 a7 h7 a8 h8 a9 h9 a10 h10 a11 h11 a12 h12 a13 h13 a14 h14) K } := by
  refine ⟨?_, ?_, ?_, ?_, ?_, ?_, ?_, ?_, ?_, fun K => ?run⟩
  case run =>
    unfold body
    simp only [cc0_proj_attn_eq_skeleton]; unfold cc0_proj_attn_skel
    simp only [k0_part1_eq_skeleton, k0_part2_eq_skeleton, k0_part3_eq_skeleton, k0_part4_eq_skeleton]
    unfold some' owns
    iintro ⟨⟨%f1, %e1, H1⟩, ⟨%f2, %e2, H2⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %e13, H13⟩, ⟨%f14, %e14, H14⟩, Hk⟩
    obtain rfl := h1.eq_unread e1; obtain rfl := h2.eq_unread e2; obtain rfl := h13.eq_unread e13; obtain rfl := h14.eq_unread e14
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact h13.read_unread _
      iexact H13
    iexists _; isplitr; · ipureintro; exact h14.read_unread _
    iexact H14

end Cert.ProjIdeal

end
-- ==== Proof.Proj.Left.lean ====
module

public import proofs.«01_k».proof.Proof.Proj.Body
public import Idealize.ShloMosaic.Lib.VecWindow
public import Idealize.ShloMosaic.Lib.Pointwise.Index

/-! What one run of the body leaves in each buffer, as a function of the rows, the scale and the two weight buffers. -/

@[expose] public section

set_option maxRecDepth 16384

noncomputable section

namespace Cert.ProjIdeal

open Idealize.ShloMosaic Idealize.ShloMosaic.TcCoe
open Cert.ProjIdeal.Gen

variable {F : FTy → Type} [FloatOps F]

/-! The four slabs of the staged weights. -/

abbrev slabQ (s : Vec F S4096x2048 .bf16) : Vec F S1024x2048 .bf16 := VecWindow.window s ![0, 0] S1024x2048.size inb_S4096x2048_S1024x2048_0_0
abbrev slabK (s : Vec F S4096x2048 .bf16) : Vec F S1024x2048 .bf16 := VecWindow.window s ![1024, 0] S1024x2048.size inb_S4096x2048_S1024x2048_1024_0
abbrev slabV (s : Vec F S4096x2048 .bf16) : Vec F S1024x2048 .bf16 := VecWindow.window s ![2048, 0] S1024x2048.size inb_S4096x2048_S1024x2048_2048_0
abbrev slabI (s : Vec F S4096x2048 .bf16) : Vec F S1024x2048 .bf16 := VecWindow.window s ![3072, 0] S1024x2048.size inb_S4096x2048_S1024x2048_3072_0

/-- The eight column groups of a block side by side, laid row by row one below the other. -/
def fanned (v : Vec F S512x1024 .f32) : Vec F S4096x128 .f32 := fun p =>
  v (ix2 ⟨(p 0).val / 8, by have : (p 0).val < 4096 := (p 0).isLt; omega⟩ ⟨(p 0).val % 8 * 128 + (p 1).val, by have : (p 1).val < 128 := (p 1).isLt; omega⟩)

/-- The staged rows of the weights, -/
def staged (w : Vec F S11344x2048 .bf16) : Vec F S4096x2048 .bf16 := VecWindow.window w ![0, 0] S4096x2048.size inb_S11344x2048_S4096x2048_0_0
/-- and the small columns' rows over zeros. -/
def small (w : Vec F S11344x2048 .bf16) : Vec F S128x2048 .bf16 :=
  VecWindow.put k0_pay5 ![0, 0] S80x2048.size (VecWindow.window w ![4096, 0] S80x2048.size inb_S11344x2048_S80x2048_4096_0)

section Lefts

variable (x : Vec F S512x2048 .f32) (g : Vec F S1x2048 .f32) (s : Vec F S4096x2048 .bf16) (z : Vec F S128x2048 .bf16)

abbrev left4 : Vec F S512x1024 .bf16 := k0_pay7 x g (slabQ s)
abbrev left5 : Vec F S4096x128 .f32 := fanned (k0_pay8 x g (slabK s))
abbrev left6 : Vec F S4096x128 .f32 := fanned (k0_pay23 (k0_pay6 x g) (slabV s))
abbrev left7 : Vec F S512x1024 .bf16 := k0_pay9 x g (slabK s)
abbrev left8 : Vec F S512x1024 .bf16 := k0_pay24 (k0_pay6 x g) (slabV s)
abbrev left9 : Vec F S512x1024 .bf16 := k0_pay2 (k0_pay6 x g) (slabI s)
abbrev left10 : Vec F S512x128 .f32 := k0_pay3 (k0_pay6 x g) z
abbrev left11 : Vec F S512x128 .bf16 := k0_pay4 (k0_pay6 x g) z
abbrev left12 : Vec F S512x128 .f32 :=
  k0_pay14 (k0_pay11 (k0_pay10 x g (slabK s))) (iota .tc S512x128 32 [1] iota_S512x128_d1_w32) (k0_pay12 (k0_pay10 x g (slabK s))) (k0_pay13 (k0_pay10 x g (slabK s)))

end Lefts

/-- A column group of a block fits, -/
theorem group_slices : ∀ h : Fin 8, S512x1024.Slices ![0, h.val * 128] S512x128 := by decide

/-- and so do the rows it is stored at. -/
theorem group_inb : ∀ (h : Fin 8) (a : Fin 2), S512x128.size a = 0 ∨ (![h.val, 0] : Fin 2 → ℕ) a + (![8, 1] : Fin 2 → ℕ) a * (S512x128.size a - 1) < S4096x128.size a := by decide

/-- A column group stored at every eighth row. -/
def group (v : Vec F S512x1024 .f32) (h : Fin 8) : View.Piece (Elt F) S4096x128 .f32 :=
  ⟨⟨⟨![h.val, 0], S512x128.size, ![8, 1], group_inb h⟩, spos_8_1⟩, extractStridedSlice S512x128 ![0, h.val * 128] v (group_slices h)⟩

/-- The eight groups' stores, the last first. -/
abbrev groups (v : Vec F S512x1024 .f32) : List (View.Piece (Elt F) S4096x128 .f32) :=
  [group v 7, group v 6, group v 5, group v 4, group v 3, group v 2, group v 1, group v 0]

/-- A group's store is the fanned block at its rows. -/
theorem group_at (v : Vec F S512x1024 .f32) (h : Fin 8) (q : S512x128.Idx) : (group v h).2 q = fanned v ((group v h).1.emb q) := by
  have h0 : (q 0).val < 512 := (q 0).isLt
  have h1 : (q 1).val < 128 := (q 1).isLt
  have hh := h.isLt
  show extractStridedSlice S512x128 ![0, h.val * 128] v (group_slices h) q = _
  unfold extractStridedSlice fanned
  refine congrArg v (funext fun a => Fin.ext ?_)
  match a with
  | 0 =>
    show 0 + (q 0).val = (h.val + 8 * (q 0).val) / 8
    omega
  | 1 =>
    show h.val * 128 + (q 1).val = (h.val + 8 * (q 0).val) % 8 * 128 + (0 + 1 * (q 1).val)
    omega

theorem mem_group (v : Vec F S512x1024 .f32) (h : Fin 8) (y : S4096x128.Idx) (e : (y 0).val % 8 = h.val) : y ∈ (group v h).1.set := by
  have h0 : (y 0).val < 4096 := (y 0).isLt
  have h1 : (y 1).val < 128 := (y 1).isLt
  refine (group v h).1.toLoadRect.mem_set.mpr fun a => ?_
  match a with
  | 0 => exact ⟨(y 0).val / 8, by show _ < 512; omega, by show (y 0).val = h.val + 8 * ((y 0).val / 8); omega⟩
  | 1 => exact ⟨(y 1).val, h1, by show (y 1).val = 0 + 1 * (y 1).val; omega⟩

theorem mem_groups (v : Vec F S512x1024 .f32) : ∀ h : Fin 8, group v h ∈ groups v := by
  intro h
  match h with
  | 0 => simp
  | 1 => simp
  | 2 => simp
  | 3 => simp
  | 4 => simp
  | 5 => simp
  | 6 => simp
  | 7 => simp

/-- Together they leave the fanned block, whatever was there. -/
theorem read_groups (a : Memref sig .tc .vmem S4096x128 .f32) (f : a.view.ty.Contents (Elt F)) (v : Vec F S512x1024 .f32) :
    a.view.read (Elt F) (a.view.writes (Elt F) f (groups v)) = fanned v := by
  funext y
  refine View.read_writes_apply_of_pieces a.view f (fanned v) (groups v) (fun p hp q => ?_) y
    ⟨group v ⟨(y 0).val % 8, Nat.mod_lt _ (by decide)⟩, mem_groups v _, mem_group v _ y rfl⟩
  simp only [groups, List.mem_cons, List.mem_nil_iff, or_false] at hp
  rcases hp with rfl | rfl | rfl | rfl | rfl | rfl | rfl | rfl <;> exact group_at v _ q

variable (c : Dev nD) (i : grid0.Coords) (a1 : Memref sig .tc .vmem S512x2048 .f32) (h1 : a1.IsWhole) (a2 : Memref sig .tc .vmem S1x2048 .f32) (h2 : a2.IsWhole)
  (a4 : Memref sig .tc .vmem S512x1024 .bf16) (h4 : a4.IsWhole) (a5 : Memref sig .tc .vmem S4096x128 .f32) (h5 : a5.IsWhole)
  (a6 : Memref sig .tc .vmem S4096x128 .f32) (h6 : a6.IsWhole) (a7 : Memref sig .tc .vmem S512x1024 .bf16) (h7 : a7.IsWhole)
  (a8 : Memref sig .tc .vmem S512x1024 .bf16) (h8 : a8.IsWhole) (a9 : Memref sig .tc .vmem S512x1024 .bf16) (h9 : a9.IsWhole)
  (a10 : Memref sig .tc .vmem S512x128 .f32) (h10 : a10.IsWhole) (a11 : Memref sig .tc .vmem S512x128 .bf16) (h11 : a11.IsWhole)
  (a12 : Memref sig .tc .vmem S512x128 .f32) (h12 : a12.IsWhole) (a13 : Memref sig .tc .vmem S4096x2048 .bf16) (h13 : a13.IsWhole)
  (a14 : Memref sig .tc .vmem S128x2048 .bf16) (h14 : a14.IsWhole)

/-! A load of the run, of a buffer that holds stated contents. -/

theorem load1 (x : Vec F S512x2048 .f32) : View.readAt (Elt F) a1.view (Rect.unit (s := S512x2048) ![0, 0] S512x2048.size inb_S512x2048_S512x2048_0_0).toLoadRect (h1.unread x) = x :=
  (View.readAt_full _ _ _).trans (h1.read_unread x)
theorem load2 (x : Vec F S1x2048 .f32) : View.readAt (Elt F) a2.view (Rect.unit (s := S1x2048) ![0, 0] S1x2048.size inb_S1x2048_S1x2048_0_0).toLoadRect (h2.unread x) = x :=
  (View.readAt_full _ _ _).trans (h2.read_unread x)
theorem load14 (x : Vec F S128x2048 .bf16) : View.readAt (Elt F) a14.view (Rect.unit (s := S128x2048) ![0, 0] S128x2048.size inb_S128x2048_S128x2048_0_0).toLoadRect (h14.unread x) = x :=
  (View.readAt_full _ _ _).trans (h14.read_unread x)
theorem load13 (s : Vec F S4096x2048 .bf16) (n : ℕ) (inb) : View.readAt (Elt F) a13.view (Rect.unit (s := S4096x2048) ![n, 0] S1024x2048.size inb).toLoadRect (h13.unread s)
    = VecWindow.window s ![n, 0] S1024x2048.size inb :=
  (View.readAt_unit a13.view _ inb rfl inb).trans (congrArg (VecWindow.window · _ _ inb) (h13.read_unread s))
theorem cov13 (s : Vec F S4096x2048 .bf16) (n : ℕ) (inb) : a13.view.readCov [⟨Rect.whole S4096x2048, s⟩] (Rect.unit (s := S4096x2048) ![n, 0] S1024x2048.size inb).toLoadRect
    = VecWindow.window s ![n, 0] S1024x2048.size inb :=
  (View.readAt_unit a13.view _ inb rfl inb).trans (congrArg (VecWindow.window · _ _ inb) (View.read_writes_whole a13.view _ s))

/-- The small columns' two stores leave them over zeros. -/
theorem read_small (f : a14.view.ty.Contents (Elt F)) (w : Vec F S11344x2048 .bf16) :
    a14.view.read (Elt F) (a14.view.writes (Elt F) f [⟨Rect.unit (s := S128x2048) ![0, 0] S80x2048.size inb_S128x2048_S80x2048_0_0, VecWindow.window w ![4096, 0] S80x2048.size inb_S11344x2048_S80x2048_4096_0⟩,
      ⟨Rect.unit (s := S128x2048) ![0, 0] S128x2048.size inb_S128x2048_S128x2048_0_0, k0_pay5⟩]) = small w := by
  rw [View.read_writes_cons_put a14.view f _ _ _ rfl, View.read_writes_full]
  rfl

/-! The lists of stores of a run. -/

/-- One store of a whole block. -/
abbrev whole {S : Shape} {e : EltTy} (o : Fin S.rank → ℕ) (inb : ∀ a, o a + S.size a ≤ S.size a) (v : Vec F S e) : List (View.Piece (Elt F) S e) := [⟨Rect.unit (s := S) o S.size inb, v⟩]

/-- The nine lists. -/
structure Stores (F : FTy → Type) [FloatOps F] where
  (L4 : List (View.Piece (Elt F) S512x1024 .bf16)) (L5 : List (View.Piece (Elt F) S4096x128 .f32)) (L6 : List (View.Piece (Elt F) S4096x128 .f32))
  (L7 : List (View.Piece (Elt F) S512x1024 .bf16)) (L8 : List (View.Piece (Elt F) S512x1024 .bf16)) (L9 : List (View.Piece (Elt F) S512x1024 .bf16))
  (L10 : List (View.Piece (Elt F) S512x128 .f32)) (L11 : List (View.Piece (Elt F) S512x128 .bf16)) (L12 : List (View.Piece (Elt F) S512x128 .f32))

/-- The stores as a function of what the body loads. -/
def stores (x : Vec F S512x2048 .f32) (g : Vec F S1x2048 .f32) (q k v i : Vec F S1024x2048 .bf16) (z : Vec F S128x2048 .bf16) : Stores F :=
  ⟨whole ![0, 0] inb_S512x1024_S512x1024_0_0 (k0_pay7 x g q), groups (k0_pay8 x g k), groups (k0_pay23 (k0_pay6 x g) v),
    whole ![0, 0] inb_S512x1024_S512x1024_0_0 (k0_pay9 x g k), whole ![0, 0] inb_S512x1024_S512x1024_0_0 (k0_pay24 (k0_pay6 x g) v),
    whole ![0, 0] inb_S512x1024_S512x1024_0_0 (k0_pay2 (k0_pay6 x g) i), whole ![0, 0] inb_S512x128_S512x128_0_0 (k0_pay3 (k0_pay6 x g) z),
    whole ![0, 0] inb_S512x128_S512x128_0_0 (k0_pay4 (k0_pay6 x g) z),
    whole ![0, 0] inb_S512x128_S512x128_0_0 (k0_pay14 (k0_pay11 (k0_pay10 x g k)) (iota .tc S512x128 32 [1] iota_S512x128_d1_w32) (k0_pay12 (k0_pay10 x g k)) (k0_pay13 (k0_pay10 x g k)))⟩

theorem stores_congr {x x' : Vec F S512x2048 .f32} {g g' : Vec F S1x2048 .f32} {q q' k k' v v' i i' : Vec F S1024x2048 .bf16} {z z' : Vec F S128x2048 .bf16}
    (hx : x = x') (hg : g = g') (hq : q = q') (hk : k = k') (hv : v = v') (hi : i = i') (hz : z = z') : stores x g q k v i z = stores x' g' q' k' v' i' z' := by
  subst hx hg hq hk hv hi hz; rfl

section Later

variable (hc : ¬ first i) (x : Vec F S512x2048 .f32) (g : Vec F S1x2048 .f32) (s : Vec F S4096x2048 .bf16) (z : Vec F S128x2048 .bf16)

/-- The later run's stores. -/
def laterStores : Stores F :=
  have R := runLater c i a1 h1 a2 h2 a4 h4 a5 h5 a6 h6 a7 h7 a8 h8 a9 h9 a10 h10 a11 h11 a12 h12 a13 h13 a14 h14 hc x g s z
  ⟨R.1, R.2.1, R.2.2.1, R.2.2.2.1, R.2.2.2.2.1, R.2.2.2.2.2.1, R.2.2.2.2.2.2.1, R.2.2.2.2.2.2.2.1, R.2.2.2.2.2.2.2.2.1⟩

set_option maxHeartbeats 2000000 in
theorem laterStores_eq : laterStores c i a1 h1 a2 h2 a4 h4 a5 h5 a6 h6 a7 h7 a8 h8 a9 h9 a10 h10 a11 h11 a12 h12 a13 h13 a14 h14 hc x g s z = stores x g (slabQ s) (slabK s) (slabV s) (slabI s) z :=
  stores_congr (load1 a1 h1 x) (load2 a2 h2 g) (load13 a13 h13 s 0 inb_S4096x2048_S1024x2048_0_0) (load13 a13 h13 s 1024 inb_S4096x2048_S1024x2048_1024_0)
    (load13 a13 h13 s 2048 inb_S4096x2048_S1024x2048_2048_0) (load13 a13 h13 s 3072 inb_S4096x2048_S1024x2048_3072_0) (load14 a14 h14 z)

end Later

section First

variable (hc : first i) (x : Vec F S512x2048 .f32) (g : Vec F S1x2048 .f32) (w : Vec F S11344x2048 .bf16)

/-- The first run's stores into the outputs, -/
def firstStores : Stores F :=
  have R := runFirst c i a1 h1 a2 h2 a4 h4 a5 h5 a6 h6 a7 h7 a8 h8 a9 h9 a10 h10 a11 h11 a12 h12 a13 h13 a14 h14 hc x g w
  ⟨R.1, R.2.1, R.2.2.1, R.2.2.2.1, R.2.2.2.2.1, R.2.2.2.2.2.1, R.2.2.2.2.2.2.1, R.2.2.2.2.2.2.2.1, R.2.2.2.2.2.2.2.2.1⟩

set_option maxHeartbeats 2000000 in
theorem firstStores_eq : firstStores c i a1 h1 a2 h2 a4 h4 a5 h5 a6 h6 a7 h7 a8 h8 a9 h9 a10 h10 a11 h11 a12 h12 a13 h13 a14 h14 hc x g w
    = stores x g (slabQ (staged w)) (slabK (staged w)) (slabV (staged w)) (slabI (staged w)) (small w) :=
  stores_congr (load1 a1 h1 x) (load2 a2 h2 g) (cov13 a13 (staged w) 0 inb_S4096x2048_S1024x2048_0_0) (cov13 a13 (staged w) 1024 inb_S4096x2048_S1024x2048_1024_0)
    (cov13 a13 (staged w) 2048 inb_S4096x2048_S1024x2048_2048_0) (cov13 a13 (staged w) 3072 inb_S4096x2048_S1024x2048_3072_0)
    ((View.readAt_full a14.view _ inb_S128x2048_S128x2048_0_0).trans (read_small a14 _ w))

/-- and into the two weight buffers. -/
theorem first13 (f : a13.view.ty.Contents (Elt F)) :
    a13.view.read (Elt F) (a13.view.writes (Elt F) f (runFirst c i a1 h1 a2 h2 a4 h4 a5 h5 a6 h6 a7 h7 a8 h8 a9 h9 a10 h10 a11 h11 a12 h12 a13 h13 a14 h14 hc x g w).2.2.2.2.2.2.2.2.2.1) = staged w :=
  View.read_writes_whole a13.view f (staged w)
theorem first14 (f : a14.view.ty.Contents (Elt F)) :
    a14.view.read (Elt F) (a14.view.writes (Elt F) f (runFirst c i a1 h1 a2 h2 a4 h4 a5 h5 a6 h6 a7 h7 a8 h8 a9 h9 a10 h10 a11 h11 a12 h12 a13 h13 a14 h14 hc x g w).2.2.2.2.2.2.2.2.2.2.1) = small w :=
  read_small a14 f w

end First

end Cert.ProjIdeal

end
-- ==== Proof.Proj.Run.lean ====
module

public import proofs.«01_k».proof.Proof.Proj.Left
public import proofs.«01_k».proof.Proof.Gen.ProjIdeal.Frame

/-! The run of the whole call: at every point the body leaves the nine blocks as functions of the point's rows and of the weights
read once, at the first point, into the two buffers. -/

@[expose] public section

set_option maxRecDepth 16384

noncomputable section

namespace Cert.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ProjIdeal.Gen hiding hmain W_main_arg1 W_main_arg2 before0_0_of before0_1_of frame_of sfx_sub

variable {F : FTy → Type} [FloatOps F]

local notation "𝕄" => MT nD τ sig Unit (Elt F) ℕ (Pipeline.UD sig nD τ) ℕ

/-- A written buffer that reads as `v` whatever it held before, held at `v`. -/
theorem written_owns (c : Dev nD) {sp : Space} {S : Shape} {e : EltTy} (M : Memref sig .tc sp S e) (L : List (View.Piece (Elt F) S e)) (v : Vec F S e)
    (h : ∀ f, M.view.read (Elt F) (M.view.writes (Elt F) f L) = v) : (written c M L : sProp 𝕄) ⊢ owns (c : Thread nD τ) M fullShare v := by
  unfold owns
  iintro ⟨%f, H⟩
  iexists _; isplitr
  swap; · iexact H
  ipureintro; exact h f

section Runs

variable (c : Dev nD) (i : grid0.Coords) (a1 : Memref sig .tc .vmem S512x2048 .f32) (h1 : a1.IsWhole) (a2 : Memref sig .tc .vmem S1x2048 .f32) (h2 : a2.IsWhole)
  (a4 : Memref sig .tc .vmem S512x1024 .bf16) (h4 : a4.IsWhole) (a5 : Memref sig .tc .vmem S4096x128 .f32) (h5 : a5.IsWhole)
  (a6 : Memref sig .tc .vmem S4096x128 .f32) (h6 : a6.IsWhole) (a7 : Memref sig .tc .vmem S512x1024 .bf16) (h7 : a7.IsWhole)
  (a8 : Memref sig .tc .vmem S512x1024 .bf16) (h8 : a8.IsWhole) (a9 : Memref sig .tc .vmem S512x1024 .bf16) (h9 : a9.IsWhole)
  (a10 : Memref sig .tc .vmem S512x128 .f32) (h10 : a10.IsWhole) (a11 : Memref sig .tc .vmem S512x128 .bf16) (h11 : a11.IsWhole)
  (a12 : Memref sig .tc .vmem S512x128 .f32) (h12 : a12.IsWhole) (a13 : Memref sig .tc .vmem S4096x2048 .bf16) (h13 : a13.IsWhole)
  (a14 : Memref sig .tc .vmem S128x2048 .bf16) (h14 : a14.IsWhole)

/-- The nine outputs' buffers at anything, -/
abbrev anys : sProp 𝕄 := iprop(some' c a4 ∗ some' c a5 ∗ some' c a6 ∗ some' c a7 ∗ some' c a8 ∗ some' c a9 ∗ some' c a10 ∗ some' c a11 ∗ some' c a12)

/-- and at what the body leaves. -/
abbrev outs (x : Vec F S512x2048 .f32) (g : Vec F S1x2048 .f32) (s : Vec F S4096x2048 .bf16) (z : Vec F S128x2048 .bf16) : sProp 𝕄 :=
  iprop(owns (c : Thread nD τ) a4 fullShare (left4 x g s) ∗ owns (c : Thread nD τ) a5 fullShare (left5 x g s) ∗ owns (c : Thread nD τ) a6 fullShare (left6 x g s) ∗ owns (c : Thread nD τ) a7 fullShare (left7 x g s) ∗ owns (c : Thread nD τ) a8 fullShare (left8 x g s) ∗ owns (c : Thread nD τ) a9 fullShare (left9 x g s) ∗ owns (c : Thread nD τ) a10 fullShare (left10 x g z) ∗ owns (c : Thread nD τ) a11 fullShare (left11 x g z) ∗ owns (c : Thread nD τ) a12 fullShare (left12 x g s))

/-- The stores leave the blocks. -/
theorem outs_of (x : Vec F S512x2048 .f32) (g : Vec F S1x2048 .f32) (s : Vec F S4096x2048 .bf16) (z : Vec F S128x2048 .bf16) (S : Stores F)
    (h : S = stores x g (slabQ s) (slabK s) (slabV s) (slabI s) z) :
    iprop(written c a4 S.L4 ∗ written c a5 S.L5 ∗ written c a6 S.L6 ∗ written c a7 S.L7 ∗ written c a8 S.L8 ∗ written c a9 S.L9 ∗ written c a10 S.L10 ∗ written c a11 S.L11 ∗ written c a12 S.L12) ⊢ (outs c a4 a5 a6 a7 a8 a9 a10 a11 a12 x g s z : sProp 𝕄) := by
  subst h
  iintro ⟨H4, H5, H6, H7, H8, H9, H10, H11, H12⟩
  isplitl [H4]; · iapply (written_owns c a4 _ _ (fun f => View.read_writes_full _ f _ _ _)); iexact H4
  isplitl [H5]; · iapply (written_owns c a5 _ _ (fun f => read_groups _ f _)); iexact H5
  isplitl [H6]; · iapply (written_owns c a6 _ _ (fun f => read_groups _ f _)); iexact H6
  isplitl [H7]; · iapply (written_owns c a7 _ _ (fun f => View.read_writes_full _ f _ _ _)); iexact H7
  isplitl [H8]; · iapply (written_owns c a8 _ _ (fun f => View.read_writes_full _ f _ _ _)); iexact H8
  isplitl [H9]; · iapply (written_owns c a9 _ _ (fun f => View.read_writes_full _ f _ _ _)); iexact H9
  isplitl [H10]; · iapply (written_owns c a10 _ _ (fun f => View.read_writes_full _ f _ _ _)); iexact H10
  isplitl [H11]; · iapply (written_owns c a11 _ _ (fun f => View.read_writes_full _ f _ _ _)); iexact H11
  iapply (written_owns c a12 _ _ (fun f => View.read_writes_full _ f _ _ _)); iexact H12

/-- The first run, its stores read. -/
theorem first_run (hc : first i) (x : Vec F S512x2048 .f32) (g : Vec F S1x2048 .f32) (w : Vec F S11344x2048 .bf16) (W : Waits sig Unit) (K : PUnit → sProp 𝕄) :
    iprop(owns (c : Thread nD τ) a1 fullShare x ∗ owns (c : Thread nD τ) a2 fullShare g ∗ anys c a4 a5 a6 a7 a8 a9 a10 a11 a12 ∗ some' c a13 ∗ some' c a14
        ∗ semVal ((c : Thread nD τ), SemLoc.dma 21) 0 ∗ semVal ((c : Thread nD τ), SemLoc.dma 22) 0 ∗ heldAt c far w ∗ owes (c : Thread nD τ) 0 W
        ∗ (iprop(owns (c : Thread nD τ) a1 fullShare x ∗ owns (c : Thread nD τ) a2 fullShare g ∗ outs c a4 a5 a6 a7 a8 a9 a10 a11 a12 x g (staged w) (small w)
            ∗ owns (c : Thread nD τ) a13 fullShare (staged w) ∗ owns (c : Thread nD τ) a14 fullShare (small w)
            ∗ semVal ((c : Thread nD τ), SemLoc.dma 21) 0 ∗ semVal ((c : Thread nD τ), SemLoc.dma 22) 0 ∗ heldAt c far w ∗ (∃ W', owes (c : Thread nD τ) 0 W')) -∗ K ⟨⟩))
      ⊢ wp frame (wpE (defs₀ (F := F)) Variants.none c none) Set.univ (body i a1 h1 a2 h2 a4 h4 a5 h5 a6 h6 a7 h7 a8 h8 a9 h9 a10 h10 a11 h11 a12 h12 a13 h13 a14 h14) K := by
  iintro ⟨H1, H2, ⟨H4, H5, H6, H7, H8, H9, H10, H11, H12⟩, H13, H14, Hq, Hr, Hw, HW, Hk⟩
  iapply ((runFirst c i a1 h1 a2 h2 a4 h4 a5 h5 a6 h6 a7 h7 a8 h8 a9 h9 a10 h10 a11 h11 a12 h12 a13 h13 a14 h14 hc x g w).2.2.2.2.2.2.2.2.2.2.2 W K)
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hq]; · iexact Hq
  isplitl [Hr]; · iexact Hr
  isplitl [Hw]; · iexact Hw
  isplitl [HW]; · iexact HW
  iintro ⟨H1, H2, H4, H5, H6, H7, H8, H9, H10, H11, H12, H13, H14, Hq, Hr, Hw, HW⟩
  iapply Hk
  isplitl [H1]; · iexact H1
  isplitl [H2]; · iexact H2
  isplitl [H4 H5 H6 H7 H8 H9 H10 H11 H12]
  · iapply (outs_of c a4 a5 a6 a7 a8 a9 a10 a11 a12 x g (staged w) (small w) _ (firstStores_eq c i a1 h1 a2 h2 a4 h4 a5 h5 a6 h6 a7 h7 a8 h8 a9 h9 a10 h10 a11 h11 a12 h12 a13 h13 a14 h14 hc x g w))
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iapply (written_owns c a13 _ _ (first13 c i a1 h1 a2 h2 a4 h4 a5 h5 a6 h6 a7 h7 a8 h8 a9 h9 a10 h10 a11 h11 a12 h12 a13 h13 a14 h14 hc x g w)); iexact H13
  isplitl [H14]; · iapply (written_owns c a14 _ _ (first14 c i a1 h1 a2 h2 a4 h4 a5 h5 a6 h6 a7 h7 a8 h8 a9 h9 a10 h10 a11 h11 a12 h12 a13 h13 a14 h14 hc x g w)); iexact H14
  isplitl [Hq]; · iexact Hq
  isplitl [Hr]; · iexact Hr
  isplitl [Hw]; · iexact Hw
  iexact HW

/-- A later run, its stores read. -/
theorem later_run (hc : ¬ first i) (x : Vec F S512x2048 .f32) (g : Vec F S1x2048 .f32) (s : Vec F S4096x2048 .bf16) (z : Vec F S128x2048 .bf16) (K : PUnit → sProp 𝕄) :
    iprop(owns (c : Thread nD τ) a1 fullShare x ∗ owns (c : Thread nD τ) a2 fullShare g ∗ anys c a4 a5 a6 a7 a8 a9 a10 a11 a12 ∗ owns (c : Thread nD τ) a13 fullShare s ∗ owns (c : Thread nD τ) a14 fullShare z
        ∗ (iprop(owns (c : Thread nD τ) a1 fullShare x ∗ owns (c : Thread nD τ) a2 fullShare g ∗ outs c a4 a5 a6 a7 a8 a9 a10 a11 a12 x g s z
            ∗ owns (c : Thread nD τ) a13 fullShare s ∗ owns (c : Thread nD τ) a14 fullShare z) -∗ K ⟨⟩))
      ⊢ wp frame (wpE (defs₀ (F := F)) Variants.none c none) Set.univ (body i a1 h1 a2 h2 a4 h4 a5 h5 a6 h6 a7 h7 a8 h8 a9 h9 a10 h10 a11 h11 a12 h12 a13 h13 a14 h14) K := by
  iintro ⟨H1, H2, ⟨H4, H5, H6, H7, H8, H9, H10, H11, H12⟩, H13, H14, Hk⟩
  iapply ((runLater c i a1 h1 a2 h2 a4 h4 a5 h5 a6 h6 a7 h7 a8 h8 a9 h9 a10 h10 a11 h11 a12 h12 a13 h13 a14 h14 hc x g s z).2.2.2.2.2.2.2.2.2 K)
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H4, H5, H6, H7, H8, H9, H10, H11, H12, H13, H14⟩
  iapply Hk
  isplitl [H1]; · iexact H1
  isplitl [H2]; · iexact H2
  isplitl [H4 H5 H6 H7 H8 H9 H10 H11 H12]
  · iapply (outs_of c a4 a5 a6 a7 a8 a9 a10 a11 a12 x g s z _ (laterStores_eq c i a1 h1 a2 h2 a4 h4 a5 h5 a6 h6 a7 h7 a8 h8 a9 h9 a10 h10 a11 h11 a12 h12 a13 h13 a14 h14 hc x g s z))
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  iexact H14

end Runs

variable (m : (ℓ : Loc nD τ sig) → Buf (Elt F) ℓ) (ρ : Dev nD → PrngReg)

/-! The launch, with the two semaphores and the far weights the kernel keeps for itself. -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The kernel's own semaphores, -/
def osem0 : Fin 2 → SemLoc sig := fun j => (![SemLoc.dma 21, SemLoc.dma 22] : Fin 2 → SemLoc sig) j
theorem ownSemFacts0 : Pipeline.OwnSemFacts spec0 osem0 := by decide
/-- and the buffer it reads from the far memory. -/
def H0 : Finset (Ref sig .tc) := {main_v2}
theorem H0_sub : H0 ⊆ Pipeline.restRefs sig spec0 := by decide

/-- The two weight buffers. -/
abbrev bufS : Memref sig .tc .vmem S4096x2048 .bf16 := Memref.whole cc0_scratch0
abbrev bufZ : Memref sig .tc .vmem S128x2048 .bf16 := Memref.whole cc0_scratch1

theorem ownSems0_at (c : Dev nD) :
    (Pipeline.ownSems0 osem0 c : sProp 𝕄) = iprop(semVal ((c : Thread nD τ), SemLoc.dma 21) 0 ∗ semVal ((c : Thread nD τ), SemLoc.dma 22) 0) := by
  rw [Pipeline.ownSems0_eq_of_list c osem0 [0, 1] (by decide) (by decide)]; rfl

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl | rfl | rfl | rfl | rfl
  all_goals
    intro b hb
    simp only [H0, Finset.mem_singleton] at hb
    subst hb
    simp only [StableHlo.unary_bufs, StableHlo.reshape_bufs, Finset.mem_insert, Finset.mem_singleton, not_or]
    and_intros <;> exact StableHlo.devRef_ne_of_ne (by decide)

/-- What the region may use besides the windows. -/
theorem ΦD_at (c : Dev nD) : (Pipeline.ΦD osem0 spec0 H0 (V m) c : sProp 𝕄)
    = iprop((some' c bufS ∗ some' c bufZ) ∗ (∃ r, prngReg c r)
        ∗ (semVal ((c : Thread nD τ), SemLoc.dma 21) 0 ∗ semVal ((c : Thread nD τ), SemLoc.dma 22) 0) ∗ heldAt c far (V m c main_v2)) := by
  have hH : (BI.bigSep H0 (fun b => ((c : Thread nD τ).loc b ↦{fullShare} V m c b : sProp 𝕄))) = heldAt c far (V m c main_v2) := by
    rw [BI.bigSep_eq_bigSepL_of_eq [main_v2] (by decide) (by decide)]; rfl
  rw [Pipeline.ΦD_eq, scopedRest0_eq, ownSems0_at]
  simp only [some', bufS, bufZ, owns_whole]
  rw [show (BI.bigSep H0 (fun b => ((c : Thread nD τ).loc b ↦{fullShare} V m c b : sProp 𝕄))) = _ from hH]
  rfl

/-- The weights in the far memory, on core `c`. -/
abbrev weights (c : Dev nD) : Vec F S11344x2048 .bf16 := V m c main_v2

/-- Between points the two buffers hold the weights. -/
def keeps (c : Dev nD) : ℕ → sProp 𝕄
  | 0 => Pipeline.ΦD osem0 spec0 H0 (V m) c
  | _ + 1 => iprop((owns (c : Thread nD τ) bufS fullShare (staged (weights m c)) ∗ owns (c : Thread nD τ) bufZ fullShare (small (weights m c))) ∗ (∃ r, prngReg c r)
        ∗ (semVal ((c : Thread nD τ), SemLoc.dma 21) 0 ∗ semVal ((c : Thread nD τ), SemLoc.dma 22) 0) ∗ heldAt c far (V m c main_v2))

/-- The pipeline's data: each output's block as the body leaves it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left4 (iblk m c 0 t) (iblk m c 1 t) (staged (weights m c))
    | ⟨3, _⟩ => left5 (iblk m c 0 t) (iblk m c 1 t) (staged (weights m c))
    | ⟨4, _⟩ => left6 (iblk m c 0 t) (iblk m c 1 t) (staged (weights m c))
    | ⟨5, _⟩ => left7 (iblk m c 0 t) (iblk m c 1 t) (staged (weights m c))
    | ⟨6, _⟩ => left8 (iblk m c 0 t) (iblk m c 1 t) (staged (weights m c))
    | ⟨7, _⟩ => left9 (iblk m c 0 t) (iblk m c 1 t) (staged (weights m c))
    | ⟨8, _⟩ => left10 (iblk m c 0 t) (iblk m c 1 t) (small (weights m c))
    | ⟨9, _⟩ => left11 (iblk m c 0 t) (iblk m c 1 t) (small (weights m c))
    | ⟨10, _⟩ => left12 (iblk m c 0 t) (iblk m c 1 t) (staged (weights m c))
  Φ t := keeps m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]

theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]) t d).trans
    (by unfold Dat.fetched Dat.blockOf iblk; rw [A_eq]; rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]) t d).trans
    (by unfold Dat.fetched Dat.blockOf iblk; rw [A_eq]; rfl)

/-- What the body gets at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ outs c (st0_2 t) (st0_3 t) (st0_4 t) (st0_5 t) (st0_6 t) (st0_7 t) (st0_8 t) (st0_9 t) (st0_10 t) (iblk m c 0 t) (iblk m c 1 t) (staged (weights m c)) (small (weights m c)))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  unfold Dat.owesAt Pipeline.owesWithin
  rw [show (dats m 0 c).owed t.castSucc = 0 from rfl, show (dats m 0 c).owed t.succ = 0 from rfl,
    show (dats m 0 c).Φ t.castSucc = keeps m c t.val from rfl, show (dats m 0 c).Φ t.succ = keeps m c (t.val + 1) from rfl]
  by_cases hz : t.val = 0
  · rw [show keeps m c t.val = Pipeline.ΦD osem0 spec0 H0 (V m) c from by rw [hz]; rfl, ΦD_at, keeps]
    iintro ⟨⟨⟨H13, H14⟩, Hg, ⟨Hq, Hr⟩, Hw⟩, ⟨%W, -, HW⟩, ⟨%d1, H1⟩, ⟨%d2, H2⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_run c (grid0.coords t) _ _ _ _ _ _ _ _ _ _ _ _ _ _ _ _ _ _ _ _ _ _ _ _ _ _ ((first_iff t).mpr hz) (iblk m c 0 t) (iblk m c 1 t) (weights m c) W _)
    isplitl [H1]; · iexact H1
    isplitl [H2]; · iexact H2
    isplitl [H4 H5 H6 H7 H8 H9 H10 H11 H12]
    · isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      iexists _; iexact H12
    isplitl [H13]; · iexact H13
    isplitl [H14]; · iexact H14
    isplitl [Hq]; · iexact Hq
    isplitl [Hr]; · iexact Hr
    isplitl [Hw]; · iexact Hw
    isplitl [HW]; · iexact HW
    iintro ⟨H1, H2, Ho, H13, H14, Hq, Hr, Hw, ⟨%W', HW⟩⟩
    isplitl [H13 H14 Hg Hq Hr Hw]
    · isplitl [H13 H14]
      · isplitl [H13]; · iexact H13
        iexact H14
      isplitl [Hg]; · iexact Hg
      isplitl [Hq Hr]
      · isplitl [Hq]; · iexact Hq
        iexact Hr
      iexact Hw
    isplitl [HW]
    · iexists W'; isplitr; · ipureintro; exact fun _ _ => Or.inl trivial
      iexact HW
    isplitl [H1]; · iexact H1
    isplitl [H2]; · iexact H2
    iexact Ho
  · obtain ⟨n, hn⟩ := Nat.exists_eq_succ_of_ne_zero hz
    rw [show keeps m c t.val = keeps m c (n + 1) from by rw [hn], keeps, keeps]
    iintro ⟨⟨⟨H13, H14⟩, Hg, Hqr, Hw⟩, ⟨%W, -, HW⟩, ⟨%d1, H1⟩, ⟨%d2, H2⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (later_run c (grid0.coords t) _ _ _ _ _ _ _ _ _ _ _ _ _ _ _ _ _ _ _ _ _ _ _ _ _ _ (fun h => hz ((first_iff t).mp h)) (iblk m c 0 t) (iblk m c 1 t) (staged (weights m c)) (small (weights m c)) _)
    isplitl [H1]; · iexact H1
    isplitl [H2]; · iexact H2
    isplitl [H4 H5 H6 H7 H8 H9 H10 H11 H12]
    · isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      iexists _; iexact H12
    isplitl [H13]; · iexact H13
    isplitl [H14]; · iexact H14
    iintro ⟨H1, H2, Ho, H13, H14⟩
    isplitl [H13 H14 Hg Hqr Hw]
    · isplitl [H13 H14]
      · isplitl [H13]; · iexact H13
        iexact H14
      isplitl [Hg]; · iexact Hg
      isplitl [Hqr]; · iexact Hqr
      iexact Hw
    isplitl [HW]
    · iexists W; isplitr; · ipureintro; exact fun _ _ => Or.inl trivial
      iexact HW
    isplitl [H1]; · iexact H1
    isplitl [H2]; · iexact H2
    iexact Ho

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := Idealize.SL.BI.Entails.refl _

/-- At the end what the buffers hold is forgotten. -/
theorem hout (c : Dev nD) : (dats m 0 c).Φ (Fin.last cfg0.N) ⊢ Pipeline.ΦD osem0 spec0 H0 (V m) c := by
  rw [show (dats m 0 c).Φ (Fin.last cfg0.N) = keeps m c (15 + 1) from by show keeps m c (Fin.last cfg0.N).val = _; rw [Fin.val_last, show cfg0.N = 16 from N_0], keeps, ΦD_at]
  iintro ⟨⟨H13, H14⟩, Hg, Hqr, Hw⟩
  isplitl [H13 H14]
  · isplitl [H13]
    · iexists _; iexact H13
    iexists _; iexact H14
  isplitl [Hg]; · iexact Hg
  isplitl [Hqr]; · iexact Hqr
  iexact Hw

set_option backward.isDefEq.respectTransparency.types false in
set_option maxHeartbeats 800000 in
/-- Every execution of the program ends, the arrays at what the data say, the counters at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- An argument no operation writes ends as launched. -/
theorem kept (c : Dev nD) (b : Ref sig .tc) (h0 : ∀ w, Pipeline.arrRef spec0 w ≠ b)
    (h1 : (hostOps1 : List (HloOp τ sig (Elt F))).Forall fun op => Proc.devRef .tc b ∉ op.writes)
    (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (by simpa only [List.flatten_cons, List.flatten_nil, List.append_nil] using List.forall_iff_forall_mem.mp h1),
    Pipeline.withArrays_of_ne _ c (V0 m c) _ b h0]
  exact hV

theorem tail_keeps (b : Ref sig .tc) (h : b = main_arg1 ∨ b = main_arg2) :
    (hostOps1 : List (HloOp τ sig (Elt F))).Forall fun op => Proc.devRef .tc b ∉ op.writes := by
  rcases h with rfl | rfl <;>
  · simp only [hostOps1, List.Forall, StableHlo.unary_writes, StableHlo.reshape_writes, Finset.mem_singleton]
    and_intros <;> exact StableHlo.devRef_ne_of_ne (by decide)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans
        (kept m c main_arg1 (by exact (by decide : ∀ w, Pipeline.arrRef spec0 w ≠ main_arg1)) (tail_keeps _ (Or.inl rfl)) (V_main_arg1 m c)),
      ((h.1 c).2 main_arg2 (Pipeline.mem_restRefs_of main_arg2 (by decide) (by decide))).trans
        (kept m c main_arg2 (by exact (by decide : ∀ w, Pipeline.arrRef spec0 w ≠ main_arg2)) (tail_keeps _ (Or.inr rfl)) (V_main_arg2 m c))⟩, h.2⟩) (run_main m ρ)

end Cert.ProjIdeal

end
-- ==== Proof.Proj.Spec.lean ====
module

public import proofs.«01_k».proof.Proof.Conv.Spec

/-! The attention projections of the prompt's rows: the normalised row against groups of columns of one matrix. -/

@[expose] public section

noncomputable section

namespace Cert.Projections

open Idealize.ShloMosaic

/-- The groups of columns: queries, keys, values, indexer queries, and the eighty small ones, of which the last are the indexer's weights. -/
def colQ (j : Fin 1024) : Fin 11344 := ⟨j.val, by omega⟩
def colK (j : Fin 1024) : Fin 11344 := ⟨1024 + j.val, by omega⟩
def colV (j : Fin 1024) : Fin 11344 := ⟨2048 + j.val, by omega⟩
def colI (j : Fin 1024) : Fin 11344 := ⟨3072 + j.val, by omega⟩
def colS (j : Fin 80) : Fin 11344 := ⟨4096 + j.val, by omega⟩
def colW (i : Fin 16) : Fin 11344 := ⟨4160 + i.val, by omega⟩

/-- A head's entry among the columns of its group. -/
def headed (h : Fin 8) (d : Fin 128) : Fin 1024 := ⟨h.val * 128 + d.val, by omega⟩
/-- A position of a sequence among all rows. -/
def position (b : Fin 4) (s : Fin 2048) : Fin 8192 := ⟨b.val * 2048 + s.val, by omega⟩

variable (X : Fin 8192 → Fin 2048 → EReal) (g : Fin 2048 → EReal) (w : Fin 2048 → Fin 11344 → EReal)

/-- A row against a column. -/
def entry (r : Fin 8192) (o : Fin 11344) : EReal := Cert.ConvBranch.proj (X r) g w o

def keys (b : Fin 4) (s : Fin 2048) (h : Fin 8) (d : Fin 128) : EReal := entry X g w (position b s) (colK (headed h d))
def vals (b : Fin 4) (s : Fin 2048) (h : Fin 8) (d : Fin 128) : EReal := entry X g w (position b s) (colV (headed h d))
def indexKeys (b : Fin 4) (s : Fin 2048) (i : Fin 64) : EReal := entry X g w (position b s) (colS ⟨i.val, by omega⟩)
/-- The queries carry the softmax scale. -/
def queries (r : Fin 8192) (j : Fin 1024) : EReal := entry X g w r (colQ j) * Ideal.ofBits .f32 0x3E0293EE#32
def indexQueries (r : Fin 8192) (j : Fin 1024) : EReal := entry X g w r (colI j)
def indexWeights (r : Fin 8192) (i : Fin 16) : EReal := entry X g w r (colW i)

end Cert.Projections

end
-- ==== Proof.Proj.Value.lean ====
module

public import proofs.«01_k».proof.Proof.Proj.Run
public import proofs.«01_k».proof.Proof.Proj.Spec
public import Idealize.ShloMosaic.Lib.Pipeline.Covers
public import Idealize.ShloMosaic.Lib.Pipeline.ValueKit

/-! The projection call's results as entries of its arguments. -/

@[expose] public section

set_option maxRecDepth 16384

noncomputable section

namespace Cert.ProjIdeal.Value

open Idealize.ShloMosaic Idealize.ShloMosaic.TcCoe Idealize.SL.Sem
open Cert.ProjIdeal Cert.ProjIdeal.Gen Cert.Projections

variable (m : (ℓ : Loc nD τ sig) → Buf (Elt Ideal) ℓ)

abbrev A0 (c : Dev nD) : S8192x2048.Idx → EReal := m ((c : Thread nD τ).loc main_arg0)
abbrev A1 (c : Dev nD) : S1x2048.Idx → EReal := m ((c : Thread nD τ).loc main_arg1)
abbrev A2 (c : Dev nD) : S1x2048x11344.Idx → EReal := m ((c : Thread nD τ).loc main_arg2)

/-! The arguments as rows and columns. -/

abbrev row (c : Dev nD) (r : Fin 8192) (k : Fin 2048) : EReal := A0 m c (ix2 r k)
abbrev scale (c : Dev nD) (k : Fin 2048) : EReal := A1 m c (ix2 0 k)
abbrev weight (c : Dev nD) (k : Fin 2048) (o : Fin 11344) : EReal := A2 m c (ix3 0 k o)

/-! The arrays the call is given. -/

theorem v2_at (c : Dev nD) (o : Fin 11344) (k : Fin 2048) :
    (show EReal from (weights m c : Vec Ideal S11344x2048 .bf16) (ix2 o k)) = weight m c k o := by
  simp only [weights, V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v4_at (c : Dev nD) (j : Fin 2048) : (show EReal from (V m c main_v4 : Vec Ideal S1x2048 .f32) (ix2 0 j)) = scale m c j := by
  simp only [V, V0, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

/-- The blocks of the windows: a slab of rows each, but for the scale. -/
theorem idx : ∀ t : Fin cfg0.N, (cfg0.win 0).index t = ![t.val, 0] ∧ (cfg0.win 1).index t = ![0, 0] ∧ (cfg0.win 2).index t = ![t.val, 0]
    ∧ (cfg0.win 3).index t = ![t.val, 0] ∧ (cfg0.win 4).index t = ![t.val, 0] ∧ (cfg0.win 7).index t = ![t.val, 0]
    ∧ (cfg0.win 8).index t = ![t.val, 0] :=
  (by decide +kernel : ∀ t : Fin grid0.N, _)

theorem lt16 (t : Fin cfg0.N) : t.val < 16 := Nat.lt_of_lt_of_eq t.isLt N_0

/-- The row of the prompt that is a row of a point's block. -/
abbrev place (t : Fin cfg0.N) (r : Fin 512) : Fin 8192 := ⟨t.val * 512 + r.val, by have := lt16 t; omega⟩

theorem x0_at (c : Dev nD) (t : Fin cfg0.N) (r : Fin 512) (j : Fin 2048) :
    (show EReal from (iblk m c 0 t : Vec Ideal S512x2048 .f32) (ix2 r j)) = row m c (place t r) j := by
  refine Eq.trans (b := (V m c main_arg0 : Vec Ideal S8192x2048 .f32) (ix2 (place t r) j)) ?_ ?_
  · blk_simp [iblk]
    show (V m c main_arg0 : Vec Ideal S8192x2048 .f32) _ = _
    blk_ext [idx t]
  · rw [V_main_arg0]

theorem x1_at (c : Dev nD) (t : Fin cfg0.N) (j : Fin 2048) :
    (show EReal from (iblk m c 1 t : Vec Ideal S1x2048 .f32) (ix2 0 j)) = scale m c j := by
  refine Eq.trans (b := (V m c main_v4 : Vec Ideal S1x2048 .f32) (ix2 0 j)) ?_ ?_
  · blk_simp [iblk]
    show (V m c main_v4 : Vec Ideal S1x2048 .f32) _ = _
    blk_ext [idx t]
  · exact v4_at m c j

/-! The steps of the body at an index. -/

theorem pay6_at (x0 : Vec Ideal S512x2048 .f32) (x1 : Vec Ideal S1x2048 .f32) (r : Fin 512) (k : Fin 2048) :
    (show EReal from k0_pay6 x0 x1 (ix2 r k)) = Cert.FeedForward.nrm (fun k => x0 (ix2 r k)) (fun k => x1 (ix2 0 k)) k := by
  pointwise [k0_pay6]
  rfl

theorem pay23_at (g : FVec Ideal S512x2048 .bf16) (a : Vec Ideal S1024x2048 .bf16) (r : Fin 512) (j : Fin 1024) :
    (show EReal from k0_pay23 g a (ix2 r j)) = ∑ x, g (ix2 r x) * a (ix2 j x) := by
  pointwise [k0_pay23]

theorem pay2_at (g : FVec Ideal S512x2048 .bf16) (a : Vec Ideal S1024x2048 .bf16) (r : Fin 512) (j : Fin 1024) :
    (show EReal from k0_pay2 g a (ix2 r j)) = ∑ x, g (ix2 r x) * a (ix2 j x) := by
  pointwise [k0_pay2]

theorem pay3_at (g : FVec Ideal S512x2048 .bf16) (a : Vec Ideal S128x2048 .bf16) (r : Fin 512) (j : Fin 128) :
    (show EReal from k0_pay3 g a (ix2 r j)) = ∑ x, g (ix2 r x) * a (ix2 j x) := by
  pointwise [k0_pay3]

theorem pay8_eq (x : Vec Ideal S512x2048 .f32) (g : Vec Ideal S1x2048 .f32) (a : Vec Ideal S1024x2048 .bf16) :
    k0_pay8 x g a = k0_pay23 (k0_pay6 x g) a := rfl

theorem pay7_at (x : Vec Ideal S512x2048 .f32) (g : Vec Ideal S1x2048 .f32) (a : Vec Ideal S1024x2048 .bf16) (r : Fin 512) (j : Fin 1024) :
    (show EReal from k0_pay7 x g a (ix2 r j)) = (∑ k, k0_pay6 x g (ix2 r k) * a (ix2 j k)) * Ideal.ofBits .f32 0x3E0293EE#32 := by
  pointwise [k0_pay7]

/-! The staged rows are the transposed columns. -/

theorem slab_at (s : Vec Ideal S4096x2048 .bf16) (o : ℕ) (h) (j : Fin 1024) (k : Fin 2048) (ho : o + j.val < 4096) :
    (show EReal from (VecWindow.window s ![o, 0] S1024x2048.size h : Vec Ideal S1024x2048 .bf16) (ix2 j k)) = s (ix2 ⟨o + j.val, ho⟩ k) := by
  refine congrArg s ?_
  funext a
  refine Fin.ext ?_
  match a with
  | ⟨0, _⟩ => show o + 1 * j.val = o + j.val; omega
  | ⟨1, _⟩ => show 0 + 1 * k.val = k.val; omega

theorem staged_at (c : Dev nD) (j : Fin 4096) (k : Fin 2048) :
    (show EReal from staged (weights m c) (ix2 j k)) = weight m c k ⟨j.val, by omega⟩ := by
  refine Eq.trans ?_ (v2_at m c ⟨j.val, by omega⟩ k)
  refine congrArg (weights m c : Vec Ideal S11344x2048 .bf16) ?_
  funext a
  refine Fin.ext ?_
  match a with
  | ⟨0, _⟩ => show 0 + 1 * j.val = j.val; omega
  | ⟨1, _⟩ => show 0 + 1 * k.val = k.val; omega

theorem slabQ_at (c : Dev nD) (j : Fin 1024) (k : Fin 2048) : (show EReal from slabQ (staged (weights m c)) (ix2 j k)) = weight m c k (colQ j) :=
  (slab_at _ 0 _ j k (by omega)).trans ((staged_at m c _ k).trans (congrArg (weight m c k) (Fin.ext (Nat.zero_add j.val))))
theorem slabK_at (c : Dev nD) (j : Fin 1024) (k : Fin 2048) : (show EReal from slabK (staged (weights m c)) (ix2 j k)) = weight m c k (colK j) :=
  (slab_at _ 1024 _ j k (by omega)).trans (staged_at m c _ k)
theorem slabV_at (c : Dev nD) (j : Fin 1024) (k : Fin 2048) : (show EReal from slabV (staged (weights m c)) (ix2 j k)) = weight m c k (colV j) :=
  (slab_at _ 2048 _ j k (by omega)).trans (staged_at m c _ k)
theorem slabI_at (c : Dev nD) (j : Fin 1024) (k : Fin 2048) : (show EReal from slabI (staged (weights m c)) (ix2 j k)) = weight m c k (colI j) :=
  (slab_at _ 3072 _ j k (by omega)).trans (staged_at m c _ k)

theorem small_at (c : Dev nD) (j : Fin 80) (k : Fin 2048) :
    (show EReal from small (weights m c) (ix2 (⟨j.val, by omega⟩ : Fin 128) k)) = weight m c k (colS j) := by
  unfold small
  have hin : ∀ a : Fin 2, (![0, 0] : Fin 2 → ℕ) a ≤ ((ix2 (⟨j.val, by omega⟩ : Fin 128) k : S128x2048.Idx) a).val
      ∧ ((ix2 (⟨j.val, by omega⟩ : Fin 128) k : S128x2048.Idx) a).val < (![0, 0] : Fin 2 → ℕ) a + S80x2048.size a := fun a => by
    match a with
    | ⟨0, _⟩ => exact ⟨Nat.zero_le _, by show j.val < 0 + 80; omega⟩
    | ⟨1, _⟩ => exact ⟨Nat.zero_le _, by show k.val < 0 + 2048; omega⟩
  refine (dif_pos hin).trans ?_
  refine Eq.trans ?_ (v2_at m c (colS j) k)
  refine congrArg (weights m c : Vec Ideal S11344x2048 .bf16) ?_
  funext a
  refine Fin.ext ?_
  match a with
  | ⟨0, _⟩ => show 4096 + 1 * (j.val - 0) = 4096 + j.val; omega
  | ⟨1, _⟩ => show 0 + 1 * (k.val - 0) = k.val; omega

/-! The blocks. -/

/-- The normalised rows of a point. -/
def normed (c : Dev nD) (t : Fin cfg0.N) : FVec Ideal S512x2048 .bf16 := k0_pay6 (iblk m c 0 t) (iblk m c 1 t)

theorem normed_at (c : Dev nD) (t : Fin cfg0.N) (r : Fin 512) (k : Fin 2048) :
    (show EReal from normed m c t (ix2 r k)) = Cert.FeedForward.nrm (row m c (place t r)) (scale m c) k :=
  (pay6_at _ _ r k).trans (congrArg₂ (fun x g => Cert.FeedForward.nrm x g k) (funext fun k => x0_at m c t r k) (funext fun k => x1_at m c t k))

theorem entry_eq (c : Dev nD) (t : Fin cfg0.N) (r : Fin 512) (o : Fin 11344) (a : Fin 2048 → EReal) (ha : ∀ k, a k = weight m c k o) :
    (∑ k, (show EReal from normed m c t (ix2 r k)) * a k) = entry (row m c) (scale m c) (weight m c) (place t r) o := by
  unfold entry Cert.ConvBranch.proj
  refine Finset.sum_congr rfl fun k _ => ?_
  rw [ha k]
  exact congrArg (· * _) (normed_at m c t r k)

theorem blockQ_at (c : Dev nD) (t : Fin cfg0.N) (r : Fin 512) (j : Fin 1024) :
    (show EReal from left4 (iblk m c 0 t) (iblk m c 1 t) (staged (weights m c)) (ix2 r j)) = queries (row m c) (scale m c) (weight m c) (place t r) j :=
  (pay7_at _ _ _ r j).trans (congrArg (· * _) (entry_eq m c t r (colQ j) _ fun k => slabQ_at m c j k))

theorem blockI_at (c : Dev nD) (t : Fin cfg0.N) (r : Fin 512) (j : Fin 1024) :
    (show EReal from left9 (iblk m c 0 t) (iblk m c 1 t) (staged (weights m c)) (ix2 r j)) = indexQueries (row m c) (scale m c) (weight m c) (place t r) j :=
  (pay2_at _ _ r j).trans (entry_eq m c t r (colI j) _ fun k => slabI_at m c j k)

theorem blockK_at (c : Dev nD) (t : Fin cfg0.N) (r : Fin 512) (j : Fin 1024) :
    (show EReal from k0_pay8 (iblk m c 0 t) (iblk m c 1 t) (slabK (staged (weights m c))) (ix2 r j)) = entry (row m c) (scale m c) (weight m c) (place t r) (colK j) :=
  (congrFun (pay8_eq _ _ _) _).trans ((pay23_at _ _ r j).trans (entry_eq m c t r (colK j) _ fun k => slabK_at m c j k))

theorem blockV_at (c : Dev nD) (t : Fin cfg0.N) (r : Fin 512) (j : Fin 1024) :
    (show EReal from k0_pay23 (k0_pay6 (iblk m c 0 t) (iblk m c 1 t)) (slabV (staged (weights m c))) (ix2 r j)) = entry (row m c) (scale m c) (weight m c) (place t r) (colV j) :=
  (pay23_at _ _ r j).trans (entry_eq m c t r (colV j) _ fun k => slabV_at m c j k)

/-- An entry of the small block, its column of the padded weights as they are. -/
def padded (c : Dev nD) (r : Fin 8192) (j : Fin 128) : EReal :=
  ∑ k, Cert.FeedForward.nrm (row m c r) (scale m c) k * (show EReal from small (weights m c) (ix2 j k))

theorem padded_at (c : Dev nD) (r : Fin 8192) (j : Fin 80) :
    padded m c r ⟨j.val, by omega⟩ = entry (row m c) (scale m c) (weight m c) r (colS j) := by
  unfold padded entry Cert.ConvBranch.proj
  refine Finset.sum_congr rfl fun k _ => ?_
  exact congrArg (Cert.FeedForward.nrm (row m c r) (scale m c) k * ·) (small_at m c j k)

theorem blockS_at (c : Dev nD) (t : Fin cfg0.N) (r : Fin 512) (j : Fin 128) :
    (show EReal from left10 (iblk m c 0 t) (iblk m c 1 t) (small (weights m c)) (ix2 r j)) = padded m c (place t r) j :=
  (pay3_at _ _ r j).trans (Finset.sum_congr rfl fun k _ => congrArg (· * _) (normed_at m c t r k))

/-! The arrays after the run. -/

/-- Entry `d` of row `p` of the fanned keys and values: a prompt's row and one of its eight heads. -/
def fanK (c : Dev nD) : S65536x128.Idx → EReal := fun y =>
  entry (row m c) (scale m c) (weight m c) ⟨(y 0).val / 8, by have : (y 0).val < 65536 := (y 0).isLt; omega⟩ (colK (headed ⟨(y 0).val % 8, Nat.mod_lt _ (by decide)⟩ (y 1)))
def fanV (c : Dev nD) : S65536x128.Idx → EReal := fun y =>
  entry (row m c) (scale m c) (weight m c) ⟨(y 0).val / 8, by have : (y 0).val < 65536 := (y 0).isLt; omega⟩ (colV (headed ⟨(y 0).val % 8, Nat.mod_lt _ (by decide)⟩ (y 1)))
def arrQ (c : Dev nD) : S8192x1024.Idx → EReal := fun y => queries (row m c) (scale m c) (weight m c) (y 0) (y 1)
def arrI (c : Dev nD) : S8192x1024.Idx → EReal := fun y => indexQueries (row m c) (scale m c) (weight m c) (y 0) (y 1)
def arrS (c : Dev nD) : S8192x128.Idx → EReal := fun y => padded m c (y 0) (y 1)

/-- A window whose sixteen slabs of rows are the points' covers its array. -/
theorem covers_slabs (w : Fin 11) (ho : (cfg0.win w).isOut = true) (hs : ∀ a, 0 < (cfg0.win w).size a)
    (hn : ∀ a, (cfg0.win w).nblk a = if a.val = 0 then 16 else 1)
    (hi : ∀ t : Fin cfg0.N, ∀ a, (cfg0.win w).index t a = if a.val = 0 then t.val else 0) (hr : 0 < (cfg0.win w).shape.rank) : (cfg0.win w).Covers := by
  refine Pipeline.Window.covers_of_index_surj _ ho hs fun β => ?_
  have h0 : (β ⟨0, hr⟩).val < 16 := lt_of_lt_of_eq (β ⟨0, hr⟩).isLt ((hn _).trans (if_pos rfl))
  refine ⟨⟨(β ⟨0, hr⟩).val, Nat.lt_of_lt_of_eq h0 N_0.symm⟩, fun a => ?_⟩
  rw [hi]
  by_cases ha : a.val = 0
  · rw [if_pos ha]
    obtain rfl : a = ⟨0, hr⟩ := Fin.ext ha
    rfl
  · rw [if_neg ha]
    exact (Nat.lt_one_iff.1 (lt_of_lt_of_eq (β a).isLt ((hn a).trans (if_neg ha)))).symm

theorem covers_2 : (cfg0.win 2).Covers := covers_slabs 2 rfl (by decide +kernel) (by decide +kernel) (by decide +kernel) (by decide +kernel)
theorem covers_3 : (cfg0.win 3).Covers := covers_slabs 3 rfl (by decide +kernel) (by decide +kernel) (by decide +kernel) (by decide +kernel)
theorem covers_4 : (cfg0.win 4).Covers := covers_slabs 4 rfl (by decide +kernel) (by decide +kernel) (by decide +kernel) (by decide +kernel)
theorem covers_7 : (cfg0.win 7).Covers := covers_slabs 7 rfl (by decide +kernel) (by decide +kernel) (by decide +kernel) (by decide +kernel)
theorem covers_8 : (cfg0.win 8).Covers := covers_slabs 8 rfl (by decide +kernel) (by decide +kernel) (by decide +kernel) (by decide +kernel)

theorem arr_2 (c : Dev nD) : (show S8192x1024.Idx → EReal from (dats m 0 c).arrAt 2 cfg0.N) = arrQ m c := by
  refine (dats m 0 c).arrAt_eq_of_covers 2 _ covers_2 fun t _ y => ?_
  blk_simp
  rw [show (dats m 0 c).after 2 t = left4 (iblk m c 0 t) (iblk m c 1 t) (staged (weights m c)) from by dsimp only [dats]]
  have hy : y = ix2 (show Fin 512 from y 0) (show Fin 1024 from y 1) := eq_ix2 (show S512x1024.Idx from y)
  refine (congrArg (left4 (iblk m c 0 t) (iblk m c 1 t) (staged (weights m c)) : Vec Ideal S512x1024 .bf16) hy).trans ?_
  refine (blockQ_at m c t (show Fin 512 from y 0) (show Fin 1024 from y 1)).trans ?_
  show arrQ m c (ix2 (place t (show Fin 512 from y 0)) (show Fin 1024 from y 1)) = arrQ m c _
  blk_ext [idx t]

theorem arr_7 (c : Dev nD) : (show S8192x1024.Idx → EReal from (dats m 0 c).arrAt 7 cfg0.N) = arrI m c := by
  refine (dats m 0 c).arrAt_eq_of_covers 7 _ covers_7 fun t _ y => ?_
  blk_simp
  rw [show (dats m 0 c).after 7 t = left9 (iblk m c 0 t) (iblk m c 1 t) (staged (weights m c)) from by dsimp only [dats]]
  have hy : y = ix2 (show Fin 512 from y 0) (show Fin 1024 from y 1) := eq_ix2 (show S512x1024.Idx from y)
  refine (congrArg (left9 (iblk m c 0 t) (iblk m c 1 t) (staged (weights m c)) : Vec Ideal S512x1024 .bf16) hy).trans ?_
  refine (blockI_at m c t (show Fin 512 from y 0) (show Fin 1024 from y 1)).trans ?_
  show arrI m c (ix2 (place t (show Fin 512 from y 0)) (show Fin 1024 from y 1)) = arrI m c _
  blk_ext [idx t]

theorem arr_8 (c : Dev nD) : (show S8192x128.Idx → EReal from (dats m 0 c).arrAt 8 cfg0.N) = arrS m c := by
  refine (dats m 0 c).arrAt_eq_of_covers 8 _ covers_8 fun t _ y => ?_
  blk_simp
  rw [show (dats m 0 c).after 8 t = left10 (iblk m c 0 t) (iblk m c 1 t) (small (weights m c)) from by dsimp only [dats]]
  have hy : y = ix2 (show Fin 512 from y 0) (show Fin 128 from y 1) := eq_ix2 (show S512x128.Idx from y)
  refine (congrArg (left10 (iblk m c 0 t) (iblk m c 1 t) (small (weights m c)) : Vec Ideal S512x128 .f32) hy).trans ?_
  refine (blockS_at m c t (show Fin 512 from y 0) (show Fin 128 from y 1)).trans ?_
  show arrS m c (ix2 (place t (show Fin 512 from y 0)) (show Fin 128 from y 1)) = arrS m c _
  blk_ext [idx t]

/-- A fanned block's entry is the fanned array's, its row so many blocks of 4096 down. -/
theorem fan_at (c : Dev nD) (t : Fin cfg0.N) (v : Vec Ideal S512x1024 .f32) (col : Fin 1024 → Fin 11344)
    (hv : ∀ r j, (show EReal from v (ix2 r j)) = entry (row m c) (scale m c) (weight m c) (place t r) (col j)) (p : Fin 4096) (d : Fin 128) :
    (show EReal from fanned v (ix2 p d)) = entry (row m c) (scale m c) (weight m c) ⟨(t.val * 4096 + p.val) / 8, by have := lt16 t; omega⟩
      (col (headed ⟨(t.val * 4096 + p.val) % 8, Nat.mod_lt _ (by decide)⟩ d)) := by
  refine (hv ⟨p.val / 8, by omega⟩ ⟨p.val % 8 * 128 + d.val, by omega⟩).trans ?_
  refine congrArg₂ (entry (row m c) (scale m c) (weight m c)) (Fin.ext ?_) (congrArg col (Fin.ext ?_))
  · show t.val * 512 + p.val / 8 = (t.val * 4096 + p.val) / 8
    omega
  · show p.val % 8 * 128 + d.val = (t.val * 4096 + p.val) % 8 * 128 + d.val
    omega

theorem arr_3 (c : Dev nD) : (show S65536x128.Idx → EReal from (dats m 0 c).arrAt 3 cfg0.N) = fanK m c := by
  refine (dats m 0 c).arrAt_eq_of_covers 3 _ covers_3 fun t _ y => ?_
  blk_simp
  rw [show (dats m 0 c).after 3 t = left5 (iblk m c 0 t) (iblk m c 1 t) (staged (weights m c)) from by dsimp only [dats]]
  have hy : y = ix2 (show Fin 4096 from y 0) (show Fin 128 from y 1) := eq_ix2 (show S4096x128.Idx from y)
  refine (congrArg (left5 (iblk m c 0 t) (iblk m c 1 t) (staged (weights m c)) : Vec Ideal S4096x128 .f32) hy).trans ?_
  refine (fan_at m c t _ colK (blockK_at m c t) (show Fin 4096 from y 0) (show Fin 128 from y 1)).trans ?_
  show fanK m c (ix2 ⟨t.val * 4096 + (show Fin 4096 from y 0).val, by have := lt16 t; omega⟩ (show Fin 128 from y 1)) = fanK m c _
  blk_ext [idx t]

theorem arr_4 (c : Dev nD) : (show S65536x128.Idx → EReal from (dats m 0 c).arrAt 4 cfg0.N) = fanV m c := by
  refine (dats m 0 c).arrAt_eq_of_covers 4 _ covers_4 fun t _ y => ?_
  blk_simp
  rw [show (dats m 0 c).after 4 t = left6 (iblk m c 0 t) (iblk m c 1 t) (staged (weights m c)) from by dsimp only [dats]]
  have hy : y = ix2 (show Fin 4096 from y 0) (show Fin 128 from y 1) := eq_ix2 (show S4096x128.Idx from y)
  refine (congrArg (left6 (iblk m c 0 t) (iblk m c 1 t) (staged (weights m c)) : Vec Ideal S4096x128 .f32) hy).trans ?_
  refine (fan_at m c t _ colV (blockV_at m c t) (show Fin 4096 from y 0) (show Fin 128 from y 1)).trans ?_
  show fanV m c (ix2 ⟨t.val * 4096 + (show Fin 4096 from y 0).val, by have := lt16 t; omega⟩ (show Fin 128 from y 1)) = fanV m c _
  blk_ext [idx t]

/-! The lines after the call. -/

def outK (c : Dev nD) : S4x2048x8x128.Idx → EReal := fun y => keys (row m c) (scale m c) (weight m c) (y 0) (y 1) (y 2) (y 3)
def outV (c : Dev nD) : S4x2048x8x128.Idx → EReal := fun y => vals (row m c) (scale m c) (weight m c) (y 0) (y 1) (y 2) (y 3)
def outX (c : Dev nD) : S4x2048x64.Idx → EReal := fun y => indexKeys (row m c) (scale m c) (weight m c) (y 0) (y 1) (y 2)
def outW (c : Dev nD) : S8192x16.Idx → EReal := fun y => indexWeights (row m c) (scale m c) (weight m c) (y 0) (y 1)

theorem arr_injective : Function.Injective (Pipeline.arrRef spec0) := by decide +kernel

/-- A fanned row of a position and a head. -/
theorem fanK_at (c : Dev nD) (b : Fin 4) (s : Fin 2048) (h : Fin 8) (d : Fin 128) (y : S65536x128.Idx)
    (h0 : (y 0).val = (b.val * 2048 + s.val) * 8 + h.val) (h1 : (y 1).val = d.val) :
    fanK m c y = keys (row m c) (scale m c) (weight m c) b s h d := by
  unfold fanK keys
  refine congrArg₂ (entry (row m c) (scale m c) (weight m c)) (Fin.ext ?_) (congrArg colK (Fin.ext ?_))
  · show (y 0).val / 8 = b.val * 2048 + s.val
    omega
  · show (y 0).val % 8 * 128 + (y 1).val = h.val * 128 + d.val
    omega

theorem fanV_at (c : Dev nD) (b : Fin 4) (s : Fin 2048) (h : Fin 8) (d : Fin 128) (y : S65536x128.Idx)
    (h0 : (y 0).val = (b.val * 2048 + s.val) * 8 + h.val) (h1 : (y 1).val = d.val) :
    fanV m c y = vals (row m c) (scale m c) (weight m c) b s h d := by
  unfold fanV vals
  refine congrArg₂ (entry (row m c) (scale m c) (weight m c)) (Fin.ext ?_) (congrArg colV (Fin.ext ?_))
  · show (y 0).val / 8 = b.val * 2048 + s.val
    omega
  · show (y 0).val % 8 * 128 + (y 1).val = h.val * 128 + d.val
    omega

theorem tailK (c : Dev nD) : Pipeline.afterTail₀ cfgs (dats m) 0 (V0 m) [hostOps1] c main_v6 = outK m c := by
  funext y
  rw [eq_ix4 y]
  generalize y 0 = b
  generalize y 1 = s
  generalize y 2 = h
  generalize y 3 = d
  unfold Pipeline.afterTail₀
  simp only [hostOps1, List.flatten_cons, List.flatten_nil, List.append_nil, List.cons_append, List.nil_append]
  after_results_simp
  try simp -implicitDefEqProofs only [StableHlo.TRef.toBuf, StableHlo.TRef.ofBuf, cast_cast, cast_eq]
  clean_types
  pointwise
  refine (congrFun (Pipeline.withArrays_arr spec0 arr_injective c (V0 m c) (fun w => (dats m 0 c).arrAt w cfg0.N) 3) _).trans ?_
  refine (congrFun (arr_3 m c) _).trans ?_
  exact fanK_at m c b s h d _ (by show b.val * 16384 + s.val * 8 + h.val = (b.val * 2048 + s.val) * 8 + h.val; omega) rfl

theorem tailV (c : Dev nD) : Pipeline.afterTail₀ cfgs (dats m) 0 (V0 m) [hostOps1] c main_v7 = outV m c := by
  funext y
  rw [eq_ix4 y]
  generalize y 0 = b
  generalize y 1 = s
  generalize y 2 = h
  generalize y 3 = d
  unfold Pipeline.afterTail₀
  simp only [hostOps1, List.flatten_cons, List.flatten_nil, List.append_nil, List.cons_append, List.nil_append]
  after_results_simp
  try simp -implicitDefEqProofs only [StableHlo.TRef.toBuf, StableHlo.TRef.ofBuf, cast_cast, cast_eq]
  clean_types
  pointwise
  refine (congrFun (Pipeline.withArrays_arr spec0 arr_injective c (V0 m c) (fun w => (dats m 0 c).arrAt w cfg0.N) 4) _).trans ?_
  refine (congrFun (arr_4 m c) _).trans ?_
  exact fanV_at m c b s h d _ (by show b.val * 16384 + s.val * 8 + h.val = (b.val * 2048 + s.val) * 8 + h.val; omega) rfl

theorem tailX (c : Dev nD) : Pipeline.afterTail₀ cfgs (dats m) 0 (V0 m) [hostOps1] c main_v9 = outX m c := by
  funext y
  rw [eq_ix3 y]
  generalize y 0 = b
  generalize y 1 = s
  generalize y 2 = i
  unfold Pipeline.afterTail₀
  simp only [hostOps1, List.flatten_cons, List.flatten_nil, List.append_nil, List.cons_append, List.nil_append]
  after_results_simp
  try simp -implicitDefEqProofs only [StableHlo.TRef.toBuf, StableHlo.TRef.ofBuf, cast_cast, cast_eq]
  clean_types
  pointwise
  refine (congrFun (Pipeline.withArrays_arr spec0 arr_injective c (V0 m c) (fun w => (dats m 0 c).arrAt w cfg0.N) 8) _).trans ?_
  refine (congrFun (arr_8 m c) _).trans ?_
  exact padded_at m c (position b s) ⟨i.val, by have : i.val < 64 := i.isLt; omega⟩

theorem tailW (c : Dev nD) : Pipeline.afterTail₀ cfgs (dats m) 0 (V0 m) [hostOps1] c main_v10 = outW m c := by
  funext y
  rw [eq_ix2 y]
  generalize y 0 = r
  generalize y 1 = i
  unfold Pipeline.afterTail₀
  simp only [hostOps1, List.flatten_cons, List.flatten_nil, List.append_nil, List.cons_append, List.nil_append]
  after_results_simp
  try simp -implicitDefEqProofs only [StableHlo.TRef.toBuf, StableHlo.TRef.ofBuf, cast_cast, cast_eq]
  clean_types
  pointwise
  refine (congrFun (Pipeline.withArrays_arr spec0 arr_injective c (V0 m c) (fun w => (dats m 0 c).arrAt w cfg0.N) 8) _).trans ?_
  refine (congrFun (arr_8 m c) _).trans ?_
  refine (padded_at m c r ⟨64 + i.val, by have : i.val < 16 := i.isLt; omega⟩).trans ?_
  exact congrArg (entry (row m c) (scale m c) (weight m c) r) (Fin.ext (by show 4096 + (64 + i.val) = 4160 + i.val; omega))

/-- What the program leaves in its results. -/
theorem results (ρ : Dev nD → PrngReg) :
    θ_run defs (onTc (τ := τ) (main (F := Ideal))) ⟨m, fun _ => 0, ρ⟩ fun r => ∀ c : Dev nD,
      r.2.mem ((c.tc : Thread nD τ).loc main_v6) = outK m c
      ∧ r.2.mem ((c.tc : Thread nD τ).loc main_v7) = outV m c
      ∧ r.2.mem ((c.tc : Thread nD τ).loc main_v9) = outX m c
      ∧ r.2.mem ((c.tc : Thread nD τ).loc main_v5_0) = arrQ m c
      ∧ r.2.mem ((c.tc : Thread nD τ).loc main_v5_5) = arrI m c
      ∧ r.2.mem ((c.tc : Thread nD τ).loc main_v10) = outW m c :=
  (θ_run defs _ _).mono (fun _ h c => ⟨
      ((h.1 c).2 main_v6 (Pipeline.mem_restRefs_of main_v6 (by decide) (by decide))).trans (tailK m c),
      ((h.1 c).2 main_v7 (Pipeline.mem_restRefs_of main_v7 (by decide) (by decide))).trans (tailV m c),
      ((h.1 c).2 main_v9 (Pipeline.mem_restRefs_of main_v9 (by decide) (by decide))).trans (tailX m c),
      ((h.1 c).1 2).trans (arr_2 m c), ((h.1 c).1 7).trans (arr_7 m c),
      ((h.1 c).2 main_v10 (Pipeline.mem_restRefs_of main_v10 (by decide) (by decide))).trans (tailW m c)⟩) (run_main m ρ)

end Cert.ProjIdeal.Value

end
-- ==== Proof.Proj.RefValue.lean ====
module

public import proofs.«01_k».proof.Proof.Gen.ProjRefIdeal.Run
public import proofs.«01_k».proof.Proof.Proj.Spec

/-! The projections' reference's results at an index. -/

@[expose] public section

set_option maxRecDepth 16384

noncomputable section

namespace Cert.ProjRefIdeal.Value

open Idealize.ShloMosaic Idealize.ShloMosaic.TcCoe Idealize.SL.Sem
open Cert.ProjRefIdeal Cert.ProjRefIdeal.Gen Cert.Projections

variable (m : (ℓ : Loc nD τ sig) → Buf (Elt Ideal) ℓ)

abbrev B0 (c : Dev nD) : S8192x2048.Idx → EReal := m ((c : Thread nD τ).loc main_arg0)
abbrev B1 (c : Dev nD) : S1x2048.Idx → EReal := m ((c : Thread nD τ).loc main_arg1)
abbrev B2 (c : Dev nD) : S1x2048x11344.Idx → EReal := m ((c : Thread nD τ).loc main_arg2)

abbrev row (c : Dev nD) (r : Fin 8192) (k : Fin 2048) : EReal := B0 m c (ix2 r k)
abbrev scale (c : Dev nD) (k : Fin 2048) : EReal := B1 m c (ix2 0 k)
abbrev weight (c : Dev nD) (k : Fin 2048) (o : Fin 11344) : EReal := B2 m c (ix3 0 k o)

def outK (c : Dev nD) : S4x2048x8x128.Idx → EReal := fun y => keys (row m c) (scale m c) (weight m c) (y 0) (y 1) (y 2) (y 3)
def outV (c : Dev nD) : S4x2048x8x128.Idx → EReal := fun y => vals (row m c) (scale m c) (weight m c) (y 0) (y 1) (y 2) (y 3)
def outX (c : Dev nD) : S4x2048x64.Idx → EReal := fun y => indexKeys (row m c) (scale m c) (weight m c) (y 0) (y 1) (y 2)
def outQ (c : Dev nD) : S8192x1024.Idx → EReal := fun y => queries (row m c) (scale m c) (weight m c) (y 0) (y 1)
def outI (c : Dev nD) : S8192x1024.Idx → EReal := fun y => indexQueries (row m c) (scale m c) (weight m c) (y 0) (y 1)
def outW (c : Dev nD) : S8192x16.Idx → EReal := fun y => indexWeights (row m c) (scale m c) (weight m c) (y 0) (y 1)

/-- What the reference leaves in its results. -/
theorem results (ρ : Dev nD → PrngReg) :
    θ_run defs (onTc (τ := τ) (main (F := Ideal))) ⟨m, fun _ => 0, ρ⟩ fun r => ∀ c : Dev nD,
      r.2.mem ((c.tc : Thread nD τ).loc main_v17) = outK m c
      ∧ r.2.mem ((c.tc : Thread nD τ).loc main_v19) = outV m c
      ∧ r.2.mem ((c.tc : Thread nD τ).loc main_v25) = outX m c
      ∧ r.2.mem ((c.tc : Thread nD τ).loc main_v23) = outQ m c
      ∧ r.2.mem ((c.tc : Thread nD τ).loc main_v27) = outI m c
      ∧ r.2.mem ((c.tc : Thread nD τ).loc main_v28) = outW m c :=
  (θ_run defs _ _).mono (fun r h c => by
    refine ⟨(h c).1.trans ?_, (h c).2.1.trans ?_, (h c).2.2.1.trans ?_, (h c).2.2.2.1.trans ?_, (h c).2.2.2.2.1.trans ?_, (h c).2.2.2.2.2.1.trans ?_⟩
    · clear h
      funext y
      rw [eq_ix4 y]
      generalize y 0 = y0
      generalize y 1 = y1
      generalize y 2 = y2
      generalize y 3 = y3
      clean_types
      pointwise
      rfl
    · clear h
      funext y
      rw [eq_ix4 y]
      generalize y 0 = y0
      generalize y 1 = y1
      generalize y 2 = y2
      generalize y 3 = y3
      clean_types
      pointwise
      rfl
    · clear h
      funext y
      rw [eq_ix3 y]
      generalize y 0 = y0
      generalize y 1 = y1
      generalize y 2 = y2
      clean_types
      pointwise
      rfl
    all_goals
      clear h
      funext y
      rw [eq_ix2 y]
      generalize y 0 = y0
      generalize y 1 = y1
      clean_types
      pointwise
      rfl) (run m ρ)

end Cert.ProjRefIdeal.Value

end
-- ==== Proof.Proj.Claims.lean ====
module

public import proofs.«01_k».proof.Defs
public import proofs.«01_k».proof.Proof.Gen.Proj
public import proofs.«01_k».proof.Proof.Proj.Value
public import proofs.«01_k».proof.Proof.Proj.RefValue

/-! The claims about the prompt's projections and their reference. -/

@[expose] public section

set_option maxRecDepth 16384

noncomputable section

namespace Cert.Projections

open Idealize.ShloMosaic Idealize.ShloMosaic.TcCoe Idealize.SL.Sem

section Same

set_option backward.isDefEq.respectTransparency false
set_option backward.isDefEq.respectTransparency.types false

/-! The two kernels have one text, so they are one program. -/

theorem body_same : @Cert.Proj.cc0_proj_attn Bits _ _ = @Cert.ProjIdeal.cc0_proj_attn Bits _ _ := rfl

theorem bodies_same : @Cert.Proj.defs₀ Bits _ _ = @Cert.ProjIdeal.defs₀ Bits _ _ := by
  unfold Cert.Proj.defs₀ Cert.ProjIdeal.defs₀
  refine congrArg Defs.onTc ?_
  funext a p
  match a, p with
  | 0, (t, s) => rfl

theorem defs_same : @Cert.Proj.defs Bits _ _ = @Cert.ProjIdeal.defs Bits _ _ :=
  congrArg (fun D : Defs Cert.Proj.nD Cert.Proj.τ Cert.Proj.sig (Elt Bits) Cert.Proj.Λ₀ => Pipeline.defs (@Cert.Proj.pcfgs Bits _) D) bodies_same

/-- The run over any float values is the run of each. -/
theorem frame : Cert.quiescent_Proj := fun m g _ => by
  rw [defs_same]
  exact (θ_run Cert.ProjIdeal.defs _ _).mono (fun _ h => h) (Cert.ProjIdeal.frame (F := Bits) m g)

end Same

theorem frame_ideal : Cert.quiescent_ProjIdeal := fun m g _ => Cert.ProjIdeal.frame (F := Ideal) m g

theorem frame_ref : Cert.quiescent_ProjRefIdeal := fun m g _ =>
  (θ_run Cert.ProjRefIdeal.defs _ _).mono (fun r h => ⟨fun c => (h c).2.2.2.2.2.2, sem_eq_zero_of_no_sems (by decide) r.2⟩)
    (Cert.ProjRefIdeal.Value.run (F := Ideal) m g)

theorem preserves : Cert.preserves_Proj_ProjIdeal := trivial

section

variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ) (c : Dev Cert.ProjIdeal.nD)
  (h0 : Cert.ProjRefIdeal.Value.B0 m' c = Cert.ProjIdeal.Value.A0 m c) (h1 : Cert.ProjRefIdeal.Value.B1 m' c = Cert.ProjIdeal.Value.A1 m c)
  (h2 : Cert.ProjRefIdeal.Value.B2 m' c = Cert.ProjIdeal.Value.A2 m c)

include h0 h1 h2 in
theorem sameK : Cert.ProjRefIdeal.Value.outK m' c = Cert.ProjIdeal.Value.outK m c := by
  unfold Cert.ProjRefIdeal.Value.outK Cert.ProjRefIdeal.Value.row Cert.ProjRefIdeal.Value.scale Cert.ProjRefIdeal.Value.weight
  rw [h0, h1, h2]
  rfl

include h0 h1 h2 in
theorem sameV : Cert.ProjRefIdeal.Value.outV m' c = Cert.ProjIdeal.Value.outV m c := by
  unfold Cert.ProjRefIdeal.Value.outV Cert.ProjRefIdeal.Value.row Cert.ProjRefIdeal.Value.scale Cert.ProjRefIdeal.Value.weight
  rw [h0, h1, h2]
  rfl

include h0 h1 h2 in
theorem sameX : Cert.ProjRefIdeal.Value.outX m' c = Cert.ProjIdeal.Value.outX m c := by
  unfold Cert.ProjRefIdeal.Value.outX Cert.ProjRefIdeal.Value.row Cert.ProjRefIdeal.Value.scale Cert.ProjRefIdeal.Value.weight
  rw [h0, h1, h2]
  rfl

include h0 h1 h2 in
theorem sameQ : Cert.ProjRefIdeal.Value.outQ m' c = Cert.ProjIdeal.Value.arrQ m c := by
  unfold Cert.ProjRefIdeal.Value.outQ Cert.ProjRefIdeal.Value.row Cert.ProjRefIdeal.Value.scale Cert.ProjRefIdeal.Value.weight
  rw [h0, h1, h2]
  rfl

include h0 h1 h2 in
theorem sameI : Cert.ProjRefIdeal.Value.outI m' c = Cert.ProjIdeal.Value.arrI m c := by
  unfold Cert.ProjRefIdeal.Value.outI Cert.ProjRefIdeal.Value.row Cert.ProjRefIdeal.Value.scale Cert.ProjRefIdeal.Value.weight
  rw [h0, h1, h2]
  rfl

include h0 h1 h2 in
theorem sameW : Cert.ProjRefIdeal.Value.outW m' c = Cert.ProjIdeal.Value.outW m c := by
  unfold Cert.ProjRefIdeal.Value.outW Cert.ProjRefIdeal.Value.row Cert.ProjRefIdeal.Value.scale Cert.ProjRefIdeal.Value.weight
  rw [h0, h1, h2]
  rfl

end

theorem algebraic : Cert.algebraic_ProjIdeal_ProjRefIdeal := by
  intro m g m' g' _ hargs
  refine ⟨fun c => Cert.ProjIdeal.Value.outK m c, fun c => Cert.ProjIdeal.Value.outV m c, fun c => Cert.ProjIdeal.Value.outX m c,
    fun c => Cert.ProjIdeal.Value.arrQ m c, fun c => Cert.ProjIdeal.Value.arrI m c, fun c => Cert.ProjIdeal.Value.outW m c, ?_, ?_⟩
  · exact (θ_run Cert.ProjIdeal.defs _ _).mono
      (fun r h c => ⟨(h.1 c).1, (h.1 c).2.1, (h.1 c).2.2.1, (h.1 c).2.2.2.1, (h.1 c).2.2.2.2.1, (h.1 c).2.2.2.2.2, h.2.1 c⟩)
      (θ_run_and (Cert.ProjIdeal.Value.results m g) (Cert.ProjIdeal.frame (F := Ideal) m g))
  · refine (θ_run Cert.ProjRefIdeal.defs _ _).mono (fun r h c => ?_)
      (θ_run_and (Cert.ProjRefIdeal.Value.results m' g') (Cert.ProjRefIdeal.Value.run (F := Ideal) m' g'))
    obtain ⟨a0, a1, a2⟩ := hargs c
    obtain ⟨rK, rV, rX, rQ, rI, rW⟩ := h.1 c
    exact ⟨rK.trans (sameK m m' c a0 a1 a2), rV.trans (sameV m m' c a0 a1 a2), rX.trans (sameX m m' c a0 a1 a2), rQ.trans (sameQ m m' c a0 a1 a2),
      rI.trans (sameI m m' c a0 a1 a2), rW.trans (sameW m m' c a0 a1 a2), (h.2 c).2.2.2.2.2.2⟩

end Cert.Projections

end
-- ==== Proof.Mix.Body.lean ====
module

public import proofs.«01_k».proof.Proof.Gen.MixIdeal.Frame
public import proofs.«01_k».proof.Proof.Gen.MixIdeal.Skeleton
public import Idealize.ShloMosaic.Lib.VecWindow

/-! One run of the merge kernel's body: at the first grid point, where it also stages the gates' weights, at a later one of the
prompt's rows, and at the last one, of the sample's rows. -/

@[expose] public section

set_option maxRecDepth 16384

noncomputable section

namespace Cert.MixIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixIdeal.Gen

variable {F : FTy → Type} [FloatOps F]

local notation "𝕄" => MT nD τ sig Unit (Elt F) ℕ (Pipeline.UD sig nD τ) ℕ

/-- The point is the first, one of the prompt's rows, the one of the sample's rows. -/
abbrev first (i : grid0.Coords) : Prop := Scalar.cmpi .ne (Scalar.extui (Scalar.cmpi .eq (BitVec.ofNat 32 (i 0).val) 0#32)) 0#32 = 1#1
abbrev ofPrompt (i : grid0.Coords) : Prop := k0_cond2 i = 1#1
abbrev ofSample (i : grid0.Coords) : Prop := k0_cond3 i = 1#1

theorem first_iff : ∀ t : Fin cfg0.N, first (grid0.coords t) ↔ t.val = 0 :=
  (by decide : ∀ t : Fin grid0.N, first (grid0.coords t) ↔ t.val = 0)
theorem ofPrompt_iff : ∀ t : Fin cfg0.N, ofPrompt (grid0.coords t) ↔ t.val < 32 :=
  (by decide : ∀ t : Fin grid0.N, ofPrompt (grid0.coords t) ↔ t.val < 32)
theorem ofSample_iff : ∀ t : Fin cfg0.N, ofSample (grid0.coords t) ↔ t.val = 32 :=
  (by decide : ∀ t : Fin grid0.N, ofSample (grid0.coords t) ↔ t.val = 32)

/-- The weights where they lie in the far memory. -/
abbrev far : Memref sig .tc .hbm S11344x2048 .bf16 := Memref.whole main_v2

/-- The staged rows of the weights, and the halves that make the two gates. -/
def staged (w : Vec F S11344x2048 .bf16) : Vec F S4096x2048 .bf16 := VecWindow.window w ![7248, 0] S4096x2048.size inb_S11344x2048_S4096x2048_7248_0
abbrev slabA (s : Vec F S4096x2048 .bf16) : Vec F S2048x2048 .bf16 := VecWindow.window s ![0, 0] S2048x2048.size inb_S4096x2048_S2048x2048_0_0
abbrev slabB (s : Vec F S4096x2048 .bf16) : Vec F S2048x2048 .bf16 := VecWindow.window s ![2048, 0] S2048x2048.size inb_S4096x2048_S2048x2048_2048_0

/-- What the body leaves of a block of the prompt's rows, and of the sample's. -/
def leftP (x : Vec F S256x2048 .f32) (g : Vec F S1x2048 .f32) (a b : Vec F S256x1024 .bf16) (p q : Vec F S1024x2048 .bf16) (u v o : Vec F S2048x2048 .bf16) :
    Vec F S256x2048 .f32 := k0_pay1 x (k0_pay3 x g a p u b q v) o
def leftS (x : Vec F S32x2048 .f32) (g : Vec F S1x2048 .f32) (a b : Vec F S32x1024 .bf16) (p q : Vec F S1024x2048 .bf16) (u v o : Vec F S2048x2048 .bf16) :
    Vec F S32x2048 .f32 := k0_pay2 x (k0_pay4 x g a p u b q v) o

/-- A load of all of a buffer that holds `x`. -/
theorem loaded {S : Shape} {e : EltTy} (a : Memref sig .tc .vmem S e) (h : a.IsWhole) {o : Fin S.rank → ℕ} (inb : ∀ k, o k + S.size k ≤ S.size k) (x : Vec F S e) :
    View.readAt (Elt F) a.view (Rect.unit (s := S) o S.size inb).toLoadRect (h.unread x) = x :=
  (View.readAt_full _ _ _).trans (h.read_unread x)

/-- A load of half of the weights' buffer, as it is held and as it is just staged. -/
theorem half (a : Memref sig .tc .vmem S4096x2048 .bf16) (h : a.IsWhole) (s : Vec F S4096x2048 .bf16) (n : ℕ) (inb) :
    View.readAt (Elt F) a.view (Rect.unit (s := S4096x2048) ![n, 0] S2048x2048.size inb).toLoadRect (h.unread s) = VecWindow.window s ![n, 0] S2048x2048.size inb :=
  (View.readAt_unit a.view _ inb rfl inb).trans (congrArg (VecWindow.window · _ _ inb) (h.read_unread s))
theorem fresh (a : Memref sig .tc .vmem S4096x2048 .bf16) (s : Vec F S4096x2048 .bf16) (n : ℕ) (inb) :
    a.view.readCov [⟨Rect.whole S4096x2048, s⟩] (Rect.unit (s := S4096x2048) ![n, 0] S2048x2048.size inb).toLoadRect = VecWindow.window s ![n, 0] S2048x2048.size inb :=
  (View.readAt_unit a.view _ inb rfl inb).trans (congrArg (VecWindow.window · _ _ inb) (View.read_writes_whole a.view _ s))

theorem leftP_congr {x x' : Vec F S256x2048 .f32} {g g' : Vec F S1x2048 .f32} {a a' b b' : Vec F S256x1024 .bf16} {p p' q q' : Vec F S1024x2048 .bf16} {u u' v v' o o' : Vec F S2048x2048 .bf16}
    (hx : x = x') (hg : g = g') (ha : a = a') (hb : b = b') (hp : p = p') (hq : q = q') (hu : u = u') (hv : v = v') (ho : o = o') :
    leftP x g a b p q u v o = leftP x' g' a' b' p' q' u' v' o' := by
  subst hx hg ha hb hp hq hu hv ho; rfl
theorem leftS_congr {x x' : Vec F S32x2048 .f32} {g g' : Vec F S1x2048 .f32} {a a' b b' : Vec F S32x1024 .bf16} {p p' q q' : Vec F S1024x2048 .bf16} {u u' v v' o o' : Vec F S2048x2048 .bf16}
    (hx : x = x') (hg : g = g') (ha : a = a') (hb : b = b') (hp : p = p') (hq : q = q') (hu : u = u') (hv : v = v') (ho : o = o') :
    leftS x g a b p q u v o = leftS x' g' a' b' p' q' u' v' o' := by
  subst hx hg ha hb hp hq hu hv ho; rfl

/-- The contents of a memref's buffer on core `c`, and the buffer held whole at `f`. -/
abbrev Held (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : Held (F := F) c M) : sProp 𝕄 :=
  M.view.loc (c : Thread nD τ) ↦{fullShare} f

/-- A memref's buffer at some contents. -/
abbrev some' (c : Dev nD) {sp : Space} {S : Shape} {e : EltTy} (M : Memref sig .tc sp S e) : sProp 𝕄 :=
  iprop(∃ d, owns (c : Thread nD τ) M fullShare d)

variable (c : Dev nD) (i : grid0.Coords) (a1 : Memref sig .tc .vmem S256x2048 .f32) (h1 : a1.IsWhole) (a2 : Memref sig .tc .vmem S32x2048 .f32) (h2 : a2.IsWhole) (a3 : Memref sig .tc .vmem S1x2048 .f32) (h3 : a3.IsWhole) (a4 : Memref sig .tc .vmem S256x1024 .bf16) (h4 : a4.IsWhole) (a5 : Memref sig .tc .vmem S32x1024 .bf16) (h5 : a5.IsWhole) (a6 : Memref sig .tc .vmem S256x1024 .bf16) (h6 : a6.IsWhole) (a7 : Memref sig .tc .vmem S32x1024 .bf16) (h7 : a7.IsWhole) (a9 : Memref sig .tc .vmem S1024x2048 .bf16) (h9 : a9.IsWhole) (a10 : Memref sig .tc .vmem S1024x2048 .bf16) (h10 : a10.IsWhole) (a11 : Memref sig .tc .vmem S2048x2048 .bf16) (h11 : a11.IsWhole) (a12 : Memref sig .tc .vmem S256x2048 .f32) (h12 : a12.IsWhole) (a13 : Memref sig .tc .vmem S32x2048 .f32) (h13 : a13.IsWhole) (a14 : Memref sig .tc .vmem S4096x2048 .bf16) (h14 : a14.IsWhole)
  (x : Vec F S256x2048 .f32) (xs : Vec F S32x2048 .f32) (g : Vec F S1x2048 .f32) (a : Vec F S256x1024 .bf16) (ay : Vec F S32x1024 .bf16) (b : Vec F S256x1024 .bf16) (bs : Vec F S32x1024 .bf16) (p : Vec F S1024x2048 .bf16) (q : Vec F S1024x2048 .bf16) (o : Vec F S2048x2048 .bf16)

/-- The body on these memrefs. -/
abbrev body : Prog (TpuEff nD τ sig (Elt F) Λ₀ .tc) PUnit :=
  cc0_mix_out i a1 h1 a2 h2 a3 h3 a4 h4 a5 h5 a6 h6 a7 h7 far (Memref.isWhole_whole _) a9 h9 a10 h10 a11 h11 a12 h12 a13 h13 a14 h14 cc0_scoped0

/-- The buffers the body only reads. -/
abbrev ins : sProp 𝕄 :=
  iprop(owns (c : Thread nD τ) a1 fullShare x
      ∗ owns (c : Thread nD τ) a2 fullShare xs
      ∗ owns (c : Thread nD τ) a3 fullShare g
      ∗ owns (c : Thread nD τ) a4 fullShare a
      ∗ owns (c : Thread nD τ) a5 fullShare ay
      ∗ owns (c : Thread nD τ) a6 fullShare b
      ∗ owns (c : Thread nD τ) a7 fullShare bs
      ∗ owns (c : Thread nD τ) a9 fullShare p
      ∗ owns (c : Thread nD τ) a10 fullShare q
      ∗ owns (c : Thread nD τ) a11 fullShare o)

set_option maxHeartbeats 4000000 in
/-- The run at a later point of the prompt's rows. -/
theorem later_run (s : Vec F S4096x2048 .bf16) (hf : ¬ first i) (hp : ofPrompt i) (hs : ¬ ofSample i) (K : PUnit → sProp 𝕄) :
    iprop(ins c a1 a2 a3 a4 a5 a6 a7 a9 a10 a11 x xs g a ay b bs p q o ∗ some' c a12 ∗ owns (c : Thread nD τ) a14 fullShare s
        ∗ (iprop(ins c a1 a2 a3 a4 a5 a6 a7 a9 a10 a11 x xs g a ay b bs p q o ∗ owns (c : Thread nD τ) a12 fullShare (leftP x g a b p q (slabA s) (slabB s) o) ∗ owns (c : Thread nD τ) a14 fullShare s) -∗ K ⟨⟩))
      ⊢ wp frame (wpE (defs₀ (F := F)) Variants.none c none) Set.univ (body i a1 h1 a2 h2 a3 h3 a4 h4 a5 h5 a6 h6 a7 h7 a9 h9 a10 h10 a11 h11 a12 h12 a13 h13 a14 h14) K := by
  unfold body
  simp only [cc0_mix_out_eq_skeleton]; unfold cc0_mix_out_skel
  simp only [k0_part1_eq_skeleton, k0_part2_eq_skeleton]
  unfold ins some' owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩⟩, ⟨%d12, %f12, -, H12⟩, ⟨%f14, %e14, H14⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h9.eq_unread e9; obtain rfl := h10.eq_unread e10; obtain rfl := h11.eq_unread e11
  obtain rfl := h14.eq_unread e14
  sl_exec (disch := first | sl_exact hf | sl_exact hp | sl_exact hs)
  sl_step
  iapply Hk
  isplitl [H1 H2 H3 H4 H5 H6 H7 H9 H10 H11]
  · isplitl [H1]
    · iexists _; isplitr; swap; · iexact H1
      ipureintro; exact h1.read_unread _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H9]
    · iexists _; isplitr; swap; · iexact H9
      ipureintro; exact h9.read_unread _
    isplitl [H10]
    · iexists _; isplitr; swap; · iexact H10
      ipureintro; exact h10.read_unread _
    iexists _; isplitr; swap; · iexact H11
    ipureintro; exact h11.read_unread _
  isplitl [H12]
  · iexists _; isplitr; swap; · iexact H12
    ipureintro
    refine (View.read_writes_full _ _ _ _ _).trans ?_
    exact leftP_congr (loaded a1 h1 _ _) (loaded a3 h3 _ _) (loaded a4 h4 _ _) (loaded a6 h6 _ _) (loaded a9 h9 _ _) (loaded a10 h10 _ _) (half a14 h14 _ 0 _) (half a14 h14 _ 2048 _) (loaded a11 h11 _ _)
  iexists _; isplitr; · ipureintro; exact h14.read_unread _
  iexact H14

set_option maxHeartbeats 4000000 in
/-- The run at the point of the sample's rows. -/
theorem last_run (s : Vec F S4096x2048 .bf16) (hf : ¬ first i) (hp : ¬ ofPrompt i) (hs : ofSample i) (K : PUnit → sProp 𝕄) :
    iprop(ins c a1 a2 a3 a4 a5 a6 a7 a9 a10 a11 x xs g a ay b bs p q o ∗ some' c a13 ∗ owns (c : Thread nD τ) a14 fullShare s
        ∗ (iprop(ins c a1 a2 a3 a4 a5 a6 a7 a9 a10 a11 x xs g a ay b bs p q o ∗ owns (c : Thread nD τ) a13 fullShare (leftS xs g ay bs p q (slabA s) (slabB s) o) ∗ owns (c : Thread nD τ) a14 fullShare s) -∗ K ⟨⟩))
      ⊢ wp frame (wpE (defs₀ (F := F)) Variants.none c none) Set.univ (body i a1 h1 a2 h2 a3 h3 a4 h4 a5 h5 a6 h6 a7 h7 a9 h9 a10 h10 a11 h11 a12 h12 a13 h13 a14 h14) K := by
  unfold body
  simp only [cc0_mix_out_eq_skeleton]; unfold cc0_mix_out_skel
  simp only [k0_part1_eq_skeleton, k0_part2_eq_skeleton]
  unfold ins some' owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩⟩, ⟨%d13, %f13, -, H13⟩, ⟨%f14, %e14, H14⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h9.eq_unread e9; obtain rfl := h10.eq_unread e10; obtain rfl := h11.eq_unread e11
  obtain rfl := h14.eq_unread e14
  sl_exec (disch := first | sl_exact hf | sl_exact hp | sl_exact hs)
  sl_step
  iapply Hk
  isplitl [H1 H2 H3 H4 H5 H6 H7 H9 H10 H11]
  · isplitl [H1]
    · iexists _; isplitr; swap; · iexact H1
      ipureintro; exact h1.read_unread _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H9]
    · iexists _; isplitr; swap; · iexact H9
      ipureintro; exact h9.read_unread _
    isplitl [H10]
    · iexists _; isplitr; swap; · iexact H10
      ipureintro; exact h10.read_unread _
    iexists _; isplitr; swap; · iexact H11
    ipureintro; exact h11.read_unread _
  isplitl [H13]
  · iexists _; isplitr; swap; · iexact H13
    ipureintro
    refine (View.read_writes_full _ _ _ _ _).trans ?_
    exact leftS_congr (loaded a2 h2 _ _) (loaded a3 h3 _ _) (loaded a5 h5 _ _) (loaded a7 h7 _ _) (loaded a9 h9 _ _) (loaded a10 h10 _ _) (half a14 h14 _ 0 _) (half a14 h14 _ 2048 _) (loaded a11 h11 _ _)
  iexists _; isplitr; · ipureintro; exact h14.read_unread _
  iexact H14

set_option maxHeartbeats 4000000 in
/-- The run at the first point. -/
theorem first_run (w : Held (F := F) c far) (W : Waits sig Unit) (hf : first i) (hp : ofPrompt i) (hs : ¬ ofSample i) (K : PUnit → sProp 𝕄) :
    iprop(ins c a1 a2 a3 a4 a5 a6 a7 a9 a10 a11 x xs g a ay b bs p q o ∗ some' c a12 ∗ some' c a14 ∗ semVal ((c : Thread nD τ), SemLoc.dma 16) 0 ∗ heldAt c far w ∗ owes (c : Thread nD τ) 0 W
        ∗ (iprop(ins c a1 a2 a3 a4 a5 a6 a7 a9 a10 a11 x xs g a ay b bs p q o ∗ owns (c : Thread nD τ) a12 fullShare (leftP x g a b p q (slabA (staged w)) (slabB (staged w)) o) ∗ owns (c : Thread nD τ) a14 fullShare (staged w) ∗ semVal ((c : Thread nD τ), SemLoc.dma 16) 0 ∗ heldAt c far w ∗ (∃ W', owes (c : Thread nD τ) 0 W')) -∗ K ⟨⟩))
      ⊢ wp frame (wpE (defs₀ (F := F)) Variants.none c none) Set.univ (body i a1 h1 a2 h2 a3 h3 a4 h4 a5 h5 a6 h6 a7 h7 a9 h9 a10 h10 a11 h11 a12 h12 a13 h13 a14 h14) K := by
  unfold body
  simp only [cc0_mix_out_eq_skeleton]; unfold cc0_mix_out_skel
  simp only [k0_part1_eq_skeleton, k0_part2_eq_skeleton]
  unfold ins some' owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩⟩, ⟨%d12, %f12, -, H12⟩, ⟨%d14, %f14, -, H14⟩, Hq, Hw, HW, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h9.eq_unread e9; obtain rfl := h10.eq_unread e10; obtain rfl := h11.eq_unread e11
  sl_exec (disch := first | sl_exact hf | sl_exact hp | sl_exact hs)
  sl_step
  iapply Hk
  isplitl [H1 H2 H3 H4 H5 H6 H7 H9 H10 H11]
  · isplitl [H1]
    · iexists _; isplitr; swap; · iexact H1
      ipureintro; exact h1.read_unread _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H9]
    · iexists _; isplitr; swap; · iexact H9
      ipureintro; exact h9.read_unread _
    isplitl [H10]
    · iexists _; isplitr; swap; · iexact H10
      ipureintro; exact h10.read_unread _
    iexists _; isplitr; swap; · iexact H11
    ipureintro; exact h11.read_unread _
  isplitl [H12]
  · iexists _; isplitr; swap; · iexact H12
    ipureintro
    refine (View.read_writes_full _ _ _ _ _).trans ?_
    exact leftP_congr (loaded a1 h1 _ _) (loaded a3 h3 _ _) (loaded a4 h4 _ _) (loaded a6 h6 _ _) (loaded a9 h9 _ _) (loaded a10 h10 _ _) (fresh a14 (staged w) 0 _) (fresh a14 (staged w) 2048 _) (loaded a11 h11 _ _)
  isplitl [H14]
  · iexists _; isplitr; swap; · iexact H14
    ipureintro
    exact View.read_writes_whole a14.view _ (staged w)
  isplitl [Hq]; · iexact Hq
  isplitl [Hw]; · iexact Hw
  iexists _; iexact HW

end Cert.MixIdeal

end
-- ==== Proof.Mix.Run.lean ====
module

public import proofs.«01_k».proof.Proof.Mix.Body
public import Idealize.ShloMosaic.Lib.Pipeline.DatRel
public import Idealize.ShloMosaic.Lib.Pipeline.ArrRel

/-! The run of the merge kernel over its grid: thirty-two points of the prompt's rows, whose first stages the gates' weights, and
one of the sample's, which leaves the prompt's window as it finds it. -/

@[expose] public section

set_option maxRecDepth 16384

noncomputable section

namespace Cert.MixIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligationRel)
open Cert.MixIdeal.Gen hiding hmain

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

theorem lt33 (t : Fin cfg0.N) : t.val < 33 := Nat.lt_of_lt_of_eq t.isLt N_0

/-- Point `n` of the grid. -/
def pt (n : ℕ) : Fin cfg0.N := ⟨n % 33, Nat.lt_of_lt_of_eq (Nat.mod_lt _ (by omega)) N_0.symm⟩
theorem pt_val (t : Fin cfg0.N) : pt t.val = t := Fin.ext (Nat.mod_eq_of_lt (lt33 t))

/-! The launch, with the semaphore and the far weights the kernel keeps for itself. -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's own semaphore, -/
def osem0 : Fin 1 → SemLoc sig := fun j => (![SemLoc.dma 16] : Fin 1 → SemLoc sig) j
theorem ownSemFacts0 : Pipeline.OwnSemFacts spec0 osem0 := by decide
/-- and the buffer it reads from the far memory. -/
def H0 : Finset (Ref sig .tc) := {main_v2}
theorem H0_sub : H0 ⊆ Pipeline.restRefs sig spec0 := by decide

/-- The buffer of the gates' weights. -/
abbrev bufS : Memref sig .tc .vmem S4096x2048 .bf16 := Memref.whole cc0_scratch0

theorem ownSems0_at (c : Dev nD) :
    (Pipeline.ownSems0 osem0 c : sProp 𝕄) = semVal ((c : Thread nD τ), SemLoc.dma 16) 0 := by
  rw [Pipeline.ownSems0_eq_of_list c osem0 [0] (by decide) (by decide)]; rfl

/-- What the region may use besides the windows. -/
theorem ΦD_at (c : Dev nD) : (Pipeline.ΦD osem0 spec0 H0 (V m) c : sProp 𝕄)
    = iprop(some' c bufS ∗ (∃ r, prngReg c r) ∗ semVal ((c : Thread nD τ), SemLoc.dma 16) 0 ∗ heldAt c far (V m c main_v2)) := by
  have hH : (BI.bigSep H0 (fun b => ((c : Thread nD τ).loc b ↦{fullShare} V m c b : sProp 𝕄))) = heldAt c far (V m c main_v2) := by
    rw [BI.bigSep_eq_bigSepL_of_eq [main_v2] (by decide) (by decide)]; rfl
  rw [Pipeline.ΦD_eq, scopedRest0_eq, ownSems0_at]
  simp only [some', bufS, owns_whole]
  rw [show (BI.bigSep H0 (fun b => ((c : Thread nD τ).loc b ↦{fullShare} V m c b : sProp 𝕄))) = _ from hH]
  rfl

/-- The weights in the far memory, and the gates' two halves of them, on core `c`. -/
abbrev weights (c : Dev nD) : Vec F S11344x2048 .bf16 := V m c main_v2
abbrev gateA (c : Dev nD) : Vec F S2048x2048 .bf16 := slabA (staged (weights m c))
abbrev gateB (c : Dev nD) : Vec F S2048x2048 .bf16 := slabB (staged (weights m c))

/-- Between points the buffer holds the gates' weights. -/
def keeps (c : Dev nD) : ℕ → sProp 𝕄
  | 0 => Pipeline.ΦD osem0 spec0 H0 (V m) c
  | _ + 1 => iprop(owns (c : Thread nD τ) bufS fullShare (staged (weights m c)) ∗ (∃ r, prngReg c r)
        ∗ semVal ((c : Thread nD τ), SemLoc.dma 16) 0 ∗ heldAt c far (V m c main_v2))

/-- The block a point leaves of the prompt's rows, and of the sample's. -/
def blockP (c : Dev nD) (t : Fin cfg0.N) : Vec F S256x2048 .f32 :=
  leftP (iblk m c 0 t) (iblk m c 2 t) (iblk m c 3 t) (iblk m c 5 t) (iblk m c 7 t) (iblk m c 8 t) (gateA m c) (gateB m c) (iblk m c 9 t)
def blockS (c : Dev nD) (t : Fin cfg0.N) : Vec F S32x2048 .f32 :=
  leftS (iblk m c 1 t) (iblk m c 2 t) (iblk m c 4 t) (iblk m c 6 t) (iblk m c 7 t) (iblk m c 8 t) (gateA m c) (gateB m c) (iblk m c 9 t)

/-- The two result windows are held to a predicate. -/
def held : Fin cfg0.W → Bool := fun w => w.val == 10 || w.val == 11

/-- What the body leaves in a result window at a point. -/
def Left (c : Dev nD) : (w : Fin cfg0.W) → Fin cfg0.N → ((cfg0.win w).block.Idx → Elt F (cfg0.win w).elt) → Prop
  | ⟨10, _⟩ => fun t Y => Y = blockP m c (pt (min t.val 31))
  | ⟨11, _⟩ => fun t Y => t.val = 32 → Y = blockS m c t
  | _ => fun _ _ => True

/-- The proof data of the pipeline on a core. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
  Φ t := keeps m c t.val
  q _ := fullShare
  owed _ := 0

theorem data_array (c : Dev nD) (w : Fin cfg0.W) : (data m 0 c).A w = V m c (Pipeline.arrRef spec0 w) := by dsimp only [data]

/-! An input window's buffer holds its block. -/

theorem before_0 (c : Dev nD) (t : Fin cfg0.N) (d) : (data m 0 c).before 0 t d = iblk m c 0 t :=
  ((data m 0 c).before_in_eq_fetched 0 rfl (fun _ => rfl) (fun _ _ _ => rfl) (fun t => by unfold Dat.blockOf; rw [data_array, show (data m 0 c).after 0 t = iblk m c 0 t from by dsimp only [data]]; rfl) t d).trans
    (by unfold Dat.fetched Dat.blockOf iblk; rw [data_array]; rfl)
theorem before_1 (c : Dev nD) (t : Fin cfg0.N) (d) : (data m 0 c).before 1 t d = iblk m c 1 t :=
  ((data m 0 c).before_in_eq_fetched 1 rfl (fun _ => rfl) (fun _ _ _ => rfl) (fun t => by unfold Dat.blockOf; rw [data_array, show (data m 0 c).after 1 t = iblk m c 1 t from by dsimp only [data]]; rfl) t d).trans
    (by unfold Dat.fetched Dat.blockOf iblk; rw [data_array]; rfl)
theorem before_2 (c : Dev nD) (t : Fin cfg0.N) (d) : (data m 0 c).before 2 t d = iblk m c 2 t :=
  ((data m 0 c).before_in_eq_fetched 2 rfl (fun _ => rfl) (fun _ _ _ => rfl) (fun t => by unfold Dat.blockOf; rw [data_array, show (data m 0 c).after 2 t = iblk m c 2 t from by dsimp only [data]]; rfl) t d).trans
    (by unfold Dat.fetched Dat.blockOf iblk; rw [data_array]; rfl)
theorem before_3 (c : Dev nD) (t : Fin cfg0.N) (d) : (data m 0 c).before 3 t d = iblk m c 3 t :=
  ((data m 0 c).before_in_eq_fetched 3 rfl (fun _ => rfl) (fun _ _ _ => rfl) (fun t => by unfold Dat.blockOf; rw [data_array, show (data m 0 c).after 3 t = iblk m c 3 t from by dsimp only [data]]; rfl) t d).trans
    (by unfold Dat.fetched Dat.blockOf iblk; rw [data_array]; rfl)
theorem before_4 (c : Dev nD) (t : Fin cfg0.N) (d) : (data m 0 c).before 4 t d = iblk m c 4 t :=
  ((data m 0 c).before_in_eq_fetched 4 rfl (fun _ => rfl) (fun _ _ _ => rfl) (fun t => by unfold Dat.blockOf; rw [data_array, show (data m 0 c).after 4 t = iblk m c 4 t from by dsimp only [data]]; rfl) t d).trans
    (by unfold Dat.fetched Dat.blockOf iblk; rw [data_array]; rfl)
theorem before_5 (c : Dev nD) (t : Fin cfg0.N) (d) : (data m 0 c).before 5 t d = iblk m c 5 t :=
  ((data m 0 c).before_in_eq_fetched 5 rfl (fun _ => rfl) (fun _ _ _ => rfl) (fun t => by unfold Dat.blockOf; rw [data_array, show (data m 0 c).after 5 t = iblk m c 5 t from by dsimp only [data]]; rfl) t d).trans
    (by unfold Dat.fetched Dat.blockOf iblk; rw [data_array]; rfl)
theorem before_6 (c : Dev nD) (t : Fin cfg0.N) (d) : (data m 0 c).before 6 t d = iblk m c 6 t :=
  ((data m 0 c).before_in_eq_fetched 6 rfl (fun _ => rfl) (fun _ _ _ => rfl) (fun t => by unfold Dat.blockOf; rw [data_array, show (data m 0 c).after 6 t = iblk m c 6 t from by dsimp only [data]]; rfl) t d).trans
    (by unfold Dat.fetched Dat.blockOf iblk; rw [data_array]; rfl)
theorem before_7 (c : Dev nD) (t : Fin cfg0.N) (d) : (data m 0 c).before 7 t d = iblk m c 7 t :=
  ((data m 0 c).before_in_eq_fetched 7 rfl (fun _ => rfl) (fun _ _ _ => rfl) (fun t => by unfold Dat.blockOf; rw [data_array, show (data m 0 c).after 7 t = iblk m c 7 t from by dsimp only [data]]; rfl) t d).trans
    (by unfold Dat.fetched Dat.blockOf iblk; rw [data_array]; rfl)
theorem before_8 (c : Dev nD) (t : Fin cfg0.N) (d) : (data m 0 c).before 8 t d = iblk m c 8 t :=
  ((data m 0 c).before_in_eq_fetched 8 rfl (fun _ => rfl) (fun _ _ _ => rfl) (fun t => by unfold Dat.blockOf; rw [data_array, show (data m 0 c).after 8 t = iblk m c 8 t from by dsimp only [data]]; rfl) t d).trans
    (by unfold Dat.fetched Dat.blockOf iblk; rw [data_array]; rfl)
theorem before_9 (c : Dev nD) (t : Fin cfg0.N) (d) : (data m 0 c).before 9 t d = iblk m c 9 t :=
  ((data m 0 c).before_in_eq_fetched 9 rfl (fun _ => rfl) (fun _ _ _ => rfl) (fun t => by unfold Dat.blockOf; rw [data_array, show (data m 0 c).after 9 t = iblk m c 9 t from by dsimp only [data]]; rfl) t d).trans
    (by unfold Dat.fetched Dat.blockOf iblk; rw [data_array]; rfl)

/-- The data read relationally, the result windows held to `Left`. -/
abbrev rdata (c : Dev nD) : RDat τ (Elt F) Unit ℕ (Pipeline.UD sig nD τ) ℕ cfg0 c := (data m 0 c).toRRel held (Left m c)

/-- The prompt's window is not written back between the last point of its rows and the sample's. -/
theorem stays : ∀ t : Fin cfg0.N, t.val = 31 → (cfg0.win 10).flush t = false :=
  (by decide +kernel : ∀ t : Fin grid0.N, t.val = 31 → (cfg0.win 10).flush t = false)

/-- So the sample's point finds there what the last of the prompt's left. -/
theorem finds_block (c : Dev nD) (t : Fin cfg0.N) (Y : Vec F S256x2048 .f32) (h : (rdata m c).Finds 10 t Y) (ht : t.val = 32) : Y = blockP m c (pt 31) := by
  rcases ((rdata m c).finds_of_pos (w := 10) rfl (by omega) Y).mp h with hf | hl
  · rw [stays _ (by show t.val - 1 = 31; omega)] at hf
    exact absurd hf (by decide)
  · have e := (data m 0 c).toRRel_leaves (fgt := held) (Rl := Left m c) (w := 10) rfl hl
    have e' : Y = blockP m c (pt (min (t.val - 1) 31)) := e
    rw [ht] at e'
    exact e'

/-- What the body is called with at a point, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ Y, ⌜(rdata m c).Finds 10 t Y⌝ ∗ owns (c : Thread nD τ) (st0_10 t) fullShare Y)
    ∗ (∃ Y, ⌜(rdata m c).Finds 11 t Y⌝ ∗ owns (c : Thread nD τ) (st0_11 t) fullShare Y))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ (∃ X, ⌜Left m c 10 t X⌝ ∗ owns (c : Thread nD τ) (st0_10 t) fullShare X)
    ∗ (∃ X, ⌜Left m c 11 t X⌝ ∗ owns (c : Thread nD τ) (st0_11 t) fullShare X))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have h33 := lt33 t
  unfold bodyPre bodyPost bodyAt0
  simp only [before_0, before_1, before_2, before_3, before_4, before_5, before_6, before_7, before_8, before_9]
  unfold Dat.owesAt Pipeline.owesWithin
  rw [show (data m 0 c).owed t.castSucc = 0 from rfl, show (data m 0 c).owed t.succ = 0 from rfl,
    show (data m 0 c).Φ t.castSucc = keeps m c t.val from rfl, show (data m 0 c).Φ t.succ = keeps m c (t.val + 1) from rfl]
  have own : t.val < 32 → blockP m c t = blockP m c (pt (min t.val 31)) := fun h => by
    rw [Nat.min_eq_left (by omega), pt_val]
  by_cases hz : t.val = 0
  · rw [show keeps m c t.val = Pipeline.ΦD osem0 spec0 H0 (V m) c from by rw [hz]; rfl, ΦD_at, keeps]
    iintro ⟨⟨HS, Hg, Hq, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y, %hy, H10⟩, H11⟩
    iapply (first_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (weights m c) W ((first_iff t).mpr hz) ((ofPrompt_iff t).mpr (by omega)) (fun h => absurd ((ofSample_iff t).mp h) (by omega)) _)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    isplitl [Hq]; · iexact Hq
    isplitl [Hw]; · iexact Hw
    isplitl [HW]; · iexact HW
    iintro ⟨⟨H0, H1, H2, H3, H4, H5, H6, H7, H8, H9⟩, H10, HS, Hq, Hw, ⟨%W', HW⟩⟩
    isplitl [HS Hg Hq Hw]
    · isplitl [HS]; · iexact HS
      isplitl [Hg]; · iexact Hg
      isplitl [Hq]; · iexact Hq
      iexact Hw
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro
      exact own (by omega)
    icases H11 with ⟨%z, %hz', H11⟩
    iexists _; isplitr; swap; · iexact H11
    ipureintro
    exact fun h => absurd h (by omega)
  obtain ⟨n, hn⟩ := Nat.exists_eq_succ_of_ne_zero hz
  rw [show keeps m c t.val = keeps m c (n + 1) from by rw [hn], keeps, keeps]
  by_cases hp : t.val < 32
  · iintro ⟨⟨HS, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y, %hy, H10⟩, H11⟩
    iapply (later_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (staged (weights m c)) (fun h => hz ((first_iff t).mp h)) ((ofPrompt_iff t).mpr hp) (fun h => absurd ((ofSample_iff t).mp h) (by omega)) _)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    iintro ⟨⟨H0, H1, H2, H3, H4, H5, H6, H7, H8, H9⟩, H10, HS⟩
    isplitl [HS Hr]
    · isplitl [HS]; · iexact HS
      iexact Hr
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro
      exact own hp
    icases H11 with ⟨%z, %hz', H11⟩
    iexists _; isplitr; swap; · iexact H11
    ipureintro
    exact fun h => absurd h (by omega)
  · iintro ⟨⟨HS, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y, %hy, H10⟩, ⟨%z, %hz', H11⟩⟩
    iapply (last_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (staged (weights m c)) (fun h => hz ((first_iff t).mp h)) (fun h => hp ((ofPrompt_iff t).mp h)) ((ofSample_iff t).mpr (by omega)) _)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H11]; · iexists _; iexact H11
    isplitl [HS]; · iexact HS
    iintro ⟨⟨H0, H1, H2, H3, H4, H5, H6, H7, H8, H9⟩, H11, HS⟩
    isplitl [HS Hr]
    · isplitl [HS]; · iexact HS
      iexact Hr
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro
      have e : t.val = 32 := by omega
      show y = blockP m c (pt (min t.val 31))
      rw [finds_block m c t y hy e, e]
      rfl
    iexists _; isplitr; swap; · iexact H11
    ipureintro
    exact fun _ => rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (data (F := F) m 0 c) (defs₀ (F := F)) Variants.none () Set.univ held (Left m c) := fun t => by
  rw [bigSep_W0, bigSep_W0, defs₀_row]
  exact sound_body m c t

theorem enter (c : Dev nD) : Pipeline.ΦD osem0 spec0 H0 (V m) c ⊢ (rdata m c).Φ 0 := Idealize.SL.BI.Entails.refl _

/-- At the end what the buffer holds is forgotten. -/
theorem leave (c : Dev nD) : (rdata m c).Φ (Fin.last cfg0.N) ⊢ Pipeline.ΦD osem0 spec0 H0 (V m) c := by
  rw [show (rdata m c).Φ (Fin.last cfg0.N) = keeps m c (32 + 1) from by show keeps m c (Fin.last cfg0.N).val = _; rw [Fin.val_last, show cfg0.N = 33 from N_0], keeps, ΦD_at]
  iintro ⟨HS, Hr⟩
  isplitl [HS]
  · iexists _; iexact HS
  iexact Hr

set_option backward.isDefEq.respectTransparency.types false in
set_option maxHeartbeats 800000 in
/-- The run: it ends, the arrays as the write-backs leave them and every counter at zero. -/
theorem run_main : θ_run defs (onTc (τ := τ) (main (F := F))) (s₀ m ρ) (fun r => RDat.FramePost (cfgs 0) (rdata m) (V m) r ∧ r.2.sem = fun _ => 0) :=
  RDat.θ_run_frame_dma (Q' := _) cfgs (0 : Fin 1) launch0 osem0 defs₀ Variants.none (rdata m) ownSemFacts0 H0 H0_sub m ρ main
    (hbody := fun c => (body_obligation m c).toRRel) (hshare := fun c => (data m 0 c).share_full fun _ => rfl)
    (howed := fun _ _ => rfl) (V := V m) (hmain := hmain m Variants.none) (hA := data_array m) (hin := enter m) (hout := leave m)

/-- The argument arrays end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(RDat.FramePost.arr_in h.1 c 0 rfl).trans ((data_array m c 0).trans (V_main_arg0 m c)),
      (RDat.FramePost.arr_in h.1 c 1 rfl).trans ((data_array m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.MixIdeal

end
-- ==== Proof.Mix.Spec.lean ====
module

public import proofs.«01_k».proof.Proof.Conv.Spec

/-! The merge of the two branches at a row: each branch's row through its own projection, under a gate of the normalised row,
and the sum through the last projection onto the row itself. -/

@[expose] public section

noncomputable section

namespace Cert.Merge

open Idealize.ShloMosaic

/-- The columns of the two gates. -/
def colA (j : Fin 2048) : Fin 11344 := ⟨7248 + j.val, by omega⟩
def colB (j : Fin 2048) : Fin 11344 := ⟨9296 + j.val, by omega⟩

/-- The logistic function. -/
def gate (x : EReal) : EReal :=
  Ideal.div 1 (1 + Ideal.exp (-x))

variable (x g : Fin 2048 → EReal) (w : Fin 2048 → Fin 11344 → EReal) (a b : Fin 1024 → EReal) (p q : Fin 1024 → Fin 2048 → EReal)
  (o : Fin 2048 → Fin 2048 → EReal)

/-- The gated sum of the branches, -/
def mixed (j : Fin 2048) : EReal :=
  gate (Cert.ConvBranch.proj x g w (colA j)) * (∑ k, a k * p k j) + gate (Cert.ConvBranch.proj x g w (colB j)) * (∑ k, b k * q k j)

/-- and the row it leaves. -/
def merged (j : Fin 2048) : EReal := x j + ∑ k, mixed x g w a b p q k * o k j

end Cert.Merge

end
-- ==== Proof.Mix.Pay.lean ====
module

public import proofs.«01_k».proof.Proof.Mix.Body
public import proofs.«01_k».proof.Proof.Mix.Spec

/-! The blocks the merge kernel leaves, at an index. -/

@[expose] public section

set_option maxRecDepth 16384

noncomputable section

namespace Cert.MixIdeal.Value

open Idealize.ShloMosaic Idealize.ShloMosaic.TcCoe Idealize.SL.Sem
open Cert.MixIdeal Cert.MixIdeal.Gen Cert.Merge

theorem leftP_at (x : Vec Ideal S256x2048 .f32) (g : Vec Ideal S1x2048 .f32) (a b : Vec Ideal S256x1024 .bf16) (p q : Vec Ideal S1024x2048 .bf16)
    (u v o : Vec Ideal S2048x2048 .bf16) (r : Fin 256) (j : Fin 2048) :
    (show EReal from leftP x g a b p q u v o (ix2 r j)) = x (ix2 r j) + ∑ k,
      (gate (∑ i, Cert.FeedForward.nrm (fun k => x (ix2 r k)) (fun k => g (ix2 0 k)) i * u (ix2 k i)) * (∑ i, a (ix2 r i) * p (ix2 i k))
        + gate (∑ i, Cert.FeedForward.nrm (fun k => x (ix2 r k)) (fun k => g (ix2 0 k)) i * v (ix2 k i)) * (∑ i, b (ix2 r i) * q (ix2 i k))) * o (ix2 k j) := by
  pointwise [leftP, k0_pay1, k0_pay3]
  rfl

theorem leftS_at (x : Vec Ideal S32x2048 .f32) (g : Vec Ideal S1x2048 .f32) (a b : Vec Ideal S32x1024 .bf16) (p q : Vec Ideal S1024x2048 .bf16)
    (u v o : Vec Ideal S2048x2048 .bf16) (r : Fin 32) (j : Fin 2048) :
    (show EReal from leftS x g a b p q u v o (ix2 r j)) = x (ix2 r j) + ∑ k,
      (gate (∑ i, Cert.FeedForward.nrm (fun k => x (ix2 r k)) (fun k => g (ix2 0 k)) i * u (ix2 k i)) * (∑ i, a (ix2 r i) * p (ix2 i k))
        + gate (∑ i, Cert.FeedForward.nrm (fun k => x (ix2 r k)) (fun k => g (ix2 0 k)) i * v (ix2 k i)) * (∑ i, b (ix2 r i) * q (ix2 i k))) * o (ix2 k j) := by
  pointwise [leftS, k0_pay2, k0_pay4]
  rfl

end Cert.MixIdeal.Value

end
-- ==== Proof.Mix.Value.lean ====
module

public import proofs.«01_k».proof.Proof.Mix.Run
public import proofs.«01_k».proof.Proof.Mix.Pay
public import Idealize.ShloMosaic.Lib.Pipeline.Covers
public import Idealize.ShloMosaic.Lib.Pipeline.ValueKit

/-! The merge kernel's two results as entries of its arguments. -/

@[expose] public section

set_option maxRecDepth 16384

noncomputable section

namespace Cert.MixIdeal.Value

open Idealize.ShloMosaic Idealize.ShloMosaic.TcCoe Idealize.SL.Sem
open Idealize.ShloMosaic.Pipeline (Dat RDat)
open Cert.MixIdeal Cert.MixIdeal.Gen Cert.Merge

variable (m : (ℓ : Loc nD τ sig) → Buf (Elt Ideal) ℓ) (ρ : Dev nD → PrngReg)

abbrev A0 (c : Dev nD) : S8192x2048.Idx → EReal := m ((c : Thread nD τ).loc main_arg0)
abbrev A1 (c : Dev nD) : S32x2048.Idx → EReal := m ((c : Thread nD τ).loc main_arg1)
abbrev A2 (c : Dev nD) : S1x2048.Idx → EReal := m ((c : Thread nD τ).loc main_arg2)
abbrev A3 (c : Dev nD) : S8192x1024.Idx → EReal := m ((c : Thread nD τ).loc main_arg3)
abbrev A4 (c : Dev nD) : S32x1024.Idx → EReal := m ((c : Thread nD τ).loc main_arg4)
abbrev A5 (c : Dev nD) : S8192x1024.Idx → EReal := m ((c : Thread nD τ).loc main_arg5)
abbrev A6 (c : Dev nD) : S32x1024.Idx → EReal := m ((c : Thread nD τ).loc main_arg6)
abbrev A7 (c : Dev nD) : S1x2048x11344.Idx → EReal := m ((c : Thread nD τ).loc main_arg7)
abbrev A8 (c : Dev nD) : S1x1024x2048.Idx → EReal := m ((c : Thread nD τ).loc main_arg8)
abbrev A9 (c : Dev nD) : S1x1024x2048.Idx → EReal := m ((c : Thread nD τ).loc main_arg9)
abbrev A10 (c : Dev nD) : S1x2048x2048.Idx → EReal := m ((c : Thread nD τ).loc main_arg10)

/-! The arrays the call is given. -/

theorem v2_at (c : Dev nD) (o : Fin 11344) (k : Fin 2048) : (show EReal from (V m c main_v2 : Vec Ideal S11344x2048 .bf16) (ix2 o k)) = A7 m c (ix3 0 k o) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v4_at (c : Dev nD) (j : Fin 2048) : (show EReal from (V m c main_v4 : Vec Ideal S1x2048 .f32) (ix2 0 j)) = A2 m c (ix2 0 j) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v5_at (c : Dev nD) (r : Fin 8192) (k : Fin 1024) : (show EReal from (V m c main_v5 : Vec Ideal S8192x1024 .bf16) (ix2 r k)) = A3 m c (ix2 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v6_at (c : Dev nD) (r : Fin 32) (k : Fin 1024) : (show EReal from (V m c main_v6 : Vec Ideal S32x1024 .bf16) (ix2 r k)) = A4 m c (ix2 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v7_at (c : Dev nD) (r : Fin 8192) (k : Fin 1024) : (show EReal from (V m c main_v7 : Vec Ideal S8192x1024 .bf16) (ix2 r k)) = A5 m c (ix2 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v8_at (c : Dev nD) (r : Fin 32) (k : Fin 1024) : (show EReal from (V m c main_v8 : Vec Ideal S32x1024 .bf16) (ix2 r k)) = A6 m c (ix2 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v10_at (c : Dev nD) (r : Fin 1024) (k : Fin 2048) : (show EReal from (V m c main_v10 : Vec Ideal S1024x2048 .bf16) (ix2 r k)) = A8 m c (ix3 0 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v12_at (c : Dev nD) (r : Fin 1024) (k : Fin 2048) : (show EReal from (V m c main_v12 : Vec Ideal S1024x2048 .bf16) (ix2 r k)) = A9 m c (ix3 0 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

theorem v14_at (c : Dev nD) (r : Fin 2048) (k : Fin 2048) : (show EReal from (V m c main_v14 : Vec Ideal S2048x2048 .bf16) (ix2 r k)) = A10 m c (ix3 0 r k) := by
  simp only [V, hostOps0, List.flatten_cons, List.flatten_nil, List.append_nil, List.cons_append, List.nil_append]
  after_results_simp
  try simp -implicitDefEqProofs only [StableHlo.TRef.toBuf, StableHlo.TRef.ofBuf, cast_cast, cast_eq]
  clean_types
  pointwise

/-! The blocks of the windows: a slab of the prompt's rows, or an array whole. -/

theorem idx : ∀ t : Fin cfg0.N, (cfg0.win 0).index t = ![min t.val 31, 0] ∧ (cfg0.win 3).index t = ![min t.val 31, 0] ∧ (cfg0.win 5).index t = ![min t.val 31, 0]
    ∧ (cfg0.win 10).index t = ![min t.val 31, 0] :=
  (by decide +kernel : ∀ t : Fin grid0.N, _)

theorem idx' : ∀ t : Fin cfg0.N, (cfg0.win 1).index t = ![0, 0] ∧ (cfg0.win 2).index t = ![0, 0] ∧ (cfg0.win 4).index t = ![0, 0]
    ∧ (cfg0.win 6).index t = ![0, 0] ∧ (cfg0.win 7).index t = ![0, 0] ∧ (cfg0.win 8).index t = ![0, 0] ∧ (cfg0.win 9).index t = ![0, 0] :=
  (by decide +kernel : ∀ t : Fin grid0.N, _)

/-- The row of the prompt that is a row of a point's block. -/
abbrev place (t : Fin cfg0.N) (r : Fin 256) : Fin 8192 := ⟨min t.val 31 * 256 + r.val, by omega⟩

theorem x0_at (c : Dev nD) (t : Fin cfg0.N) (r : Fin 256) (j : Fin 2048) : (show EReal from (iblk m c 0 t : Vec Ideal S256x2048 .f32) (ix2 r j)) = A0 m c (ix2 (place t r) j) := by
  refine Eq.trans (b := (V m c main_arg0 : Vec Ideal S8192x2048 .f32) (ix2 (place t r) j)) ?_ ?_
  · blk_simp [iblk]
    show (V m c main_arg0 : Vec Ideal S8192x2048 .f32) _ = _
    blk_ext [idx t]
  · rw [V_main_arg0]

theorem x1_at (c : Dev nD) (t : Fin cfg0.N) (r : Fin 32) (j : Fin 2048) : (show EReal from (iblk m c 1 t : Vec Ideal S32x2048 .f32) (ix2 r j)) = A1 m c (ix2 r j) := by
  refine Eq.trans (b := (V m c main_arg1 : Vec Ideal S32x2048 .f32) (ix2 r j)) ?_ ?_
  · blk_simp [iblk]
    show (V m c main_arg1 : Vec Ideal S32x2048 .f32) _ = _
    blk_ext [idx' t]
  · rw [V_main_arg1]

theorem x2_at (c : Dev nD) (t : Fin cfg0.N) (j : Fin 2048) : (show EReal from (iblk m c 2 t : Vec Ideal S1x2048 .f32) (ix2 0 j)) = A2 m c (ix2 0 j) := by
  refine Eq.trans (b := (V m c main_v4 : Vec Ideal S1x2048 .f32) (ix2 0 j)) ?_ ?_
  · blk_simp [iblk]
    show (V m c main_v4 : Vec Ideal S1x2048 .f32) _ = _
    blk_ext [idx' t]
  · exact v4_at m c j

theorem x3_at (c : Dev nD) (t : Fin cfg0.N) (r : Fin 256) (j : Fin 1024) : (show EReal from (iblk m c 3 t : Vec Ideal S256x1024 .bf16) (ix2 r j)) = A3 m c (ix2 (place t r) j) := by
  refine Eq.trans (b := (V m c main_v5 : Vec Ideal S8192x1024 .bf16) (ix2 (place t r) j)) ?_ ?_
  · blk_simp [iblk]
    show (V m c main_v5 : Vec Ideal S8192x1024 .bf16) _ = _
    blk_ext [idx t]
  · exact v5_at m c _ j

theorem x4_at (c : Dev nD) (t : Fin cfg0.N) (r : Fin 32) (j : Fin 1024) : (show EReal from (iblk m c 4 t : Vec Ideal S32x1024 .bf16) (ix2 r j)) = A4 m c (ix2 r j) := by
  refine Eq.trans (b := (V m c main_v6 : Vec Ideal S32x1024 .bf16) (ix2 r j)) ?_ ?_
  · blk_simp [iblk]
    show (V m c main_v6 : Vec Ideal S32x1024 .bf16) _ = _
    blk_ext [idx' t]
  · exact v6_at m c r j

theorem x5_at (c : Dev nD) (t : Fin cfg0.N) (r : Fin 256) (j : Fin 1024) : (show EReal from (iblk m c 5 t : Vec Ideal S256x1024 .bf16) (ix2 r j)) = A5 m c (ix2 (place t r) j) := by
  refine Eq.trans (b := (V m c main_v7 : Vec Ideal S8192x1024 .bf16) (ix2 (place t r) j)) ?_ ?_
  · blk_simp [iblk]
    show (V m c main_v7 : Vec Ideal S8192x1024 .bf16) _ = _
    blk_ext [idx t]
  · exact v7_at m c _ j

theorem x6_at (c : Dev nD) (t : Fin cfg0.N) (r : Fin 32) (j : Fin 1024) : (show EReal from (iblk m c 6 t : Vec Ideal S32x1024 .bf16) (ix2 r j)) = A6 m c (ix2 r j) := by
  refine Eq.trans (b := (V m c main_v8 : Vec Ideal S32x1024 .bf16) (ix2 r j)) ?_ ?_
  · blk_simp [iblk]
    show (V m c main_v8 : Vec Ideal S32x1024 .bf16) _ = _
    blk_ext [idx' t]
  · exact v8_at m c r j

theorem x7_at (c : Dev nD) (t : Fin cfg0.N) (r : Fin 1024) (j : Fin 2048) : (show EReal from (iblk m c 7 t : Vec Ideal S1024x2048 .bf16) (ix2 r j)) = A8 m c (ix3 0 r j) := by
  refine Eq.trans (b := (V m c main_v10 : Vec Ideal S1024x2048 .bf16) (ix2 r j)) ?_ ?_
  · blk_simp [iblk]
    show (V m c main_v10 : Vec Ideal S1024x2048 .bf16) _ = _
    blk_ext [idx' t]
  · exact v10_at m c r j

theorem x8_at (c : Dev nD) (t : Fin cfg0.N) (r : Fin 1024) (j : Fin 2048) : (show EReal from (iblk m c 8 t : Vec Ideal S1024x2048 .bf16) (ix2 r j)) = A9 m c (ix3 0 r j) := by
  refine Eq.trans (b := (V m c main_v12 : Vec Ideal S1024x2048 .bf16) (ix2 r j)) ?_ ?_
  · blk_simp [iblk]
    show (V m c main_v12 : Vec Ideal S1024x2048 .bf16) _ = _
    blk_ext [idx' t]
  · exact v12_at m c r j

theorem x9_at (c : Dev nD) (t : Fin cfg0.N) (r : Fin 2048) (j : Fin 2048) : (show EReal from (iblk m c 9 t : Vec Ideal S2048x2048 .bf16) (ix2 r j)) = A10 m c (ix3 0 r j) := by
  refine Eq.trans (b := (V m c main_v14 : Vec Ideal S2048x2048 .bf16) (ix2 r j)) ?_ ?_
  · blk_simp [iblk]
    show (V m c main_v14 : Vec Ideal S2048x2048 .bf16) _ = _
    blk_ext [idx' t]
  · exact v14_at m c r j

/-! The gates' halves are the transposed columns. -/

theorem half_at (c : Dev nD) (n : ℕ) (h) (j k : Fin 2048) (hn : 7248 + (n + j.val) < 11344) :
    (show EReal from (VecWindow.window (staged (weights m c)) ![n, 0] S2048x2048.size h : Vec Ideal S2048x2048 .bf16) (ix2 j k)) = A7 m c (ix3 0 k ⟨7248 + (n + j.val), hn⟩) := by
  refine Eq.trans ?_ (v2_at m c ⟨7248 + (n + j.val), hn⟩ k)
  refine congrArg (weights m c : Vec Ideal S11344x2048 .bf16) ?_
  funext a
  refine Fin.ext ?_
  match a with
  | ⟨0, _⟩ => show 7248 + 1 * (n + 1 * j.val) = 7248 + (n + j.val); omega
  | ⟨1, _⟩ => show 0 + 1 * (0 + 1 * k.val) = k.val; omega

theorem gateA_at (c : Dev nD) (j k : Fin 2048) : (show EReal from gateA m c (ix2 j k)) = A7 m c (ix3 0 k (colA j)) :=
  (half_at m c 0 _ j k (by omega)).trans (congrArg (fun o => A7 m c (ix3 0 k o)) (Fin.ext (by show 7248 + (0 + j.val) = 7248 + j.val; omega)))
theorem gateB_at (c : Dev nD) (j k : Fin 2048) : (show EReal from gateB m c (ix2 j k)) = A7 m c (ix3 0 k (colB j)) :=
  (half_at m c 2048 _ j k (by omega)).trans (congrArg (fun o => A7 m c (ix3 0 k o)) (Fin.ext (by show 7248 + (2048 + j.val) = 9296 + j.val; omega)))

/-- The merge of a row whose operands are known entry by entry. -/
theorem merged_of {x x' g g' : Fin 2048 → EReal} {w : Fin 2048 → Fin 11344 → EReal} {u v : Fin 2048 → Fin 2048 → EReal} {a a' b b' : Fin 1024 → EReal}
    {p p' q q' : Fin 1024 → Fin 2048 → EReal} {o o' : Fin 2048 → Fin 2048 → EReal} (hx : ∀ k, x k = x' k) (hg : ∀ k, g k = g' k)
    (ha : ∀ k, a k = a' k) (hb : ∀ k, b k = b' k) (hp : ∀ k j, p k j = p' k j) (hq : ∀ k j, q k j = q' k j) (hu : ∀ j k, u j k = w k (colA j))
    (hv : ∀ j k, v j k = w k (colB j)) (ho : ∀ k j, o k j = o' k j) (j : Fin 2048) :
    (x j + ∑ k, (gate (∑ i, Cert.FeedForward.nrm x g i * u k i) * (∑ i, a i * p i k) + gate (∑ i, Cert.FeedForward.nrm x g i * v k i) * (∑ i, b i * q i k)) * o k j)
      = merged x' g' w a' b' p' q' o' j := by
  obtain rfl : x = x' := funext hx
  obtain rfl : g = g' := funext hg
  obtain rfl : a = a' := funext ha
  obtain rfl : b = b' := funext hb
  obtain rfl : p = p' := funext fun k => funext (hp k)
  obtain rfl : q = q' := funext fun k => funext (hq k)
  obtain rfl : o = o' := funext fun k => funext (ho k)
  obtain rfl : u = fun j k => w k (colA j) := funext fun j => funext (hu j)
  obtain rfl : v = fun j k => w k (colB j) := funext fun j => funext (hv j)
  rfl

/-- The two results. -/
def prompt (c : Dev nD) : S8192x2048.Idx → EReal := fun y =>
  merged (fun k => A0 m c (ix2 (y 0) k)) (fun k => A2 m c (ix2 0 k)) (fun k o => A7 m c (ix3 0 k o)) (fun k => A3 m c (ix2 (y 0) k))
    (fun k => A5 m c (ix2 (y 0) k)) (fun k j => A8 m c (ix3 0 k j)) (fun k j => A9 m c (ix3 0 k j)) (fun k j => A10 m c (ix3 0 k j)) (y 1)
def sampled (c : Dev nD) : S32x2048.Idx → EReal := fun y =>
  merged (fun k => A1 m c (ix2 (y 0) k)) (fun k => A2 m c (ix2 0 k)) (fun k o => A7 m c (ix3 0 k o)) (fun k => A4 m c (ix2 (y 0) k))
    (fun k => A6 m c (ix2 (y 0) k)) (fun k j => A8 m c (ix3 0 k j)) (fun k j => A9 m c (ix3 0 k j)) (fun k j => A10 m c (ix3 0 k j)) (y 1)

theorem blockP_at (c : Dev nD) (t : Fin cfg0.N) (r : Fin 256) (j : Fin 2048) : (show EReal from blockP m c t (ix2 r j)) = prompt m c (ix2 (place t r) j) :=
  (leftP_at _ _ _ _ _ _ _ _ _ r j).trans (merged_of (fun k => x0_at m c t r k) (fun k => x2_at m c t k) (fun k => x3_at m c t r k) (fun k => x5_at m c t r k)
    (fun k j => x7_at m c t k j) (fun k j => x8_at m c t k j) (fun j k => gateA_at m c j k) (fun j k => gateB_at m c j k) (fun k j => x9_at m c t k j) j)
theorem blockS_at (c : Dev nD) (t : Fin cfg0.N) (r : Fin 32) (j : Fin 2048) : (show EReal from blockS m c t (ix2 r j)) = sampled m c (ix2 r j) :=
  (leftS_at _ _ _ _ _ _ _ _ _ r j).trans (merged_of (fun k => x1_at m c t r k) (fun k => x2_at m c t k) (fun k => x4_at m c t r k) (fun k => x6_at m c t r k)
    (fun k j => x7_at m c t k j) (fun k j => x8_at m c t k j) (fun j k => gateA_at m c j k) (fun j k => gateB_at m c j k) (fun k j => x9_at m c t k j) j)

/-- The points' slabs cover the prompt's result. -/
theorem covers : (cfg0.win 10).Covers := by
  refine Pipeline.Window.covers_of_index_surj _ rfl (fun a => (show ∀ a : Fin 2, 0 < (![256, 2048] : Fin 2 → Nat) a by decide) a) fun β => ?_
  have h0 : (β (show Fin (cfg0.win 10).shape.rank from (0 : Fin 2))).val < 32 := (β (show Fin (cfg0.win 10).shape.rank from (0 : Fin 2))).isLt
  refine ⟨⟨(β (show Fin (cfg0.win 10).shape.rank from (0 : Fin 2))).val, Nat.lt_of_lt_of_eq (Nat.lt_succ_of_lt h0) N_0.symm⟩, fun a => ?_⟩
  rw [(idx _).2.2.2]
  have h := (β a).isLt
  match a with
  | ⟨0, _⟩ => exact Nat.min_eq_left (Nat.le_of_lt_succ h0)
  | ⟨1, _⟩ =>
    have h' : _ < (2048 + 2048 - 1) / 2048 := h
    exact (Nat.lt_one_iff.1 h').symm

/-- The sample's result is written back once, at the end. -/
theorem whole_last : (cfg0.win 11).WholeAt ⟨32, Nat.lt_of_lt_of_eq (by omega) N_0.symm⟩ := by decide +kernel

section

variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdata m c).Leaves w u (after w u))

include hL in
theorem prompt_arr : (show S8192x2048.Idx → EReal from ((rdata m c).withAfter after).arrAt 10 cfg0.N) = prompt m c := by
  refine ((rdata m c).withAfter after).arrAt_eq_of_covers 10 _ covers fun t hf y => ?_
  have e : after 10 t = blockP m c (pt (min t.val 31)) := (data m 0 c).toRRel_leaves (fgt := held) (Rl := Left m c) (w := 10) rfl (hL 10 t hf)
  have ep : min (pt (min t.val 31)).val 31 = min t.val 31 := by show min (min t.val 31 % 33) 31 = _; omega
  blk_simp
  rw [RDat.withAfter_after, e]
  have hy : y = ix2 (show Fin 256 from y 0) (show Fin 2048 from y 1) := eq_ix2 (show S256x2048.Idx from y)
  refine (congrArg (blockP m c (pt (min t.val 31)) : Vec Ideal S256x2048 .f32) hy).trans ?_
  refine (blockP_at m c _ (show Fin 256 from y 0) (show Fin 2048 from y 1)).trans ?_
  refine congrArg (prompt m c) ?_
  blk_ext [idx t, ep]

include hL in
theorem sampled_arr : (show S32x2048.Idx → EReal from ((rdata m c).withAfter after).arrAt 11 cfg0.N) = sampled m c := by
  let t : Fin cfg0.N := ⟨32, Nat.lt_of_lt_of_eq (by omega) N_0.symm⟩
  have e0 : Left m c 11 t (after 11 t) := (data m 0 c).toRRel_leaves (fgt := held) (Rl := Left m c) (w := 11) rfl (hL 11 t whole_last.1)
  have e : after 11 t = blockS m c t := e0 rfl
  funext j
  refine (((rdata m c).withAfter after).arrAt_emb_eq_after_last 11 t whole_last j).trans ?_
  blk_simp
  rw [RDat.withAfter_after, e]
  refine (congrArg (blockS m c t : Vec Ideal S32x2048 .f32) (eq_ix2 (show S32x2048.Idx from j))).trans ?_
  refine (blockS_at m c t (j 0) (j 1)).trans ?_
  exact congrArg (sampled m c) (eq_ix2 (show S32x2048.Idx from j)).symm

end

/-- What the kernel leaves in its results. -/
theorem results : θ_run (defs (F := Ideal)) (onTc (τ := τ) (main (F := Ideal))) ⟨m, fun _ => 0, ρ⟩ (fun r => ∀ c : Dev nD,
      r.2.mem ((c.tc : Thread nD τ).loc main_v15_0) = prompt m c ∧ r.2.mem ((c.tc : Thread nD τ).loc main_v15_1) = sampled m c) :=
  (θ_run defs _ _).mono (fun r h c => by
    obtain ⟨after, hL, hA⟩ := h.1.exists_exact c
    exact ⟨(hA 10).trans (prompt_arr m c after hL), (hA 11).trans (sampled_arr m c after hL)⟩) (run_main m ρ)

end Cert.MixIdeal.Value

end
-- ==== Proof.Mix.RefValue.lean ====
module

public import proofs.«01_k».proof.Proof.Gen.MixRefIdeal.Run
public import proofs.«01_k».proof.Proof.Mix.Spec

/-! The merge's reference's two results at an index. -/

@[expose] public section

set_option maxRecDepth 16384

noncomputable section

namespace Cert.MixRefIdeal.Value

open Idealize.ShloMosaic Idealize.ShloMosaic.TcCoe Idealize.SL.Sem
open Cert.MixRefIdeal Cert.MixRefIdeal.Gen Cert.Merge

variable (m : (ℓ : Loc nD τ sig) → Buf (Elt Ideal) ℓ)

abbrev B0 (c : Dev nD) : S8192x2048.Idx → EReal := m ((c : Thread nD τ).loc main_arg0)
abbrev B1 (c : Dev nD) : S32x2048.Idx → EReal := m ((c : Thread nD τ).loc main_arg1)
abbrev B2 (c : Dev nD) : S1x2048.Idx → EReal := m ((c : Thread nD τ).loc main_arg2)
abbrev B3 (c : Dev nD) : S8192x1024.Idx → EReal := m ((c : Thread nD τ).loc main_arg3)
abbrev B4 (c : Dev nD) : S32x1024.Idx → EReal := m ((c : Thread nD τ).loc main_arg4)
abbrev B5 (c : Dev nD) : S8192x1024.Idx → EReal := m ((c : Thread nD τ).loc main_arg5)
abbrev B6 (c : Dev nD) : S32x1024.Idx → EReal := m ((c : Thread nD τ).loc main_arg6)
abbrev B7 (c : Dev nD) : S1x2048x11344.Idx → EReal := m ((c : Thread nD τ).loc main_arg7)
abbrev B8 (c : Dev nD) : S1x1024x2048.Idx → EReal := m ((c : Thread nD τ).loc main_arg8)
abbrev B9 (c : Dev nD) : S1x1024x2048.Idx → EReal := m ((c : Thread nD τ).loc main_arg9)
abbrev B10 (c : Dev nD) : S1x2048x2048.Idx → EReal := m ((c : Thread nD τ).loc main_arg10)

def prompt (c : Dev nD) : S8192x2048.Idx → EReal := fun y =>
  merged (fun k => B0 m c (ix2 (y 0) k)) (fun k => B2 m c (ix2 0 k)) (fun k o => B7 m c (ix3 0 k o)) (fun k => B3 m c (ix2 (y 0) k))
    (fun k => B5 m c (ix2 (y 0) k)) (fun k j => B8 m c (ix3 0 k j)) (fun k j => B9 m c (ix3 0 k j)) (fun k j => B10 m c (ix3 0 k j)) (y 1)
def sampled (c : Dev nD) : S32x2048.Idx → EReal := fun y =>
  merged (fun k => B1 m c (ix2 (y 0) k)) (fun k => B2 m c (ix2 0 k)) (fun k o => B7 m c (ix3 0 k o)) (fun k => B4 m c (ix2 (y 0) k))
    (fun k => B6 m c (ix2 (y 0) k)) (fun k j => B8 m c (ix3 0 k j)) (fun k j => B9 m c (ix3 0 k j)) (fun k j => B10 m c (ix3 0 k j)) (y 1)

/-- What the reference leaves in its results. -/
theorem results (ρ : Dev nD → PrngReg) :
    θ_run defs (onTc (τ := τ) (main (F := Ideal))) ⟨m, fun _ => 0, ρ⟩ fun r => ∀ c : Dev nD,
      r.2.mem ((c.tc : Thread nD τ).loc main_v39) = prompt m c
      ∧ r.2.mem ((c.tc : Thread nD τ).loc main_v79) = sampled m c :=
  (θ_run defs _ _).mono (fun r h c => by
    refine ⟨(h c).1.trans ?_, (h c).2.1.trans ?_⟩
    all_goals
      clear h
      funext y
      rw [eq_ix2 y]
      generalize y 0 = y0
      generalize y 1 = y1
      clean_types
      pointwise
      rfl) (run m ρ)

end Cert.MixRefIdeal.Value

end
-- ==== Proof.Mix.Claims.lean ====
module

public import proofs.«01_k».proof.Defs
public import proofs.«01_k».proof.Proof.Gen.Mix
public import proofs.«01_k».proof.Proof.Mix.Value
public import proofs.«01_k».proof.Proof.Mix.RefValue

/-! The claims about the merge kernel and its reference. -/

@[expose] public section

set_option maxRecDepth 16384

noncomputable section

namespace Cert.Merge

open Idealize.ShloMosaic Idealize.ShloMosaic.TcCoe Idealize.SL.Sem

section Same

set_option backward.isDefEq.respectTransparency false
set_option backward.isDefEq.respectTransparency.types false

/-! The two kernels have one text, so they are one program. -/

theorem body_same : @Cert.Mix.cc0_mix_out Bits _ _ = @Cert.MixIdeal.cc0_mix_out Bits _ _ := rfl

theorem bodies_same : @Cert.Mix.defs₀ Bits _ _ = @Cert.MixIdeal.defs₀ Bits _ _ := by
  unfold Cert.Mix.defs₀ Cert.MixIdeal.defs₀
  refine congrArg Defs.onTc ?_
  funext a p
  match a, p with
  | 0, (t, s) => rfl

theorem defs_same : @Cert.Mix.defs Bits _ _ = @Cert.MixIdeal.defs Bits _ _ :=
  congrArg (fun D : Defs Cert.Mix.nD Cert.Mix.τ Cert.Mix.sig (Elt Bits) Cert.Mix.Λ₀ => Pipeline.defs (@Cert.Mix.pcfgs Bits _) D) bodies_same

/-- The run over any float values is the run of each. -/
theorem frame : Cert.quiescent_Mix := fun m g _ => by
  rw [defs_same]
  exact (θ_run Cert.MixIdeal.defs _ _).mono (fun _ h => h) (Cert.MixIdeal.frame_run (F := Bits) m g)

end Same

theorem frame_ideal : Cert.quiescent_MixIdeal := fun m g _ => Cert.MixIdeal.frame_run (F := Ideal) m g

theorem frame_ref : Cert.quiescent_MixRefIdeal := fun m g _ =>
  (θ_run Cert.MixRefIdeal.defs _ _).mono (fun r h => ⟨fun c => (h c).2.2, sem_eq_zero_of_no_sems (by decide) r.2⟩)
    (Cert.MixRefIdeal.Value.run (F := Ideal) m g)

theorem preserves : Cert.preserves_Mix_MixIdeal := trivial

section

variable (m : (ℓ : Loc Cert.MixIdeal.nD Cert.MixIdeal.τ Cert.MixIdeal.sig) → Buf (Elt Ideal) ℓ)
  (m' : (ℓ : Loc Cert.MixRefIdeal.nD Cert.MixRefIdeal.τ Cert.MixRefIdeal.sig) → Buf (Elt Ideal) ℓ) (c : Dev Cert.MixIdeal.nD)
  (h0 : Cert.MixRefIdeal.Value.B0 m' c = Cert.MixIdeal.Value.A0 m c)
  (h1 : Cert.MixRefIdeal.Value.B1 m' c = Cert.MixIdeal.Value.A1 m c)
  (h2 : Cert.MixRefIdeal.Value.B2 m' c = Cert.MixIdeal.Value.A2 m c)
  (h3 : Cert.MixRefIdeal.Value.B3 m' c = Cert.MixIdeal.Value.A3 m c)
  (h4 : Cert.MixRefIdeal.Value.B4 m' c = Cert.MixIdeal.Value.A4 m c)
  (h5 : Cert.MixRefIdeal.Value.B5 m' c = Cert.MixIdeal.Value.A5 m c)
  (h6 : Cert.MixRefIdeal.Value.B6 m' c = Cert.MixIdeal.Value.A6 m c)
  (h7 : Cert.MixRefIdeal.Value.B7 m' c = Cert.MixIdeal.Value.A7 m c)
  (h8 : Cert.MixRefIdeal.Value.B8 m' c = Cert.MixIdeal.Value.A8 m c)
  (h9 : Cert.MixRefIdeal.Value.B9 m' c = Cert.MixIdeal.Value.A9 m c)
  (h10 : Cert.MixRefIdeal.Value.B10 m' c = Cert.MixIdeal.Value.A10 m c)

include h0 h2 h3 h5 h7 h8 h9 h10 in
theorem ref_prompt : Cert.MixRefIdeal.Value.prompt m' c = Cert.MixIdeal.Value.prompt m c := by
  unfold Cert.MixRefIdeal.Value.prompt
  rw [h0, h2, h3, h5, h7, h8, h9, h10]
  rfl

include h1 h2 h4 h6 h7 h8 h9 h10 in
theorem ref_sampled : Cert.MixRefIdeal.Value.sampled m' c = Cert.MixIdeal.Value.sampled m c := by
  unfold Cert.MixRefIdeal.Value.sampled
  rw [h1, h2, h4, h6, h7, h8, h9, h10]
  rfl

end

theorem algebraic : Cert.algebraic_MixIdeal_MixRefIdeal := by
  intro m g m' g' _ hargs
  refine ⟨fun c => Cert.MixIdeal.Value.prompt m c, fun c => Cert.MixIdeal.Value.sampled m c, ?_, ?_⟩
  · exact (θ_run Cert.MixIdeal.defs _ _).mono (fun r h c => ⟨(h.1 c).1, (h.1 c).2, h.2.1 c⟩)
      (θ_run_and (Cert.MixIdeal.Value.results m g) (Cert.MixIdeal.frame_run m g))
  · refine (θ_run Cert.MixRefIdeal.defs _ _).mono (fun r h c => ?_)
      (θ_run_and (Cert.MixRefIdeal.Value.results m' g') (Cert.MixRefIdeal.Value.run (F := Ideal) m' g'))
    obtain ⟨a0, a1, a2, a3, a4, a5, a6, a7, a8, a9, a10⟩ := hargs c
    exact ⟨(h.1 c).1.trans (ref_prompt m m' c a0 a2 a3 a5 a7 a8 a9 a10), (h.1 c).2.trans (ref_sampled m m' c a1 a2 a4 a6 a7 a8 a9 a10), (h.2 c).2.2⟩

end Cert.Merge

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_selection
public import proofs.«01_k».proof.Proof.Gen.AttnRefIdeal.Run
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.StepRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Attn.Claims
public import proofs.«01_k».proof.Proof.Mlp.Claims
public import proofs.«01_k».proof.Proof.Conv.Claims
public import proofs.«01_k».proof.Proof.Step.Claims
public import proofs.«01_k».proof.Proof.Proj.Claims
public import proofs.«01_k».proof.Proof.Mix.Claims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.Mlp.Gen.facts, Cert.MlpIdeal.Gen.facts, Cert.MlpRefIdeal.Gen.facts,
  Cert.Conv.Gen.facts, Cert.ConvIdeal.Gen.facts, Cert.ConvRefIdeal.Gen.facts,
  Cert.Step.Gen.facts, Cert.StepIdeal.Gen.facts, Cert.StepRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts, Cert.Pre_selection.Gen.facts,
  Cert.Attention.frame, Cert.Attention.frame_ideal, Cert.Attention.frame_ideal_pre, Cert.Attention.frame_ref, Cert.Attention.frame_ref_pre,
  Cert.FeedForward.frame, Cert.FeedForward.frame_ideal, Cert.FeedForward.frame_ref,
  Cert.ConvBranch.Prompt.frame, Cert.ConvBranch.Prompt.frame_ideal, Cert.ConvBranch.Prompt.frame_ref,
  Cert.ConvBranch.Sample.frame, Cert.ConvBranch.Sample.frame_ideal, Cert.ConvBranch.Sample.frame_ref,
  Cert.Projections.frame, Cert.Projections.frame_ideal, Cert.Projections.frame_ref,
  Cert.Merge.frame, Cert.Merge.frame_ideal, Cert.Merge.frame_ref,
  Cert.Attention.preserves, Cert.Attention.algebraic, Cert.FeedForward.preserves, Cert.FeedForward.algebraic,
  Cert.ConvBranch.Prompt.preserves, Cert.ConvBranch.Prompt.algebraic, Cert.ConvBranch.Sample.preserves, Cert.ConvBranch.Sample.algebraic,
  Cert.Projections.preserves, Cert.Projections.algebraic, Cert.Merge.preserves, Cert.Merge.algebraic⟩

end Cert.Proof

end
